-- ==== Defs.lean ====
def Pre_Kernel [hPre_pre_e : Cert.Pre_pre_e.Facts] (m : (ℓ : Loc Cert.Kernel.nD Cert.Kernel.τ Cert.Kernel.sig) → Buf (Elt Bits) ℓ) : Prop :=
  ∀ c : Dev Cert.Kernel.nD,
    (Cert.Pre_pre_e.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre_e : Cert.Pre_pre_e.Facts] (m : (ℓ : Loc Cert.KernelIdeal.nD Cert.KernelIdeal.τ Cert.KernelIdeal.sig) → Buf (Elt Ideal) ℓ) : Prop :=
  ∀ c : Dev Cert.KernelIdeal.nD,
    (Cert.Pre_pre_e.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_e [hPre_pre_e : Cert.Pre_pre_e.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_e.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_pre_e : Cert.Pre_pre_e.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre_e : Cert.Pre_pre_e.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre_e [hReferenceIdeal : Cert.ReferenceIdeal.Facts] [hPre_pre_e : Cert.Pre_pre_e.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_e m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre_e : Cert.Pre_pre_e.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v122) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v99) = v2 c
          ∧ r.2.mem ((c.tc : Thread Cert.Reference4Ideal.nD Cert.Reference4Ideal.τ).loc Cert.Reference4Ideal.main_v100) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_pre_e : Cert.Pre_pre_e.Facts),
    quiescent_Kernel (hKernel := hKernel) (hPre_pre_e := hPre_pre_e)
    ∧ quiescent_KernelIdeal (hKernelIdeal := hKernelIdeal) (hPre_pre_e := hPre_pre_e)
    ∧ quiescent_ReferenceIdeal (hReferenceIdeal := hReferenceIdeal)
    ∧ quiescent_ReferenceIdeal_pre_pre_e (hReferenceIdeal := hReferenceIdeal) (hPre_pre_e := hPre_pre_e)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_pre_e := hPre_pre_e)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_pre_e.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S73728x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg0 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 72#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S8x1024x7168 : Shape := ⟨3, ![8, 1024, 7168]⟩
abbrev S1x1024x512 : Shape := ⟨3, ![1, 1024, 512]⟩
abbrev S1x1024x1024 : Shape := ⟨3, ![1, 1024, 1024]⟩
abbrev S1x1024x256 : Shape := ⟨3, ![1, 1024, 256]⟩
abbrev S1024x256 : Shape := ⟨2, ![1024, 256]⟩
abbrev S_ : Shape := ⟨0, ![]⟩
abbrev S72x1 : Shape := ⟨2, ![72, 1]⟩
abbrev S1024x1024 : Shape := ⟨2, ![1024, 1024]⟩
abbrev S1x1024x3584 : Shape := ⟨3, ![1, 1024, 3584]⟩
abbrev S1x1792x1024 : Shape := ⟨3, ![1, 1792, 1024]⟩
abbrev S1024x512 : Shape := ⟨2, ![1024, 512]⟩
abbrev S1024x1792 : Shape := ⟨2, ![1024, 1792]⟩
abbrev S1792x1024 : Shape := ⟨2, ![1792, 1024]⟩

abbrev nBuf : Space → Nat
  | .hbm => 22
  | .vmem => 15
  | .smem => 2
  | _ => 0

abbrev bufTy : (tb : Table) → Fin (tcTables nBuf tb) → BufTy
  | .hbm, ⟨0, _⟩ => ⟨S72, .i32⟩
  | .hbm, ⟨1, _⟩ => ⟨S73728x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x7168, .bf16⟩
  | .hbm, ⟨6, _⟩ => ⟨S8x3584x1024, .bf16⟩
  | .hbm, ⟨7, _⟩ => ⟨S72, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S_, .i32⟩
  | .hbm, ⟨14, _⟩ => ⟨S72, .i32⟩
  | .hbm, ⟨15, _⟩ => ⟨S72, .i1⟩
  | .hbm, ⟨16, _⟩ => ⟨S_, .i32⟩
  | .hbm, ⟨17, _⟩ => ⟨S72, .i32⟩
  | .hbm, ⟨18, _⟩ => ⟨S72, .i32⟩
  | .hbm, ⟨19, _⟩ => ⟨S72, .i32⟩
  | .hbm, ⟨20, _⟩ => ⟨S72x1, .i32⟩
  | .hbm, ⟨21, _⟩ => ⟨S73728x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x3584, .bf16⟩
  | .local _ .vmem, ⟨9, _⟩ => ⟨S1x1024x3584, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .smem, ⟨0, _⟩ => ⟨S72, .i32⟩
  | .local _ .smem, ⟨1, _⟩ => ⟨S1, .i32⟩
  | _, _ => ⟨S72, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v14 : Ref sig .tc := ⟨.hbm, 21, rfl⟩
abbrev main_v13 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![72, 2], ![false, false]⟩

abbrev pre1 : Pipeline.Prefetch sig := ⟨2, ![main_v13.idx, main_arg1.idx], fun | 0 => main_v13.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k1_cond3 (i : grid1.Coords) : BitVec 1 :=
  let arg1 : BitVec 32 := BitVec.ofNat 32 (i 1).val
  let c0_i32_31 : BitVec 32 := 0#32
  let v81 : BitVec 1 := Scalar.cmpi .eq arg1 c0_i32_31
  let v82 : BitVec 32 := Scalar.extui v81
  let c0_i32_32 : BitVec 32 := 0#32
  let v83 : BitVec 1 := Scalar.cmpi .ne v82 c0_i32_32
  v83

def k1_cond4 (i : grid1.Coords) : BitVec 1 :=
  let arg1 : BitVec 32 := BitVec.ofNat 32 (i 1).val
  let c0_i32_33 : BitVec 32 := 0#32
  let v84 : BitVec 1 := Scalar.cmpi .sgt arg1 c0_i32_33
  let v85 : BitVec 32 := Scalar.extui v84
  let c0_i32_34 : BitVec 32 := 0#32
  let v86 : BitVec 1 := Scalar.cmpi .ne v85 c0_i32_34
  v86

def k1_cond5 (i : grid1.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let arg1 : BitVec 32 := BitVec.ofNat 32 (i 1).val
  let c0_i32_2 : BitVec 32 := 0#32
  let v9 : BitVec 1 := Scalar.cmpi .eq arg1 c0_i32_2
  let v10 : BitVec 1 := Scalar.andi v8 v9
  let v11 : BitVec 32 := Scalar.extui v10
  let c0_i32_3 : BitVec 32 := 0#32
  let v12 : BitVec 1 := Scalar.cmpi .ne v11 c0_i32_3
  v12

def cc1_transform_0 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc1_transform_1 (k1_off1_inb : ∀ i : grid1.Coords, ∀ a, (k1_off1 i) a + S1.size a ≤ S72.size a) (numel1_S1 : S1.numel = 1) (inb_S1_S1_0 : ∀ a, (![0] : Fin 1 → Nat) a + S1.size a ≤ S1.size a) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k1_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc1_transform_2 (k1_off1_inb : ∀ i : grid1.Coords, ∀ a, (k1_off1 i) a + S1.size a ≤ S72.size a) (numel1_S1 : S1.numel = 1) (inb_S1_S1_0 : ∀ a, (![0] : Fin 1 → Nat) a + S1.size a ≤ S1.size a) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k1_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1792x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩
abbrev S72x1024 : Shape := ⟨2, ![72, 1024]⟩
abbrev S73728 : Shape := ⟨1, ![73728]⟩
abbrev S73728x1 : Shape := ⟨2, ![73728, 1]⟩
abbrev S1x1024x3584 : Shape := ⟨3, ![1, 1024, 3584]⟩
abbrev S1024x3584 : Shape := ⟨2, ![1024, 3584]⟩
abbrev S73728x3584 : Shape := ⟨2, ![73728, 3584]⟩
abbrev S1x3584x1024 : Shape := ⟨3, ![1, 3584, 1024]⟩
abbrev S3584x1024 : Shape := ⟨2, ![3584, 1024]⟩

abbrev nBuf : Space → Nat
  | .hbm => 292
  | .vmem => 0
  | .smem => 0
  | _ => 0

abbrev hbmTy0_0 (i : Nat) : BufTy := match i % 128 with
  | 0 => ⟨S72, .i32⟩
  | 1 => ⟨S1, .i32⟩
  | 2 => ⟨S73728x1024, .f32⟩
  | 3 => ⟨S8x1024x3584, .f32⟩
  | 4 => ⟨S8x1024x3584, .f32⟩
  | 5 => ⟨S8x3584x1024, .f32⟩
  | 6 => ⟨S72, .i32⟩
  | 7 => ⟨S_, .i32⟩
  | 8 => ⟨S72, .i32⟩
  | 9 => ⟨S72, .i1⟩
  | 10 => ⟨S_, .f32⟩
  | 11 => ⟨S73728x1024, .f32⟩
  | 12 => ⟨S_, .i32⟩
  | 13 => ⟨S72, .i32⟩
  | 14 => ⟨S72, .i1⟩
  | 15 => ⟨S72, .i1⟩
  | 16 => ⟨S_, .f32⟩
  | 17 => ⟨S_, .f32⟩
  | 18 => ⟨S72, .f32⟩
  | 19 => ⟨S72, .f32⟩
  | 20 => ⟨S72, .f32⟩
  | 21 => ⟨S72x1024, .f32⟩
  | 22 => ⟨S73728, .f32⟩
  | 23 => ⟨S73728x1, .f32⟩
  | 24 => ⟨S1x1024x3584, .f32⟩
  | 25 => ⟨S1024x3584, .f32⟩
  | 26 => ⟨S73728x3584, .f32⟩
  | 27 => ⟨S73728x3584, .f32⟩
  | 28 => ⟨S73728x3584, .f32⟩
  | 29 => ⟨S_, .f32⟩
  | 30 => ⟨S73728x3584, .f32⟩
  | 31 => ⟨S73728x3584, .f32⟩
  | 32 => ⟨S_, .f32⟩
  | 33 => ⟨S73728x3584, .f32⟩
  | 34 => ⟨S73728x3584, .f32⟩
  | 35 => ⟨S73728x3584, .f32⟩
  | 36 => ⟨S1x1024x3584, .f32⟩
  | 37 => ⟨S1024x3584, .f32⟩
  | 38 => ⟨S73728x3584, .f32⟩
  | 39 => ⟨S73728x3584, .f32⟩
  | 40 => ⟨S1x3584x1024, .f32⟩
  | 41 => ⟨S3584x1024, .f32⟩
  | 42 => ⟨S73728x1024, .f32⟩
  | 43 => ⟨S73728x1, .f32⟩
  | 44 => ⟨S73728x1024, .f32⟩
  | 45 => ⟨S73728x1024, .f32⟩
  | 46 => ⟨S73728x1024, .f32⟩
  | 47 => ⟨S_, .i32⟩
  | 48 => ⟨S72, .i32⟩
  | 49 => ⟨S72, .i1⟩
  | 50 => ⟨S72, .i1⟩
  | 51 => ⟨S_, .f32⟩
  | 52 => ⟨S_, .f32⟩
  | 53 => ⟨S72, .f32⟩
  | 54 => ⟨S72, .f32⟩
  | 55 => ⟨S72, .f32⟩
  | 56 => ⟨S72x1024, .f32⟩
  | 57 => ⟨S73728, .f32⟩
  | 58 => ⟨S73728x1, .f32⟩
  | 59 => ⟨S1x1024x3584, .f32⟩
  | 60 => ⟨S1024x3584, .f32⟩
  | 61 => ⟨S73728x3584, .f32⟩
  | 62 => ⟨S73728x3584, .f32⟩
  | 63 => ⟨S73728x3584, .f32⟩
  | 64 => ⟨S_, .f32⟩
  | 65 => ⟨S73728x3584, .f32⟩
  | 66 => ⟨S73728x3584, .f32⟩
  | 67 => ⟨S_, .f32⟩
  | 68 => ⟨S73728x3584, .f32⟩
  | 69 => ⟨S73728x3584, .f32⟩
  | 70 => ⟨S73728x3584, .f32⟩
  | 71 => ⟨S1x1024x3584, .f32⟩
  | 72 => ⟨S1024x3584, .f32⟩
  | 73 => ⟨S73728x3584, .f32⟩
  | 74 => ⟨S73728x3584, .f32⟩
  | 75 => ⟨S1x3584x1024, .f32⟩
  | 76 => ⟨S3584x1024, .f32⟩
  | 77 => ⟨S73728x1024, .f32⟩
  | 78 => ⟨S73728x1, .f32⟩
  | 79 => ⟨S73728x1024, .f32⟩
  | 80 => ⟨S73728x1024, .f32⟩
  | 81 => ⟨S73728x1024, .f32⟩
  | 82 => ⟨S_, .i32⟩
  | 83 => ⟨S72, .i32⟩
  | 84 => ⟨S72, .i1⟩
  | 85 => ⟨S72, .i1⟩
  | 86 => ⟨S_, .f32⟩
  | 87 => ⟨S_, .f32⟩
  | 88 => ⟨S72, .f32⟩
  | 89 => ⟨S72, .f32⟩
  | 90 => ⟨S72, .f32⟩
  | 91 => ⟨S72x1024, .f32⟩
  | 92 => ⟨S73728, .f32⟩
  | 93 => ⟨S73728x1, .f32⟩
  | 94 => ⟨S1x1024x3584, .f32⟩
  | 95 => ⟨S1024x3584, .f32⟩
  | 96 => ⟨S73728x3584, .f32⟩
  | 97 => ⟨S73728x3584, .f32⟩
  | 98 => ⟨S73728x3584, .f32⟩
  | 99 => ⟨S_, .f32⟩
  | 100 => ⟨S73728x3584, .f32⟩
  | 101 => ⟨S73728x3584, .f32⟩
  | 102 => ⟨S_, .f32⟩
  | 103 => ⟨S73728x3584, .f32⟩
  | 104 => ⟨S73728x3584, .f32⟩
  | 105 => ⟨S73728x3584, .f32⟩
  | 106 => ⟨S1x1024x3584, .f32⟩
  | 107 => ⟨S1024x3584, .f32⟩
  | 108 => ⟨S73728x3584, .f32⟩
  | 109 => ⟨S73728x3584, .f32⟩
  | 110 => ⟨S1x3584x1024, .f32⟩
  | 111 => ⟨S3584x1024, .f32⟩
  | 112 => ⟨S73728x1024, .f32⟩
  | 113 => ⟨S73728x1, .f32⟩
  | 114 => ⟨S73728x1024, .f32⟩
  | 115 => ⟨S73728x1024, .f32⟩
  | 116 => ⟨S73728x1024, .f32⟩
  | 117 => ⟨S_, .i32⟩
  | 118 => ⟨S72, .i32⟩
  | 119 => ⟨S72, .i1⟩
  | 120 => ⟨S72, .i1⟩
  | 121 => ⟨S_, .f32⟩
  | 122 => ⟨S_, .f32⟩
  | 123 => ⟨S72, .f32⟩
  | 124 => ⟨S72, .f32⟩
  | 125 => ⟨S72, .f32⟩
  | 126 => ⟨S72x1024, .f32⟩
  | 127 => ⟨S73728, .f32⟩
  | _ => ⟨S72, .i32⟩

abbrev hbmTy0_1 (i : Nat) : BufTy := match i % 128 with
  | 0 => ⟨S73728x1, .f32⟩
  | 1 => ⟨S1x1024x3584, .f32⟩
  | 2 => ⟨S1024x3584, .f32⟩
  | 3 => ⟨S73728x3584, .f32⟩
  | 4 => ⟨S73728x3584, .f32⟩
  | 5 => ⟨S73728x3584, .f32⟩
  | 6 => ⟨S_, .f32⟩
  | 7 => ⟨S73728x3584, .f32⟩
  | 8 => ⟨S73728x3584, .f32⟩
  | 9 => ⟨S_, .f32⟩
  | 10 => ⟨S73728x3584, .f32⟩
  | 11 => ⟨S73728x3584, .f32⟩
  | 12 => ⟨S73728x3584, .f32⟩
  | 13 => ⟨S1x1024x3584, .f32⟩
  | 14 => ⟨S1024x3584, .f32⟩
  | 15 => ⟨S73728x3584, .f32⟩
  | 16 => ⟨S73728x3584, .f32⟩
  | 17 => ⟨S1x3584x1024, .f32⟩
  | 18 => ⟨S3584x1024, .f32⟩
  | 19 => ⟨S73728x1024, .f32⟩
  | 20 => ⟨S73728x1, .f32⟩
  | 21 => ⟨S73728x1024, .f32⟩
  | 22 => ⟨S73728x1024, .f32⟩
  | 23 => ⟨S73728x1024, .f32⟩
  | 24 => ⟨S_, .i32⟩
  | 25 => ⟨S72, .i32⟩
  | 26 => ⟨S72, .i1⟩
  | 27 => ⟨S72, .i1⟩
  | 28 => ⟨S_, .f32⟩
  | 29 => ⟨S_, .f32⟩
  | 30 => ⟨S72, .f32⟩
  | 31 => ⟨S72, .f32⟩
  | 32 => ⟨S72, .f32⟩
  | 33 => ⟨S72x1024, .f32⟩
  | 34 => ⟨S73728, .f32⟩
  | 35 => ⟨S73728x1, .f32⟩
  | 36 => ⟨S1x1024x3584, .f32⟩
  | 37 => ⟨S1024x3584, .f32⟩
  | 38 => ⟨S73728x3584, .f32⟩
  | 39 => ⟨S73728x3584, .f32⟩
  | 40 => ⟨S73728x3584, .f32⟩
  | 41 => ⟨S_, .f32⟩
  | 42 => ⟨S73728x3584, .f32⟩
  | 43 => ⟨S73728x3584, .f32⟩
  | 44 => ⟨S_, .f32⟩
  | 45 => ⟨S73728x3584, .f32⟩
  | 46 => ⟨S73728x3584, .f32⟩
  | 47 => ⟨S73728x3584, .f32⟩
  | 48 => ⟨S1x1024x3584, .f32⟩
  | 49 => ⟨S1024x3584, .f32⟩
  | 50 => ⟨S73728x3584, .f32⟩
  | 51 => ⟨S73728x3584, .f32⟩
  | 52 => ⟨S1x3584x1024, .f32⟩
  | 53 => ⟨S3584x1024, .f32⟩
  | 54 => ⟨S73728x1024, .f32⟩
  | 55 => ⟨S73728x1, .f32⟩
  | 56 => ⟨S73728x1024, .f32⟩
  | 57 => ⟨S73728x1024, .f32⟩
  | 58 => ⟨S73728x1024, .f32⟩
  | 59 => ⟨S_, .i32⟩
  | 60 => ⟨S72, .i32⟩
  | 61 => ⟨S72, .i1⟩
  | 62 => ⟨S72, .i1⟩
  | 63 => ⟨S_, .f32⟩
  | 64 => ⟨S_, .f32⟩
  | 65 => ⟨S72, .f32⟩
  | 66 => ⟨S72, .f32⟩
  | 67 => ⟨S72, .f32⟩
  | 68 => ⟨S72x1024, .f32⟩
  | 69 => ⟨S73728, .f32⟩
  | 70 => ⟨S73728x1, .f32⟩
  | 71 => ⟨S1x1024x3584, .f32⟩
  | 72 => ⟨S1024x3584, .f32⟩
  | 73 => ⟨S73728x3584, .f32⟩
  | 74 => ⟨S73728x3584, .f32⟩
  | 75 => ⟨S73728x3584, .f32⟩
  | 76 => ⟨S_, .f32⟩
  | 77 => ⟨S73728x3584, .f32⟩
  | 78 => ⟨S73728x3584, .f32⟩
  | 79 => ⟨S_, .f32⟩
  | 80 => ⟨S73728x3584, .f32⟩
  | 81 => ⟨S73728x3584, .f32⟩
  | 82 => ⟨S73728x3584, .f32⟩
  | 83 => ⟨S1x1024x3584, .f32⟩
  | 84 => ⟨S1024x3584, .f32⟩
  | 85 => ⟨S73728x3584, .f32⟩
  | 86 => ⟨S73728x3584, .f32⟩
  | 87 => ⟨S1x3584x1024, .f32⟩
  | 88 => ⟨S3584x1024, .f32⟩
  | 89 => ⟨S73728x1024, .f32⟩
  | 90 => ⟨S73728x1, .f32⟩
  | 91 => ⟨S73728x1024, .f32⟩
  | 92 => ⟨S73728x1024, .f32⟩
  | 93 => ⟨S73728x1024, .f32⟩
  | 94 => ⟨S_, .i32⟩
  | 95 => ⟨S72, .i32⟩
  | 96 => ⟨S72, .i1⟩
  | 97 => ⟨S72, .i1⟩
  | 98 => ⟨S_, .f32⟩
  | 99 => ⟨S_, .f32⟩
  | 100 => ⟨S72, .f32⟩
  | 101 => ⟨S72, .f32⟩
  | 102 => ⟨S72, .f32⟩
  | 103 => ⟨S72x1024, .f32⟩
  | 104 => ⟨S73728, .f32⟩
  | 105 => ⟨S73728x1, .f32⟩
  | 106 => ⟨S1x1024x3584, .f32⟩
  | 107 => ⟨S1024x3584, .f32⟩
  | 108 => ⟨S73728x3584, .f32⟩
  | 109 => ⟨S73728x3584, .f32⟩
  | 110 => ⟨S73728x3584, .f32⟩
  | 111 => ⟨S_, .f32⟩
  | 112 => ⟨S73728x3584, .f32⟩
  | 113 => ⟨S73728x3584, .f32⟩
  | 114 => ⟨S_, .f32⟩
  | 115 => ⟨S73728x3584, .f32⟩
  | 116 => ⟨S73728x3584, .f32⟩
  | 117 => ⟨S73728x3584, .f32⟩
  | 118 => ⟨S1x1024x3584, .f32⟩
  | 119 => ⟨S1024x3584, .f32⟩
  | 120 => ⟨S73728x3584, .f32⟩
  | 121 => ⟨S73728x3584, .f32⟩
  | 122 => ⟨S1x3584x1024, .f32⟩
  | 123 => ⟨S3584x1024, .f32⟩
  | 124 => ⟨S73728x1024, .f32⟩
  | 125 => ⟨S73728x1, .f32⟩
  | 126 => ⟨S73728x1024, .f32⟩
  | 127 => ⟨S73728x1024, .f32⟩
  | _ => ⟨S72, .i32⟩

abbrev hbmTy0_2 (i : Nat) : BufTy := match i % 128 with
  | 0 => ⟨S73728x1024, .f32⟩
  | 1 => ⟨S_, .i32⟩
  | 2 => ⟨S72, .i32⟩
  | 3 => ⟨S72, .i1⟩
  | 4 => ⟨S72, .i1⟩
  | 5 => ⟨S_, .f32⟩
  | 6 => ⟨S_, .f32⟩
  | 7 => ⟨S72, .f32⟩
  | 8 => ⟨S72, .f32⟩
  | 9 => ⟨S72, .f32⟩
  | 10 => ⟨S72x1024, .f32⟩
  | 11 => ⟨S73728, .f32⟩
  | 12 => ⟨S73728x1, .f32⟩
  | 13 => ⟨S1x1024x3584, .f32⟩
  | 14 => ⟨S1024x3584, .f32⟩
  | 15 => ⟨S73728x3584, .f32⟩
  | 16 => ⟨S73728x3584, .f32⟩
  | 17 => ⟨S73728x3584, .f32⟩
  | 18 => ⟨S_, .f32⟩
  | 19 => ⟨S73728x3584, .f32⟩
  | 20 => ⟨S73728x3584, .f32⟩
  | 21 => ⟨S_, .f32⟩
  | 22 => ⟨S73728x3584, .f32⟩
  | 23 => ⟨S73728x3584, .f32⟩
  | 24 => ⟨S73728x3584, .f32⟩
  | 25 => ⟨S1x1024x3584, .f32⟩
  | 26 => ⟨S1024x3584, .f32⟩
  | 27 => ⟨S73728x3584, .f32⟩
  | 28 => ⟨S73728x3584, .f32⟩
  | 29 => ⟨S1x3584x1024, .f32⟩
  | 30 => ⟨S3584x1024, .f32⟩
  | 31 => ⟨S73728x1024, .f32⟩
  | 32 => ⟨S73728x1, .f32⟩
  | 33 => ⟨S73728x1024, .f32⟩
  | 34 => ⟨S73728x1024, .f32⟩
  | 35 => ⟨S73728x1024, .f32⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_6 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call5_v0 : Ref sig .tc := ⟨.hbm, 97, rfl⟩
abbrev main_call5_v1 : Ref sig .tc := ⟨.hbm, 98, rfl⟩
abbrev main_call5_cst : Ref sig .tc := ⟨.hbm, 99, rfl⟩
abbrev main_call5_v2 : Ref sig .tc := ⟨.hbm, 100, rfl⟩
abbrev main_call5_v3 : Ref sig .tc := ⟨.hbm, 101, rfl⟩
abbrev main_call5_cst_0 : Ref sig .tc := ⟨.hbm, 102, rfl⟩
abbrev main_call5_v4 : Ref sig .tc := ⟨.hbm, 103, rfl⟩
abbrev main_call5_v5 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_8 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_9 : Ref sig .tc := ⟨.hbm, 121, rfl⟩
abbrev main_cst_10 : Ref sig .tc := ⟨.hbm, 122, rfl⟩
abbrev main_call6_v0 : Ref sig .tc := ⟨.hbm, 123, rfl⟩
abbrev main_call6_v1 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_call7_v0 : Ref sig .tc := ⟨.hbm, 132, rfl⟩
abbrev main_call7_v1 : Ref sig .tc := ⟨.hbm, 133, rfl⟩
abbrev main_call7_cst : Ref sig .tc := ⟨.hbm, 134, rfl⟩
abbrev main_call7_v2 : Ref sig .tc := ⟨.hbm, 135, rfl⟩
abbrev main_call7_v3 : Ref sig .tc := ⟨.hbm, 136, rfl⟩
abbrev main_call7_cst_0 : Ref sig .tc := ⟨.hbm, 137, rfl⟩
abbrev main_call7_v4 : Ref sig .tc := ⟨.hbm, 138, rfl⟩
abbrev main_call7_v5 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_c_11 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_12 : Ref sig .tc := ⟨.hbm, 156, rfl⟩
abbrev main_cst_13 : Ref sig .tc := ⟨.hbm, 157, rfl⟩
abbrev main_call8_v0 : Ref sig .tc := ⟨.hbm, 158, rfl⟩
abbrev main_call8_v1 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_c_14 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_15 : Ref sig .tc := ⟨.hbm, 191, rfl⟩
abbrev main_cst_16 : Ref sig .tc := ⟨.hbm, 192, rfl⟩
abbrev main_call10_v0 : Ref sig .tc := ⟨.hbm, 193, rfl⟩
abbrev main_call10_v1 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_call11_v0 : Ref sig .tc := ⟨.hbm, 202, rfl⟩
abbrev main_call11_v1 : Ref sig .tc := ⟨.hbm, 203, rfl⟩
abbrev main_call11_cst : Ref sig .tc := ⟨.hbm, 204, rfl⟩
abbrev main_call11_v2 : Ref sig .tc := ⟨.hbm, 205, rfl⟩
abbrev main_call11_v3 : Ref sig .tc := ⟨.hbm, 206, rfl⟩
abbrev main_call11_cst_0 : Ref sig .tc := ⟨.hbm, 207, rfl⟩
abbrev main_call11_v4 : Ref sig .tc := ⟨.hbm, 208, rfl⟩
abbrev main_call11_v5 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_c_17 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_cst_18 : Ref sig .tc := ⟨.hbm, 226, rfl⟩
abbrev main_cst_19 : Ref sig .tc := ⟨.hbm, 227, rfl⟩
abbrev main_call12_v0 : Ref sig .tc := ⟨.hbm, 228, rfl⟩
abbrev main_call12_v1 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_call13_v0 : Ref sig .tc := ⟨.hbm, 237, rfl⟩
abbrev main_call13_v1 : Ref sig .tc := ⟨.hbm, 238, rfl⟩
abbrev main_call13_cst : Ref sig .tc := ⟨.hbm, 239, rfl⟩
abbrev main_call13_v2 : Ref sig .tc := ⟨.hbm, 240, rfl⟩
abbrev main_call13_v3 : Ref sig .tc := ⟨.hbm, 241, rfl⟩
abbrev main_call13_cst_0 : Ref sig .tc := ⟨.hbm, 242, rfl⟩
abbrev main_call13_v4 : Ref sig .tc := ⟨.hbm, 243, rfl⟩
abbrev main_call13_v5 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_c_20 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_cst_21 : Ref sig .tc := ⟨.hbm, 261, rfl⟩
abbrev main_cst_22 : Ref sig .tc := ⟨.hbm, 262, rfl⟩
abbrev main_call14_v0 : Ref sig .tc := ⟨.hbm, 263, rfl⟩
abbrev main_call14_v1 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_call15_v0 : Ref sig .tc := ⟨.hbm, 272, rfl⟩
abbrev main_call15_v1 : Ref sig .tc := ⟨.hbm, 273, rfl⟩
abbrev main_call15_cst : Ref sig .tc := ⟨.hbm, 274, rfl⟩
abbrev main_call15_v2 : Ref sig .tc := ⟨.hbm, 275, rfl⟩
abbrev main_call15_v3 : Ref sig .tc := ⟨.hbm, 276, rfl⟩
abbrev main_call15_cst_0 : Ref sig .tc := ⟨.hbm, 277, rfl⟩
abbrev main_call15_v4 : Ref sig .tc := ⟨.hbm, 278, rfl⟩
abbrev main_call15_v5 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩

abbrev nD : Nat := 1
abbrev τ : Topo := Topo.v7x

variable {F : FTy → Type} [FloatOps F]
-- ==== Kernel2.lean ====
abbrev S4x8192x1024 : Shape := ⟨3, ![4, 8192, 1024]⟩
abbrev S8x6x1024 : Shape := ⟨3, ![8, 6, 1024]⟩
abbrev S4x8192x512 : Shape := ⟨3, ![4, 8192, 512]⟩
abbrev S3x512 : Shape := ⟨2, ![3, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x6x1024 : Shape := ⟨3, ![1, 6, 1024]⟩
abbrev S1x512x512 : Shape := ⟨3, ![1, 512, 512]⟩
abbrev S1x16x512 : Shape := ⟨3, ![1, 16, 512]⟩
abbrev S512x512 : Shape := ⟨2, ![512, 512]⟩
abbrev S16x512 : Shape := ⟨2, ![16, 512]⟩
abbrev S1x512 : Shape := ⟨2, ![1, 512]⟩
abbrev S6x1024 : Shape := ⟨2, ![6, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S3x512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S3x512, .f32⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x1024 : Shape := ⟨3, ![4, 8192, 1024]⟩
abbrev S8x6x1024 : Shape := ⟨3, ![8, 6, 1024]⟩
abbrev S4x8192x512 : Shape := ⟨3, ![4, 8192, 512]⟩
abbrev S3x512 : Shape := ⟨2, ![3, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 134
  | .vmem => 0
  | .smem => 0
  | _ => 0

abbrev hbmTy0_0 (i : Nat) : BufTy := match i % 128 with
  | 0 => ⟨S4x8192x1024, .f32⟩
  | 1 => ⟨S8x6x1024, .f32⟩
  | 2 => ⟨S4x8192x512, .bf16⟩
  | 3 => ⟨S4x8192x512, .bf16⟩
  | 4 => ⟨S4x8192x512, .bf16⟩
  | 5 => ⟨S3x512, .f32⟩
  | 6 => ⟨S1024x1024, .f32⟩
  | 7 => ⟨S1024, .f32⟩
  | 8 => ⟨S1024, .f32⟩
  | 9 => ⟨S1024x2816, .f32⟩
  | 10 => ⟨S1024x2816, .f32⟩
  | 11 => ⟨S2816x1024, .f32⟩
  | 12 => ⟨S1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x1x1024, .f32⟩
  | 23 => ⟨S4x1024, .f32⟩
  | 24 => ⟨S4x1x1024, .f32⟩
  | 25 => ⟨S4x1x1024, .f32⟩
  | 26 => ⟨S4x1024, .f32⟩
  | 27 => ⟨S4x1x1024, .f32⟩
  | 28 => ⟨S4x1x1024, .f32⟩
  | 29 => ⟨S4x1024, .f32⟩
  | 30 => ⟨S4x1x1024, .f32⟩
  | 31 => ⟨S4x8192x512, .f32⟩
  | 32 => ⟨S_, .i32⟩
  | 33 => ⟨S_, .f32⟩
  | 34 => ⟨S4x8194x512, .f32⟩
  | 35 => ⟨S1x512, .f32⟩
  | 36 => ⟨S512, .f32⟩
  | 37 => ⟨S4x8192x512, .f32⟩
  | 38 => ⟨S1x1x512, .f32⟩
  | 39 => ⟨S4x8192x512, .f32⟩
  | 40 => ⟨S4x8192x512, .f32⟩
  | 41 => ⟨S1x512, .f32⟩
  | 42 => ⟨S512, .f32⟩
  | 43 => ⟨S4x8192x512, .f32⟩
  | 44 => ⟨S1x1x512, .f32⟩
  | 45 => ⟨S4x8192x512, .f32⟩
  | 46 => ⟨S4x8192x512, .f32⟩
  | 47 => ⟨S4x8192x512, .f32⟩
  | 48 => ⟨S1x512, .f32⟩
  | 49 => ⟨S512, .f32⟩
  | 50 => ⟨S4x8192x512, .f32⟩
  | 51 => ⟨S1x1x512, .f32⟩
  | 52 => ⟨S4x8192x512, .f32⟩
  | 53 => ⟨S4x8192x512, .f32⟩
  | 54 => ⟨S4x8192x512, .f32⟩
  | 55 => ⟨S4x8192x512, .f32⟩
  | 56 => ⟨S4x8192x512, .f32⟩
  | 57 => ⟨S4x8192x512, .f32⟩
  | 58 => ⟨S4x8192x1024, .f32⟩
  | 59 => ⟨S4x8192x1024, .f32⟩
  | 60 => ⟨S4x8192x1024, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S_, .f32⟩
  | 68 => ⟨S4x8192x1, .f32⟩
  | 69 => ⟨S4x8192x1, .f32⟩
  | 70 => ⟨S4x8192x1, .f32⟩
  | 71 => ⟨S4x8192x1024, .f32⟩
  | 72 => ⟨S4x8192x1024, .f32⟩
  | 73 => ⟨S1x1x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S4x8192x1024, .f32⟩
  | 79 => ⟨S4x8192x1024, .f32⟩
  | 80 => ⟨S_, .f32⟩
  | 81 => ⟨S4x8192, .f32⟩
  | 82 => ⟨S4x8192x1, .f32⟩
  | 83 => ⟨S_, .f32⟩
  | 84 => ⟨S4x8192x1, .f32⟩
  | 85 => ⟨S4x8192x1, .f32⟩
  | 86 => ⟨S_, .f32⟩
  | 87 => ⟨S4x8192x1, .f32⟩
  | 88 => ⟨S4x8192x1, .f32⟩
  | 89 => ⟨S4x8192x1, .f32⟩
  | 90 => ⟨S4x8192x1024, .f32⟩
  | 91 => ⟨S4x8192x1024, .f32⟩
  | 92 => ⟨S1x1x1024, .f32⟩
  | 93 => ⟨S4x8192x1024, .f32⟩
  | 94 => ⟨S4x8192x1024, .f32⟩
  | 95 => ⟨S_, .f32⟩
  | 96 => ⟨S4x1x1024, .f32⟩
  | 97 => ⟨S4x1x1024, .f32⟩
  | 98 => ⟨S4x8192x1024, .f32⟩
  | 99 => ⟨S4x8192x1024, .f32⟩
  | 100 => ⟨S4x8192x1024, .f32⟩
  | 101 => ⟨S4x8192x1024, .f32⟩
  | 102 => ⟨S4x8192x2816, .f32⟩
  | 103 => ⟨S4x8192x2816, .f32⟩
  | 104 => ⟨S4x8192x2816, .f32⟩
  | 105 => ⟨S_, .f32⟩
  | 106 => ⟨S4x8192x2816, .f32⟩
  | 107 => ⟨S4x8192x2816, .f32⟩
  | 108 => ⟨S_, .f32⟩
  | 109 => ⟨S4x8192x2816, .f32⟩
  | 110 => ⟨S4x8192x2816, .f32⟩
  | 111 => ⟨S4x8192x2816, .f32⟩
  | 112 => ⟨S4x8192x2816, .f32⟩
  | 113 => ⟨S4x8192x2816, .f32⟩
  | 114 => ⟨S4x8192x1024, .f32⟩
  | 115 => ⟨S4x8192x1024, .f32⟩
  | 116 => ⟨S_, .f32⟩
  | 117 => ⟨S4x8192, .f32⟩
  | 118 => ⟨S4x8192x1, .f32⟩
  | 119 => ⟨S_, .f32⟩
  | 120 => ⟨S4x8192x1, .f32⟩
  | 121 => ⟨S4x8192x1, .f32⟩
  | 122 => ⟨S_, .f32⟩
  | 123 => ⟨S4x8192x1, .f32⟩
  | 124 => ⟨S4x8192x1, .f32⟩
  | 125 => ⟨S4x8192x1, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S1x1x1024, .f32⟩
  | 1 => ⟨S4x8192x1024, .f32⟩
  | 2 => ⟨S4x8192x1024, .f32⟩
  | 3 => ⟨S4x8192x1024, .f32⟩
  | 4 => ⟨S4x8192x1024, .f32⟩
  | 5 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst : Ref sig .tc := ⟨.hbm, 61, rfl⟩
abbrev main_v46 : Ref sig .tc := ⟨.hbm, 62, rfl⟩
abbrev main_v47 : Ref sig .tc := ⟨.hbm, 63, rfl⟩
abbrev main_cst_0 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_2 : Ref sig .tc := ⟨.hbm, 80, rfl⟩
abbrev main_v62 : Ref sig .tc := ⟨.hbm, 81, rfl⟩
abbrev main_v63 : Ref sig .tc := ⟨.hbm, 82, rfl⟩
abbrev main_cst_3 : Ref sig .tc := ⟨.hbm, 83, rfl⟩
abbrev main_v64 : Ref sig .tc := ⟨.hbm, 84, rfl⟩
abbrev main_v65 : Ref sig .tc := ⟨.hbm, 85, rfl⟩
abbrev main_cst_4 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_5 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_6 : Ref sig .tc := ⟨.hbm, 116, rfl⟩
abbrev main_v86 : Ref sig .tc := ⟨.hbm, 117, rfl⟩
abbrev main_v87 : Ref sig .tc := ⟨.hbm, 118, rfl⟩
abbrev main_cst_7 : Ref sig .tc := ⟨.hbm, 119, rfl⟩
abbrev main_v88 : Ref sig .tc := ⟨.hbm, 120, rfl⟩
abbrev main_v89 : Ref sig .tc := ⟨.hbm, 121, rfl⟩
abbrev main_cst_8 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Kernel3.lean ====
abbrev S4x8192x1024 : Shape := ⟨3, ![4, 8192, 1024]⟩
abbrev S8x6x1024 : Shape := ⟨3, ![8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1024x8 : Shape := ⟨2, ![1024, 8]⟩
abbrev S8 : Shape := ⟨1, ![8]⟩
abbrev S8x128x1 : Shape := ⟨3, ![8, 128, 1]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S512x512 : Shape := ⟨2, ![512, 512]⟩
abbrev S4x8192x128 : Shape := ⟨3, ![4, 8192, 128]⟩
abbrev S1x512x1024 : Shape := ⟨3, ![1, 512, 1024]⟩
abbrev S1x6x1024 : Shape := ⟨3, ![1, 6, 1024]⟩
abbrev S1x512x128 : Shape := ⟨3, ![1, 512, 128]⟩
abbrev S6x1024 : Shape := ⟨2, ![6, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x128x128 : Shape := ⟨3, ![1, 128, 128]⟩
abbrev S128x1024 : Shape := ⟨2, ![128, 1024]⟩
abbrev S512x1024 : Shape := ⟨2, ![512, 1024]⟩
abbrev S512x256 : Shape := ⟨2, ![512, 256]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 57
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x8, .f32⟩
  | .hbm, ⟨12, _⟩ => ⟨S8, .f32⟩
  | .hbm, ⟨13, _⟩ => ⟨S8x128x1, .f32⟩
  | .hbm, ⟨14, _⟩ => ⟨S8x128x128, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1024x256, .bf16⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S1x1024, .f32⟩
  | .hbm, ⟨34, _⟩ => ⟨S1024x2048, .bf16⟩
  | .hbm, ⟨35, _⟩ => ⟨S1x1024, .f32⟩
  | .hbm, ⟨36, _⟩ => ⟨S1x1024, .f32⟩
  | .hbm, ⟨37, _⟩ => ⟨S8x128x128, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S512x512, .f32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S4x8192x1024, .f32⟩
  | .hbm, ⟨54, _⟩ => ⟨S4x8192x1024, .f32⟩
  | .hbm, ⟨55, _⟩ => ⟨S4x8192x128, .f32⟩
  | .hbm, ⟨56, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S8x128x128, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S512x512, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x128, .f32⟩
  | .local _ .vmem, ⟨21, _⟩ => ⟨S1x512x128, .f32⟩
  | .local _ .vmem, ⟨22, _⟩ => ⟨S8x128, .f32⟩
  | .local _ .vmem, ⟨23, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_cst : Ref sig .tc := ⟨.hbm, 49, rfl⟩
abbrev main_call0_v5 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v26_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference3Ideal.lean ====
abbrev S4x8192x1024 : Shape := ⟨3, ![4, 8192, 1024]⟩
abbrev S8x6x1024 : Shape := ⟨3, ![8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1024x8 : Shape := ⟨2, ![1024, 8]⟩
abbrev S8 : Shape := ⟨1, ![8]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S4x64x128x8x128 : Shape := ⟨5, ![4, 64, 128, 8, 128]⟩
abbrev S8x4x64x128x128 : Shape := ⟨5, ![8, 4, 64, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 156
  | .vmem => 0
  | .smem => 0
  | _ => 0

abbrev hbmTy0_0 (i : Nat) : BufTy := match i % 128 with
  | 0 => ⟨S4x8192x1024, .f32⟩
  | 1 => ⟨S8x6x1024, .f32⟩
  | 2 => ⟨S1024, .f32⟩
  | 3 => ⟨S1024x2048, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S1024, .f32⟩
  | 10 => ⟨S1024, .f32⟩
  | 11 => ⟨S1024x8, .f32⟩
  | 12 => ⟨S8, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x1x1024, .f32⟩
  | 23 => ⟨S4x1024, .f32⟩
  | 24 => ⟨S4x1x1024, .f32⟩
  | 25 => ⟨S4x1x1024, .f32⟩
  | 26 => ⟨S4x1024, .f32⟩
  | 27 => ⟨S4x1x1024, .f32⟩
  | 28 => ⟨S4x1x1024, .f32⟩
  | 29 => ⟨S4x1024, .f32⟩
  | 30 => ⟨S4x1x1024, .f32⟩
  | 31 => ⟨S4x8192x1024, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x1024, .f32⟩
  | 43 => ⟨S4x8192x1024, .f32⟩
  | 44 => ⟨S1x1x1024, .f32⟩
  | 45 => ⟨S4x8192x1024, .f32⟩
  | 46 => ⟨S4x8192x1024, .f32⟩
  | 47 => ⟨S_, .f32⟩
  | 48 => ⟨S4x1x1024, .f32⟩
  | 49 => ⟨S4x1x1024, .f32⟩
  | 50 => ⟨S4x8192x1024, .f32⟩
  | 51 => ⟨S4x8192x1024, .f32⟩
  | 52 => ⟨S4x8192x1024, .f32⟩
  | 53 => ⟨S4x8192x1024, .f32⟩
  | 54 => ⟨S4x8192x2048, .f32⟩
  | 55 => ⟨S4x8192x2048, .f32⟩
  | 56 => ⟨S4x8192x2048, .f32⟩
  | 57 => ⟨S_, .f32⟩
  | 58 => ⟨S4x8192x2048, .f32⟩
  | 59 => ⟨S4x8192x2048, .f32⟩
  | 60 => ⟨S4x8192x2048, .f32⟩
  | 61 => ⟨S_, .f32⟩
  | 62 => ⟨S4x8192x2048, .f32⟩
  | 63 => ⟨S4x8192x2048, .f32⟩
  | 64 => ⟨S4x8192x2048, .f32⟩
  | 65 => ⟨S_, .f32⟩
  | 66 => ⟨S4x8192x2048, .f32⟩
  | 67 => ⟨S4x8192x2048, .f32⟩
  | 68 => ⟨S_, .f32⟩
  | 69 => ⟨S4x8192x2048, .f32⟩
  | 70 => ⟨S4x8192x2048, .f32⟩
  | 71 => ⟨S4x8192x2048, .f32⟩
  | 72 => ⟨S4x8192x1024, .f32⟩
  | 73 => ⟨S4x8192x1024, .f32⟩
  | 74 => ⟨S_, .f32⟩
  | 75 => ⟨S4x8192, .f32⟩
  | 76 => ⟨S4x8192x1, .f32⟩
  | 77 => ⟨S_, .f32⟩
  | 78 => ⟨S4x8192x1, .f32⟩
  | 79 => ⟨S4x8192x1, .f32⟩
  | 80 => ⟨S4x8192x1024, .f32⟩
  | 81 => ⟨S4x8192x1024, .f32⟩
  | 82 => ⟨S4x8192x1024, .f32⟩
  | 83 => ⟨S_, .f32⟩
  | 84 => ⟨S4x8192, .f32⟩
  | 85 => ⟨S4x8192x1, .f32⟩
  | 86 => ⟨S_, .f32⟩
  | 87 => ⟨S4x8192x1, .f32⟩
  | 88 => ⟨S4x8192x1, .f32⟩
  | 89 => ⟨S4x8192x1024, .f32⟩
  | 90 => ⟨S4x8192x1024, .f32⟩
  | 91 => ⟨S_, .f32⟩
  | 92 => ⟨S4x8192x1, .f32⟩
  | 93 => ⟨S4x8192x1, .f32⟩
  | 94 => ⟨S4x8192x1, .f32⟩
  | 95 => ⟨S4x8192x1024, .f32⟩
  | 96 => ⟨S4x8192x1024, .f32⟩
  | 97 => ⟨S1x1x1024, .f32⟩
  | 98 => ⟨S4x8192x1024, .f32⟩
  | 99 => ⟨S4x8192x1024, .f32⟩
  | 100 => ⟨S1x1x1024, .f32⟩
  | 101 => ⟨S4x8192x1024, .f32⟩
  | 102 => ⟨S4x8192x1024, .f32⟩
  | 103 => ⟨S4x64x128x8x128, .f32⟩
  | 104 => ⟨S8x4x64x128x128, .f32⟩
  | 105 => ⟨S4x64x128x8x128, .f32⟩
  | 106 => ⟨S128x8, .f32⟩
  | 107 => ⟨S128x8x1, .f32⟩
  | 108 => ⟨S1x1x128x8x1, .f32⟩
  | 109 => ⟨S4x64x128x8x128, .f32⟩
  | 110 => ⟨S4x64x128x8x128, .f32⟩
  | 111 => ⟨S4x8192x1024, .f32⟩
  | 112 => ⟨S4x8192x1024, .f32⟩
  | 113 => ⟨S4x8192x1024, .f32⟩
  | 114 => ⟨S4x8192x1024, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S_, .f32⟩
  | 122 => ⟨S4x8192x1, .f32⟩
  | 123 => ⟨S4x8192x1, .f32⟩
  | 124 => ⟨S4x8192x1, .f32⟩
  | 125 => ⟨S4x8192x1024, .f32⟩
  | 126 => ⟨S4x8192x1024, .f32⟩
  | 127 => ⟨S1x1x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S4x8192x1024, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1x1x1024, .f32⟩
  | 19 => ⟨S4x8192x1024, .f32⟩
  | 20 => ⟨S4x8192x1024, .f32⟩
  | 21 => ⟨S_, .f32⟩
  | 22 => ⟨S4x1x1024, .f32⟩
  | 23 => ⟨S4x1x1024, .f32⟩
  | 24 => ⟨S4x8192x1024, .f32⟩
  | 25 => ⟨S4x8192x1024, .f32⟩
  | 26 => ⟨S4x8192x1024, .f32⟩
  | 27 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_15 : Ref sig .tc := ⟨.hbm, 134, rfl⟩
abbrev main_v105 : Ref sig .tc := ⟨.hbm, 135, rfl⟩
abbrev main_v106 : Ref sig .tc := ⟨.hbm, 136, rfl⟩
abbrev main_cst_16 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_18 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩

abbrev nD : Nat := 1
abbrev τ : Topo := Topo.v7x

variable {F : FTy → Type} [FloatOps F]
-- ==== Kernel4.lean ====
abbrev S4x8192x1024 : Shape := ⟨3, ![4, 8192, 1024]⟩
abbrev S8x6x1024 : Shape := ⟨3, ![8, 6, 1024]⟩
abbrev S1024 : Shape := ⟨1, ![1024]⟩
abbrev S1024x2304 : Shape := ⟨2, ![1024, 2304]⟩
abbrev S64 : Shape := ⟨1, ![64]⟩
abbrev S8192x32 : Shape := ⟨2, ![8192, 32]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S4x512x8192 : Shape := ⟨3, ![4, 512, 8192]⟩
abbrev S4x8192x128 : Shape := ⟨3, ![4, 8192, 128]⟩
abbrev S4x16x128x512 : Shape := ⟨4, ![4, 16, 128, 512]⟩
abbrev S4x8192x512 : Shape := ⟨3, ![4, 8192, 512]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S1x512x128 : Shape := ⟨3, ![1, 512, 128]⟩
abbrev S1x1x128x512 : Shape := ⟨4, ![1, 1, 128, 512]⟩
abbrev S6x1024 : Shape := ⟨2, ![6, 1024]⟩
abbrev S512x1024 : Shape := ⟨2, ![512, 1024]⟩
abbrev S1024x512 : Shape := ⟨2, ![1024, 512]⟩
abbrev S1024x256 : Shape := ⟨2, ![1024, 256]⟩
abbrev S512x256 : Shape := ⟨2, ![512, 256]⟩
abbrev S128x512 : Shape := ⟨2, ![128, 512]⟩

abbrev nBuf : Space → Nat
  | .hbm => 98
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S1024, .f32⟩
  | .hbm, ⟨3, _⟩ => ⟨S1024x2304, .f32⟩
  | .hbm, ⟨4, _⟩ => ⟨S64, .f32⟩
  | .hbm, ⟨5, _⟩ => ⟨S64, .f32⟩
  | .hbm, ⟨6, _⟩ => ⟨S8192x32, .f32⟩
  | .hbm, ⟨7, _⟩ => ⟨S8192x32, .f32⟩
  | .hbm, ⟨8, _⟩ => ⟨S1024x2304, .bf16⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S512, .i32⟩
  | .hbm, ⟨18, _⟩ => ⟨S_, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S1x512, .i32⟩
  | .hbm, ⟨38, _⟩ => ⟨S512x512, .i32⟩
  | .hbm, ⟨39, _⟩ => ⟨S512x512, .i32⟩
  | .hbm, ⟨40, _⟩ => ⟨S512x512, .i1⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .bf16⟩
  | .hbm, ⟨47, _⟩ => ⟨S128, .i32⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S128x1, .i32⟩
  | .hbm, ⟨67, _⟩ => ⟨S1x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .f32⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .bf16⟩
  | .hbm, ⟨77, _⟩ => ⟨S_, .f32⟩
  | .hbm, ⟨78, _⟩ => ⟨S8192x32, .f32⟩
  | .hbm, ⟨79, _⟩ => ⟨S8192x64, .f32⟩
  | .hbm, ⟨80, _⟩ => ⟨S1x8192x1x64, .f32⟩
  | .hbm, ⟨81, _⟩ => ⟨S1x8192x2x64, .f32⟩
  | .hbm, ⟨82, _⟩ => ⟨S8192x128, .f32⟩
  | .hbm, ⟨83, _⟩ => ⟨S8192x32, .f32⟩
  | .hbm, ⟨84, _⟩ => ⟨S8192x64, .f32⟩
  | .hbm, ⟨85, _⟩ => ⟨S1x8192x1x64, .f32⟩
  | .hbm, ⟨86, _⟩ => ⟨S1x8192x2x64, .f32⟩
  | .hbm, ⟨87, _⟩ => ⟨S8192x128, .f32⟩
  | .hbm, ⟨88, _⟩ => ⟨S8192x64, .f32⟩
  | .hbm, ⟨89, _⟩ => ⟨S1x8192x1x64, .f32⟩
  | .hbm, ⟨90, _⟩ => ⟨S1x8192x2x64, .f32⟩
  | .hbm, ⟨91, _⟩ => ⟨S8192x128, .f32⟩
  | .hbm, ⟨92, _⟩ => ⟨S1x1024, .f32⟩
  | .hbm, ⟨93, _⟩ => ⟨S4x512x8192, .bf16⟩
  | .hbm, ⟨94, _⟩ => ⟨S4x8192x128, .bf16⟩
  | .hbm, ⟨95, _⟩ => ⟨S4x16x128x512, .bf16⟩
  | .hbm, ⟨96, _⟩ => ⟨S4x8192x512, .bf16⟩
  | .hbm, ⟨97, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x128, .bf16⟩
  | .local _ .vmem, ⟨19, _⟩ => ⟨S1x512x128, .bf16⟩
  | .local _ .vmem, ⟨20, _⟩ => ⟨S1x1x128x512, .bf16⟩
  | .local _ .vmem, ⟨21, _⟩ => ⟨S1x1x128x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_2 : Ref sig .tc := ⟨.hbm, 71, rfl⟩
abbrev main_cst_3 : Ref sig .tc := ⟨.hbm, 72, rfl⟩
abbrev main_call3_v0 : Ref sig .tc := ⟨.hbm, 73, rfl⟩
abbrev main_call3_v1 : Ref sig .tc := ⟨.hbm, 74, rfl⟩
abbrev main_v25 : Ref sig .tc := ⟨.hbm, 75, rfl⟩
abbrev main_v26 : Ref sig .tc := ⟨.hbm, 76, rfl⟩
abbrev main_cst_4 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42_0 : Ref sig .tc := ⟨.hbm, 93, rfl⟩
abbrev main_v42_1 : Ref sig .tc := ⟨.hbm, 94, rfl⟩
abbrev main_v42_2 : Ref sig .tc := ⟨.hbm, 95, rfl⟩
abbrev main_v42_3 : Ref sig .tc := ⟨.hbm, 96, rfl⟩
abbrev main_v42_4 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x8192x1024 : Shape := ⟨3, ![4, 8192, 1024]⟩
abbrev S8x6x1024 : Shape := ⟨3, ![8, 6, 1024]⟩
abbrev S1024 : Shape := ⟨1, ![1024]⟩
abbrev S1024x2304 : Shape := ⟨2, ![1024, 2304]⟩
abbrev S64 : Shape := ⟨1, ![64]⟩
abbrev S8192x32 : Shape := ⟨2, ![8192, 32]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2304 : Shape := ⟨3, ![4, 8192, 2304]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S1x8192x1x32 : Shape := ⟨4, ![1, 8192, 1, 32]⟩
abbrev S4x8192x8x32 : Shape := ⟨4, ![4, 8192, 8, 32]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x512x8192 : Shape := ⟨3, ![4, 512, 8192]⟩
abbrev S4x16x512x128 : Shape := ⟨4, ![4, 16, 512, 128]⟩
abbrev S4x16x128x512 : Shape := ⟨4, ![4, 16, 128, 512]⟩

abbrev nBuf : Space → Nat
  | .hbm => 122
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S1024, .f32⟩
  | .hbm, ⟨3, _⟩ => ⟨S1024x2304, .f32⟩
  | .hbm, ⟨4, _⟩ => ⟨S64, .f32⟩
  | .hbm, ⟨5, _⟩ => ⟨S64, .f32⟩
  | .hbm, ⟨6, _⟩ => ⟨S8192x32, .f32⟩
  | .hbm, ⟨7, _⟩ => ⟨S8192x32, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x2304, .f32⟩
  | .hbm, ⟨38, _⟩ => ⟨S4x8192x512, .f32⟩
  | .hbm, ⟨39, _⟩ => ⟨S4x8192x128, .f32⟩
  | .hbm, ⟨40, _⟩ => ⟨S4x8192x128, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S4x8192x8x64, .f32⟩
  | .hbm, ⟨45, _⟩ => ⟨S4x8192x8x64, .f32⟩
  | .hbm, ⟨46, _⟩ => ⟨S_, .f32⟩
  | .hbm, ⟨47, _⟩ => ⟨S4x8192x8, .f32⟩
  | .hbm, ⟨48, _⟩ => ⟨S4x8192x8x1, .f32⟩
  | .hbm, ⟨49, _⟩ => ⟨S_, .f32⟩
  | .hbm, ⟨50, _⟩ => ⟨S4x8192x8x1, .f32⟩
  | .hbm, ⟨51, _⟩ => ⟨S4x8192x8x1, .f32⟩
  | .hbm, ⟨52, _⟩ => ⟨S_, .f32⟩
  | .hbm, ⟨53, _⟩ => ⟨S4x8192x8x1, .f32⟩
  | .hbm, ⟨54, _⟩ => ⟨S4x8192x8x1, .f32⟩
  | .hbm, ⟨55, _⟩ => ⟨S4x8192x8x1, .f32⟩
  | .hbm, ⟨56, _⟩ => ⟨S4x8192x8x64, .f32⟩
  | .hbm, ⟨57, _⟩ => ⟨S4x8192x8x64, .f32⟩
  | .hbm, ⟨58, _⟩ => ⟨S1x1x1x64, .f32⟩
  | .hbm, ⟨59, _⟩ => ⟨S4x8192x8x64, .f32⟩
  | .hbm, ⟨60, _⟩ => ⟨S4x8192x8x64, .f32⟩
  | .hbm, ⟨61, _⟩ => ⟨S1x8192x1x32, .f32⟩
  | .hbm, ⟨62, _⟩ => ⟨S1x8192x1x32, .f32⟩
  | .hbm, ⟨63, _⟩ => ⟨S4x8192x8x32, .f32⟩
  | .hbm, ⟨64, _⟩ => ⟨S4x8192x8x32, .f32⟩
  | .hbm, ⟨65, _⟩ => ⟨S4x8192x8x32, .f32⟩
  | .hbm, ⟨66, _⟩ => ⟨S4x8192x8x32, .f32⟩
  | .hbm, ⟨67, _⟩ => ⟨S4x8192x8x32, .f32⟩
  | .hbm, ⟨68, _⟩ => ⟨S4x8192x8x32, .f32⟩
  | .hbm, ⟨69, _⟩ => ⟨S4x8192x8x32, .f32⟩
  | .hbm, ⟨70, _⟩ => ⟨S4x8192x8x32, .f32⟩
  | .hbm, ⟨71, _⟩ => ⟨S4x8192x8x32, .f32⟩
  | .hbm, ⟨72, _⟩ => ⟨S4x8192x8x32, .f32⟩
  | .hbm, ⟨73, _⟩ => ⟨S4x8192x8x32, .f32⟩
  | .hbm, ⟨74, _⟩ => ⟨S4x8192x8x32, .f32⟩
  | .hbm, ⟨75, _⟩ => ⟨S4x8192x8x64, .f32⟩
  | .hbm, ⟨76, _⟩ => ⟨S_, .f32⟩
  | .hbm, ⟨77, _⟩ => ⟨S4x8192x8x64, .f32⟩
  | .hbm, ⟨78, _⟩ => ⟨S4x8192x8x64, .f32⟩
  | .hbm, ⟨79, _⟩ => ⟨S4x8192x2x64, .f32⟩
  | .hbm, ⟨80, _⟩ => ⟨S4x8192x2x64, .f32⟩
  | .hbm, ⟨81, _⟩ => ⟨S_, .f32⟩
  | .hbm, ⟨82, _⟩ => ⟨S4x8192x2, .f32⟩
  | .hbm, ⟨83, _⟩ => ⟨S4x8192x2x1, .f32⟩
  | .hbm, ⟨84, _⟩ => ⟨S_, .f32⟩
  | .hbm, ⟨85, _⟩ => ⟨S4x8192x2x1, .f32⟩
  | .hbm, ⟨86, _⟩ => ⟨S4x8192x2x1, .f32⟩
  | .hbm, ⟨87, _⟩ => ⟨S_, .f32⟩
  | .hbm, ⟨88, _⟩ => ⟨S4x8192x2x1, .f32⟩
  | .hbm, ⟨89, _⟩ => ⟨S4x8192x2x1, .f32⟩
  | .hbm, ⟨90, _⟩ => ⟨S4x8192x2x1, .f32⟩
  | .hbm, ⟨91, _⟩ => ⟨S4x8192x2x64, .f32⟩
  | .hbm, ⟨92, _⟩ => ⟨S4x8192x2x64, .f32⟩
  | .hbm, ⟨93, _⟩ => ⟨S1x1x1x64, .f32⟩
  | .hbm, ⟨94, _⟩ => ⟨S4x8192x2x64, .f32⟩
  | .hbm, ⟨95, _⟩ => ⟨S4x8192x2x64, .f32⟩
  | .hbm, ⟨96, _⟩ => ⟨S1x8192x1x32, .f32⟩
  | .hbm, ⟨97, _⟩ => ⟨S1x8192x1x32, .f32⟩
  | .hbm, ⟨98, _⟩ => ⟨S4x8192x2x32, .f32⟩
  | .hbm, ⟨99, _⟩ => ⟨S4x8192x2x32, .f32⟩
  | .hbm, ⟨100, _⟩ => ⟨S4x8192x2x32, .f32⟩
  | .hbm, ⟨101, _⟩ => ⟨S4x8192x2x32, .f32⟩
  | .hbm, ⟨102, _⟩ => ⟨S4x8192x2x32, .f32⟩
  | .hbm, ⟨103, _⟩ => ⟨S4x8192x2x32, .f32⟩
  | .hbm, ⟨104, _⟩ => ⟨S4x8192x2x32, .f32⟩
  | .hbm, ⟨105, _⟩ => ⟨S4x8192x2x32, .f32⟩
  | .hbm, ⟨106, _⟩ => ⟨S4x8192x2x32, .f32⟩
  | .hbm, ⟨107, _⟩ => ⟨S4x8192x2x32, .f32⟩
  | .hbm, ⟨108, _⟩ => ⟨S4x8192x2x32, .f32⟩
  | .hbm, ⟨109, _⟩ => ⟨S4x8192x2x32, .f32⟩
  | .hbm, ⟨110, _⟩ => ⟨S4x8192x2x64, .f32⟩
  | .hbm, ⟨111, _⟩ => ⟨S4x8192x512, .f32⟩
  | .hbm, ⟨112, _⟩ => ⟨S4x512x8192, .f32⟩
  | .hbm, ⟨113, _⟩ => ⟨S4x512x8192, .bf16⟩
  | .hbm, ⟨114, _⟩ => ⟨S4x8192x128, .f32⟩
  | .hbm, ⟨115, _⟩ => ⟨S4x8192x128, .bf16⟩
  | .hbm, ⟨116, _⟩ => ⟨S4x16x512x128, .f32⟩
  | .hbm, ⟨117, _⟩ => ⟨S4x16x128x512, .f32⟩
  | .hbm, ⟨118, _⟩ => ⟨S4x16x128x512, .bf16⟩
  | .hbm, ⟨119, _⟩ => ⟨S4x8192x512, .bf16⟩
  | .hbm, ⟨120, _⟩ => ⟨S4x8192x512, .f32⟩
  | .hbm, ⟨121, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S1x6144, .f32⟩
  | .hbm, ⟨13, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.ExpertBody.lean ====
/- Region 1's body, run once: an expert's gated product for one tile of rows and one half of the hidden columns, at a tile in use
   and at one that is not. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition under which the tile's rows are cast into the scratch buffer: the tile is in use, and this is its first half. -/
abbrev casts (i : grid1.Coords) (n : BitVec 32) : Prop :=
  Scalar.cmpi .ne (Scalar.extui (Scalar.andi (Scalar.cmpi .slt (BitVec.ofNat 32 (i 0).val) n) (Scalar.cmpi .eq (BitVec.ofNat 32 (i 1).val) 0#32)) : BitVec 32) 0#32 = 1#1

/-- The 512 columns of the interleaved weights from column `o`. -/
abbrev wide0 : Rect S1x1024x3584 := Rect.unit (s := S1x1024x3584) ![0, 0, 0] S1x1024x512.size inb_S1x1024x3584_S1x1024x512_0_0_0
abbrev wide1 : Rect S1x1024x3584 := Rect.unit (s := S1x1024x3584) ![0, 0, 512] S1x1024x512.size inb_S1x1024x3584_S1x1024x512_0_0_512
abbrev wide2 : Rect S1x1024x3584 := Rect.unit (s := S1x1024x3584) ![0, 0, 1024] S1x1024x512.size inb_S1x1024x3584_S1x1024x512_0_0_1024
abbrev wide3 : Rect S1x1024x3584 := Rect.unit (s := S1x1024x3584) ![0, 0, 1536] S1x1024x512.size inb_S1x1024x3584_S1x1024x512_0_0_1536
abbrev wide4 : Rect S1x1024x3584 := Rect.unit (s := S1x1024x3584) ![0, 0, 2048] S1x1024x512.size inb_S1x1024x3584_S1x1024x512_0_0_2048
abbrev wide5 : Rect S1x1024x3584 := Rect.unit (s := S1x1024x3584) ![0, 0, 2560] S1x1024x512.size inb_S1x1024x3584_S1x1024x512_0_0_2560
abbrev wide6 : Rect S1x1024x3584 := Rect.unit (s := S1x1024x3584) ![0, 0, 3072] S1x1024x512.size inb_S1x1024x3584_S1x1024x512_0_0_3072

/-- The half's product, from the cast rows `x`, the interleaved weights `g` and the down weights `d`. -/
def half (x : Vec F S1024x1024 .bf16) (g : Vec F S1x1024x3584 .bf16) (d : Vec F S1x1792x1024 .bf16) : Vec F S1024x1024 .f32 :=
  k1_pay2 x (k1_pay5 x (View.ld g wide0)) (k1_pay6 x (View.ld g wide1)) (k1_pay7 x (View.ld g wide2)) (k1_pay8 x (View.ld g wide3))
    (k1_pay9 (View.ld g wide4)) (View.ld g wide5) (View.ld g wide6) d

/-- The half's product added to `a`. -/
def plusHalf (x : Vec F S1024x1024 .bf16) (g : Vec F S1x1024x3584 .bf16) (d : Vec F S1x1792x1024 .bf16) (a : Vec F S1024x1024 .f32) : Vec F S1024x1024 .f32 :=
  k1_pay3 x (k1_pay5 x (View.ld g wide0)) (k1_pay6 x (View.ld g wide1)) (k1_pay7 x (View.ld g wide2)) (k1_pay8 x (View.ld g wide3))
    (k1_pay9 (View.ld g wide4)) (View.ld g wide5) (View.ld g wide6) d a

/-- The word the body reads of the one-word table. -/
abbrev word (a : Vec F S1 .i32) : BitVec 32 := View.ld a (Rect.unit (s := S1) ![0] S1.size inb_S1_S1_0) (Shape.Idx.first (s := S1) (numel1_S1.symm ▸ Nat.one_pos))

/-- A load of a whole buffer reads its contents. -/
theorem ld_rows {e : EltTy} (X : Vec F S1024x1024 e) (inb) : View.ld X (Rect.unit (s := S1024x1024) ![0, 0] ![1024, 1024] inb) = X :=
  View.ld_unit_lit (S := S1024x1024) inb X (by decide)
theorem ld_down {e : EltTy} (X : Vec F S1x1792x1024 e) (inb) : View.ld X (Rect.unit (s := S1x1792x1024) ![0, 0, 0] ![1, 1792, 1024] inb) = X :=
  View.ld_unit_lit (S := S1x1792x1024) inb X (by decide)

set_option maxHeartbeats 2000000 in
/-- The first half of a tile in use: its rows are cast into the scratch buffer, and the half's product written. -/
theorem body_first (c : Dev nD) (i : grid1.Coords) (arg2 : Memref sig .tc .smem S72 .i32) (harg2 : arg2.IsWhole) (arg3 : Memref sig .tc .smem S1 .i32) (harg3 : arg3.IsWhole)
    (arg4 : Memref sig .tc .vmem S1024x1024 .f32) (harg4 : arg4.IsWhole) (arg5 : Memref sig .tc .vmem S1x1024x3584 .bf16) (harg5 : arg5.IsWhole)
    (arg6 : Memref sig .tc .vmem S1x1792x1024 .bf16) (harg6 : arg6.IsWhole) (arg7 : Memref sig .tc .vmem S1024x1024 .f32) (harg7 : arg7.IsWhole)
    (arg8 : Memref sig .tc .vmem S1024x1024 .bf16) (harg8 : arg8.IsWhole)
    (na : Vec F S1 .i32) (x : Vec F S1024x1024 .f32) (g : Vec F S1x1024x3584 .bf16) (d : Vec F S1x1792x1024 .bf16) (K : PUnit → sProp 𝕄)
    (h1 : casts i (word na)) (h2 : k1_cond2 i (word na) = 1#1) (h3 : k1_cond3 i = 1#1) (h4 : ¬ k1_cond4 i = 1#1) (h5 : ¬ k1_cond5 i (word na) = 1#1) :
    iprop(owns (c : Thread nD τ) arg3 fullShare na ∗ owns (c : Thread nD τ) arg4 fullShare x ∗ owns (c : Thread nD τ) arg5 fullShare g ∗ owns (c : Thread nD τ) arg6 fullShare d ∗ (∃ o, owns (c : Thread nD τ) arg7 fullShare o) ∗ (∃ o, owns (c : Thread nD τ) arg8 fullShare o)
        ∗ (iprop(owns (c : Thread nD τ) arg3 fullShare na ∗ owns (c : Thread nD τ) arg4 fullShare x ∗ owns (c : Thread nD τ) arg5 fullShare g ∗ owns (c : Thread nD τ) arg6 fullShare d ∗ owns (c : Thread nD τ) arg7 fullShare (half (k1_pay1 x) g d) ∗ owns (c : Thread nD τ) arg8 fullShare (k1_pay1 x)) -∗ K ⟨⟩))
      ⊢ wp frame (wpE (defs₀ (F := F)) Variants.none c none) Set.univ (cc1_experts i arg2 harg2 arg3 harg3 arg4 harg4 arg5 harg5 arg6 harg6 arg7 harg7 arg8 harg8) K := by
  simp only [cc1_experts_eq_skeleton]; unfold cc1_experts_skel
  unfold owns
  iintro ⟨⟨%fn, %hn, HN⟩, ⟨%fx, %hx, HX⟩, ⟨%fg, %hg, HG⟩, ⟨%fd, %hd, HD⟩, ⟨%o, %fo, -, HO⟩, ⟨%s, %fs, -, HS⟩, Hk⟩
  subst hn hx hg hd
  sl_exec
  sl_step
  iapply Hk
  isplitl [HN]
  · iexists fn; isplitr
    · ipureintro; rfl
    iexact HN
  isplitl [HX]
  · iexists fx; isplitr
    · ipureintro; rfl
    iexact HX
  isplitl [HG]
  · iexists fg; isplitr
    · ipureintro; rfl
    iexact HG
  isplitl [HD]
  · iexists fd; isplitr
    · ipureintro; rfl
    iexact HD
  isplitl [HO]
  · iexists _; isplitr
    swap; · iexact HO
    ipureintro
    refine (View.read_writes_full (s := S1024x1024) _ _ _ _ _).trans ?_
    sl_unfold_run_names
    rw [View.readCov_full (s := S1024x1024)]
    simp only [View.readAt_eq_ld, ld_rows, ld_down]
    rfl
  iexists _; isplitr
  swap; · iexact HS
  ipureintro
  refine (View.read_writes_full (s := S1024x1024) _ _ _ _ _).trans ?_
  sl_unfold_run_names
  simp only [View.readAt_eq_ld, ld_rows]

set_option maxHeartbeats 2000000 in
/-- The second half of a tile in use: the half's product is added to what the first left. -/
theorem body_second (c : Dev nD) (i : grid1.Coords) (arg2 : Memref sig .tc .smem S72 .i32) (harg2 : arg2.IsWhole) (arg3 : Memref sig .tc .smem S1 .i32) (harg3 : arg3.IsWhole)
    (arg4 : Memref sig .tc .vmem S1024x1024 .f32) (harg4 : arg4.IsWhole) (arg5 : Memref sig .tc .vmem S1x1024x3584 .bf16) (harg5 : arg5.IsWhole)
    (arg6 : Memref sig .tc .vmem S1x1792x1024 .bf16) (harg6 : arg6.IsWhole) (arg7 : Memref sig .tc .vmem S1024x1024 .f32) (harg7 : arg7.IsWhole)
    (arg8 : Memref sig .tc .vmem S1024x1024 .bf16) (harg8 : arg8.IsWhole)
    (na : Vec F S1 .i32) (x : Vec F S1024x1024 .f32) (g : Vec F S1x1024x3584 .bf16) (d : Vec F S1x1792x1024 .bf16) (s : Vec F S1024x1024 .bf16) (a : Vec F S1024x1024 .f32) (K : PUnit → sProp 𝕄)
    (h1 : ¬ casts i (word na)) (h2 : k1_cond2 i (word na) = 1#1) (h3 : ¬ k1_cond3 i = 1#1) (h4 : k1_cond4 i = 1#1) (h5 : ¬ k1_cond5 i (word na) = 1#1) :
    iprop(owns (c : Thread nD τ) arg3 fullShare na ∗ owns (c : Thread nD τ) arg4 fullShare x ∗ owns (c : Thread nD τ) arg5 fullShare g ∗ owns (c : Thread nD τ) arg6 fullShare d ∗ owns (c : Thread nD τ) arg7 fullShare a ∗ owns (c : Thread nD τ) arg8 fullShare s
        ∗ (iprop(owns (c : Thread nD τ) arg3 fullShare na ∗ owns (c : Thread nD τ) arg4 fullShare x ∗ owns (c : Thread nD τ) arg5 fullShare g ∗ owns (c : Thread nD τ) arg6 fullShare d ∗ owns (c : Thread nD τ) arg7 fullShare (plusHalf s g d a) ∗ owns (c : Thread nD τ) arg8 fullShare s) -∗ K ⟨⟩))
      ⊢ wp frame (wpE (defs₀ (F := F)) Variants.none c none) Set.univ (cc1_experts i arg2 harg2 arg3 harg3 arg4 harg4 arg5 harg5 arg6 harg6 arg7 harg7 arg8 harg8) K := by
  simp only [cc1_experts_eq_skeleton]; unfold cc1_experts_skel
  unfold owns
  iintro ⟨⟨%fn, %hn, HN⟩, ⟨%fx, %hx, HX⟩, ⟨%fg, %hg, HG⟩, ⟨%fd, %hd, HD⟩, ⟨%fo, %ho, HO⟩, ⟨%fs, %hs, HS⟩, Hk⟩
  subst hn hx hg hd ho hs
  sl_exec
  sl_step
  iapply Hk
  isplitl [HN]
  · iexists fn; isplitr
    · ipureintro; rfl
    iexact HN
  isplitl [HX]
  · iexists fx; isplitr
    · ipureintro; rfl
    iexact HX
  isplitl [HG]
  · iexists fg; isplitr
    · ipureintro; rfl
    iexact HG
  isplitl [HD]
  · iexists fd; isplitr
    · ipureintro; rfl
    iexact HD
  isplitl [HO]
  · iexists _; isplitr
    swap; · iexact HO
    ipureintro
    refine (View.read_writes_full (s := S1024x1024) _ _ _ _ _).trans ?_
    sl_unfold_run_names
    simp only [View.readAt_eq_ld, ld_rows, ld_down]
    rfl
  iexists fs; isplitr
  · ipureintro; rfl
  iexact HS

set_option maxHeartbeats 2000000 in
/-- The first half of a tile not in use: its rows of the result are zeroed. -/
theorem idle_first (c : Dev nD) (i : grid1.Coords) (arg2 : Memref sig .tc .smem S72 .i32) (harg2 : arg2.IsWhole) (arg3 : Memref sig .tc .smem S1 .i32) (harg3 : arg3.IsWhole)
    (arg4 : Memref sig .tc .vmem S1024x1024 .f32) (harg4 : arg4.IsWhole) (arg5 : Memref sig .tc .vmem S1x1024x3584 .bf16) (harg5 : arg5.IsWhole)
    (arg6 : Memref sig .tc .vmem S1x1792x1024 .bf16) (harg6 : arg6.IsWhole) (arg7 : Memref sig .tc .vmem S1024x1024 .f32) (harg7 : arg7.IsWhole)
    (arg8 : Memref sig .tc .vmem S1024x1024 .bf16) (harg8 : arg8.IsWhole)
    (na : Vec F S1 .i32) (K : PUnit → sProp 𝕄)
    (h1 : ¬ casts i (word na)) (h2 : ¬ k1_cond2 i (word na) = 1#1) (h3 : k1_cond3 i = 1#1) (h4 : ¬ k1_cond4 i = 1#1) (h5 : k1_cond5 i (word na) = 1#1) :
    iprop(owns (c : Thread nD τ) arg3 fullShare na ∗ (∃ o, owns (c : Thread nD τ) arg7 fullShare o)
        ∗ (iprop(owns (c : Thread nD τ) arg3 fullShare na ∗ owns (c : Thread nD τ) arg7 fullShare (k1_pay4 (F := F))) -∗ K ⟨⟩))
      ⊢ wp frame (wpE (defs₀ (F := F)) Variants.none c none) Set.univ (cc1_experts i arg2 harg2 arg3 harg3 arg4 harg4 arg5 harg5 arg6 harg6 arg7 harg7 arg8 harg8) K := by
  simp only [cc1_experts_eq_skeleton]; unfold cc1_experts_skel
  unfold owns
  iintro ⟨⟨%fn, %hn, HN⟩, ⟨%o, %fo, -, HO⟩, Hk⟩
  subst hn
  sl_exec
  sl_step
  iapply Hk
  isplitl [HN]
  · iexists fn; isplitr
    · ipureintro; rfl
    iexact HN
  iexists _; isplitr
  swap; · iexact HO
  ipureintro
  exact View.read_writes_full (s := S1024x1024) _ _ _ _ _

set_option maxHeartbeats 2000000 in
/-- The second half of a tile not in use: nothing is touched. -/
theorem idle_second (c : Dev nD) (i : grid1.Coords) (arg2 : Memref sig .tc .smem S72 .i32) (harg2 : arg2.IsWhole) (arg3 : Memref sig .tc .smem S1 .i32) (harg3 : arg3.IsWhole)
    (arg4 : Memref sig .tc .vmem S1024x1024 .f32) (harg4 : arg4.IsWhole) (arg5 : Memref sig .tc .vmem S1x1024x3584 .bf16) (harg5 : arg5.IsWhole)
    (arg6 : Memref sig .tc .vmem S1x1792x1024 .bf16) (harg6 : arg6.IsWhole) (arg7 : Memref sig .tc .vmem S1024x1024 .f32) (harg7 : arg7.IsWhole)
    (arg8 : Memref sig .tc .vmem S1024x1024 .bf16) (harg8 : arg8.IsWhole)
    (na : Vec F S1 .i32) (K : PUnit → sProp 𝕄)
    (h1 : ¬ casts i (word na)) (h2 : ¬ k1_cond2 i (word na) = 1#1) (h3 : ¬ k1_cond3 i = 1#1) (h4 : k1_cond4 i = 1#1) (h5 : ¬ k1_cond5 i (word na) = 1#1) :
    iprop(owns (c : Thread nD τ) arg3 fullShare na
        ∗ (iprop(owns (c : Thread nD τ) arg3 fullShare na) -∗ K ⟨⟩))
      ⊢ wp frame (wpE (defs₀ (F := F)) Variants.none c none) Set.univ (cc1_experts i arg2 harg2 arg3 harg3 arg4 harg4 arg5 harg5 arg6 harg6 arg7 harg7 arg8 harg8) K := by
  simp only [cc1_experts_eq_skeleton]; unfold cc1_experts_skel
  unfold owns
  iintro ⟨⟨%fn, %hn, HN⟩, Hk⟩
  subst hn
  sl_exec
  sl_step
  iapply Hk
  iexists fn; isplitr
  · ipureintro; rfl
  iexact HN

end Cert.KernelIdeal.Experts
end
-- ==== Proof.GateUp.lean ====
/- Region 0: the interleaving of the two expert weight arrays, block by block, at any contents of the arrays when the
   region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the arrays hold when the region is entered. -/
abbrev Entry (F : FTy → Type) [FloatOps F] := (c : Dev nD) → (b : Ref sig .tc) → Buf (Elt F) ((c : Thread nD τ).loc b)

variable (V : Entry F)

/-- The left and the right half of an input block. -/
abbrev inL : Rect S1x1024x512 := Rect.unit (s := S1x1024x512) ![0, 0, 0] S1x1024x256.size inb_S1x1024x512_S1x1024x256_0_0_0
abbrev inR : Rect S1x1024x512 := Rect.unit (s := S1x1024x512) ![0, 0, 256] S1x1024x256.size inb_S1x1024x512_S1x1024x256_0_0_256
/-- The four quarters of the output block. -/
abbrev q0 : Rect S1x1024x1024 := Rect.unit (s := S1x1024x1024) ![0, 0, 0] S1x1024x256.size inb_S1x1024x1024_S1x1024x256_0_0_0
abbrev q1 : Rect S1x1024x1024 := Rect.unit (s := S1x1024x1024) ![0, 0, 256] S1x1024x256.size inb_S1x1024x1024_S1x1024x256_0_0_256
abbrev q2 : Rect S1x1024x1024 := Rect.unit (s := S1x1024x1024) ![0, 0, 512] S1x1024x256.size inb_S1x1024x1024_S1x1024x256_0_0_512
abbrev q3 : Rect S1x1024x1024 := Rect.unit (s := S1x1024x1024) ![0, 0, 768] S1x1024x256.size inb_S1x1024x1024_S1x1024x256_0_0_768

/-- The quarters written, the last first: a gate half, then an up half, twice. -/
def quarters (g u : Vec F S1x1024x512 .f32) : List (View.Piece (Elt F) S1x1024x1024 .bf16) :=
  [⟨q3, k0_pay4 (View.ld u inR)⟩, ⟨q2, k0_pay3 (View.ld g inR)⟩, ⟨q1, k0_pay2 (View.ld u inL)⟩, ⟨q0, k0_pay1 (View.ld g inL)⟩]

/-- The block the body leaves: gate and up columns interleaved by 256. -/
def mixed (g u : Vec F S1x1024x512 .f32) : Vec F S1x1024x1024 .bf16 := View.canon (quarters g u)

theorem quarters_cover (g u : Vec F S1x1024x512 .f32) (y : S1x1024x1024.Idx) : ∃ pc ∈ quarters g u, y ∈ pc.1.set :=
  View.cover_of_tiled (quarters g u) S1x1024x256.size (by rfl) y

/-- Window `w`'s block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
theorem body_spec (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1024 .bf16) (harg4 : arg4.IsWhole)
    (g u : Vec F S1x1024x512 .f32) (K : PUnit → sProp 𝕄) :
    iprop(owns (c : Thread nD τ) arg2 fullShare g ∗ owns (c : Thread nD τ) arg3 fullShare u ∗ (∃ d, owns (c : Thread nD τ) arg4 fullShare d)
        ∗ (iprop(owns (c : Thread nD τ) arg2 fullShare g ∗ owns (c : Thread nD τ) arg3 fullShare u ∗ owns (c : Thread nD τ) arg4 fullShare (mixed g u)) -∗ K ⟨⟩))
      ⊢ wp frame (wpE (defs₀ (F := F)) Variants.none c none) Set.univ (cc0_gate_up_weights i arg2 harg2 arg3 harg3 arg4 harg4) K := by
  simp only [cc0_gate_up_weights_eq_skeleton]; unfold cc0_gate_up_weights_skel
  unfold owns
  iintro ⟨⟨%fg, %hg, HG⟩, ⟨%fu, %hu, HU⟩, ⟨%d, %fo, -, HO⟩, Hk⟩
  subst hg hu
  sl_exec
  sl_step
  iapply Hk
  isplitl [HG]
  · iexists fg; isplitr
    · ipureintro; rfl
    iexact HG
  isplitl [HU]
  · iexists fu; isplitr
    · ipureintro; rfl
    iexact HU
  iexists _; isplitr
  swap; · iexact HO
  ipureintro
  exact View.read_writes_eq_canon _ _ _ (quarters_cover _ _)

/-- The proof data at entry contents `V`. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => mixed (blockAt V c 0 t) (blockAt V c 1 t)
  Φ _ := Pipeline.scopedRest (Ix := Unit) (Name := ℕ) (U := UR sig nD τ) (Lvl := ℕ) (Val := Elt F) spec0 c
  q _ := fullShare
  owed _ := 0

theorem dat_A (c : Dev nD) (w : Fin cfg0.W) : (dat V c).A w = V c (Pipeline.arrRef spec0 w) := by dsimp only [dat]

theorem dat_after0 (c : Dev nD) (t : Fin cfg0.N) : (dat V c).after 0 t = blockAt V c 0 t := by dsimp only [dat]
theorem dat_after1 (c : Dev nD) (t : Fin cfg0.N) : (dat V c).after 1 t = blockAt V c 1 t := by dsimp only [dat]
theorem dat_after2 (c : Dev nD) (t : Fin cfg0.N) : (dat V c).after 2 t = mixed (blockAt V c 0 t) (blockAt V c 1 t) := by dsimp only [dat]

/-- The two inputs' buffers hold their blocks at every point. -/
theorem found0 (c : Dev nD) (t : Fin cfg0.N) (d) : (dat V c).before 0 t d = blockAt V c 0 t :=
  ((dat V c).before_in_eq_fetched 0 rfl (fun _ => rfl) (fun _ _ _ => rfl) (fun t => by rw [dat_after0]; unfold Dat.blockOf blockAt; rw [dat_A]) t d).trans
    (by unfold Dat.fetched Dat.blockOf blockAt; rw [dat_A]; rfl)
theorem found1 (c : Dev nD) (t : Fin cfg0.N) (d) : (dat V c).before 1 t d = blockAt V c 1 t :=
  ((dat V c).before_in_eq_fetched 1 rfl (fun _ => rfl) (fun _ _ _ => rfl) (fun t => by rw [dat_after1]; unfold Dat.blockOf blockAt; rw [dat_A]) t d).trans
    (by unfold Dat.fetched Dat.blockOf blockAt; rw [dat_A]; rfl)

theorem row_eq (t : Fin cfg0.N) : defs₀ (F := F) .tc cfg0.body (cfg0.bodyArgs t (cfg0.slots t)) = bodyAt0 t := by
  unfold defs₀; rw [Defs.onTc_tc]

/-- What the body is called with and what it hands back at point `t`, its buffers one by one. -/
theorem at_point (c : Dev nD) (t : Fin cfg0.N) :
    (iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))) : sProp 𝕄)
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t))) := by
  unfold bodyAt0
  simp only [found0, found1]
  rw [show (dat V c).Φ t.succ = (dat V c).Φ t.castSucc from rfl,
    show (dat V c).owesAt () t.succ = (dat V c).owesAt () t.castSucc from rfl, dat_after0, dat_after1, dat_after2]
  iintro ⟨HΦ, Ho, ⟨%d0, H0⟩, ⟨%d1, H1⟩, ⟨%d2, H2⟩⟩
  iapply (body_spec c (grid0.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation (c : Dev nD) : BodyObligation (dat V c) (defs₀ (F := F)) Variants.none () Set.univ := fun t => by
  rw [bigSep_W0, bigSep_W0, row_eq]
  exact triple_restated (at_point V c t) rfl .rfl fun _ => .rfl

end Cert.KernelIdeal.GateUp
end
-- ==== Proof.Experts.lean ====
/- Region 1 over the whole grid: at any admissible contents of the two tables and any contents of the arrays, what every window's
   buffer holds after the body at every point, and the body's obligation there. -/
module

public import proofs.«01_k».proof.Proof.ExpertBody
public import proofs.«01_k».proof.Proof.GateUp
public import Idealize.ShloMosaic.Lib.Pipeline.TableIdle

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The grid and the conditions -/

/-- Point `t` of the grid is half `t % 2` of tile `t / 2`. -/
theorem coord0 : ∀ t : Fin grid1.N, (grid1.coords t 0).val = t.val / 2 := by decide +kernel
theorem coord1 : ∀ t : Fin grid1.N, (grid1.coords t 1).val = t.val % 2 := by decide +kernel

/-- One-bit words: the three conditions as functions of the two comparisons. -/
theorem bit_and : ∀ a b : BitVec 1, (Scalar.cmpi .ne (Scalar.extui (Scalar.andi a b) : BitVec 32) 0#32 = 1#1) ↔ (Scalar.cmpi .ne (Scalar.extui a : BitVec 32) 0#32 = 1#1 ∧ Scalar.cmpi .ne (Scalar.extui b : BitVec 32) 0#32 = 1#1) := by decide
theorem bit_not_and : ∀ a b : BitVec 1, (Scalar.cmpi .ne (Scalar.extui (Scalar.andi (Scalar.xori a 1#1) b) : BitVec 32) 0#32 = 1#1) ↔ (¬ Scalar.cmpi .ne (Scalar.extui a : BitVec 32) 0#32 = 1#1 ∧ Scalar.cmpi .ne (Scalar.extui b : BitVec 32) 0#32 = 1#1) := by decide

theorem casts_iff (i : grid1.Coords) (n : BitVec 32) : casts i n ↔ (k1_cond2 i n = 1#1 ∧ k1_cond3 i = 1#1) := bit_and _ _
theorem cond5_iff (i : grid1.Coords) (n : BitVec 32) : k1_cond5 i n = 1#1 ↔ (¬ k1_cond2 i n = 1#1 ∧ k1_cond3 i = 1#1) := bit_not_and _ _
theorem cond3_iff : ∀ t : Fin grid1.N, k1_cond3 (grid1.coords t) = 1#1 ↔ t.val % 2 = 0 := by decide +kernel
theorem cond4_iff : ∀ t : Fin grid1.N, k1_cond4 (grid1.coords t) = 1#1 ↔ ¬ t.val % 2 = 0 := by decide +kernel

/-- The point before. -/
abbrev before (t : Fin grid1.N) : Fin grid1.N := ⟨t.val - 1, by omega⟩

/-- Whether a tile is in use does not depend on the half. -/
theorem cond2_before (t : Fin grid1.N) (h : ¬ t.val % 2 = 0) (n : BitVec 32) : k1_cond2 (grid1.coords (before t)) n = k1_cond2 (grid1.coords t) n := by
  have : (grid1.coords (before t) 0).val = (grid1.coords t 0).val := by rw [coord0, coord0]; show (t.val - 1) / 2 = t.val / 2; omega
  unfold k1_cond2; rw [this]

variable (a : (pcfg1 (F := F)).Adm) (V : GateUp.Entry F)

/-- The number of tiles in use, as the idle table and as the body reads it. -/
abbrev used : BitVec 32 := a.1.atD 1 ![0]

theorem word_eq : word (show Vec F S1 .i32 from a.1 1) = used a := by
  unfold used Pipeline.Prefetch.Contents.atD
  rw [dif_pos (fun x => match x with | ⟨0, _⟩ => Nat.le_refl 1)]
  exact congrArg (a.1 1) (funext fun x => match x with | ⟨0, _⟩ => rfl)

/-- Whether point `t` works on a tile in use. -/
abbrev live (t : Fin grid1.N) : Prop := k1_cond2 (grid1.coords t) (used a) = 1#1

/-- Window `w`'s block at point `t`. -/
def blockAt (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The three inputs' blocks, at their shapes. -/
abbrev rows (c : Dev nD) (t : Fin grid1.N) : Vec F S1024x1024 .f32 := blockAt a V c 0 t
abbrev wide (c : Dev nD) (t : Fin grid1.N) : Vec F S1x1024x3584 .bf16 := blockAt a V c 1 t
abbrev down (c : Dev nD) (t : Fin grid1.N) : Vec F S1x1792x1024 .bf16 := blockAt a V c 2 t

/-- What the result's buffer holds after the body at point `t`: after the first half of a tile in use that half's product, after the
    second the two halves' sum; zeros at a tile not in use. -/
def left (c : Dev nD) (t : Fin grid1.N) : Vec F S1024x1024 .f32 :=
  if live a t then
    if t.val % 2 = 0 then half (k1_pay1 (rows a V c t)) (wide a V c t) (down a V c t)
    else plusHalf (k1_pay1 (rows a V c (before t))) (wide a V c t) (down a V c t)
      (half (k1_pay1 (rows a V c (before t))) (wide a V c (before t)) (down a V c (before t)))
  else k1_pay4 (F := F)

/-- The other region's staging buffers, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scratch buffer before point `n`: between the halves of a tile in use it holds the tile's cast rows; else anything. -/
def scratchAt (c : Dev nD) (n : ℕ) : sProp 𝕄 :=
  iprop(∃ s : Vec F S1024x1024 .bf16, ⌜∀ t : Fin grid1.N, t.val + 1 = n → t.val % 2 = 0 → live a t → s = k1_pay1 (rows a V c t)⌝
    ∗ owns (c : Thread nD τ) (Memref.whole cc1_scratch0) fullShare s)

/-- The tables at their contents. -/
def tables (c : Dev nD) : sProp 𝕄 :=
  iprop((((c : Thread nD τ).loc main_v13) ↦{fullShare} (show Buf (Elt F) ((c : Thread nD τ).loc main_v13) from a.1 0))
    ∗ owns (c : Thread nD τ) (Memref.whole main_arg1) fullShare (show Vec F S1 .i32 from a.1 1))

/-- The region's proof data. -/
def dat (c : Dev nD) : Dat τ (Elt F) Unit ℕ (UR sig nD τ) ℕ (cfg1 a) c where
  A w := V c (Pipeline.arrRef spec1 w)
  after w t := match w with
    | ⟨0, _⟩ => blockAt a V c 0 t
    | ⟨1, _⟩ => blockAt a V c 1 t
    | ⟨2, _⟩ => blockAt a V c 2 t
    | ⟨3, _⟩ => left a V c t
  Φ n := iprop(others c ∗ scratchAt a V c n.val ∗ tables a c)
  q _ := fullShare
  owed _ := 0

theorem dat_A (c : Dev nD) (w : Fin (cfg1 a).W) : (dat a V c).A w = V c (Pipeline.arrRef spec1 w) := by dsimp only [dat]
theorem dat_after0 (c : Dev nD) (t : Fin (cfg1 a).N) : (dat a V c).after 0 t = blockAt a V c 0 t := by dsimp only [dat]; rfl
theorem dat_after1 (c : Dev nD) (t : Fin (cfg1 a).N) : (dat a V c).after 1 t = blockAt a V c 1 t := by dsimp only [dat]; rfl
theorem dat_after2 (c : Dev nD) (t : Fin (cfg1 a).N) : (dat a V c).after 2 t = blockAt a V c 2 t := by dsimp only [dat]; rfl
theorem dat_after3 (c : Dev nD) (t : Fin (cfg1 a).N) : (dat a V c).after 3 t = left a V c t := by dsimp only [dat]; rfl

theorem found0 (c : Dev nD) (t : Fin (cfg1 a).N) (d) : (dat a V c).before 0 t d = blockAt a V c 0 t :=
  ((dat a V c).before_in_eq_fetched 0 rfl (fun _ => rfl) (fun _ _ _ => rfl) (fun t => by rw [dat_after0]; unfold Dat.blockOf blockAt; rw [dat_A]) t d).trans
    (by unfold Dat.fetched Dat.blockOf blockAt; rw [dat_A]; rfl)
theorem found1 (c : Dev nD) (t : Fin (cfg1 a).N) (d) : (dat a V c).before 1 t d = blockAt a V c 1 t :=
  ((dat a V c).before_in_eq_fetched 1 rfl (fun _ => rfl) (fun _ _ _ => rfl) (fun t => by rw [dat_after1]; unfold Dat.blockOf blockAt; rw [dat_A]) t d).trans
    (by unfold Dat.fetched Dat.blockOf blockAt; rw [dat_A]; rfl)
theorem found2 (c : Dev nD) (t : Fin (cfg1 a).N) (d) : (dat a V c).before 2 t d = blockAt a V c 2 t :=
  ((dat a V c).before_in_eq_fetched 2 rfl (fun _ => rfl) (fun _ _ _ => rfl) (fun t => by rw [dat_after2]; unfold Dat.blockOf blockAt; rw [dat_A]) t d).trans
    (by unfold Dat.fetched Dat.blockOf blockAt; rw [dat_A]; rfl)

/-- The result's block is written back after the second half of every tile. -/
theorem moves3 : ∀ t : Fin grid1.N, (true && (decide (t.val + 1 = grid1.N) || decide (∃ h : t.val + 1 < grid1.N, ∃ x, cc1_transform_3 (grid1.coords ⟨t.val + 1, h⟩) x ≠ cc1_transform_3 (grid1.coords t) x))) = decide (¬ t.val % 2 = 0) := by decide +kernel
theorem flush3 (t : Fin grid1.N) : ((cfg1 a).win 3).flush t = decide (¬ t.val % 2 = 0) :=
  (((cfg1 a).win 3).flush_eq_flushF t).trans (moves3 t)

/-- The result's window is idle exactly at the second half of a tile not in use. -/
theorem idle3 (t : Fin grid1.N) : (cfg1 a).idle 3 (grid1.coords t) = decide (¬ live a t ∧ ¬ t.val % 2 = 0) := by
  show (!(k1_cond2 (grid1.coords t) (used a) == 1#1 && k1_cond3 (grid1.coords t) == 1#1) && !(k1_cond2 (grid1.coords t) (used a) == 1#1 && k1_cond4 (grid1.coords t) == 1#1) && !(k1_cond5 (grid1.coords t) (used a) == 1#1)) = _
  have h3 := cond3_iff t; have h4 := cond4_iff t; have h5 := cond5_iff (grid1.coords t) (used a)
  unfold live
  by_cases h2 : k1_cond2 (grid1.coords t) (used a) = 1#1 <;> by_cases he : t.val % 2 = 0 <;>
    simp_all

theorem left_dead (c : Dev nD) (t : Fin grid1.N) (h : ¬ live a t) : left a V c t = k1_pay4 (F := F) := if_neg h

/-- At the second half the result's buffer holds what the first half left. -/
theorem found3 (c : Dev nD) (t : Fin grid1.N) (ht : ¬ t.val % 2 = 0) (d) : (dat a V c).before 3 t d = left a V c (before t) := by
  have h := (dat a V c).before_out_traj 3 rfl (fun _ _ => rfl) (fun t ht hi _ => by
    rw [idle3, decide_eq_true_eq] at hi
    rw [dat_after3, dat_after3, left_dead a V c t hi.1]
    refine (left_dead a V c (before t) ?_).symm
    unfold live; rw [cond2_before t hi.2]; exact hi.1) t.val t rfl d
  rw [h, dat_after3]
  have hf : (cfg1 a).fresh 3 t.val = false := by
    obtain ⟨n, hn⟩ : ∃ n, t.val = n + 1 := ⟨t.val - 1, by omega⟩
    have hlt : n < grid1.N := by have := t.isLt; omega
    rw [hn, (cfg1 a).fresh_succ 3 n hlt, flush3 a ⟨n, hlt⟩, idle3 a ⟨n, hlt⟩]
    have : n % 2 = 0 := by omega
    simp [this]
  rw [hf]; rfl

/-! ## The body at a point -/

abbrev st0 (t : Fin (cfg1 a).N) := ((cfg1 a).win 0).stage ((cfg1 a).slots t 0)
abbrev st1 (t : Fin (cfg1 a).N) := ((cfg1 a).win 1).stage ((cfg1 a).slots t 1)
abbrev st2 (t : Fin (cfg1 a).N) := ((cfg1 a).win 2).stage ((cfg1 a).slots t 2)
abbrev st3 (t : Fin (cfg1 a).N) := ((cfg1 a).win 3).stage ((cfg1 a).slots t 3)

abbrev bodyAt (t : Fin (cfg1 a).N) : Prog (TpuEff nD τ sig (Elt F) Λ₀ .tc) PUnit :=
  cc1_experts (grid1.coords t) (Memref.whole main_v13) (Memref.isWhole_whole _) (Memref.whole main_arg1) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (Memref.whole cc1_scratch0) (Memref.isWhole_whole _)

theorem row_eq (t : Fin (cfg1 a).N) : defs₀ (F := F) .tc (cfg1 a).body ((cfg1 a).bodyArgs t ((cfg1 a).slots t)) = bodyAt a t := by
  unfold defs₀; rw [Defs.onTc_tc]

theorem at_point (c : Dev nD) (t : Fin (cfg1 a).N) :
    (iprop((dat a V c).Φ t.castSucc ∗ (dat a V c).owesAt () t.castSucc
      ∗ (∃ d, owns (c : Thread nD τ) (st0 a t) fullShare ((dat a V c).before 0 t d))
      ∗ (∃ d, owns (c : Thread nD τ) (st1 a t) fullShare ((dat a V c).before 1 t d))
      ∗ (∃ d, owns (c : Thread nD τ) (st2 a t) fullShare ((dat a V c).before 2 t d))
      ∗ (∃ d, owns (c : Thread nD τ) (st3 a t) fullShare ((dat a V c).before 3 t d))) : sProp 𝕄)
    ⊢ wp frame (wpE (defs₀ (F := F)) Variants.none c none) Set.univ (bodyAt a t) (fun _ =>
      iprop((dat a V c).Φ t.succ ∗ (dat a V c).owesAt () t.succ
        ∗ owns (c : Thread nD τ) (st0 a t) fullShare ((dat a V c).after 0 t)
        ∗ owns (c : Thread nD τ) (st1 a t) fullShare ((dat a V c).after 1 t)
        ∗ owns (c : Thread nD τ) (st2 a t) fullShare ((dat a V c).after 2 t)
        ∗ owns (c : Thread nD τ) (st3 a t) fullShare ((dat a V c).after 3 t))) := by
  unfold bodyAt
  simp only [found0, found1, found2]
  rw [show (dat a V c).owesAt () t.succ = (dat a V c).owesAt () t.castSucc from rfl, dat_after0, dat_after1, dat_after2, dat_after3,
    show (dat a V c).Φ t.castSucc = iprop(others c ∗ scratchAt a V c t.val ∗ tables a c) from rfl,
    show (dat a V c).Φ t.succ = iprop(others c ∗ scratchAt a V c (t.val + 1) ∗ tables a c) from rfl]
  unfold scratchAt tables
  iintro ⟨⟨HO, ⟨%s, %hs, HS⟩, HT, HN⟩, Ho, ⟨%d0, H0⟩, ⟨%d1, H1⟩, ⟨%d2, H2⟩, ⟨%d3, H3⟩⟩
  have hw := word_eq a
  have h1 := casts_iff (grid1.coords t) (used a)
  have h3 := cond3_iff t; have h4 := cond4_iff t; have h5 := cond5_iff (grid1.coords t) (used a)
  by_cases hl : live a t
  · by_cases he : t.val % 2 = 0
    · iapply (body_first c (grid1.coords t) _ _ _ _ _ _ _ _ _ _ _ _ _ _ (show Vec F S1 .i32 from a.1 1) (rows a V c t) (wide a V c t) (down a V c t) _
        (by rw [hw]; exact h1.mpr ⟨hl, h3.mpr he⟩) (by rw [hw]; exact hl) (h3.mpr he) (fun h => h4.mp h he) (by rw [hw]; exact fun h => (h5.mp h).1 hl))
      isplitl [HN]; · iexact HN
      isplitl [H0]; · iexact H0
      isplitl [H1]; · iexact H1
      isplitl [H2]; · iexact H2
      isplitl [H3]; · iexists _; iexact H3
      isplitl [HS]; · iexists _; iexact HS
      iintro ⟨HN, H0, H1, H2, H3, HS⟩
      isplitl [HO HS HT HN]
      · isplitl [HO]; · iexact HO
        isplitl [HS]
        · iexists _; isplitr
          swap; · iexact HS
          ipureintro
          intro t' ht' _ _
          obtain rfl : t' = t := Fin.ext (by omega)
          rfl
        isplitl [HT]; · iexact HT
        iexact HN
      isplitl [Ho]; · iexact Ho
      isplitl [H0]; · iexact H0
      isplitl [H1]; · iexact H1
      isplitl [H2]; · iexact H2
      rw [show left a V c t = half (k1_pay1 (rows a V c t)) (wide a V c t) (down a V c t) from by unfold left; rw [if_pos hl, if_pos he]]
      iexact H3
    · have hlb : live a (before t) := by unfold live; rw [cond2_before t he]; exact hl
      have hsv : s = k1_pay1 (rows a V c (before t)) := hs (before t) (by show t.val - 1 + 1 = t.val; omega) (by show (t.val - 1) % 2 = 0; omega) hlb
      rw [found3 a V c t he, hsv]
      iapply (body_second c (grid1.coords t) _ _ _ _ _ _ _ _ _ _ _ _ _ _ (show Vec F S1 .i32 from a.1 1) (rows a V c t) (wide a V c t) (down a V c t)
        (k1_pay1 (rows a V c (before t))) (left a V c (before t)) _
        (by rw [hw]; exact fun h => he (h3.mp (h1.mp h).2)) (by rw [hw]; exact hl) (fun h => he (h3.mp h)) (h4.mpr he) (by rw [hw]; exact fun h => (h5.mp h).1 hl))
      isplitl [HN]; · iexact HN
      isplitl [H0]; · iexact H0
      isplitl [H1]; · iexact H1
      isplitl [H2]; · iexact H2
      isplitl [H3]; · iexact H3
      isplitl [HS]; · iexact HS
      iintro ⟨HN, H0, H1, H2, H3, HS⟩
      isplitl [HO HS HT HN]
      · isplitl [HO]; · iexact HO
        isplitl [HS]
        · iexists _; isplitr
          swap; · iexact HS
          ipureintro
          intro t' ht' hp _
          exact absurd hp (by have : t'.val = t.val := by omega
                              rw [this]; exact he)
        isplitl [HT]; · iexact HT
        iexact HN
      isplitl [Ho]; · iexact Ho
      isplitl [H0]; · iexact H0
      isplitl [H1]; · iexact H1
      isplitl [H2]; · iexact H2
      rw [show left a V c t = plusHalf (k1_pay1 (rows a V c (before t))) (wide a V c t) (down a V c t) (left a V c (before t)) from by
        unfold left; rw [if_pos hl, if_neg he, if_pos hlb, if_pos (show (t.val - 1) % 2 = 0 by omega)]]
      iexact H3
  · by_cases he : t.val % 2 = 0
    · iapply (idle_first c (grid1.coords t) _ _ _ _ _ _ _ _ _ _ _ _ _ _ (show Vec F S1 .i32 from a.1 1) _
        (by rw [hw]; exact fun h => hl (h1.mp h).1) (by rw [hw]; exact hl) (h3.mpr he) (fun h => h4.mp h he) (by rw [hw]; exact h5.mpr ⟨hl, h3.mpr he⟩))
      isplitl [HN]; · iexact HN
      isplitl [H3]; · iexists _; iexact H3
      iintro ⟨HN, H3⟩
      isplitl [HO HS HT HN]
      · isplitl [HO]; · iexact HO
        isplitl [HS]
        · iexists _; isplitr
          swap; · iexact HS
          ipureintro
          intro t' ht' _ hl'
          obtain rfl : t' = t := Fin.ext (by omega)
          exact absurd hl' hl
        isplitl [HT]; · iexact HT
        iexact HN
      isplitl [Ho]; · iexact Ho
      isplitl [H0]; · iexact H0
      isplitl [H1]; · iexact H1
      isplitl [H2]; · iexact H2
      rw [left_dead a V c t hl]
      iexact H3
    · rw [found3 a V c t he]
      iapply (idle_second c (grid1.coords t) _ _ _ _ _ _ _ _ _ _ _ _ _ _ (show Vec F S1 .i32 from a.1 1) _
        (by rw [hw]; exact fun h => hl (h1.mp h).1) (by rw [hw]; exact hl) (fun h => he (h3.mp h)) (h4.mpr he) (by rw [hw]; exact fun h => he (h3.mp (h5.mp h).2)))
      isplitl [HN]; · iexact HN
      iintro HN
      isplitl [HO HS HT HN]
      · isplitl [HO]; · iexact HO
        isplitl [HS]
        · iexists _; isplitr
          swap; · iexact HS
          ipureintro
          intro t' ht' _ hl'
          obtain rfl : t' = t := Fin.ext (by omega)
          exact absurd hl' hl
        isplitl [HT]; · iexact HT
        iexact HN
      isplitl [Ho]; · iexact Ho
      isplitl [H0]; · iexact H0
      isplitl [H1]; · iexact H1
      isplitl [H2]; · iexact H2
      rw [left_dead a V c t hl, left_dead a V c (before t) (by unfold live; rw [cond2_before t he]; exact hl)]
      iexact H3

/-- Where an idle point always writes the block back, what is left is the same idle or not. -/
theorem of_idle (b f : Bool) (P Q : sProp 𝕄) : (b = true → f = true) →
    (P ⊢ (match b with
      | true => match f with
        | false => Q
        | true => P
      | false => P)) := by
  intro h
  cases b with
  | false => exact .rfl
  | true => obtain rfl := h rfl; exact .rfl

theorem obligation (c : Dev nD) : BodyObligation (dat a V c) (defs₀ (F := F)) Variants.none () Set.univ := fun t => by
  rw [bigSep_W1, bigSep_W1, row_eq]
  have hif : (cfg1 a).idle 3 ((cfg1 a).grid.coords t) = true → ((cfg1 a).win 3).flush t = true := fun h => by
    have h' : decide (¬ live a t ∧ ¬ t.val % 2 = 0) = true := (idle3 a t).symm.trans h
    rw [decide_eq_true_eq] at h'
    rw [flush3, decide_eq_true_eq]
    exact h'.2
  refine triple_restated (at_point a V c t) rfl .rfl fun _ => ?_
  exact sep_mono .rfl (sep_mono .rfl (sep_mono .rfl (sep_mono .rfl (sep_mono .rfl (of_idle _ _ _ _ hif)))))

end Cert.KernelIdeal.Experts
end
-- ==== Proof.Tables.lean ====
/- The tables the experts' index maps read: their contents after the host operations, and that under the precondition
   every block an index map names lies in its array. -/
module

public import proofs.«01_k».proof.Proof.Experts
public import proofs.«01_k».proof.Proof.Gen.Pre_pre_e
public import proofs.«01_k».proof.Proof.Gen.KernelIdeal.Regions
public import Idealize.ShloMosaic.Lib.StableHlo.RunRead
public import Idealize.ShloMosaic.Lib.ReduceAll
public import Idealize.ShloMosaic.Lib.ValueIdxCore

@[expose] public section

set_option maxRecDepth 16384

noncomputable section

namespace Cert.KernelIdeal.Experts

open Idealize.ShloMosaic Idealize.ShloMosaic.TcCoe Idealize.ShloMosaic.Tactic
open Idealize.SL Idealize.SL.Sem
open Cert.KernelIdeal.Gen

variable {F : FTy → Type} [FloatOps F]

/-! ## The precondition -/

/-- Every entry of the table names an expert, and at least one tile and at most all are in use. -/
structure InRange (te : IVec S72 32) (n : IVec S1 32) : Prop where
  expert : ∀ t, (te t).toNat < 8
  one_le : ∀ i, 1 ≤ (n i).toNat
  le_all : ∀ i, (n i).toNat ≤ 72

instance : Subsingleton S_.Idx := ⟨fun a b => funext fun x => x.elim0⟩

theorem below_eight (x : BitVec 32) (h0 : IntOp.cmpi .sge x 0#32 = 1#1) (h8 : IntOp.cmpi .slt x 8#32 = 1#1) : x.toNat < 8 := by
  have h0' : BitVec.sle 0#32 x = true := by revert h0; show BitVec.ofBool (BitVec.sle 0#32 x) = 1#1 → _; cases BitVec.sle 0#32 x <;> decide
  have h8' : BitVec.slt x 8#32 = true := by revert h8; show BitVec.ofBool (BitVec.slt x 8#32) = 1#1 → _; cases BitVec.slt x 8#32 <;> decide
  rw [BitVec.sle_iff_toInt_le] at h0'; rw [BitVec.slt_iff_toInt_lt] at h8'
  have hx := BitVec.toInt_eq_toNat_cond x
  have e0 : (0#32).toInt = 0 := by decide
  have e8 : (8#32).toInt = 8 := by decide
  rw [e0] at h0'; rw [e8] at h8'
  have := x.isLt
  split at hx <;> omega

theorem within_tiles (x : BitVec 32) (h1 : IntOp.cmpi .sge x 1#32 = 1#1) (h72 : IntOp.cmpi .sle x 72#32 = 1#1) : 1 ≤ x.toNat ∧ x.toNat ≤ 72 := by
  have h1' : BitVec.sle 1#32 x = true := by revert h1; show BitVec.ofBool (BitVec.sle 1#32 x) = 1#1 → _; cases BitVec.sle 1#32 x <;> decide
  have h72' : BitVec.sle x 72#32 = true := by revert h72; show BitVec.ofBool (BitVec.sle x 72#32) = 1#1 → _; cases BitVec.sle x 72#32 <;> decide
  rw [BitVec.sle_iff_toInt_le] at h1' h72'
  have hx := BitVec.toInt_eq_toNat_cond x
  have e1 : (1#32).toInt = 1 := by decide
  have e72 : (72#32).toInt = 72 := by decide
  rw [e1] at h1'; rw [e72] at h72'
  have := x.isLt
  split at hx <;> omega

/-- The precondition's function, all ones, says `InRange`. -/
theorem inRange_of_pre (te : IVec S72 32) (n : IVec S1 32) (x : FVec F S73728x1024 .f32) (g u : FVec F S8x1024x3584 .f32) (d : FVec F S8x3584x1024 .f32)
    (h : Cert.Pre_pre_e.fn te n x g u d = fun _ => 1#1) : InRange te n := by
  have h' := congrFun h (fun a => a.elim0)
  unfold Cert.Pre_pre_e.fn at h'
  dsimp only at h'
  obtain ⟨h', hle⟩ := IntOp.andi_eq_one.mp h'
  obtain ⟨h', hge⟩ := IntOp.andi_eq_one.mp h'
  obtain ⟨h0, h8⟩ := IntOp.andi_eq_one.mp h'
  have h0 := Host.reduce_andi_all _ _ _ _ _ h0
  have h8 := Host.reduce_andi_all _ _ _ _ _ h8
  have hge := Host.reduce_andi_all _ _ _ _ _ hge
  have hle := Host.reduce_andi_all _ _ _ _ _ hle
  exact ⟨fun t => below_eight _ (h0 t) (h8 t), fun i => (within_tiles _ (hge i) (hle i)).1, fun i => (within_tiles _ (hge i) (hle i)).2⟩

/-! ## The table the host operations compose -/

/-- The one index of a table of one word. -/
abbrev first : S1.Idx := fun x => match x with | ⟨0, _⟩ => ⟨0, Nat.one_pos⟩
/-- The index of tile `t`. -/
abbrev tile (t : ℕ) (h : t < 72) : S72.Idx := fun x => match x with | ⟨0, _⟩ => ⟨t, h⟩

/-- The tile whose entry tile `t` reads: itself while in use, the last one in use after. -/
def clampTile (n : IVec S1 32) (t : ℕ) : ℕ := min t ((n first).toNat - 1)

/-- The word the host operations compute for it. -/
def tileWord (n : IVec S1 32) : IVec S72 32 :=
  let m : IVec S72 32 := minsi (iotaInDim S72 32 0) (broadcastInDim S72 ![] bcast_S_S72 (subi (shapeCast S_ n shapeCasts_S1_S_) (constantI S_ 32 1#32)))
  select (cmpi .slt m (broadcastInDim S72 ![] bcast_S_S72 (constantI S_ 32 0#32))) (addi m (broadcastInDim S72 ![] bcast_S_S72 (constantI S_ 32 72#32))) m

theorem min_word : ∀ (t : Fin 72) (k : Fin 72), (let m := IntOp.minsi (BitVec.ofNat 32 t.val) (IntOp.subi (BitVec.ofNat 32 (k.val + 1)) 1#32)
    Scalar.select (IntOp.cmpi .slt m 0#32) (IntOp.addi m 72#32) m) = BitVec.ofNat 32 (min t.val k.val) := by decide +kernel

theorem tileWord_at (te : IVec S72 32) (n : IVec S1 32) (h : InRange te n) (t : S72.Idx) : tileWord n t = BitVec.ofNat 32 (clampTile n (t 0).val) := by
  have h1 := h.one_le first; have h2 := h.le_all first
  have hn : n first = BitVec.ofNat 32 ((n first).toNat - 1 + 1) := by
    rw [Nat.sub_add_cancel h1]; simp
  have ht : (t 0).val < 72 := (t 0).isLt
  have := min_word ⟨(t 0).val, ht⟩ ⟨(n first).toNat - 1, by omega⟩
  dsimp only at this
  rw [← hn] at this
  refine Eq.trans ?_ this
  have hs : ∀ j : S_.Idx, shapeCast S_ n shapeCasts_S1_S_ j = n first := fun j => congrArg n (funext fun x => by
    match x with | ⟨0, _⟩ => exact Subsingleton.elim (α := Fin 1) _ _)
  have hm : minsi (iotaInDim S72 32 0) (broadcastInDim S72 ![] bcast_S_S72 (subi (shapeCast S_ n shapeCasts_S1_S_) (constantI S_ 32 1#32))) t
      = IntOp.minsi (BitVec.ofNat 32 (t 0).val) (IntOp.subi (n first) 1#32) := by
    show IntOp.minsi (BitVec.ofNat 32 (t 0).val) (IntOp.subi (shapeCast S_ n shapeCasts_S1_S_ _) 1#32) = _
    rw [hs]
  rw [← hm]
  rfl

/-- The composed table. -/
def table (te : IVec S72 32) (n : IVec S1 32) : IVec S72 32 :=
  Host.gather gather_S72_S72x1_S72_n_0_n_n_0_1_1 te (broadcastInDim S72x1 ![0] bcast_S72_S72x1_0 (tileWord n))

theorem after_table (V : Valuation τ sig (Elt F)) :
    StableHlo.after hostOps1 V (Proc.devRef .tc main_v13) = table (V (Proc.devRef .tc main_arg0)) (V (Proc.devRef .tc main_arg1)) := by
  after_reads_simp
  rfl

theorem after_down (V : Valuation τ sig (Elt F)) :
    StableHlo.after hostOps1 V (Proc.devRef .tc main_v1) = truncf (F := F) .bf16 (V (Proc.devRef .tc main_arg5)) bitsLt_bf16_f32 := by
  after_reads_simp

/-- It holds at `t` the entry of the tile `t` reads. -/
theorem table_at (te : IVec S72 32) (n : IVec S1 32) (h : InRange te n) (t : S72.Idx) :
    table te n t = te (tile (clampTile n (t 0).val) (lt_of_le_of_lt (Nat.min_le_left _ _) (t 0).isLt)) := by
  have ht : (t 0).val < 72 := (t 0).isLt
  have hc : clampTile n (t 0).val ≤ (t 0).val := Nat.min_le_left _ _
  unfold table Host.gather
  congr 1
  funext a
  obtain rfl : a = 0 := Subsingleton.elim (α := Fin 1) _ _
  refine Fin.ext ?_
  show (gather_S72_S72x1_S72_n_0_n_n_0_1_1).start t _ 0 + (gather_S72_S72x1_S72_n_0_n_n_0_1_1).batchCoord t 0 + (gather_S72_S72x1_S72_n_0_n_n_0_1_1).offCoord t 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S72_S72x1_S72_n_0_n_n_0_1_1).startIndexMap from List.mem_singleton.mpr rfl)]
  show min (tileWord n _).toInt.toNat 71 = _
  rw [tileWord_at te n h]
  have hi : (BitVec.ofNat 32 (clampTile n (t 0).val)).toInt = (clampTile n (t 0).val : ℤ) := by
    rw [BitVec.toInt_eq_toNat_cond, BitVec.toNat_ofNat, Nat.mod_eq_of_lt (by omega), if_pos (by omega)]
  refine Eq.trans (b := min (BitVec.ofNat 32 (clampTile n (t 0).val)).toInt.toNat 71) rfl ?_
  rw [hi, Int.toNat_natCast]
  exact Nat.min_eq_left (by omega)

theorem table_lt (te : IVec S72 32) (n : IVec S1 32) (h : InRange te n) (t : S72.Idx) : (table te n t).toNat < 8 := by
  rw [table_at te n h]; exact h.expert _

/-! ## The blocks the index maps name lie in their arrays -/

theorem slice_word : ∀ (t : Fin 72) (k : Fin 73), (Scalar.minsi (BitVec.ofNat 32 t.val) (Scalar.subi (BitVec.ofNat 32 k.val) 1#32)).toNat < 72 ∨ k.val = 0 := by decide +kernel
theorem half_word : ∀ (b : BitVec 1) (j : Fin 2), (Scalar.select b (BitVec.ofNat 32 j.val) 1#32).toNat < 2 := by decide

theorem half_lt (b : BitVec 1) (j : ℕ) (h : j < 2) : (Scalar.select b (BitVec.ofNat 32 j) 1#32).toNat < 2 := half_word b ⟨j, h⟩

/-- Under the ranges every block the three index maps that read the tables name is inside its array, on whole words. -/
theorem ok_of_range (pf : pre1.Contents (Elt F)) (h0 : ∀ t : S72.Idx, ((show IVec S72 32 from pf 0) t).toNat < 8)
    (h1 : ∀ i : S1.Idx, 1 ≤ ((show IVec S1 32 from pf 1) i).toNat) (h2 : ∀ i : S1.Idx, ((show IVec S1 32 from pf 1) i).toNat ≤ 72) : ok1 pf := by
  have ht : ∀ i : grid1.Coords, (i 0).val < 72 := fun i => (i 0).isLt
  have hj : ∀ i : grid1.Coords, (i 1).val < 2 := fun i => (i 1).isLt
  have hr : ∀ (i : grid1.Coords) (w : BitVec 32), 1 ≤ w.toNat → w.toNat ≤ 72 → (Scalar.minsi (BitVec.ofNat 32 (i 0).val) (Scalar.subi w 1#32)).toNat < 72 := fun i w hw1 hw2 => by
    have := slice_word ⟨(i 0).val, ht i⟩ ⟨w.toNat, by omega⟩
    dsimp only at this
    rw [BitVec.ofNat_toNat, BitVec.setWidth_eq] at this
    omega
  refine ⟨fun i => ⟨?_, .inl rfl⟩, fun i => ⟨?_, .inr (.inr ⟨by decide, rfl, Nat.zero_mul _, rfl⟩)⟩, fun i => ⟨?_, .inr (.inl (.inr ⟨by decide, rfl, .inl ⟨?_, ?_⟩⟩))⟩⟩
  · intro a
    match a with
    | ⟨0, _⟩ =>
      have := hr i (pf.at 1 (Rect.unit (s := S1) ![0] S1.size inb_S1_S1_0) numel1_S1) (h1 _) (h2 _)
      show ((Scalar.minsi (BitVec.ofNat 32 (i 0).val) (Scalar.subi (pf.at 1 (Rect.unit (s := S1) ![0] S1.size inb_S1_S1_0) numel1_S1) 1#32)).toNat + 1) * 1024 ≤ 73728
      omega
    | ⟨1, _⟩ => exact Nat.le_refl 1024
  · intro a
    match a with
    | ⟨0, _⟩ =>
      have : (pf.at 0 (Rect.unit (s := S72) (k1_off1 i) S1.size (k1_off1_inb i)) numel1_S1 : BitVec 32).toNat < 8 := h0 _
      show ((pf.at 0 (Rect.unit (s := S72) (k1_off1 i) S1.size (k1_off1_inb i)) numel1_S1 : BitVec 32).toNat + 1) * 1 ≤ 8
      omega
    | ⟨1, _⟩ => exact Nat.le_refl 1024
    | ⟨2, _⟩ =>
      have := half_lt (Scalar.cmpi .slt (BitVec.ofNat 32 (i 0).val) (pf.at 1 (Rect.unit (s := S1) ![0] S1.size inb_S1_S1_0) numel1_S1)) (i 1).val (hj i)
      show ((Scalar.select (Scalar.cmpi .slt (BitVec.ofNat 32 (i 0).val) (pf.at 1 (Rect.unit (s := S1) ![0] S1.size inb_S1_S1_0) numel1_S1)) (BitVec.ofNat 32 (i 1).val) 1#32).toNat + 1) * 3584 ≤ 7168
      omega
  · intro a
    match a with
    | ⟨0, _⟩ =>
      have : (pf.at 0 (Rect.unit (s := S72) (k1_off1 i) S1.size (k1_off1_inb i)) numel1_S1 : BitVec 32).toNat < 8 := h0 _
      show ((pf.at 0 (Rect.unit (s := S72) (k1_off1 i) S1.size (k1_off1_inb i)) numel1_S1 : BitVec 32).toNat + 1) * 1 ≤ 8
      omega
    | ⟨1, _⟩ =>
      have := half_lt (Scalar.cmpi .slt (BitVec.ofNat 32 (i 0).val) (pf.at 1 (Rect.unit (s := S1) ![0] S1.size inb_S1_S1_0) numel1_S1)) (i 1).val (hj i)
      show ((Scalar.select (Scalar.cmpi .slt (BitVec.ofNat 32 (i 0).val) (pf.at 1 (Rect.unit (s := S1) ![0] S1.size inb_S1_S1_0) numel1_S1)) (BitVec.ofNat 32 (i 1).val) 1#32).toNat + 1) * 1792 ≤ 3584
      omega
    | ⟨2, _⟩ => exact Nat.le_refl 1024
  · exact Dvd.dvd.mul_left (show (EltTy.bf16.packing : ℕ) ∣ 1792 by decide) _
  · exact (show (EltTy.bf16.packing : ℕ) ∣ 1792 by decide)

end Cert.KernelIdeal.Experts

end
-- ==== Proof.Run.lean ====
/- The run of the whole program: the weights interleaved, the host operations, the experts; from any memory whose tables
   are in range, to a final memory with the arguments as launched and the result at the experts' write-backs. -/
module

public import proofs.«01_k».proof.Proof.Tables
public import Idealize.ShloMosaic.Lib.Pipeline.RegionArraysTS
public import Idealize.ShloMosaic.Lib.Pipeline.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)
open Cert.KernelIdeal.Gen Cert.KernelIdeal.Experts

variable {F : FTy → Type} [FloatOps F]

local notation "𝕄" => MT nD τ sig Unit (Elt F) ℕ (UR sig nD τ) ℕ

variable (m : (ℓ : Loc nD τ sig) → Buf (Elt F) ℓ)

/-! ## What the buffers hold between the items -/

/-- At launch. -/
abbrev W0 (c : Dev nD) : Valuation τ sig (Elt F) := fun b => m (c, b)
/-- The first region's proof data. -/
abbrev weights (c : Dev nD) : Dat τ (Elt F) Unit ℕ (UR sig nD τ) ℕ cfg0 c := GateUp.dat (fun c b => W0 m c (Proc.devRef .tc b)) c
/-- With the weights interleaved. -/
def W1 (c : Dev nD) : Valuation τ sig (Elt F) := Pipeline.afterRegion (weights m c) (W0 m c)
/-- After the host operations. -/
def W2 (c : Dev nD) : Valuation τ sig (Elt F) := StableHlo.after hostOps1 (W1 m c)

theorem W1_keeps (c : Dev nD) (r : Ref sig .tc) (h : r ≠ main_v0) : W1 m c (Proc.devRef .tc r) = W0 m c (Proc.devRef .tc r) :=
  Pipeline.afterRegion_keeps (weights m c) (W0 m c) winFacts0.arr_inj (fun w => GateUp.dat_A _ c w) r fun w => by
    match w with
    | ⟨0, _⟩ => exact fun _ => rfl
    | ⟨1, _⟩ => exact fun _ => rfl
    | ⟨2, _⟩ => exact fun e => absurd e.symm h

theorem W2_keeps (c : Dev nD) (r : Ref sig .tc) (h : r ∉ hostOps1_W) (h' : r ≠ main_v0) : W2 m c (Proc.devRef .tc r) = W0 m c (Proc.devRef .tc r) :=
  (StableHlo.after_of_writes_sub hostOps1 _ hostOps1_writes h).trans (W1_keeps m c r h')

/-- The table of tiles' experts, and the number of tiles in use, as launched. -/
abbrev experts0 : IVec S72 32 := W0 m (0 : Dev nD) (Proc.devRef .tc main_arg0)
abbrev tiles0 : IVec S1 32 := W0 m (0 : Dev nD) (Proc.devRef .tc main_arg1)

theorem W2_table (c : Dev nD) : W2 m c (Proc.devRef .tc main_v13) = table (W0 m c (Proc.devRef .tc main_arg0)) (W0 m c (Proc.devRef .tc main_arg1)) := by
  unfold W2; rw [after_table, W1_keeps m c main_arg0 (by decide), W1_keeps m c main_arg1 (by decide)]

theorem W2_down (c : Dev nD) : W2 m c (Proc.devRef .tc main_v1) = truncf (F := F) .bf16 (W0 m c (Proc.devRef .tc main_arg5)) bitsLt_bf16_f32 := by
  unfold W2; rw [after_down, W1_keeps m c main_arg5 (by decide)]

theorem W2_wide (c : Dev nD) : W2 m c (Proc.devRef .tc main_v0) = (weights m c).arrAt 2 cfg0.N :=
  (StableHlo.after_of_writes_sub hostOps1 _ hostOps1_writes (r := main_v0) (by decide)).trans
    (Pipeline.afterRegion_arr (weights m c) (W0 m c) winFacts0.arr_inj 2)

variable (h : InRange (experts0 m) (tiles0 m))

/-- The tables at the second region's entry. -/
def tabled : (pcfg1 (F := F)).Adm :=
  ⟨fun k => W2 m (0 : Dev nD) (Proc.devRef .tc (pre1.ref k)), ok_of_range _
    (fun t => by
      show ((W2 m (0 : Dev nD) (Proc.devRef .tc main_v13) : IVec S72 32) t).toNat < 8
      rw [W2_table]; exact table_lt _ _ h t)
    (fun i => by
      show 1 ≤ ((W2 m (0 : Dev nD) (Proc.devRef .tc main_arg1) : IVec S1 32) i).toNat
      rw [W2_keeps m 0 main_arg1 (by decide) (by decide)]; exact h.one_le i)
    (fun i => by
      show ((W2 m (0 : Dev nD) (Proc.devRef .tc main_arg1) : IVec S1 32) i).toNat ≤ 72
      rw [W2_keeps m 0 main_arg1 (by decide) (by decide)]; exact h.le_all i)⟩

/-- Every pipeline's tables. -/
def adm : (p : Fin 2) → (pcfgs (F := F) p).Adm
  | ⟨0, _⟩ => cfg0.toPCfg_adm
  | ⟨1, _⟩ => tabled m h

/-- The second region's proof data. -/
abbrev products (c : Dev nD) : Dat τ (Elt F) Unit ℕ (UR sig nD τ) ℕ (cfg1 (tabled m h)) c :=
  Experts.dat (tabled m h) (fun c b => W2 m c (Proc.devRef .tc b)) c

/-- Every region's. -/
def pdats : (p : Fin 2) → (c : Dev nD) → Dat τ (Elt F) Unit ℕ (UR sig nD τ) ℕ (Pipeline.pin (pcfgs (F := F)) (adm m h) p) c
  | ⟨0, _⟩ => fun c => weights m c
  | ⟨1, _⟩ => fun c => products m h c

/-- At the end. -/
def W3 (c : Dev nD) : Valuation τ sig (Elt F) := Pipeline.afterRegion (products m h c) (W2 m c)

theorem W3_keeps (c : Dev nD) (r : Ref sig .tc) (hr : r ≠ main_v14) : W3 m h c (Proc.devRef .tc r) = W2 m c (Proc.devRef .tc r) :=
  Pipeline.afterRegion_keeps (products m h c) (W2 m c) winFacts1.arr_inj (fun w => Experts.dat_A _ _ c w) r fun w => by
    match w with
    | ⟨0, _⟩ => exact fun _ => rfl
    | ⟨1, _⟩ => exact fun _ => rfl
    | ⟨2, _⟩ => exact fun _ => rfl
    | ⟨3, _⟩ => exact fun e => absurd e.symm hr

theorem W3_result (c : Dev nD) : W3 m h c (Proc.devRef .tc main_v14) = (products m h c).arrAt 3 (cfg1 (tabled m h)).N :=
  Pipeline.afterRegion_arr (products m h c) (W2 m c) winFacts1.arr_inj 3

/-- The arguments end as launched. -/
theorem W3_arg (c : Dev nD) (r : Ref sig .tc) (h1 : r ∉ hostOps1_W) (h0 : r ≠ main_v0) (h2 : r ≠ main_v14) : W3 m h c (Proc.devRef .tc r) = W0 m c (Proc.devRef .tc r) :=
  (W3_keeps m h c r h2).trans (W2_keeps m c r h1 h0)

/-! ## The regions and the host stretch as segments -/

/-- One level for the TensorCores' cells; nothing is owed. -/
abbrev lvls : GSem nD τ sig → Finset Unit := fun g => if g.1.2 = .tc then {()} else ∅
abbrev lv : GSem nD τ sig → Unit → ℕ := fun _ _ => 0

/-- What rides beside the buffers. -/
abbrev rest (c : Dev nD) : sProp 𝕄 := iprop((∃ W, owes (c : Thread nD τ) (0 : CellTallies nD τ sig Unit) W) ∗ emp ∗ emp)

set_option backward.isDefEq.respectTransparency.types false in
/-- The interleaving. -/
def seg0 : RegionSeg (pcfgs (F := F)) (adm m h) (pdats m h) () defs₀ Variants.none lvls lv 0 :=
  RegionSeg.ofHeldIn (pcfgs (F := F)) (adm m h) (pdats m h) () defs₀ Variants.none lvls lv 0 (fun _ => 0) (Pipeline.ucRefs τ sig)
    (fun _ => iprop(emp)) (fun _ => iprop(emp)) launch0 rfl (fun c => (GateUp.obligation _ c).loose) (fun _ _ => rfl) (fun _ => rfl)
    (fun c => (weights m c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) ⟨fun _ _ _ => by show () ∈ (if _ then _ else _); rw [if_pos rfl]; exact Finset.mem_singleton_self _, fun _ _ _ => Nat.le_refl 0, fun _ _ _ h => absurd h (Nat.lt_irrefl 0)⟩
    (fun _ => iprop(emp)) (W0 m) (fun c w => rfl)

/-- The host stretch. -/
def seg1 : HostSeg (Ix := Unit) (Name := ℕ) (U := UR sig nD τ) (Lvl := ℕ) (pcfgs (F := F)) defs₀ Variants.none lvls lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

theorem tables_eq (a : (pcfg1 (F := F)).Adm) (c : Dev nD) :
    (Pipeline.prefHeld pre1 c (fun _ => fullShare) a.1 : sProp 𝕄) = Experts.tables a c := by
  unfold Pipeline.prefHeld Experts.tables
  rw [show (Finset.univ : Finset (Fin 2)) = insert 0 {1} from by decide, bigSep_insert (by decide), bigSep_singleton, owns_whole_eq]
  have h1 : (iprop(((c : Thread nD τ).loc main_arg1) ↦{fullShare} (show Buf (Elt F) ((c : Thread nD τ).loc main_arg1) from a.1 1)) : sProp 𝕄)
      ⊢ iprop(∃ f : Buf (Elt F) ((c : Thread nD τ).loc main_arg1), ⌜f = (show Vec F S1 .i32 from a.1 1)⌝ ∗ ((c : Thread nD τ).loc main_arg1) ↦{fullShare} f) := by
    iintro H; iexists _; isplitr; swap; · iexact H
    ipureintro; rfl
  have h2 : (iprop(∃ f : Buf (Elt F) ((c : Thread nD τ).loc main_arg1), ⌜f = (show Vec F S1 .i32 from a.1 1)⌝ ∗ ((c : Thread nD τ).loc main_arg1) ↦{fullShare} f) : sProp 𝕄)
      ⊢ iprop(((c : Thread nD τ).loc main_arg1) ↦{fullShare} (show Buf (Elt F) ((c : Thread nD τ).loc main_arg1) from a.1 1)) := by
    iintro ⟨%f, %hf, H⟩; subst hf; iexact H
  exact congrArg (fun P => iprop(_ ∗ P)) (Entails.antisymm h1 h2)

theorem enter (a : (pcfg1 (F := F)).Adm) (V : GateUp.Entry F) (c : Dev nD) :
    (iprop(iprop(Pipeline.scopedRest spec1 c ∗ emp) ∗ Pipeline.prefHeld pre1 c (fun _ => fullShare) a.1) : sProp 𝕄) ⊢ (Experts.dat a V c).Φ 0 := by
  show _ ⊢ iprop(others c ∗ scratchAt a V c 0 ∗ tables a c)
  rw [scopedRest1_eq, tables_eq]; unfold others scratchAt
  iintro ⟨⟨⟨H0, H1, H2, H3, H4, H5, ⟨%f, H6⟩⟩, -⟩, HT⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iexists f; isplitr
    · ipureintro; exact fun t ht => absurd ht (Nat.succ_ne_zero _)
    rw [owns_whole_eq]; iexists f; isplitr; · ipureintro; rfl
    iexact H6
  iexact HT

theorem leave (a : (pcfg1 (F := F)).Adm) (V : GateUp.Entry F) (c : Dev nD) :
    (Experts.dat a V c).Φ (Fin.last (cfg1 a).N) ⊢ (iprop(iprop(Pipeline.scopedRest spec1 c ∗ emp) ∗ Pipeline.prefHeld pre1 c (fun _ => fullShare) a.1) : sProp 𝕄) := by
  show iprop(others c ∗ scratchAt a V c (cfg1 a).N ∗ tables a c) ⊢ _
  rw [scopedRest1_eq, tables_eq]; unfold others scratchAt
  simp only [owns_whole_eq]
  iintro ⟨⟨H0, H1, H2, H3, H4, H5⟩, ⟨%s, -, ⟨%f, -, H6⟩⟩, HT⟩
  isplitr [HT]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexists f; iexact H6
    iempintro
  iexact HT

set_option backward.isDefEq.respectTransparency.types false in
/-- The experts. -/
def seg2 : RegionSeg (pcfgs (F := F)) (adm m h) (pdats m h) () defs₀ Variants.none lvls lv 1 :=
  RegionSeg.ofHeldInT (pcfgs (F := F)) (adm m h) (pdats m h) () defs₀ Variants.none lvls lv 1 (fun _ => 0) (Pipeline.ucRefs τ sig)
    (fun _ => iprop(emp)) (fun _ => iprop(emp)) launch1 (fun c => (Experts.obligation _ _ c).loose) (fun _ _ => rfl) (fun _ => rfl)
    (fun c => (products m h c).share_full fun _ => rfl)
    (fun c => enter (tabled m h) _ c)
    (fun c => leave (tabled m h) _ c)
    (fun _ => 0) ⟨fun _ _ _ => by show () ∈ (if _ then _ else _); rw [if_pos rfl]; exact Finset.mem_singleton_self _, fun _ _ _ => Nat.le_refl 0, fun _ _ _ h => absurd h (Nat.lt_irrefl 0)⟩
    (fun _ => iprop(emp)) (W2 m) (fun c w => rfl) (fun c k => by obtain rfl : c = 0 := Subsingleton.elim _ _; rfl)

/-! ## The segments meet -/

set_option backward.isDefEq.respectTransparency.types false in
theorem pre0 (c : Dev nD) : (iprop(StableHlo.held (c : Thread nD τ) (Pipeline.ucRefs τ sig) (W0 m c) ∗ rest c) : sProp 𝕄) ⊢ (seg0 m h).pre c := by
  unfold seg0
  exact RegionSeg.ofHeldIn_pre (pcs := pcfgs (F := F)) (a := adm m h) (pdats := pdats m h) (p := 0) (D := fun _ => 0) (X := fun _ => iprop(emp)) (R := fun _ => iprop(emp)) (W := W0 m)
    (Pipeline.arrRefs_sub_ucRefs _ winFacts0.arr_unscoped) c

set_option backward.isDefEq.respectTransparency.types false in
theorem post0 (c : Dev nD) : (seg0 m h).post c ⊢ (iprop(StableHlo.held (c : Thread nD τ) (Pipeline.ucRefs τ sig) (W1 m c) ∗ rest c) : sProp 𝕄) := by
  have e : Pipeline.afterRegion (pdats m h 0 c) (W0 m c) = W1 m c := rfl
  rw [← e]; unfold seg0
  exact RegionSeg.ofHeldIn_post (Pipeline.arrRefs_sub_ucRefs _ winFacts0.arr_unscoped) c

set_option backward.isDefEq.respectTransparency.types false in
theorem pre2 (c : Dev nD) : (iprop(StableHlo.held (c : Thread nD τ) (Pipeline.ucRefs τ sig) (W2 m c) ∗ rest c) : sProp 𝕄) ⊢ (seg2 m h).pre c := by
  unfold seg2
  exact RegionSeg.ofHeldInT_pre (pcs := pcfgs (F := F)) (a := adm m h) (pdats := pdats m h) (p := 1) (D := fun _ => 0) (X := fun _ => iprop(emp)) (R := fun _ => iprop(emp)) (W := W2 m)
    (Pipeline.arrRefs_sub_ucRefs _ winFacts1.arr_unscoped) (Pipeline.tblRefs_sub_ucRefs _ preFacts1.unscoped) c

set_option backward.isDefEq.respectTransparency.types false in
theorem post2 (c : Dev nD) : (seg2 m h).post c ⊢ (iprop(StableHlo.held (c : Thread nD τ) (Pipeline.ucRefs τ sig) (W3 m h c) ∗ rest c) : sProp 𝕄) := by
  have e : Pipeline.afterRegion (pdats m h 1 c) (W2 m c) = W3 m h c := rfl
  rw [← e]; unfold seg2
  exact RegionSeg.ofHeldInT_post (Pipeline.arrRefs_sub_ucRefs _ winFacts1.arr_unscoped) (Pipeline.tblRefs_sub_ucRefs _ preFacts1.unscoped) c

/-! ## The run -/

/-- What the run ends with on core `c`: the result at the experts' write-backs, the arguments as launched. -/
def Ends (c : Dev nD) (s : MemSt nD τ sig (Elt F)) : Prop :=
  s.mem ((c.tc : Thread nD τ).loc main_v14) = (products m h c).arrAt 3 (cfg1 (tabled m h)).N
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)

theorem mem_uc (r : Ref sig .tc) (hr : r.isScoped = false) : Proc.devRef (τ := τ) .tc r ∈ Pipeline.ucRefs τ sig :=
  Finset.mem_filter.mpr ⟨StableHlo.devRef_mem_tcRefs r, fun h' => Bool.false_ne_true (hr.symm.trans h')⟩

-- the run theorem's implicit arguments are found by unifying its conclusion with this one
set_option backward.isDefEq.respectTransparency.types false in
/-- Every weakly fair execution from memory `m` with zero counters terminates, ends as `Ends` says and with every counter at zero. -/
theorem run (ρ : Dev nD → PrngReg) :
    θ_run defs (onTc (τ := τ) (main (F := F))) ⟨m, fun _ => 0, ρ⟩ (fun r => (∀ c : Dev nD, Ends m h c r.2) ∧ r.2.sem = fun _ => 0) := by
  refine Pipeline.θ_run_regions_kit_dev_sems (pcfgs (F := F)) (adm m h) (pdats m h) () (cellOf_inj (adm m h)) emb₁ defs₀ Variants.none lvls lv m ρ main
    (fun _ => [.region (seg0 m h), .host (seg1 m), .region (seg2 m h)])
    (fun c Q => by
      rewrite [main_chain c, Seg.run_eq_chain,
        show (([.region (seg0 m h), .host (seg1 m), .region (seg2 m h)] : List (Seg (pcfgs (F := F)) (adm m h) (pdats m h) () defs₀ Variants.none lvls lv))).map Seg.prog = [
          Prog.lift (.customCall (Pipeline.entry 0) ()),
          StableHlo.seq hostOps1,
          Prog.lift (.customCall (Pipeline.entry 1) ()) ] from rfl]
      exact .rfl)
    (fun c => by simp only [Seg.pipes_host, Seg.pipes_region, Seg.pipes_nil]; decide) 0 (fun g hg => if_neg hg) (fun _ => iprop(emp))
    (initOf (Pipeline.cells (Pipeline.pin (pcfgs (F := F)) (adm m h)) (cellOf_inj (adm m h))) (Pipeline.launchToks (Pipeline.pin (pcfgs (F := F)) (adm m h)) (cellOf_inj (adm m h)))) ?_
    (T₀ := fun c => iprop(StableHlo.held (c : Thread nD τ) (Pipeline.ucRefs τ sig) (W0 m c) ∗ rest c))
    (Tₙ := fun c => StableHlo.held (c : Thread nD τ) (Pipeline.ucRefs τ sig) (W3 m h c))
    (hch := fun c => ⟨pre0 m h c, post0 m h c, pre2 m h c, (post2 m h c).trans (sep_mono .rfl sep_elim_left)⟩)
    (hinit := ?_) (QY := fun c s => Ends m h c s)
    (hfin := fun c s' => ?_) (hQ := fun _ h hz => ⟨h, funext fun g => hz g (.inr (regions_no_unscoped g.2))⟩)
  · iintro Hu; imodintro
    isplitl [Hu]; · iapply (show (ownU (initOf (Pipeline.cells (Pipeline.pin (pcfgs (F := F)) (adm m h)) (cellOf_inj (adm m h))) (Pipeline.launchToks (Pipeline.pin (pcfgs (F := F)) (adm m h)) (cellOf_inj (adm m h)))) : sProp 𝕄) ⊢ BI.own (emb₁ (initOf (Pipeline.cells (Pipeline.pin (pcfgs (F := F)) (adm m h)) (cellOf_inj (adm m h))) (Pipeline.launchToks (Pipeline.pin (pcfgs (F := F)) (adm m h)) (cellOf_inj (adm m h))))) from .rfl); iexact Hu
    iapply (show (BI.emp : sProp 𝕄) ⊢ bigSep Finset.univ (fun _ : Dev nD => (BI.emp : sProp 𝕄)) from by rw [BI.bigSep_emp_const])
    iempintro
  · refine Pipeline.initEach lvls lv fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W3 m h c) s') $$ [Hh HSI]
    · isplitl [Hh] <;> iassumption
    icases Hr with ⟨%hv, HSI⟩
    imodintro
    isplitr
    · ipureintro
      exact ⟨(hv _ (mem_uc main_v14 rfl)).trans (W3_result m h c),
        (hv _ (mem_uc main_arg0 rfl)).trans (W3_arg m h c main_arg0 (by decide) (by decide) (by decide)),
        (hv _ (mem_uc main_arg1 rfl)).trans (W3_arg m h c main_arg1 (by decide) (by decide) (by decide)),
        (hv _ (mem_uc main_arg2 rfl)).trans (W3_arg m h c main_arg2 (by decide) (by decide) (by decide)),
        (hv _ (mem_uc main_arg3 rfl)).trans (W3_arg m h c main_arg3 (by decide) (by decide) (by decide)),
        (hv _ (mem_uc main_arg4 rfl)).trans (W3_arg m h c main_arg4 (by decide) (by decide) (by decide)),
        (hv _ (mem_uc main_arg5 rfl)).trans (W3_arg m h c main_arg5 (by decide) (by decide) (by decide))⟩
    · iexact HSI

end Cert.KernelIdeal.Whole

end
-- ==== Proof.Same.lean ====
/- The kernel as compiled and the kernel read at the reals have the same text: a run of the second at the machine's floats is a run of
   the first. Their parts are compared one by one. -/
module

public import proofs.«01_k».proof.Proof.Gen.Kernel
public import proofs.«01_k».proof.Proof.Gen.Kernel.Launch
public import proofs.«01_k».proof.Proof.Run

@[expose] public section

noncomputable section

namespace Cert.Proof.Same
open Idealize.ShloMosaic Idealize.SL.Sem Cert.KernelIdeal

theorem same_cc0 : @Cert.Kernel.cc0_gate_up_weights Bits _  _ = @Cert.KernelIdeal.cc0_gate_up_weights Bits _ _ := by
  unfold Cert.Kernel.cc0_gate_up_weights Cert.KernelIdeal.cc0_gate_up_weights
  rfl

theorem same_cc1 : @Cert.Kernel.cc1_experts Bits _ _ = @Cert.KernelIdeal.cc1_experts Bits _ _ := by
  unfold Cert.Kernel.cc1_experts Cert.KernelIdeal.cc1_experts
  rfl

theorem same_defs0 : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | 0, (t, s) => rfl
  | 1, (t, s) => rfl
  | ⟨_ + 2, h⟩, _ => exact absurd h (Nat.not_lt.2 (Nat.le_add_left _ _))

theorem same_ops : @Cert.Kernel.Gen.hostOps1 Bits _ = @Cert.KernelIdeal.Gen.hostOps1 Bits _ := by
  unfold Cert.Kernel.Gen.hostOps1 Cert.KernelIdeal.Gen.hostOps1
  rfl

theorem same_cfgs : @Cert.Kernel.pcfgs Bits _ _ = @Cert.KernelIdeal.pcfgs Bits _ _ := by rfl

/-- The run of a program of two pallas_calls with host operations between them, by its parts. -/
def Ends (pcs : Fin 2 → Pipeline.PCfg sig Λ₀ (Elt Bits)) (d : Defs nD τ sig (Elt Bits) Λ₀) (ops : List (HloOp τ sig (Elt Bits)))
    (m : (ℓ : Loc nD τ sig) → Buf (Elt Bits) ℓ) (ρ : Dev nD → PrngReg) (Q : MemSt nD τ sig (Elt Bits) → Prop) : Prop :=
  θ_run (Pipeline.defs pcs d) (onTc (τ := τ) fun _ => (Pipeline.chain
    [ Prog.lift (.customCall (Pipeline.entry 0) ()),
      StableHlo.seq ops,
      Prog.lift (.customCall (Pipeline.entry 1) ()) ] : Prog (TpuEff nD τ sig (Elt Bits) (Pipeline.Sig Λ₀ (Fin 2) fun p => (pcs p).Adm) .tc) PUnit))
    ⟨m, fun _ => 0, ρ⟩ fun r => Q r.2

theorem ends_ideal (m : (ℓ : Loc nD τ sig) → Buf (Elt Bits) ℓ) (ρ : Dev nD → PrngReg) (Q : MemSt nD τ sig (Elt Bits) → Prop)
    (h : θ_run (defs (F := Bits)) (onTc (τ := τ) (main (F := Bits))) ⟨m, fun _ => 0, ρ⟩ fun r => Q r.2) :
    Ends (pcfgs (F := Bits)) (defs₀ (F := Bits)) (Gen.hostOps1 (F := Bits)) m ρ Q := by
  rw [show (main (F := Bits)) = _ from funext Gen.main_chain] at h
  exact h

theorem ends_kernel (m : (ℓ : Loc Cert.Kernel.nD Cert.Kernel.τ Cert.Kernel.sig) → Buf (Elt Bits) ℓ) (ρ : Dev Cert.Kernel.nD → PrngReg) (Q : MemSt Cert.Kernel.nD Cert.Kernel.τ Cert.Kernel.sig (Elt Bits) → Prop)
    (h : Ends (Cert.Kernel.pcfgs (F := Bits)) (Cert.Kernel.defs₀ (F := Bits)) (Cert.Kernel.Gen.hostOps1 (F := Bits)) m ρ Q) :
    θ_run (Cert.Kernel.defs (F := Bits)) (onTc (τ := Cert.Kernel.τ) (Cert.Kernel.main (F := Bits))) ⟨m, fun _ => 0, ρ⟩ fun r => Q r.2 := by
  rw [show (Cert.Kernel.main (F := Bits)) = _ from funext Cert.Kernel.Gen.main_chain]
  exact h

theorem ends_same (m : (ℓ : Loc nD τ sig) → Buf (Elt Bits) ℓ) (ρ : Dev nD → PrngReg) (Q : MemSt nD τ sig (Elt Bits) → Prop)
    (h : θ_run (defs (F := Bits)) (onTc (τ := τ) (main (F := Bits))) ⟨m, fun _ => 0, ρ⟩ fun r => Q r.2) :
    θ_run (Cert.Kernel.defs (F := Bits)) (onTc (τ := Cert.Kernel.τ) (Cert.Kernel.main (F := Bits))) ⟨m, fun _ => 0, ρ⟩ fun r => Q r.2 := by
  refine ends_kernel m ρ Q ?_
  rw [same_cfgs, same_defs0, same_ops]
  exact ends_ideal m ρ Q h

end Cert.Proof.Same

end
-- ==== Proof.WideValue.lean ====
/- The first region's result over the extended reals: each expert's gate and up columns interleaved by 256. -/
module

public import proofs.«01_k».proof.Proof.Run
public import Idealize.ShloMosaic.Lib.ValueLayout
public import Idealize.ShloMosaic.Lib.ValueIdx
public import Idealize.ShloMosaic.Lib.Pipeline.ValueKit

@[expose] public section

set_option maxRecDepth 16384

noncomputable section

namespace Cert.KernelIdeal.GateUp

open Idealize.ShloMosaic hiding ix1 ix2 ix3 eq_ix1 eq_ix2 eq_ix3
open Idealize.ShloMosaic.ValueIdx
open Idealize.ShloMosaic.TcCoe
open Cert.KernelIdeal Cert.KernelIdeal.Gen

/-- The hidden column behind an interleaved column. -/
abbrev hidden (c : ℕ) : ℕ := 256 * (c / 512) + c % 256

/-- Two weight arrays interleaved by 256 columns. -/
def interleaved (g u : Vec Ideal S8x1024x3584 .f32) : Vec Ideal S8x1024x7168 .bf16 := fun i =>
  if (i 2).val % 512 < 256
  then g (ix3 (i 0) (i 1) (⟨hidden (i 2).val, by have h : (i 2).val < 7168 := (i 2).isLt; unfold hidden; omega⟩ : Fin 3584))
  else u (ix3 (i 0) (i 1) (⟨hidden (i 2).val, by have h : (i 2).val < 7168 := (i 2).isLt; unfold hidden; omega⟩ : Fin 3584))

/-- A quarter's payload is what was loaded. -/
theorem quarter (v : Vec Ideal S1x1024x256 .f32) (y : S1x1024x256.Idx) :
    shapeCast S1x1024x256 (truncf (F := Ideal) .bf16 (shapeCast S1024x256 v shapeCasts_S1x1024x256_S1024x256) bitsLt_bf16_f32) shapeCasts_S1024x256_S1x1024x256 y = v y := by
  obtain ⟨u, i, j, rfl⟩ : ∃ (u : Fin 1) (i : Fin 1024) (j : Fin 256), y = ix3 u i j := ⟨y 0, y 1, y 2, eq_ix3 y⟩
  rw [shapeCast_ab_1ab_apply]
  refine (shapeCast_1ab_ab_apply v _ i j).trans (congrArg v ?_)
  rw [Subsingleton.elim (0 : Fin 1) u]

/-- The block left by the body, read at an entry. -/
theorem mixed_apply (g u : Vec Ideal S1x1024x512 .f32) (y : S1x1024x1024.Idx) :
    mixed (F := Ideal) g u y = if (y 2).val % 512 < 256
      then g (ix3 (0 : Fin 1) (y 1) (⟨hidden (y 2).val, by have h : (y 2).val < 1024 := (y 2).isLt; unfold hidden; omega⟩ : Fin 512))
      else u (ix3 (0 : Fin 1) (y 1) (⟨hidden (y 2).val, by have h : (y 2).val < 1024 := (y 2).isLt; unfold hidden; omega⟩ : Fin 512)) := by
  have hy : (y 2).val < 1024 := (y 2).isLt
  have hl : ∀ (v : Vec Ideal S1x1024x512 .f32) (o : ℕ) (inb : ∀ a, (![0, 0, o] : Fin 3 → Nat) a + S1x1024x256.size a ≤ S1x1024x512.size a) (x : S1x1024x256.Idx)
      (_ : (y 1).val = (x 1).val) (_ : hidden (y 2).val = o + (x 2).val) (h : hidden (y 2).val < 512),
      View.ld (Val := Elt Ideal) (e' := .f32) v (Rect.unit (s := S1x1024x512) ![0, 0, o] S1x1024x256.size inb) x = v (ix3 (0 : Fin 1) (y 1) (⟨hidden (y 2).val, h⟩ : Fin 512)) := by
    intro v o inb x h1 h2 h
    exact View.ld_unit_apply_of (S := S1x1024x512) (Val := Elt Ideal) (e := .f32) v ![0, 0, o] S1x1024x256.size inb x _ fun b => match b with
      | ⟨0, _⟩ => by have h0 : (x 0).val < 1 := (x 0).isLt; show 0 = 0 + (x 0).val; omega
      | ⟨1, _⟩ => by show (y 1).val = 0 + (x 1).val; omega
      | ⟨2, _⟩ => h2
  unfold mixed quarters
  canon_tiles x h using quarters_cover g u y
  · rw [if_neg (by omega)]
    exact (quarter _ x).trans (hl u 256 _ x h1 (by unfold hidden; omega) _)
  · rw [if_pos (by omega)]
    exact (quarter _ x).trans (hl g 256 _ x h1 (by unfold hidden; omega) _)
  · rw [if_neg (by omega)]
    exact (quarter _ x).trans (hl u 0 _ x h1 (by unfold hidden; omega) _)
  · rw [if_pos (by omega)]
    exact (quarter _ x).trans (hl g 0 _ x h1 (by unfold hidden; omega) _)

theorem index0 : ∀ t : Fin cfg0.N, win0_0.index t = ![(grid0.coords t 0).val, 0, (grid0.coords t 1).val] := (by decide +kernel : ∀ t : Fin grid0.N, _)
theorem index1 : ∀ t : Fin cfg0.N, win0_1.index t = ![(grid0.coords t 0).val, 0, (grid0.coords t 1).val] := (by decide +kernel : ∀ t : Fin grid0.N, _)
theorem index2 : ∀ t : Fin cfg0.N, win0_2.index t = ![(grid0.coords t 0).val, 0, (grid0.coords t 1).val] := (by decide +kernel : ∀ t : Fin grid0.N, _)

/-- The interleaved array after the region. -/
theorem final (V : Entry Ideal) (c : Dev nD) : (dat V c).arrAt 2 cfg0.N = interleaved (V c main_arg3) (V c main_arg4) := by
  refine (dat V c).arrAt_eq_of_covers 2 _ (by decide +kernel) fun t hf y => ?_
  blk_simp
  rw [dat_after2]
  have hy : (y 2).val < 1024 := (y 2).isLt
  refine (mixed_apply _ _ y).trans ?_
  unfold interleaved
  have hy0 : (y 0).val < 1 := (y 0).isLt
  have e0 : (((cfg0.win 2).blk t).view.emb y 0).val = (grid0.coords t 0).val + (y 0).val := by blk_simp [index2]
  have e1 : (((cfg0.win 2).blk t).view.emb y 1).val = (y 1).val := by blk_simp [index2]
  have e2 : (((cfg0.win 2).blk t).view.emb y 2).val = (grid0.coords t 1).val * 1024 + (y 2).val := by blk_simp [index2]
  have hc : (((cfg0.win 2).blk t).view.emb y 2).val % 512 = (y 2).val % 512 := by rw [e2]; omega
  have h0 : (((cfg0.win 2).blk t).view.emb y 0).val = (grid0.coords t 0).val := by rw [e0]; omega
  have h2 : (grid0.coords t 1).val * 512 + hidden (y 2).val = hidden (win0_2.index t 2 * 1024 + (y 2).val) := by
    rw [show win0_2.index t 2 = (grid0.coords t 1).val from congrFun (index2 t) 2]; unfold hidden; omega
  refine (if_congr (by rw [hc]) ?_ ?_)
  · show V c main_arg3 _ = V c main_arg3 _
    refine congrArg (V c main_arg3) (funext fun b => Fin.ext ?_)
    match b with
    | ⟨0, _⟩ => blk_simp [index0]; exact h0.symm
    | ⟨1, _⟩ => blk_simp [index0]; exact e1.symm
    | ⟨2, _⟩ => blk_simp [index0]; exact h2
  · show V c main_arg4 _ = V c main_arg4 _
    refine congrArg (V c main_arg4) (funext fun b => Fin.ext ?_)
    match b with
    | ⟨0, _⟩ => blk_simp [index1]; exact h0.symm
    | ⟨1, _⟩ => blk_simp [index1]; exact e1.symm
    | ⟨2, _⟩ => blk_simp [index1]; exact h2

end Cert.KernelIdeal.GateUp
-- ==== Proof.HalfValue.lean ====
/- One half of an expert's gated product over the extended reals: each entry is the sum, over the half's hidden columns, of the
   gated activation times the down weight. -/
module

public import proofs.«01_k».proof.Proof.ExpertBody
public import Idealize.ShloMosaic.Lib.MatmulPlain
public import Idealize.ShloMosaic.Lib.ValueLayout
public import Idealize.ShloMosaic.Lib.ValueIdx
public import Idealize.ShloMosaic.Lib.Pointwise
public import Idealize.ShloMosaic.PureOps.Ideal.Laws

@[expose] public section

set_option maxRecDepth 16384

noncomputable section

namespace Cert.KernelIdeal.Experts

open Idealize.ShloMosaic hiding ix1 ix2 ix3
open Idealize.ShloMosaic.ValueIdx
open Cert.KernelIdeal.Gen
open scoped BigOperators

/-- A gate column's activation times the up column. -/
def act (p q : EReal) : EReal := p * Ideal.logistic p * q

/-- 256 hidden columns: the rows against 512 interleaved columns, the first 256 gating the last 256. -/
def gated (x : FVec Ideal S1024x1024 .bf16) (w : FVec Ideal S1x1024x512 .bf16) : FVec Ideal S1024x256 .bf16 :=
  have M : FVec Ideal S1024x512 .f32 := matmul dot_S1024x1024_S1024x512_S1024x512_1_0_0_1_n_n none x
    (shapeCast S1024x512 w shapeCasts_S1x1024x512_S1024x512) (constant S1024x512 .f32 0x00000000#32)
  have G : FVec Ideal S1024x256 .f32 := extractStridedSlice S1024x256 ![0, 0] M slices_S1024x512_o0_0_S1024x256
  have U : FVec Ideal S1024x256 .f32 := extractStridedSlice S1024x256 ![0, 256] M slices_S1024x512_o0_256_S1024x256
  truncf .bf16 (mulf (mulf G (logistic G)) U) bitsLt_bf16_f32

theorem pay5_eq (x : FVec Ideal S1024x1024 .bf16) (w : FVec Ideal S1x1024x512 .bf16) : k1_pay5 (F := Ideal) x w = gated x w := rfl
theorem pay6_eq (x : FVec Ideal S1024x1024 .bf16) (w : FVec Ideal S1x1024x512 .bf16) : k1_pay6 (F := Ideal) x w = gated x w := rfl
theorem pay7_eq (x : FVec Ideal S1024x1024 .bf16) (w : FVec Ideal S1x1024x512 .bf16) : k1_pay7 (F := Ideal) x w = gated x w := rfl
theorem pay8_eq (x : FVec Ideal S1024x1024 .bf16) (w : FVec Ideal S1x1024x512 .bf16) : k1_pay8 (F := Ideal) x w = gated x w := rfl

/-- The seven groups of hidden columns, side by side. -/
def columns (x : FVec Ideal S1024x1024 .bf16) (g : FVec Ideal S1x1024x3584 .bf16) : FVec Ideal S1024x1792 .bf16 :=
  concatenate S1024x1792 1 [⟨S1024x256, gated x (View.ld (Val := Elt Ideal) (e' := .bf16) g wide0)⟩, ⟨S1024x256, gated x (View.ld (Val := Elt Ideal) (e' := .bf16) g wide1)⟩, ⟨S1024x256, gated x (View.ld (Val := Elt Ideal) (e' := .bf16) g wide2)⟩,
    ⟨S1024x256, gated x (View.ld (Val := Elt Ideal) (e' := .bf16) g wide3)⟩, ⟨S1024x256, gated x (View.ld (Val := Elt Ideal) (e' := .bf16) g wide4)⟩, ⟨S1024x256, gated x (View.ld (Val := Elt Ideal) (e' := .bf16) g wide5)⟩, ⟨S1024x256, gated x (View.ld (Val := Elt Ideal) (e' := .bf16) g wide6)⟩]
    concatenates_S1024x256_S1024x256_S1024x256_S1024x256_S1024x256_S1024x256_S1024x256_S1024x1792_d1

theorem half_eq (x : FVec Ideal S1024x1024 .bf16) (g : FVec Ideal S1x1024x3584 .bf16) (d : FVec Ideal S1x1792x1024 .bf16) :
    half (F := Ideal) x g d = matmul dot_S1024x1792_S1792x1024_S1024x1024_1_0_0_1_n_n none (columns x g)
      (shapeCast S1792x1024 d shapeCasts_S1x1792x1024_S1792x1024) (constant S1024x1024 .f32 0x00000000#32) := rfl

/-- The rows against 512 interleaved columns, read at an entry. -/
theorem product_apply (x : FVec Ideal S1024x1024 .bf16) (w : FVec Ideal S1x1024x512 .bf16) (r : Fin 1024) (c : Fin 512) :
    matmul dot_S1024x1024_S1024x512_S1024x512_1_0_0_1_n_n none x
      (shapeCast S1024x512 w shapeCasts_S1x1024x512_S1024x512) (constant S1024x512 .f32 0x00000000#32) (ix2 r c)
      = ∑ i : Fin 1024, x (ix2 r i) * w (ix3 (0 : Fin 1) i c) := by
  refine (Ideal.matmul_plain_apply (M := 1024) (K := 1024) (N := 512) none x
    (shapeCast S1024x512 w shapeCasts_S1x1024x512_S1024x512) (constant S1024x512 .f32 0x00000000#32) r c).trans ?_
  rw [show constant (F := Ideal) S1024x512 .f32 0x00000000#32 (ix2 r c) = (0 : EReal) from Ideal.ofBits_zero_f32, zero_add]
  exact Finset.sum_congr rfl fun i _ => congrArg (x (ix2 r i) * ·) (shapeCast_1ab_ab_apply w _ i c)

theorem gated_apply (x : FVec Ideal S1024x1024 .bf16) (w : FVec Ideal S1x1024x512 .bf16) (r : Fin 1024) (k : Fin 256) :
    gated x w (ix2 r k) = act (∑ i : Fin 1024, x (ix2 r i) * w (ix3 (0 : Fin 1) i (⟨k.val, by omega⟩ : Fin 512)))
      (∑ i : Fin 1024, x (ix2 r i) * w (ix3 (0 : Fin 1) i (⟨256 + k.val, by omega⟩ : Fin 512))) := by
  rw [← product_apply, ← product_apply]
  have hG : ∀ M : FVec Ideal S1024x512 .f32, extractStridedSlice S1024x256 ![0, 0] M slices_S1024x512_o0_0_S1024x256 (ix2 r k)
      = M (ix2 r (⟨k.val, by omega⟩ : Fin 512)) := fun M =>
    extractStridedSlice_apply _ M _ (ix2 r k) _ fun b => match b with
      | ⟨0, _⟩ => (Nat.zero_add _).symm
      | ⟨1, _⟩ => (Nat.zero_add _).symm
  have hU : ∀ M : FVec Ideal S1024x512 .f32, extractStridedSlice S1024x256 ![0, 256] M slices_S1024x512_o0_256_S1024x256 (ix2 r k)
      = M (ix2 r (⟨256 + k.val, by omega⟩ : Fin 512)) := fun M =>
    extractStridedSlice_apply _ M _ (ix2 r k) _ fun b => match b with
      | ⟨0, _⟩ => (Nat.zero_add _).symm
      | ⟨1, _⟩ => rfl
  exact congrArg₂ act (hG _) (hU _)

/-- Hidden column `256 j + k` of a half, from interleaved columns `512 j + k` and `512 j + 256 + k`. -/
def column (x : FVec Ideal S1024x1024 .bf16) (g : FVec Ideal S1x1024x3584 .bf16) (r : Fin 1024) (f : Fin 1792) : EReal :=
  act (∑ i : Fin 1024, x (ix2 r i) * g (ix3 (0 : Fin 1) i (⟨512 * (f.val / 256) + f.val % 256, by omega⟩ : Fin 3584)))
    (∑ i : Fin 1024, x (ix2 r i) * g (ix3 (0 : Fin 1) i (⟨512 * (f.val / 256) + 256 + f.val % 256, by omega⟩ : Fin 3584)))

theorem piece_apply (x : FVec Ideal S1024x1024 .bf16) (g : FVec Ideal S1x1024x3584 .bf16) (r : Fin 1024) (f : Fin 1792)
    (o : Nat) (inb : ∀ a, (![0, 0, o] : Fin 3 → Nat) a + S1x1024x512.size a ≤ S1x1024x3584.size a) (k : Nat) (hk : k < 256) (ho : o = 512 * (f.val / 256)) (hf : k = f.val % 256) :
    gated x (View.ld (Val := Elt Ideal) (e' := .bf16) g (Rect.unit (s := S1x1024x3584) ![0, 0, o] S1x1024x512.size inb)) (ix2 r ⟨k, hk⟩) = column x g r f := by
  subst ho hf
  rw [gated_apply]
  unfold column
  have hld : ∀ (i : Fin 1024) (c : Fin 512) (hc : 512 * (f.val / 256) + c.val < 3584),
      View.ld (Val := Elt Ideal) (e' := .bf16) g (Rect.unit (s := S1x1024x3584) ![0, 0, 512 * (f.val / 256)] S1x1024x512.size inb) (ix3 (0 : Fin 1) i c)
        = g (ix3 (0 : Fin 1) i (⟨512 * (f.val / 256) + c.val, hc⟩ : Fin 3584)) := fun i c hc =>
    View.ld_unit_apply_of (S := S1x1024x3584) (Val := Elt Ideal) (e := .bf16) g ![0, 0, 512 * (f.val / 256)] S1x1024x512.size inb (ix3 (0 : Fin 1) i c) (ix3 (0 : Fin 1) i _) fun b => match b with
      | ⟨0, _⟩ => rfl
      | ⟨1, _⟩ => (Nat.zero_add _).symm
      | ⟨2, _⟩ => rfl
  congr 1
  · refine Finset.sum_congr rfl fun i _ => ?_
    rw [hld]
  · refine Finset.sum_congr rfl fun i _ => ?_
    rw [hld i ⟨256 + f.val % 256, by omega⟩ (by show _ + (256 + f.val % 256) < _; omega)]
    congr 3
    apply Fin.ext
    show 512 * (f.val / 256) + (256 + f.val % 256) = 512 * (f.val / 256) + 256 + f.val % 256
    omega

/-- The side-by-side groups read at a hidden column. -/
theorem columns_apply (x : FVec Ideal S1024x1024 .bf16) (g : FVec Ideal S1x1024x3584 .bf16) (r : Fin 1024) (f : Fin 1792) :
    columns x g (ix2 r f) = column x g r f := by
  have hpick : ∀ (o : Nat) (inb : ∀ a, (![0, 0, o] : Fin 3 → Nat) a + S1x1024x512.size a ≤ S1x1024x3584.size a) (y : S1024x256.Idx),
      (y 0).val = r.val → o = 512 * (f.val / 256) → (y 1).val = f.val % 256 →
      gated x (View.ld (Val := Elt Ideal) (e' := .bf16) g (Rect.unit (s := S1x1024x3584) ![0, 0, o] S1x1024x512.size inb)) y = column x g r f := by
    intro o inb y h0 ho h1
    have hy : y = ix2 r (⟨f.val % 256, Nat.mod_lt _ (by decide)⟩ : Fin 256) :=
      funext fun b => match b with | ⟨0, _⟩ => Fin.ext h0 | ⟨1, _⟩ => Fin.ext h1
    rw [hy]; exact piece_apply x g r f o inb _ _ ho rfl
  have hf := f.isLt
  unfold columns
  rw [concatenate_cons_apply]
  simp only [concatenateAt_cons, concatenateAt_singleton]
  change (if _ : f.val < 256 then _ else if _ : f.val - 256 < 256 then _ else if _ : f.val - 256 - 256 < 256 then _
    else if _ : f.val - 256 - 256 - 256 < 256 then _ else if _ : f.val - 256 - 256 - 256 - 256 < 256 then _
    else if _ : f.val - 256 - 256 - 256 - 256 - 256 < 256 then _ else _) = _
  split
  · exact hpick 0 _ _ rfl (by omega) (by show f.val = _; omega)
  split
  · exact hpick 512 _ _ rfl (by omega) (by show f.val - 256 = _; omega)
  split
  · exact hpick 1024 _ _ rfl (by omega) (by show f.val - 256 - 256 = _; omega)
  split
  · exact hpick 1536 _ _ rfl (by omega) (by show f.val - 256 - 256 - 256 = _; omega)
  split
  · exact hpick 2048 _ _ rfl (by omega) (by show f.val - 256 - 256 - 256 - 256 = _; omega)
  split
  · exact hpick 2560 _ _ rfl (by omega) (by show f.val - 256 - 256 - 256 - 256 - 256 = _; omega)
  · exact hpick 3072 _ _ rfl (by omega) (by show f.val - 256 - 256 - 256 - 256 - 256 - 256 = _; omega)

/-- The half's product read at an entry. -/
theorem half_apply (x : FVec Ideal S1024x1024 .bf16) (g : FVec Ideal S1x1024x3584 .bf16) (d : FVec Ideal S1x1792x1024 .bf16) (r o : Fin 1024) :
    half (F := Ideal) x g d (ix2 r o) = ∑ f : Fin 1792, column x g r f * d (ix3 (0 : Fin 1) f o) := by
  rw [half_eq]
  refine (Ideal.matmul_plain_apply (M := 1024) (K := 1792) (N := 1024) none (columns x g)
    (shapeCast S1792x1024 d shapeCasts_S1x1792x1024_S1792x1024) (constant S1024x1024 .f32 0x00000000#32) r o).trans ?_
  rw [show constant (F := Ideal) S1024x1024 .f32 0x00000000#32 (ix2 r o) = (0 : EReal) from Ideal.ofBits_zero_f32, zero_add]
  exact Finset.sum_congr rfl fun f _ => congrArg₂ (· * ·) (columns_apply x g r f) (shapeCast_1ab_ab_apply d _ f o)

/-- The second half's product added to the first's, read at an entry. -/
theorem plusHalf_apply (x : FVec Ideal S1024x1024 .bf16) (g : FVec Ideal S1x1024x3584 .bf16) (d : FVec Ideal S1x1792x1024 .bf16)
    (a : FVec Ideal S1024x1024 .f32) (r o : Fin 1024) :
    plusHalf (F := Ideal) x g d a (ix2 r o) = a (ix2 r o) + ∑ f : Fin 1792, column x g r f * d (ix3 (0 : Fin 1) f o) := by
  rw [← half_apply]
  have h : plusHalf (F := Ideal) x g d a = addf (shapeCast S1024x1024 a shapeCasts_S1024x1024_S1024x1024) (half (F := Ideal) x g d) := rfl
  rw [h, shapeCast_id]
  rfl

/-- The cast rows are the rows. -/
theorem pay1_eq (x : FVec Ideal S1024x1024 .f32) : k1_pay1 (F := Ideal) x = x := by
  have h : k1_pay1 (F := Ideal) x = shapeCast S1024x1024 (truncf (F := Ideal) .bf16 x bitsLt_bf16_f32) shapeCasts_S1024x1024_S1024x1024 := rfl
  rw [h, shapeCast_id]
  rfl

/-- The block written for a tile out of use is zero. -/
theorem pay4_apply (j : S1024x1024.Idx) : k1_pay4 (F := Ideal) j = (0 : EReal) := Ideal.ofBits_zero_f32

end Cert.KernelIdeal.Experts
-- ==== Proof.BlockValue.lean ====
/- The second region's blocks at a tile in use, by their entries in the arrays: the tile's rows, and the tile's expert's weights for
   the half. -/
module

public import proofs.«01_k».proof.Proof.Experts
public import proofs.«01_k».proof.Proof.Tables
public import Idealize.ShloMosaic.Lib.ValueLayout
public import Idealize.ShloMosaic.Lib.ValueIdx
public import Idealize.ShloMosaic.Lib.Pipeline.ValueKit

@[expose] public section

set_option maxRecDepth 16384

noncomputable section

namespace Cert.KernelIdeal.Experts

open Idealize.ShloMosaic hiding ix1 ix2 ix3 eq_ix1 eq_ix2 eq_ix3
open Idealize.ShloMosaic.ValueIdx
open Idealize.ShloMosaic.TcCoe
open Cert.KernelIdeal Cert.KernelIdeal.Gen

/-! ## The words the index maps compute -/

theorem live_word : ∀ (t : Fin 72) (k : Fin 73), (Scalar.cmpi .ne (Scalar.extui (Scalar.cmpi .slt (BitVec.ofNat 32 t.val) (BitVec.ofNat 32 k.val)) : BitVec 32) 0#32 = 1#1) ↔ t.val < k.val := by decide +kernel
theorem rows_word : ∀ (t : Fin 72) (k : Fin 73), t.val < k.val → (Scalar.minsi (BitVec.ofNat 32 t.val) (Scalar.subi (BitVec.ofNat 32 k.val) 1#32)).toNat = t.val := by decide +kernel
theorem half_in_use : ∀ (t : Fin 72) (k : Fin 73), t.val < k.val → ∀ j : Fin 2, (Scalar.select (Scalar.cmpi .slt (BitVec.ofNat 32 t.val) (BitVec.ofNat 32 k.val)) (BitVec.ofNat 32 j.val) 1#32).toNat = j.val := by decide +kernel
theorem tile_word : ∀ t : Fin 72, (BitVec.ofNat 32 t.val).toNat = t.val := by decide +kernel

variable {F : FTy → Type} [FloatOps F]
variable (a : (pcfg1 (F := F)).Adm) (V : GateUp.Entry F)

/-- The tile of a point. -/
abbrev tileOf (t : Fin grid1.N) : Fin 72 := ⟨t.val / 2, by have h : t.val < 144 := t.isLt; omega⟩
/-- The half of a point. -/
abbrev halfOf (t : Fin grid1.N) : Fin 2 := ⟨t.val % 2, by omega⟩
/-- The number of tiles in use. -/
abbrev count : BitVec 32 := (show IVec S1 32 from a.1 1) first
/-- The expert of a tile. -/
abbrev expertOf (t : Fin 72) : BitVec 32 := (show IVec S72 32 from a.1 0) (tile t.val t.isLt)

theorem at_count : a.1.at 1 (Rect.unit (s := S1) ![0] S1.size inb_S1_S1_0) numel1_S1 = count a :=
  congrArg (a.1 1) (funext fun x => match x with | ⟨0, _⟩ => rfl)

theorem used_count : used a = count a := by
  rw [← word_eq]
  exact congrArg (a.1 1) (funext fun x => match x with | ⟨0, _⟩ => rfl)

theorem at_expert (t : Fin grid1.N) (h) : a.1.at 0 (Rect.unit (s := S72) (k1_off1 (grid1.coords t)) S1.size h) numel1_S1 = expertOf a (tileOf t) := by
  refine congrArg (a.1 0) (funext fun x => Fin.ext ?_)
  match x with
  | ⟨0, _⟩ =>
    show (BitVec.ofNat 32 (grid1.coords t 0).val).toNat + 1 * 0 = t.val / 2
    have := tile_word (tileOf t)
    rw [coord0]; dsimp only at this; omega

theorem live_iff (hn : (count a).toNat ≤ 72) (t : Fin grid1.N) : live a t ↔ t.val / 2 < (count a).toNat := by
  have h := live_word (tileOf t) ⟨(count a).toNat, by omega⟩
  dsimp only at h
  rw [BitVec.ofNat_toNat, BitVec.setWidth_eq, ← used_count, ← coord0] at h
  rw [← used_count, ← coord0]
  exact h

/-! ## The block indices -/

variable (hn : (count a).toNat ≤ 72) (t : Fin grid1.N) (hl : t.val / 2 < (count a).toNat)
include hn hl

theorem rows_index : ((cfg1 a).win 0).index t = ![t.val / 2, 0] := by
  have h := rows_word (tileOf t) ⟨(count a).toNat, by omega⟩ hl
  dsimp only at h
  rw [BitVec.ofNat_toNat, BitVec.setWidth_eq, ← coord0, ← at_count] at h
  rw [← coord0]
  exact congrArg (fun k => ![k, 0]) h

theorem wide_index : ((cfg1 a).win 1).index t = ![(expertOf a (tileOf t)).toNat, 0, t.val % 2] := by
  have h := half_in_use (tileOf t) ⟨(count a).toNat, by omega⟩ hl (halfOf t)
  dsimp only at h
  rw [BitVec.ofNat_toNat, BitVec.setWidth_eq, ← coord0, ← coord1, ← at_count] at h
  rw [← coord1, ← at_expert a t (k1_off1_inb (grid1.coords t))]
  exact congrArg (fun k => ![_, 0, k]) h

theorem down_index : ((cfg1 a).win 2).index t = ![(expertOf a (tileOf t)).toNat, t.val % 2, 0] := by
  have h := half_in_use (tileOf t) ⟨(count a).toNat, by omega⟩ hl (halfOf t)
  dsimp only at h
  rw [BitVec.ofNat_toNat, BitVec.setWidth_eq, ← coord0, ← coord1, ← at_count] at h
  rw [← coord1, ← at_expert a t (k1_off1_inb (grid1.coords t))]
  exact congrArg (fun k => ![_, k, 0]) h

/-! ## The blocks -/

variable (c : Dev nD)

theorem rows_apply (r i : Fin 1024) (R : Fin 73728) (hR : R.val = t.val / 2 * 1024 + r.val) :
    rows a V c t (ix2 r i) = (show Vec F S73728x1024 .f32 from V c main_arg2) (ix2 R i) := by
  refine congrArg (V c main_arg2) (funext fun b => Fin.ext ?_)
  refine (Pipeline.Window.rect_emb_val ((cfg1 a).win 0) t (ix2 r i) b).trans ?_
  rw [rows_index a hn t hl]
  match b with
  | ⟨0, _⟩ => exact hR.symm
  | ⟨1, _⟩ => show 0 * 1024 + i.val = i.val; omega

theorem wide_apply (i : Fin 1024) (k : Fin 3584) (E : Fin 8) (K : Fin 7168) (hE : E.val = (expertOf a (tileOf t)).toNat) (hK : K.val = t.val % 2 * 3584 + k.val) :
    wide a V c t (ix3 (0 : Fin 1) i k) = (show Vec F S8x1024x7168 .bf16 from V c main_v0) (ix3 E i K) := by
  refine congrArg (V c main_v0) (funext fun b => Fin.ext ?_)
  refine (Pipeline.Window.rect_emb_val ((cfg1 a).win 1) t (ix3 (0 : Fin 1) i k) b).trans ?_
  rw [wide_index a hn t hl]
  match b with
  | ⟨0, _⟩ => show (expertOf a (tileOf t)).toNat * 1 + 0 = E.val; omega
  | ⟨1, _⟩ => show 0 * 1024 + i.val = i.val; omega
  | ⟨2, _⟩ => exact hK.symm

theorem down_apply (f : Fin 1792) (o : Fin 1024) (E : Fin 8) (K : Fin 3584) (hE : E.val = (expertOf a (tileOf t)).toNat) (hK : K.val = t.val % 2 * 1792 + f.val) :
    down a V c t (ix3 (0 : Fin 1) f o) = (show Vec F S8x3584x1024 .bf16 from V c main_v1) (ix3 E K o) := by
  refine congrArg (V c main_v1) (funext fun b => Fin.ext ?_)
  refine (Pipeline.Window.rect_emb_val ((cfg1 a).win 2) t (ix3 (0 : Fin 1) f o) b).trans ?_
  rw [down_index a hn t hl]
  match b with
  | ⟨0, _⟩ => show (expertOf a (tileOf t)).toNat * 1 + 0 = E.val; omega
  | ⟨1, _⟩ => exact hK.symm
  | ⟨2, _⟩ => show 0 * 1024 + o.val = o.val; omega

end Cert.KernelIdeal.Experts
-- ==== Proof.ResultValue.lean ====
/- The second region's result over the extended reals: a row of a tile in use is its expert's gated product, every other row zero. -/
module

public import proofs.«01_k».proof.Proof.HalfValue
public import proofs.«01_k».proof.Proof.BlockValue
public import proofs.«01_k».proof.Proof.WideValue
public import proofs.«01_k».proof.Proof.Run

@[expose] public section

set_option maxRecDepth 16384

noncomputable section

namespace Cert.KernelIdeal.Experts

open Idealize.ShloMosaic hiding ix1 ix2 ix3 eq_ix1 eq_ix2 eq_ix3
open Idealize.ShloMosaic.ValueIdx
open Idealize.ShloMosaic.TcCoe
open Cert.KernelIdeal Cert.KernelIdeal.Gen
open scoped BigOperators

/-- Hidden column `f` of row `r` under expert `e`, times its down weight to column `o`. -/
def term (xs : Vec Ideal S73728x1024 .f32) (wg wu : Vec Ideal S8x1024x3584 .f32) (wd : Vec Ideal S8x3584x1024 .f32)
    (e : Fin 8) (r : Fin 73728) (o : Fin 1024) (f : Fin 3584) : EReal :=
  act (∑ i : Fin 1024, xs (ix2 r i) * wg (ix3 e i f)) (∑ i : Fin 1024, xs (ix2 r i) * wu (ix3 e i f)) * wd (ix3 e f o)

/-- Row `r` under expert `e`, at column `o`: the gated product against the down weights. -/
def expert (xs : Vec Ideal S73728x1024 .f32) (wg wu : Vec Ideal S8x1024x3584 .f32) (wd : Vec Ideal S8x3584x1024 .f32)
    (e : Fin 8) (r : Fin 73728) (o : Fin 1024) : EReal :=
  ∑ f : Fin 3584, term xs wg wu wd e r o f

/-- The sum over the hidden columns, as the two halves' sums. -/
theorem two_halves (T : Fin 3584 → EReal) :
    ∑ f : Fin 3584, T f = (∑ f : Fin 1792, T ⟨f.val, by omega⟩) + ∑ f : Fin 1792, T ⟨1792 + f.val, by omega⟩ :=
  Fin.sum_univ_add (a := 1792) (b := 1792) T

variable (a : (pcfg1 (F := Ideal)).Adm) (V : GateUp.Entry Ideal)

/-- One half's product at a point of a tile in use, entry by entry: the hidden columns of that half. -/
theorem half_value (c : Dev nD) (xs : Vec Ideal S73728x1024 .f32) (wg wu : Vec Ideal S8x1024x3584 .f32) (wd : Vec Ideal S8x3584x1024 .f32)
    (hxs : V c main_arg2 = xs) (hw : V c main_v0 = GateUp.interleaved wg wu) (hd : V c main_v1 = wd)
    (hn : (count a).toNat ≤ 72) (s t : Fin grid1.N) (hst : s.val / 2 = t.val / 2) (hl : t.val / 2 < (count a).toNat)
    (r o : Fin 1024) (R : Fin 73728) (hR : R.val = t.val / 2 * 1024 + r.val) (E : Fin 8) (hE : E.val = (expertOf a (tileOf t)).toNat) :
    (∑ f : Fin 1792, column (rows a V c s) (wide a V c t) r f * down a V c t (ix3 (0 : Fin 1) f o))
      = ∑ f : Fin 1792, term xs wg wu wd E R o ⟨1792 * (t.val % 2) + f.val, by omega⟩ := by
  have ht : t.val % 2 < 2 := Nat.mod_lt _ (by decide)
  have hx : ∀ i : Fin 1024, rows a V c s (ix2 r i) = xs (ix2 R i) := fun i => by
    rw [rows_apply a V hn s (hst ▸ hl) c r i R (by rw [hst]; exact hR), hxs]
  have hww : ∀ (i : Fin 1024) (k : Fin 3584), wide a V c t (ix3 (0 : Fin 1) i k)
      = GateUp.interleaved wg wu (ix3 E i (⟨t.val % 2 * 3584 + k.val, by omega⟩ : Fin 7168)) := fun i k => by
    rw [wide_apply a V hn t hl c i k E (⟨t.val % 2 * 3584 + k.val, by omega⟩ : Fin 7168) hE rfl, hw]
  refine Finset.sum_congr rfl fun f _ => ?_
  have hf := f.isLt
  unfold term column
  rw [down_apply a V hn t hl c f o E ⟨1792 * (t.val % 2) + f.val, by omega⟩ hE (by dsimp only; omega), hd]
  congr 1
  congr 1
  · refine Finset.sum_congr rfl fun i _ => ?_
    rw [hx, hww]
    congr 1
    unfold GateUp.interleaved
    rw [if_pos (by show (t.val % 2 * 3584 + (512 * (f.val / 256) + f.val % 256)) % 512 < 256; omega)]
    refine congrArg (fun k => wg (ix3 E i k)) (Fin.ext ?_)
    show GateUp.hidden (t.val % 2 * 3584 + (512 * (f.val / 256) + f.val % 256)) = 1792 * (t.val % 2) + f.val
    unfold GateUp.hidden; omega
  · refine Finset.sum_congr rfl fun i _ => ?_
    rw [hx, hww]
    congr 1
    unfold GateUp.interleaved
    rw [if_neg (by show ¬ (t.val % 2 * 3584 + (512 * (f.val / 256) + 256 + f.val % 256)) % 512 < 256; omega)]
    refine congrArg (fun k => wu (ix3 E i k)) (Fin.ext ?_)
    show GateUp.hidden (t.val % 2 * 3584 + (512 * (f.val / 256) + 256 + f.val % 256)) = 1792 * (t.val % 2) + f.val
    unfold GateUp.hidden; omega

/-- What the result array ends holding. -/
def result (xs : Vec Ideal S73728x1024 .f32) (wg wu : Vec Ideal S8x1024x3584 .f32) (wd : Vec Ideal S8x3584x1024 .f32)
    (te : IVec S72 32) (n : IVec S1 32) : Vec Ideal S73728x1024 .f32 := fun j =>
  if (j 0).val / 1024 < (n first).toNat
  then expert xs wg wu wd (Fin.ofNat 8 (te (tile ((j 0).val / 1024) (by have h : (j 0).val < 73728 := (j 0).isLt; omega))).toNat) (j 0) (j 1)
  else 0

/-- What the buffer holds after the second half of a tile. -/
theorem left_value (c : Dev nD) (xs : Vec Ideal S73728x1024 .f32) (wg wu : Vec Ideal S8x1024x3584 .f32) (wd : Vec Ideal S8x3584x1024 .f32)
    (hxs : V c main_arg2 = xs) (hw : V c main_v0 = GateUp.interleaved wg wu) (hd : V c main_v1 = wd)
    (hn : (count a).toNat ≤ 72) (t : Fin grid1.N) (ht : ¬ t.val % 2 = 0)
    (r o : Fin 1024) (R : Fin 73728) (hR : R.val = t.val / 2 * 1024 + r.val) (he : (expertOf a (tileOf t)).toNat < 8) :
    left a V c t (ix2 r o) = if t.val / 2 < (count a).toNat then expert xs wg wu wd (Fin.ofNat 8 (expertOf a (tileOf t)).toNat) R o else (0 : EReal) := by
  unfold left
  by_cases hl : t.val / 2 < (count a).toNat
  · have hlive : live a t := (live_iff a hn t).mpr hl
    have hb : (before t).val / 2 = t.val / 2 := by show (t.val - 1) / 2 = t.val / 2; omega
    have hb2 : (before t).val % 2 = 0 := by show (t.val - 1) % 2 = 0; omega
    have ht2 : t.val % 2 = 1 := by omega
    have hE : (Fin.ofNat 8 (expertOf a (tileOf t)).toNat).val = (expertOf a (tileOf t)).toNat := Nat.mod_eq_of_lt he
    have hT : tileOf (before t) = tileOf t := Fin.ext hb
    rw [if_pos hlive, if_neg ht, if_pos hl]
    refine (plusHalf_apply _ _ _ _ r o).trans ?_
    rw [half_apply, pay1_eq,
      half_value a V c xs wg wu wd hxs hw hd hn (before t) (before t) rfl (hb ▸ hl) r o R (by rw [hb]; exact hR) _ (by rw [hT]; exact hE),
      half_value a V c xs wg wu wd hxs hw hd hn (before t) t hb hl r o R hR _ hE]
    unfold expert
    rw [two_halves]
    congr 1
    · refine Finset.sum_congr rfl fun f _ => congrArg _ (Fin.ext ?_)
      show 1792 * ((before t).val % 2) + f.val = f.val
      omega
    · refine Finset.sum_congr rfl fun f _ => congrArg _ (Fin.ext ?_)
      show 1792 * (t.val % 2) + f.val = 1792 + f.val
      omega
  · rw [if_neg (fun h => hl ((live_iff a hn t).mp h)), if_neg hl]
    exact pay4_apply _

theorem index3 (t : Fin grid1.N) : ((cfg1 a).win 3).index t = ![t.val / 2, 0] := by
  have h : ∀ t : Fin grid1.N, cc1_transform_3 (grid1.coords t) = ![t.val / 2, 0] := by decide +kernel
  exact h t

theorem cover3 (i : S73728x1024.Idx) : ∃ t : Fin (cfg1 a).N, ((cfg1 a).win 3).flush t = true ∧ i ∈ (((cfg1 a).win 3).blk t).view.set := by
  have h0 : (i 0).val < 73728 := (i 0).isLt
  have h1 : (i 1).val < 1024 := (i 1).isLt
  have hN : 2 * ((i 0).val / 1024) + 1 < grid1.N := by rw [show grid1.N = 144 from rfl]; omega
  refine ⟨(⟨2 * ((i 0).val / 1024) + 1, hN⟩ : Fin grid1.N), ?_, ?_⟩
  · rw [flush3]; simp
  · refine (ValueKit.mem_set_slice_whole_iff main_v14 (((cfg1 a).win 3).rect (⟨2 * ((i 0).val / 1024) + 1, hN⟩ : Fin grid1.N)) i (Rect.mem_set_unit (s := S73728x1024))).mpr ?_
    intro b
    have e := congrFun (index3 a (⟨2 * ((i 0).val / 1024) + 1, hN⟩ : Fin grid1.N)) b
    match b with
    | ⟨0, _⟩ =>
      show ((cfg1 a).win 3).index (⟨2 * ((i 0).val / 1024) + 1, hN⟩ : Fin grid1.N) (0 : Fin 2) * 1024 ≤ (i 0).val
        ∧ (i 0).val < ((cfg1 a).win 3).index (⟨2 * ((i 0).val / 1024) + 1, hN⟩ : Fin grid1.N) (0 : Fin 2) * 1024 + 1024
      have e : ((cfg1 a).win 3).index (⟨2 * ((i 0).val / 1024) + 1, hN⟩ : Fin grid1.N) (0 : Fin 2) = (2 * ((i 0).val / 1024) + 1) / 2 := e
      omega
    | ⟨1, _⟩ =>
      show ((cfg1 a).win 3).index (⟨2 * ((i 0).val / 1024) + 1, hN⟩ : Fin grid1.N) (1 : Fin 2) * 1024 ≤ (i 1).val
        ∧ (i 1).val < ((cfg1 a).win 3).index (⟨2 * ((i 0).val / 1024) + 1, hN⟩ : Fin grid1.N) (1 : Fin 2) * 1024 + 1024
      have e : ((cfg1 a).win 3).index (⟨2 * ((i 0).val / 1024) + 1, hN⟩ : Fin grid1.N) (1 : Fin 2) = 0 := e
      omega

/-- What is written back after the second half of a tile is that tile's block of the result. -/
theorem left_result (c : Dev nD) (xs : Vec Ideal S73728x1024 .f32) (wg wu : Vec Ideal S8x1024x3584 .f32) (wd : Vec Ideal S8x3584x1024 .f32)
    (te : IVec S72 32) (n : IVec S1 32)
    (hxs : V c main_arg2 = xs) (hw : V c main_v0 = GateUp.interleaved wg wu) (hd : V c main_v1 = wd)
    (hn : (n first).toNat ≤ 72) (hc : count a = n first) (he : ∀ t : Fin 72, t.val < (n first).toNat → expertOf a t = te (tile t.val t.isLt))
    (h8 : ∀ t : Fin 72, (expertOf a t).toNat < 8) (t : Fin grid1.N) (ht : ¬ t.val % 2 = 0)
    (y : S1024x1024.Idx) (j : S73728x1024.Idx) (h0 : (j 0).val = t.val / 2 * 1024 + (y 0).val) (h1 : (j 1).val = (y 1).val) :
    left a V c t y = result xs wg wu wd te n j := by
  obtain ⟨r, o, rfl⟩ : ∃ (r : Fin 1024) (o : Fin 1024), y = ix2 r o := ⟨y 0, y 1, eq_ix2 y⟩
  obtain ⟨R, O, rfl⟩ : ∃ (R : Fin 73728) (O : Fin 1024), j = ix2 R O := ⟨j 0, j 1, eq_ix2 j⟩
  have h0' : R.val = t.val / 2 * 1024 + r.val := h0
  obtain rfl : O = o := Fin.ext h1
  have hr := r.isLt
  have eR : R.val / 1024 = t.val / 2 := by rw [h0']; omega
  rw [left_value a V c xs wg wu wd hxs hw hd (by rw [hc]; exact hn) t ht r O R h0' (h8 _), hc]
  unfold result
  refine if_ctx_congr (by show _ ↔ R.val / 1024 < _; rw [eR]) (fun hl => ?_) (fun _ => rfl)
  have hl' : (tileOf t).val < (n first).toNat := by show t.val / 2 < _; rw [← eR]; exact hl
  rw [he (tileOf t) hl']
  have : tile (tileOf t).val (tileOf t).isLt = tile (R.val / 1024) (by have := R.isLt; omega) := by
    funext x
    match x with
    | ⟨0, _⟩ => exact Fin.ext eR.symm
  rw [this]

/-- The result array after the region. -/
theorem final (c : Dev nD) (xs : Vec Ideal S73728x1024 .f32) (wg wu : Vec Ideal S8x1024x3584 .f32) (wd : Vec Ideal S8x3584x1024 .f32)
    (te : IVec S72 32) (n : IVec S1 32)
    (hxs : V c main_arg2 = xs) (hw : V c main_v0 = GateUp.interleaved wg wu) (hd : V c main_v1 = wd)
    (hn : (n first).toNat ≤ 72) (hc : count a = n first) (he : ∀ t : Fin 72, t.val < (n first).toNat → expertOf a t = te (tile t.val t.isLt))
    (h8 : ∀ t : Fin 72, (expertOf a t).toNat < 8) :
    (dat a V c).arrAt 3 (cfg1 a).N = result xs wg wu wd te n := by
  refine (dat a V c).arrAt_eq_of_emb 3 (result xs wg wu wd te n) (fun t hf y => ?_) (cover3 a)
  have ht : ¬ t.val % 2 = 0 := by rw [flush3, decide_eq_true_eq] at hf; exact hf
  rw [dat_after3]
  refine left_result a V c xs wg wu wd te n hxs hw hd hn hc he h8 t ht y _ ?_ ?_
  · refine (Pipeline.Window.rect_emb_val ((cfg1 a).win 3) t y (0 : Fin 2)).trans ?_
    rw [index3]; rfl
  · refine (Pipeline.Window.rect_emb_val ((cfg1 a).win 3) t y (1 : Fin 2)).trans ?_
    rw [index3]; exact (Nat.zero_mul _).symm ▸ Nat.zero_add _

end Cert.KernelIdeal.Experts
-- ==== Proof.RefValue.lean ====
/- The reference over the extended reals: a row of a tile in use is its expert's gated product, every other row zero. -/
module

public import proofs.«01_k».proof.Proof.ResultValue
public import proofs.«01_k».proof.Proof.Gen.ReferenceIdeal.Run
public import Idealize.ShloMosaic.Lib.StackMember
public import Idealize.ShloMosaic.Lib.IdealHost
public import Idealize.ShloMosaic.Lib.Pipeline.Value

@[expose] public section

set_option maxRecDepth 16384

noncomputable section

namespace Cert.ReferenceIdeal.Sum

open Idealize.ShloMosaic hiding ix1 ix2 ix3 eq_ix1 eq_ix2 eq_ix3
open Idealize.ShloMosaic.ValueIdx
open Idealize.ShloMosaic.TcCoe
open Cert.ReferenceIdeal Cert.ReferenceIdeal.Gen
open Cert.KernelIdeal.Experts (act expert term result first tile)
open scoped BigOperators

/-- A tile's weight for the expert numbered `w`: one where the tile is in use and is that expert's, else zero. -/
def weight (te : IVec S72 32) (n : IVec S1 32) (w : BitVec 32) : FVec Ideal S72 .f32 :=
  select (andi (cmpi .slt (iotaInDim S72 32 0) (broadcastInDim S72 ![] bcast_S_S72 (shapeCast _ n shapeCasts_S1_S_)))
      (cmpi .eq te (broadcastInDim S72 ![] bcast_S_S72 (constantI S_ 32 w))))
    (broadcastInDim S72 ![] bcast_S_S72 (constant S_ .f32 0x3F800000#32)) (broadcastInDim S72 ![] bcast_S_S72 (constant S_ .f32 0x00000000#32))

/-- A product of the rows with one expert's weights. -/
def rowsBy (k : ℕ) (h : S8x1024x3584.Slices ![k, 0, 0] S1x1024x3584) (xs : FVec Ideal S73728x1024 .f32) (wt : FVec Ideal S8x1024x3584 .f32) : FVec Ideal S73728x3584 .f32 :=
  Host.dotGeneral dot_S73728x1024_S1024x3584_S73728x3584_1_0_0_1_n_n none xs
    (shapeCast _ (extractStridedSlice S1x1024x3584 ![k, 0, 0] wt h) shapeCasts_S1x1024x3584_S1024x3584)

/-- The gated activation of the two products. -/
def gatedBy (G U : FVec Ideal S73728x3584 .f32) : FVec Ideal S73728x3584 .f32 :=
  mulf (mulf G (Host.divf (broadcastInDim S73728x3584 ![] bcast_S_S73728x3584 (constant S_ .f32 0x3F800000#32))
    (addf (broadcastInDim S73728x3584 ![] bcast_S_S73728x3584 (constant S_ .f32 0x3F800000#32)) (Host.exp (Host.negf G))))) U

/-- One expert's contribution to the sum. -/
def part (te : IVec S72 32) (n : IVec S1 32) (w : BitVec 32) (k : ℕ) (h : S8x1024x3584.Slices ![k, 0, 0] S1x1024x3584) (h' : S8x3584x1024.Slices ![k, 0, 0] S1x3584x1024)
    (xs : FVec Ideal S73728x1024 .f32) (wg wu : FVec Ideal S8x1024x3584 .f32) (wd : FVec Ideal S8x3584x1024 .f32) : FVec Ideal S73728x1024 .f32 :=
  mulf (broadcastInDim S73728x1024 ![0, 1] bcast_S73728x1_S73728x1024_0_1 (id (broadcastInDim S73728x1 ![0] bcast_S73728_S73728x1_0
      (shapeCast _ (broadcastInDim S72x1024 ![0] bcast_S72_S72x1024_0 (weight te n w)) shapeCasts_S72x1024_S73728))))
    (Host.dotGeneral dot_S73728x3584_S3584x1024_S73728x1024_1_0_0_1_n_n none (gatedBy (rowsBy k h xs wg) (rowsBy k h xs wu))
      (shapeCast _ (extractStridedSlice S1x3584x1024 ![k, 0, 0] wd h') shapeCasts_S1x3584x1024_S3584x1024))

theorem rowsBy_apply (k : Fin 8) (h : S8x1024x3584.Slices ![k.val, 0, 0] S1x1024x3584) (xs : FVec Ideal S73728x1024 .f32) (wt : FVec Ideal S8x1024x3584 .f32)
    (r : Fin 73728) (f : Fin 3584) : rowsBy k.val h xs wt (ix2 r f) = ∑ i : Fin 1024, xs (ix2 r i) * wt (ix3 k i f) := by
  refine (StackMember.dotGeneral_plain_apply (m := 73728) (k := 1024) (n := 3584) none xs
    (shapeCast _ (extractStridedSlice S1x1024x3584 ![k.val, 0, 0] wt h) shapeCasts_S1x1024x3584_S1024x3584) r f).trans ?_
  refine Finset.sum_congr rfl fun i _ => congrArg (xs (ix2 r i) * ·) ?_
  refine (shapeCast_1ab_ab_apply _ _ i f).trans ?_
  exact extractStridedSlice_apply _ wt h (ix3 (0 : Fin 1) i f) (ix3 k i f) fun b => match b with
    | ⟨0, _⟩ => rfl
    | ⟨1, _⟩ => (Nat.zero_add _).symm
    | ⟨2, _⟩ => (Nat.zero_add _).symm

theorem gatedBy_apply (G U : FVec Ideal S73728x3584 .f32) (j : S73728x3584.Idx) : gatedBy G U j = act (G j) (U j) := by
  have h1 : broadcastInDim S73728x3584 ![] bcast_S_S73728x3584 (constant (F := Ideal) S_ .f32 0x3F800000#32) j = (1 : EReal) := Ideal.ofBits_one_f32
  show G j * Ideal.div (broadcastInDim S73728x3584 ![] bcast_S_S73728x3584 (constant (F := Ideal) S_ .f32 0x3F800000#32) j)
    (broadcastInDim S73728x3584 ![] bcast_S_S73728x3584 (constant (F := Ideal) S_ .f32 0x3F800000#32) j + Ideal.exp (-(G j))) * U j = _
  rw [h1]
  rfl

theorem word_of_tile : ∀ (t : Fin 72) (k : Fin 73), (IntOp.cmpi .slt (BitVec.ofNat 32 t.val) (BitVec.ofNat 32 k.val) = 1#1) ↔ t.val < k.val := by decide +kernel

theorem weight_apply (te : IVec S72 32) (n : IVec S1 32) (w : BitVec 32) (hn : (n first).toNat ≤ 72) (t : Fin 72) :
    weight te n w (tile t.val t.isLt) = if t.val < (n first).toNat ∧ te (tile t.val t.isLt) = w then (1 : EReal) else 0 := by
  have hs : ∀ j : S_.Idx, shapeCast S_ n shapeCasts_S1_S_ j = n first := fun j => congrArg n (funext fun x => by
    match x with | ⟨0, _⟩ => exact Subsingleton.elim (α := Fin 1) _ _)
  have h := word_of_tile t ⟨(n first).toNat, by omega⟩
  dsimp only at h
  rw [BitVec.ofNat_toNat, BitVec.setWidth_eq] at h
  have h1 : Ideal.ofBits .f32 0x3F800000#32 = 1 := Ideal.ofBits_one_f32
  have h0 : Ideal.ofBits .f32 0x00000000#32 = 0 := Ideal.ofBits_zero_f32
  have e : weight te n w (tile t.val t.isLt)
      = Scalar.select (IntOp.andi (IntOp.cmpi .slt (BitVec.ofNat 32 t.val) (n first)) (IntOp.cmpi .eq (te (tile t.val t.isLt)) w)) (1 : EReal) 0 := by
    rw [← h1, ← h0, ← hs (fun x => x.elim0)]
    rfl
  rw [e]
  have hw : (IntOp.cmpi .eq (te (tile t.val t.isLt)) w = 1#1) ↔ te (tile t.val t.isLt) = w := by
    show BitVec.ofBool (te (tile t.val t.isLt) == w) = 1#1 ↔ _
    by_cases e : te (tile t.val t.isLt) = w
    · rw [beq_iff_eq.2 e]; exact iff_of_true (by decide) e
    · rw [beq_eq_false_iff_ne.2 e]; exact iff_of_false (by decide) e
  unfold Scalar.select
  refine if_congr ?_ rfl rfl
  have hb : ∀ x y : BitVec 1, IntOp.andi x y = 1 ↔ x = 1#1 ∧ y = 1#1 := by decide
  rw [hb, h, hw]

theorem part_apply (te : IVec S72 32) (n : IVec S1 32) (w : BitVec 32) (k : Fin 8) (h : S8x1024x3584.Slices ![k.val, 0, 0] S1x1024x3584) (h' : S8x3584x1024.Slices ![k.val, 0, 0] S1x3584x1024)
    (xs : FVec Ideal S73728x1024 .f32) (wg wu : FVec Ideal S8x1024x3584 .f32) (wd : FVec Ideal S8x3584x1024 .f32) (hn : (n first).toNat ≤ 72) (r : Fin 73728) (o : Fin 1024) :
    part te n w k.val h h' xs wg wu wd (ix2 r o)
      = if r.val / 1024 < (n first).toNat ∧ te (tile (r.val / 1024) (by omega)) = w then expert xs wg wu wd k r o else 0 := by
  have hT : r.val / 1024 < 72 := by omega
  have hW : broadcastInDim S73728x1024 ![0, 1] bcast_S73728x1_S73728x1024_0_1 (id (broadcastInDim S73728x1 ![0] bcast_S73728_S73728x1_0
      (shapeCast _ (broadcastInDim S72x1024 ![0] bcast_S72_S72x1024_0 (weight te n w)) shapeCasts_S72x1024_S73728))) (ix2 r o)
      = weight te n w (tile (r.val / 1024) hT) := by
    refine (broadcastInDim_apply _ _ _ (ix2 r o) (ix2 r (0 : Fin 1)) fun a => match a with | ⟨0, _⟩ => rfl | ⟨1, _⟩ => rfl).trans ?_
    refine (broadcastInDim_apply _ _ _ (ix2 r (0 : Fin 1)) (ix1 r) fun a => match a with | ⟨0, _⟩ => rfl).trans ?_
    refine (shapeCast_apply _ _ (ix1 r) (ix2 (⟨r.val / 1024, hT⟩ : Fin 72) (⟨r.val % 1024, Nat.mod_lt _ (by decide)⟩ : Fin 1024)) ?_).trans ?_
    · rw [Shape.rowMajor_val_two, Shape.rowMajor_val_one]
      show r.val / 1024 * 1024 + r.val % 1024 = r.val
      omega
    · exact broadcastInDim_apply _ _ _ _ (tile (r.val / 1024) hT) fun a => match a with | ⟨0, _⟩ => rfl
  have hD : Host.dotGeneral dot_S73728x3584_S3584x1024_S73728x1024_1_0_0_1_n_n none (gatedBy (rowsBy k.val h xs wg) (rowsBy k.val h xs wu))
      (shapeCast _ (extractStridedSlice S1x3584x1024 ![k.val, 0, 0] wd h') shapeCasts_S1x3584x1024_S3584x1024) (ix2 r o) = expert xs wg wu wd k r o := by
    refine (StackMember.dotGeneral_plain_apply (m := 73728) (k := 3584) (n := 1024) none (gatedBy (rowsBy k.val h xs wg) (rowsBy k.val h xs wu))
      (shapeCast _ (extractStridedSlice S1x3584x1024 ![k.val, 0, 0] wd h') shapeCasts_S1x3584x1024_S3584x1024) r o).trans ?_
    refine Finset.sum_congr rfl fun f _ => ?_
    rw [gatedBy_apply, rowsBy_apply, rowsBy_apply]
    refine congrArg (act _ _ * ·) ?_
    refine (shapeCast_1ab_ab_apply _ _ f o).trans ?_
    exact extractStridedSlice_apply _ wd h' (ix3 (0 : Fin 1) f o) (ix3 k f o) fun b => match b with
      | ⟨0, _⟩ => rfl
      | ⟨1, _⟩ => (Nat.zero_add _).symm
      | ⟨2, _⟩ => (Nat.zero_add _).symm
  have hP : part te n w k.val h h' xs wg wu wd (ix2 r o) = (weight te n w (tile (r.val / 1024) hT) : EReal) * expert xs wg wu wd k r o := by
    rw [← hW, ← hD]; rfl
  rw [hP, weight_apply te n w hn ⟨r.val / 1024, hT⟩]
  split
  · exact one_mul _
  · exact zero_mul _

/-- The sum over the experts. -/
def total (te : IVec S72 32) (n : IVec S1 32) (xs : FVec Ideal S73728x1024 .f32) (wg wu : FVec Ideal S8x1024x3584 .f32) (wd : FVec Ideal S8x3584x1024 .f32) : FVec Ideal S73728x1024 .f32 :=
  addf (addf (addf (addf (addf (addf (addf (addf (broadcastInDim S73728x1024 ![] bcast_S_S73728x1024 (constant S_ .f32 0x00000000#32))
    (part te n 0#32 0 slices_S8x1024x3584_S1x1024x3584_0_0_0 slices_S8x3584x1024_S1x3584x1024_0_0_0 xs wg wu wd))
    (part te n 1#32 1 slices_S8x1024x3584_S1x1024x3584_1_0_0 slices_S8x3584x1024_S1x3584x1024_1_0_0 xs wg wu wd))
    (part te n 2#32 2 slices_S8x1024x3584_S1x1024x3584_2_0_0 slices_S8x3584x1024_S1x3584x1024_2_0_0 xs wg wu wd))
    (part te n 3#32 3 slices_S8x1024x3584_S1x1024x3584_3_0_0 slices_S8x3584x1024_S1x3584x1024_3_0_0 xs wg wu wd))
    (part te n 4#32 4 slices_S8x1024x3584_S1x1024x3584_4_0_0 slices_S8x3584x1024_S1x3584x1024_4_0_0 xs wg wu wd))
    (part te n 5#32 5 slices_S8x1024x3584_S1x1024x3584_5_0_0 slices_S8x3584x1024_S1x3584x1024_5_0_0 xs wg wu wd))
    (part te n 6#32 6 slices_S8x1024x3584_S1x1024x3584_6_0_0 slices_S8x3584x1024_S1x3584x1024_6_0_0 xs wg wu wd))
    (part te n 7#32 7 slices_S8x1024x3584_S1x1024x3584_7_0_0 slices_S8x3584x1024_S1x3584x1024_7_0_0 xs wg wu wd)

theorem is_total (V0 : Valuation τ sig (Elt Ideal)) : Value.res_main_v180 (F := Ideal) V0
    = total (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) := rfl

theorem word_cases : ∀ w : BitVec 32, w.toNat < 8 → ∃ k : Fin 8, w = BitVec.ofNat 32 k.val := fun w h =>
  ⟨⟨w.toNat, h⟩, by rw [BitVec.ofNat_toNat, BitVec.setWidth_eq]⟩

theorem total_apply (te : IVec S72 32) (n : IVec S1 32) (xs : FVec Ideal S73728x1024 .f32) (wg wu : FVec Ideal S8x1024x3584 .f32) (wd : FVec Ideal S8x3584x1024 .f32)
    (hn : (n first).toNat ≤ 72) (h8 : ∀ t : Fin 72, (te (tile t.val t.isLt)).toNat < 8) (r : Fin 73728) (o : Fin 1024) :
    total te n xs wg wu wd (ix2 r o) = result xs wg wu wd te n (ix2 r o) := by
  have p0 := part_apply te n 0#32 0 slices_S8x1024x3584_S1x1024x3584_0_0_0 slices_S8x3584x1024_S1x3584x1024_0_0_0 xs wg wu wd hn r o
  have p1 := part_apply te n 1#32 1 slices_S8x1024x3584_S1x1024x3584_1_0_0 slices_S8x3584x1024_S1x3584x1024_1_0_0 xs wg wu wd hn r o
  have p2 := part_apply te n 2#32 2 slices_S8x1024x3584_S1x1024x3584_2_0_0 slices_S8x3584x1024_S1x3584x1024_2_0_0 xs wg wu wd hn r o
  have p3 := part_apply te n 3#32 3 slices_S8x1024x3584_S1x1024x3584_3_0_0 slices_S8x3584x1024_S1x3584x1024_3_0_0 xs wg wu wd hn r o
  have p4 := part_apply te n 4#32 4 slices_S8x1024x3584_S1x1024x3584_4_0_0 slices_S8x3584x1024_S1x3584x1024_4_0_0 xs wg wu wd hn r o
  have p5 := part_apply te n 5#32 5 slices_S8x1024x3584_S1x1024x3584_5_0_0 slices_S8x3584x1024_S1x3584x1024_5_0_0 xs wg wu wd hn r o
  have p6 := part_apply te n 6#32 6 slices_S8x1024x3584_S1x1024x3584_6_0_0 slices_S8x3584x1024_S1x3584x1024_6_0_0 xs wg wu wd hn r o
  have p7 := part_apply te n 7#32 7 slices_S8x1024x3584_S1x1024x3584_7_0_0 slices_S8x3584x1024_S1x3584x1024_7_0_0 xs wg wu wd hn r o
  have hT : r.val / 1024 < 72 := by omega
  have hs : total te n xs wg wu wd (ix2 r o) = ((((((((Ideal.ofBits .f32 0x00000000#32 : EReal) + part te n 0#32 0 slices_S8x1024x3584_S1x1024x3584_0_0_0 slices_S8x3584x1024_S1x3584x1024_0_0_0 xs wg wu wd (ix2 r o)) + part te n 1#32 1 slices_S8x1024x3584_S1x1024x3584_1_0_0 slices_S8x3584x1024_S1x3584x1024_1_0_0 xs wg wu wd (ix2 r o)) + part te n 2#32 2 slices_S8x1024x3584_S1x1024x3584_2_0_0 slices_S8x3584x1024_S1x3584x1024_2_0_0 xs wg wu wd (ix2 r o)) + part te n 3#32 3 slices_S8x1024x3584_S1x1024x3584_3_0_0 slices_S8x3584x1024_S1x3584x1024_3_0_0 xs wg wu wd (ix2 r o)) + part te n 4#32 4 slices_S8x1024x3584_S1x1024x3584_4_0_0 slices_S8x3584x1024_S1x3584x1024_4_0_0 xs wg wu wd (ix2 r o)) + part te n 5#32 5 slices_S8x1024x3584_S1x1024x3584_5_0_0 slices_S8x3584x1024_S1x3584x1024_5_0_0 xs wg wu wd (ix2 r o)) + part te n 6#32 6 slices_S8x1024x3584_S1x1024x3584_6_0_0 slices_S8x3584x1024_S1x3584x1024_6_0_0 xs wg wu wd (ix2 r o)) + part te n 7#32 7 slices_S8x1024x3584_S1x1024x3584_7_0_0 slices_S8x3584x1024_S1x3584x1024_7_0_0 xs wg wu wd (ix2 r o) := rfl
  have hr : result xs wg wu wd te n (ix2 r o)
      = if r.val / 1024 < (n first).toNat then expert xs wg wu wd (Fin.ofNat 8 (te (tile (r.val / 1024) hT)).toNat) r o else 0 := rfl
  rw [hs, hr]
  erw [p0, p1, p2, p3, p4, p5, p6, p7]
  rw [Ideal.ofBits_zero_f32]
  by_cases hl : r.val / 1024 < (n first).toNat
  · obtain ⟨k, hk⟩ := word_cases _ (h8 ⟨r.val / 1024, hT⟩)
    simp only [hl, true_and, if_true]
    dsimp only at hk
    rw [hk]
    fin_cases k <;> simp <;> rfl
  · simp only [hl, false_and, if_false, add_zero]

/-- The reference's result: the gated product of each row's expert on the tiles in use, zero on the others. -/
theorem total_eq (te : IVec S72 32) (n : IVec S1 32) (xs : FVec Ideal S73728x1024 .f32) (wg wu : FVec Ideal S8x1024x3584 .f32) (wd : FVec Ideal S8x3584x1024 .f32)
    (hn : (n first).toNat ≤ 72) (h8 : ∀ t : Fin 72, (te (tile t.val t.isLt)).toNat < 8) : total te n xs wg wu wd = result xs wg wu wd te n := by
  funext j
  rw [eq_ix2 j]
  exact total_apply te n xs wg wu wd hn h8 (j 0) (j 1)

end Cert.ReferenceIdeal.Sum
-- ==== Proof.MixSpec.lean ====
/- One row of the even layer's output projection, residuals, norms and dense SwiGLU, over the extended reals. -/
module

public import Idealize.ShloMosaic.PureOps.Ideal
public import Idealize.ShloMosaic.Lib.Pointwise

@[expose] public section

noncomputable section

namespace Cert.Mix

open Idealize.ShloMosaic
open scoped BigOperators

/-- A row of the model's width. -/
abbrev Row := Fin 1024 → EReal

/-- The reciprocal root of a row's mean square, with the small constant added. -/
def rootScale (t : Row) : EReal :=
  Ideal.rsqrt (Ideal.div (∑ k : Fin 1024, t k * t k) (Ideal.ofBits .f32 0x44800000#32) + Ideal.ofBits .f32 0x358637BD#32)

/-- A row normalised and scaled by a gain. -/
def normed (t g : Row) : Row := fun o => t o * rootScale t * g o

/-- The output projection of the attention's half row and the convolution's half row. -/
def projected (a b : Fin 512 → EReal) (w : Fin 1024 → Row) : Row := fun o =>
  (∑ i : Fin 512, a i * w ⟨i.val, by omega⟩ o) + ∑ i : Fin 512, b i * w ⟨512 + i.val, by omega⟩ o

/-- A row plus its gated normalised update. -/
def added (x gate g y : Row) : Row := fun o => x o + gate o * normed y g o

/-- A row normalised, scaled and shifted. -/
def modulated (t g shift scale : Row) : Row := fun o => normed t g o * (Ideal.ofBits .f32 0x3F800000#32 + scale o) + shift o

/-- The gated activation: `p · logistic p · q`. -/
def act (p q : EReal) : EReal := p * Ideal.logistic p * q

/-- The dense SwiGLU of a row. -/
def swiglu (h : Row) (wg wu : Fin 1024 → Fin 2816 → EReal) (wd : Fin 2816 → Row) : Row := fun o =>
  ∑ f : Fin 2816, act (∑ i : Fin 1024, h i * wg i f) (∑ i : Fin 1024, h i * wu i f) * wd f o

/-- The three taps of the convolution at a channel, gated. -/
def conv (w : Fin 3 → Fin 512 → EReal) (gate before here after : Fin 512 → EReal) : Fin 512 → EReal := fun k =>
  gate k * (w 0 k * before k + w 1 k * here k + w 2 k * after k)

/-- The channels of the row before row `n`, nothing before the first. -/
def before (z : Fin 8192 → Fin 512 → EReal) (n : Fin 8192) (k : Fin 512) : EReal :=
  if n.val = 0 then 0 else z ⟨n.val - 1, by omega⟩ k

/-- The channels of the row after row `n`, nothing after the last. -/
def after (z : Fin 8192 → Fin 512 → EReal) (n : Fin 8192) (k : Fin 512) : EReal :=
  if h : n.val = 8191 then 0 else z ⟨n.val + 1, by omega⟩ k

/-- Row `n` of one batch after the mixing residual. -/
def mixed (x : Fin 8192 → Row) (mods : Fin 6 → Row) (attn gate z : Fin 8192 → Fin 512 → EReal) (wc : Fin 3 → Fin 512 → EReal) (wo : Fin 1024 → Row) (g1 : Row)
    (n : Fin 8192) : Row :=
  added (x n) (mods 2) g1 (projected (attn n) (conv wc (gate n) (before z n) (z n) (after z n)) wo)

/-- A row after the dense SwiGLU's residual. -/
def fed (t : Row) (mods : Fin 6 → Row) (g2 : Row) (wg wu : Fin 1024 → Fin 2816 → EReal) (wd : Fin 2816 → Row) (g3 : Row) : Row :=
  added t (mods 5) g3 (swiglu (modulated t g2 (mods 3) (mods 4)) wg wu wd)

end Cert.Mix
-- ==== Proof.MixPay.lean ====
/- The even layer's output projection: each stored value of the body, read at an entry. -/
module

public import proofs.«01_k».proof.Proof.MixSpec
public import proofs.«01_k».proof.Proof.Gen.Kernel2Ideal.Skeleton
public import Idealize.ShloMosaic.Lib.Pointwise

@[expose] public section

set_option maxRecDepth 16384

noncomputable section

namespace Cert.Kernel2Ideal.MixRows

open Idealize.ShloMosaic
open Cert.Kernel2Ideal Cert.Kernel2Ideal.Gen Cert.Mix
open scoped BigOperators

theorem pay12_apply (v47 : FVec Ideal S6x1024 .f32) (v62 : FVec Ideal S256x1024 .f32) (v78 : Vec Ideal S1x256x1024 .f32) (v81 : Vec Ideal S1x1024 .f32)
    (r : Fin 256) (o : Fin 1024) :
    k0_pay12 v47 v62 v78 v81 (ix2 r o) = added (fun o => v78 (ix3 (0 : Fin 1) r o)) (fun o => v47 (ix2 (2 : Fin 6) o)) (fun o => v81 (ix2 (0 : Fin 1) o)) (fun o => v62 (ix2 r o)) o := by
  pointwise [k0_pay12, added, normed, rootScale]

theorem pay16_apply (v163 : FVec Ideal S256x1024 .bf16) (v177 v182 : Vec Ideal S1024x2816 .bf16) (v187 : Vec Ideal S2816x1024 .bf16) (r : Fin 256) (o : Fin 1024) :
    k0_pay16 v163 v177 v182 v187 (ix2 r o) = swiglu (fun o => v163 (ix2 r o)) (fun i f => v177 (ix2 i f)) (fun i f => v182 (ix2 i f)) (fun f o => v187 (ix2 f o)) o := by
  pointwise [k0_pay16, swiglu, act]

theorem pay13_apply (v47 : FVec Ideal S6x1024 .f32) (v68 : FVec Ideal S256x512 .bf16) (v73 : FVec Ideal S256x1024 .f32) (v74 : Vec Ideal S512x1024 .bf16)
    (v98 : Vec Ideal S1x256x1024 .f32) (v101 : Vec Ideal S1x1024 .f32) (r : Fin 256) (o : Fin 1024) :
    k0_pay13 v47 v68 v73 v74 v98 v101 (ix2 r o)
      = added (fun o => v98 (ix3 (0 : Fin 1) r o)) (fun o => v47 (ix2 (2 : Fin 6) o)) (fun o => v101 (ix2 (0 : Fin 1) o))
          (fun o => v73 (ix2 r o) + ∑ i : Fin 512, v68 (ix2 r i) * v74 (ix2 i o)) o := by
  pointwise [k0_pay13, added, normed, rootScale]

theorem pay14_apply (v47 : FVec Ideal S6x1024 .f32) (v97 : FVec Ideal S256x1024 .f32) (v118 : Vec Ideal S1x1024 .f32) (r : Fin 256) (o : Fin 1024) :
    k0_pay14 v47 v97 v118 (ix2 r o) = modulated (fun o => v97 (ix2 r o)) (fun o => v118 (ix2 (0 : Fin 1) o)) (fun o => v47 (ix2 (3 : Fin 6) o)) (fun o => v47 (ix2 (4 : Fin 6) o)) o := by
  pointwise [k0_pay14, modulated, normed, rootScale]

theorem pay15_eq : @k0_pay15 = @k0_pay14 := rfl

theorem pay19_apply (v140 : FVec Ideal S256x1024 .bf16) (v164 v169 : Vec Ideal S1024x2816 .bf16) (v174 : Vec Ideal S2816x1024 .bf16) (r : Fin 256) (o : Fin 1024) :
    k0_pay19 v140 v164 v169 v174 (ix2 r o)
      = k0_pay16 v140 v164 v169 v174 (ix2 r o) * rootScale (fun o => k0_pay16 v140 v164 v169 v174 (ix2 r o)) := by
  pointwise [k0_pay19, k0_pay16, rootScale]

theorem pay1_apply (v97 : FVec Ideal S256x1024 .f32) (v190 v192 : FVec Ideal S1x1024 .f32) (v202 : FVec Ideal S256x1024 .f32) (r : Fin 256) (o : Fin 1024) :
    k0_pay1 v97 v190 v192 v202 (ix3 (0 : Fin 1) r o) = v97 (ix2 r o) + v190 (ix2 (0 : Fin 1) o) * (v202 (ix2 r o) * v192 (ix2 (0 : Fin 1) o)) := by
  pointwise [k0_pay1]

theorem pay2_apply (v47 : FVec Ideal S6x1024 .f32) (v117 v189 : FVec Ideal S256x1024 .f32) (v212 : Vec Ideal S1x1024 .f32) (r : Fin 256) (o : Fin 1024) :
    k0_pay2 v47 v117 v189 v212 (ix3 (0 : Fin 1) r o)
      = added (fun o => v117 (ix2 r o)) (fun o => v47 (ix2 (5 : Fin 6) o)) (fun o => v212 (ix2 (0 : Fin 1) o)) (fun o => v189 (ix2 r o)) o := by
  pointwise [k0_pay2, added, normed, rootScale]

theorem pay17_apply (v47 : FVec Ideal S6x1024 .f32) (o : Fin 1024) : k0_pay17 v47 (ix2 (0 : Fin 1) o) = v47 (ix2 (5 : Fin 6) o) := by
  pointwise [k0_pay17]

theorem pay18_apply (v : Vec Ideal S1x1024 .f32) (o : Fin 1024) : k0_pay18 v (ix2 (0 : Fin 1) o) = v (ix2 (0 : Fin 1) o) := by
  pointwise [k0_pay18]

theorem pay8_apply (v : Vec Ideal S1x6x1024 .f32) (k : Fin 6) (o : Fin 1024) : k0_pay8 v (ix2 k o) = v (ix3 (0 : Fin 1) k o) := by
  pointwise [k0_pay8]

theorem pay11_apply (v69 : Vec Ideal S1x256x512 .bf16) (v71 : Vec Ideal S512x1024 .bf16) (r : Fin 256) (o : Fin 1024) :
    k0_pay11 v69 v71 (ix2 r o) = ∑ i : Fin 512, v69 (ix3 (0 : Fin 1) r i) * v71 (ix2 i o) := by
  pointwise [k0_pay11]

theorem pay10_apply (v33 : FVec Ideal S512x512 .f32) (v34 : Vec Ideal S3x512 .f32) (v37 v40 : FVec Ideal S512x512 .f32) (v63 : Vec Ideal S1x256x512 .bf16) (r : Fin 256) (k : Fin 512) :
    k0_pay10 v33 v34 v37 v40 v63 (ix2 r k)
      = v63 (ix3 (0 : Fin 1) r k) * (v37 (ix2 (⟨256 + r.val, by omega⟩ : Fin 512) k) + v40 (ix2 (⟨256 + r.val, by omega⟩ : Fin 512) k)
          + v34 (ix2 (2 : Fin 3) k) * v33 (ix2 (⟨256 + r.val, by omega⟩ : Fin 512) k)) := by
  pointwise [k0_pay10, k0_pay7]

theorem pay9_apply (v33 : FVec Ideal S512x512 .f32) (v34 : Vec Ideal S3x512 .f32) (v37 v40 : FVec Ideal S512x512 .f32) (v48 v54 : Vec Ideal S1x256x512 .bf16)
    (v56 v59 : Vec Ideal S512x1024 .bf16) (r : Fin 256) (o : Fin 1024) :
    k0_pay9 v33 v34 v37 v40 v48 v54 v56 v59 (ix2 r o)
      = (∑ i : Fin 512, v54 (ix3 (0 : Fin 1) r i) * v56 (ix2 i o))
        + ∑ k : Fin 512, v48 (ix3 (0 : Fin 1) r k) * (v37 (ix2 (⟨r.val, by omega⟩ : Fin 512) k) + v40 (ix2 (⟨r.val, by omega⟩ : Fin 512) k)
            + v34 (ix2 (2 : Fin 3) k) * v33 (ix2 (⟨r.val, by omega⟩ : Fin 512) k)) * v59 (ix2 k o) := by
  pointwise [k0_pay9, k0_pay7]

theorem pay6_apply (v0 : Vec Ideal S1x512x512 .bf16) (v34 : Vec Ideal S3x512 .f32) (r k : Fin 512) :
    k0_pay6 v0 v34 (ix2 r k) = v34 (ix2 (1 : Fin 3) k) * v0 (ix3 (0 : Fin 1) r k) := by
  pointwise [k0_pay6, k0_pay3]

/-- Choosing by a comparison of two small words is choosing by the numbers they hold. -/
theorem select_eq {α : Type} (r c : Nat) (hr : r < 4294967296) (hc : c < 4294967296) (x y : α) :
    Scalar.select (IntOp.cmpi CmpIPredicate.eq (BitVec.ofNat 32 r) (BitVec.ofNat 32 c)) x y = if r = c then x else y := by
  have e : IntOp.cmpi CmpIPredicate.eq (BitVec.ofNat 32 r) (BitVec.ofNat 32 c) = BitVec.ofBool (decide (r = c)) := by
    show BitVec.ofBool (BitVec.ofNat 32 r == BitVec.ofNat 32 c) = _
    congr 1
    rw [Bool.eq_iff_iff, beq_iff_eq, decide_eq_true_iff]
    constructor
    · intro h
      have := congrArg BitVec.toNat h
      simpa [Nat.mod_eq_of_lt hr, Nat.mod_eq_of_lt hc] using this
    · rintro rfl; rfl
  rw [e]
  by_cases h : r = c
  · rw [if_pos h, decide_eq_true h]; rfl
  · rw [if_neg h, decide_eq_false h]; rfl

/-- The factor one or nothing at the first tile. -/
theorem first_factor (a : Fin 16) :
    (((((Scalar.extui (Scalar.cmpi CmpIPredicate.sgt (BitVec.ofNat 32 a.val) 0#32) : BitVec 32).toInt : Int) : ℝ) : EReal)) = if 0 < a.val then 1 else 0 := by
  have e : ∀ a : Fin 16, (Scalar.extui (Scalar.cmpi CmpIPredicate.sgt (BitVec.ofNat 32 a.val) 0#32) : BitVec 32).toInt = if 0 < a.val then 1 else 0 := by decide
  rw [e a]
  split <;> simp

/-- The factor one or nothing at the last tile. -/
theorem last_factor (a : Fin 16) :
    (((((Scalar.extui (Scalar.cmpi CmpIPredicate.slt (BitVec.ofNat 32 a.val) 15#32) : BitVec 32).toInt : Int) : ℝ) : EReal)) = if a.val < 15 then 1 else 0 := by
  have e : ∀ a : Fin 16, (Scalar.extui (Scalar.cmpi CmpIPredicate.slt (BitVec.ofNat 32 a.val) 15#32) : BitVec 32).toInt = if a.val < 15 then 1 else 0 := by decide
  rw [e a]
  split <;> simp

theorem pay5_apply (i : grid0.Coords) (v0 : Vec Ideal S1x512x512 .bf16) (v3 : Vec Ideal S1x16x512 .bf16) (v34 : Vec Ideal S3x512 .f32) (r k : Fin 512) :
    k0_pay5 i v0 v3 v34 (ix2 r k) = v34 (ix2 (0 : Fin 3) k) * (if r.val = 0 then v3 (ix3 (0 : Fin 1) (15 : Fin 16) k) * (if 0 < (i 1).val then 1 else 0) else v0 (ix3 (0 : Fin 1) (⟨(r.val - 1), by omega⟩ : Fin 512) k)) := by
  pointwise [k0_pay5, k0_pay3]
  rw [select_eq r.val 0 (by omega) (by omega), first_factor (i 1)]
  congr 1
  split
  · rfl
  · rename_i h
    congr 2
    refine Fin.ext ?_
    show (r.val + 512 - 1) % 512 = r.val - 1
    omega

theorem pay4_apply (i : grid0.Coords) (v0 : Vec Ideal S1x512x512 .bf16) (v12 : Vec Ideal S1x16x512 .bf16) (r k : Fin 512) :
    k0_pay4 i v0 v12 (ix2 r k) = (if r.val = 511 then v12 (ix3 (0 : Fin 1) (0 : Fin 16) k) * (if (i 1).val < 15 then 1 else 0) else v0 (ix3 (0 : Fin 1) (⟨(r.val + 1) % 512, by omega⟩ : Fin 512) k)) := by
  pointwise [k0_pay4, k0_pay3]
  rw [select_eq r.val 511 (by omega) (by omega), last_factor (i 1)]
  split <;> rfl

end Cert.Kernel2Ideal.MixRows
-- ==== Proof.MixBlock.lean ====
/- The even layer's output projection: the block a grid point leaves, row by row. -/
module

public import proofs.«01_k».proof.Proof.MixPay
public import proofs.«01_k».proof.Proof.Gen.Kernel2Ideal.Frame
public import Idealize.ShloMosaic.Lib.ValueLayout
public import Idealize.ShloMosaic.Lib.Pipeline.ValueKit

@[expose] public section

set_option maxRecDepth 16384

noncomputable section

namespace Cert.Kernel2Ideal.MixRows

open Idealize.ShloMosaic
open Cert.Kernel2Ideal Cert.Kernel2Ideal.Gen Cert.Mix
open scoped BigOperators

theorem ld4 (x : Vec Ideal S1x512x512 .bf16) (r : Fin 256) (k : Fin 512) : View.ld x r0_4 (ix3 (0 : Fin 1) r k) = x (ix3 (0 : Fin 1) (⟨r.val, by omega⟩ : Fin 512) k) := by
  pointwise [r0_4]
theorem ld7 (x : Vec Ideal S1x512x512 .bf16) (r : Fin 256) (k : Fin 512) : View.ld x r0_7 (ix3 (0 : Fin 1) r k) = x (ix3 (0 : Fin 1) (⟨256 + r.val, by omega⟩ : Fin 512) k) := by
  pointwise [r0_7]
theorem ld8 (x : Vec Ideal S1x512x1024 .f32) (r : Fin 256) (k : Fin 1024) : View.ld x r0_8 (ix3 (0 : Fin 1) r k) = x (ix3 (0 : Fin 1) (⟨r.val, by omega⟩ : Fin 512) k) := by
  pointwise [r0_8]
theorem ld10 (x : Vec Ideal S1x512x1024 .f32) (r : Fin 256) (k : Fin 1024) : View.ld x r0_10 (ix3 (0 : Fin 1) r k) = x (ix3 (0 : Fin 1) (⟨256 + r.val, by omega⟩ : Fin 512) k) := by
  pointwise [r0_10]
theorem ld5 (x : Vec Ideal S1024x1024 .bf16) (i : Fin 512) (o : Fin 1024) : View.ld x r0_5 (ix2 i o) = x (ix2 (⟨i.val, by omega⟩ : Fin 1024) o) := by
  pointwise [r0_5]
theorem ld6 (x : Vec Ideal S1024x1024 .bf16) (i : Fin 512) (o : Fin 1024) : View.ld x r0_6 (ix2 i o) = x (ix2 (⟨512 + i.val, by omega⟩ : Fin 1024) o) := by
  pointwise [r0_6]
theorem ld0 (x : Vec Ideal S1x512x512 .bf16) (r k : Fin 512) : View.ld x r0_0 (ix3 (0 : Fin 1) r k) = x (ix3 (0 : Fin 1) r k) := by
  pointwise [r0_0]
theorem ld1 (x : Vec Ideal S1x16x512 .bf16) (r : Fin 16) (k : Fin 512) : View.ld x r0_1 (ix3 (0 : Fin 1) r k) = x (ix3 (0 : Fin 1) r k) := by
  pointwise [r0_1]
theorem ld2 (x : Vec Ideal S3x512 .f32) (r : Fin 3) (k : Fin 512) : View.ld x r0_2 (ix2 r k) = x (ix2 r k) := by
  pointwise [r0_2]
theorem ld3 (x : Vec Ideal S1x6x1024 .f32) (r : Fin 6) (k : Fin 1024) : View.ld x r0_3 (ix3 (0 : Fin 1) r k) = x (ix3 (0 : Fin 1) r k) := by
  pointwise [r0_3]
theorem ld9 (x : Vec Ideal S1x1024 .f32) (k : Fin 1024) : View.ld x r0_9 (ix2 (0 : Fin 1) k) = x (ix2 (0 : Fin 1) k) := by
  pointwise [r0_9]
theorem ld11 (x : Vec Ideal S1024x2816 .bf16) (r : Fin 1024) (k : Fin 2816) : View.ld x r0_11 (ix2 r k) = x (ix2 r k) := by
  pointwise [r0_11]
theorem ld12 (x : Vec Ideal S2816x1024 .bf16) (r : Fin 2816) (k : Fin 1024) : View.ld x r0_12 (ix2 r k) = x (ix2 r k) := by
  pointwise [r0_12]

/-- The channels of the row before row `r` of a block, from the block and the last row of the piece before it. -/
def before (i : grid0.Coords) (x4 : Vec Ideal S1x512x512 .bf16) (x5 : Vec Ideal S1x16x512 .bf16) (r : Fin 512) (k : Fin 512) : EReal :=
  if r.val = 0 then x5 (ix3 (0 : Fin 1) (15 : Fin 16) k) * (if 0 < (i 1).val then 1 else 0) else x4 (ix3 (0 : Fin 1) (⟨(r.val - 1), by omega⟩ : Fin 512) k)

/-- The channels of the row after row `r` of a block, from the block and the first row of the piece after it. -/
def after (i : grid0.Coords) (x4 : Vec Ideal S1x512x512 .bf16) (x6 : Vec Ideal S1x16x512 .bf16) (r : Fin 512) (k : Fin 512) : EReal :=
  if r.val = 511 then x6 (ix3 (0 : Fin 1) (0 : Fin 16) k) * (if (i 1).val < 15 then 1 else 0) else x4 (ix3 (0 : Fin 1) (⟨(r.val + 1) % 512, by omega⟩ : Fin 512) k)

/-- Row `r` of a block after the mixing residual. -/
def midRow (i : grid0.Coords) (x0 : Vec Ideal S1x512x1024 .f32) (x1 : Vec Ideal S1x6x1024 .f32) (x2 x3 x4 : Vec Ideal S1x512x512 .bf16) (x5 x6 : Vec Ideal S1x16x512 .bf16) (x7 : Vec Ideal S3x512 .f32) (x8 : Vec Ideal S1024x1024 .bf16) (x9 : Vec Ideal S1x1024 .f32) (r : Fin 512) : Row :=
  added (fun o => x0 (ix3 (0 : Fin 1) r o)) (fun o => x1 (ix3 (0 : Fin 1) (2 : Fin 6) o)) (fun o => x9 (ix2 (0 : Fin 1) o))
    (projected (fun k => x2 (ix3 (0 : Fin 1) r k)) (conv (fun t k => x7 (ix2 t k)) (fun k => x3 (ix3 (0 : Fin 1) r k)) (before i x4 x5 r) (fun k => x4 (ix3 (0 : Fin 1) r k)) (after i x4 x6 r)) (fun j o => x8 (ix2 j o)))

/-- A row after the dense SwiGLU's residual. -/
def outRow (t : Row) (x1 : Vec Ideal S1x6x1024 .f32) (x10 : Vec Ideal S1x1024 .f32) (x11 x12 : Vec Ideal S1024x2816 .bf16) (x13 : Vec Ideal S2816x1024 .bf16) (x14 : Vec Ideal S1x1024 .f32) : Row :=
  added t (fun o => x1 (ix3 (0 : Fin 1) (5 : Fin 6) o)) (fun o => x14 (ix2 (0 : Fin 1) o))
    (swiglu (modulated t (fun o => x10 (ix2 (0 : Fin 1) o)) (fun o => x1 (ix3 (0 : Fin 1) (3 : Fin 6) o)) (fun o => x1 (ix3 (0 : Fin 1) (4 : Fin 6) o)))
      (fun j f => x11 (ix2 j f)) (fun j f => x12 (ix2 j f)) (fun f o => x13 (ix2 f o)))

section
variable (i : grid0.Coords) (x0 : Vec Ideal S1x512x1024 .f32) (x1 : Vec Ideal S1x6x1024 .f32) (x2 x3 x4 : Vec Ideal S1x512x512 .bf16) (x5 x6 : Vec Ideal S1x16x512 .bf16) (x7 : Vec Ideal S3x512 .f32) (x8 : Vec Ideal S1024x1024 .bf16) (x9 x10 : Vec Ideal S1x1024 .f32) (x11 x12 : Vec Ideal S1024x2816 .bf16) (x13 : Vec Ideal S2816x1024 .bf16) (x14 : Vec Ideal S1x1024 .f32)

theorem mods_apply (k : Fin 6) (o : Fin 1024) : k0_pay23 i x0 x1 x2 x3 x4 x5 x6 x7 x8 x9 x10 x11 x12 x13 x14 (ix2 k o) = x1 (ix3 (0 : Fin 1) k o) := by
  unfold k0_pay23
  rw [pay8_apply, ld3]

theorem after_apply (r k : Fin 512) : k0_pay20 i x0 x1 x2 x3 x4 x5 x6 x7 x8 x9 x10 x11 x12 x13 x14 (ix2 r k) = after i x4 x6 r k := by
  unfold k0_pay20 after
  rw [pay4_apply, ld1, ld0]

theorem before_apply (r k : Fin 512) : k0_pay21 i x0 x1 x2 x3 x4 x5 x6 x7 x8 x9 x10 x11 x12 x13 x14 (ix2 r k) = x7 (ix2 (0 : Fin 3) k) * before i x4 x5 r k := by
  unfold k0_pay21 before
  rw [pay5_apply, ld1, ld0, ld2]

theorem here_apply (r k : Fin 512) : k0_pay22 i x0 x1 x2 x3 x4 x5 x6 x7 x8 x9 x10 x11 x12 x13 x14 (ix2 r k) = x7 (ix2 (1 : Fin 3) k) * x4 (ix3 (0 : Fin 1) r k) := by
  unfold k0_pay22
  rw [pay6_apply, ld0, ld2]

theorem mid_low (r : Fin 256) (o : Fin 1024) : k0_pay24 i x0 x1 x2 x3 x4 x5 x6 x7 x8 x9 x10 x11 x12 x13 x14 (ix2 r o)
    = midRow i x0 x1 x2 x3 x4 x5 x6 x7 x8 x9 (⟨r.val, by omega⟩ : Fin 512) o := by
  unfold k0_pay24 midRow
  rw [pay12_apply]
  simp only [pay9_apply, mods_apply, ld8, ld9, ld4, ld5, ld6, ld2, before_apply, here_apply, after_apply]
  pointwise []
  rfl

theorem mid_high (r : Fin 256) (o : Fin 1024) : k0_pay25 i x0 x1 x2 x3 x4 x5 x6 x7 x8 x9 x10 x11 x12 x13 x14 (ix2 r o)
    = midRow i x0 x1 x2 x3 x4 x5 x6 x7 x8 x9 (⟨256 + r.val, by omega⟩ : Fin 512) o := by
  unfold k0_pay25 midRow
  rw [pay13_apply]
  simp only [pay10_apply, pay11_apply, mods_apply, ld10, ld9, ld7, ld5, ld6, ld2, before_apply, here_apply, after_apply]
  pointwise []
  rfl

theorem out_apply (r : Fin 512) (o : Fin 1024) : out0_15 i x0 x1 x2 x3 x4 x5 x6 x7 x8 x9 x10 x11 x12 x13 x14 (ix3 (0 : Fin 1) r o)
    = outRow (midRow i x0 x1 x2 x3 x4 x5 x6 x7 x8 x9 r) x1 x10 x11 x12 x13 x14 o := by
  have hlow : ∀ (q : Fin 256) (o : Fin 1024), k0_pay1 (k0_pay24 i x0 x1 x2 x3 x4 x5 x6 x7 x8 x9 x10 x11 x12 x13 x14)
      (k0_pay17 (k0_pay23 i x0 x1 x2 x3 x4 x5 x6 x7 x8 x9 x10 x11 x12 x13 x14)) (k0_pay18 (View.ld x14 r0_9))
      (k0_pay19 (k0_pay14 (k0_pay23 i x0 x1 x2 x3 x4 x5 x6 x7 x8 x9 x10 x11 x12 x13 x14)
        (k0_pay24 i x0 x1 x2 x3 x4 x5 x6 x7 x8 x9 x10 x11 x12 x13 x14) (View.ld x10 r0_9)) (View.ld x11 r0_11) (View.ld x12 r0_11) (View.ld x13 r0_12)) (ix3 (0 : Fin 1) q o)
      = outRow (midRow i x0 x1 x2 x3 x4 x5 x6 x7 x8 x9 (⟨q.val, by omega⟩ : Fin 512)) x1 x10 x11 x12 x13 x14 o := by
    intro q o
    rw [pay1_apply, pay17_apply, pay18_apply, pay19_apply]
    simp only [pay16_apply, pay14_apply, mods_apply, mid_low]
    pointwise []
    rfl
  have hhigh : ∀ (q : Fin 256) (o : Fin 1024), k0_pay2 (k0_pay23 i x0 x1 x2 x3 x4 x5 x6 x7 x8 x9 x10 x11 x12 x13 x14)
      (k0_pay25 i x0 x1 x2 x3 x4 x5 x6 x7 x8 x9 x10 x11 x12 x13 x14)
      (k0_pay16 (k0_pay15 (k0_pay23 i x0 x1 x2 x3 x4 x5 x6 x7 x8 x9 x10 x11 x12 x13 x14)
        (k0_pay25 i x0 x1 x2 x3 x4 x5 x6 x7 x8 x9 x10 x11 x12 x13 x14) (View.ld x10 r0_9)) (View.ld x11 r0_11) (View.ld x12 r0_11) (View.ld x13 r0_12))
      (View.ld x14 r0_9) (ix3 (0 : Fin 1) q o)
      = outRow (midRow i x0 x1 x2 x3 x4 x5 x6 x7 x8 x9 (⟨256 + q.val, by omega⟩ : Fin 512)) x1 x10 x11 x12 x13 x14 o := by
    intro q o
    rw [pay2_apply]
    simp only [pay15_eq, pay16_apply, pay14_apply, mods_apply, mid_high]
    pointwise []
    rfl
  unfold out0_15
  generalize hy : ix3 (0 : Fin 1) r o = y
  have hr : (y 1).val = r.val := by rw [← hy]; rfl
  have ho : (y 2).val = o.val := by rw [← hy]; rfl
  canon_tiles x h using cover0_15 _ _ y
  · have e : x = ix3 (0 : Fin 1) (⟨r.val - 256, by omega⟩ : Fin 256) o :=
      funext fun b => Fin.ext (match b with
        | ⟨0, _⟩ => by show (x 0).val = 0; omega
        | ⟨1, _⟩ => by show (x 1).val = r.val - 256; omega
        | ⟨2, _⟩ => by show (x 2).val = o.val; omega)
    rw [e, hhigh]
    have e2 : (⟨256 + (r.val - 256), by omega⟩ : Fin 512) = r := Fin.ext (by show 256 + (r.val - 256) = r.val; omega)
    exact congrArg (fun r => outRow (midRow i x0 x1 x2 x3 x4 x5 x6 x7 x8 x9 r) x1 x10 x11 x12 x13 x14 o) e2
  · have e : x = ix3 (0 : Fin 1) (⟨r.val, by omega⟩ : Fin 256) o :=
      funext fun b => Fin.ext (match b with
        | ⟨0, _⟩ => by show (x 0).val = 0; omega
        | ⟨1, _⟩ => by show (x 1).val = r.val; omega
        | ⟨2, _⟩ => by show (x 2).val = o.val; omega)
    rw [e, hlow]
end

end Cert.Kernel2Ideal.MixRows
-- ==== Proof.MixValue.lean ====
/- The even layer's output projection: the array after the run, as one function of the arguments. -/
module

public import proofs.«01_k».proof.Proof.MixBlock
public import proofs.«01_k».proof.Proof.Gen.Kernel2Ideal.Value
public import Idealize.ShloMosaic.Lib.StableHlo.RunRead

@[expose] public section

set_option maxRecDepth 16384

noncomputable section

namespace Cert.Kernel2Ideal.MixRows

open Idealize.ShloMosaic Idealize.ShloMosaic.TcCoe
open Cert.Kernel2Ideal Cert.Kernel2Ideal.Gen Cert.Mix
open scoped BigOperators

variable (m : (ℓ : Loc nD τ sig) → Buf (Elt Ideal) ℓ) (c : Dev nD)

/-! ## The arguments -/

abbrev argX : Vec Ideal S4x8192x1024 .f32 := m ((c : Thread nD τ).loc main_arg0)
abbrev argMods : Vec Ideal S8x6x1024 .f32 := m ((c : Thread nD τ).loc main_arg1)
abbrev argAttn : Vec Ideal S4x8192x512 .bf16 := m ((c : Thread nD τ).loc main_arg2)
abbrev argGate : Vec Ideal S4x8192x512 .bf16 := m ((c : Thread nD τ).loc main_arg3)
abbrev argZ : Vec Ideal S4x8192x512 .bf16 := m ((c : Thread nD τ).loc main_arg4)
abbrev argTaps : Vec Ideal S3x512 .f32 := m ((c : Thread nD τ).loc main_arg5)
abbrev argOut : Vec Ideal S1024x1024 .f32 := m ((c : Thread nD τ).loc main_arg6)
abbrev argPost : Vec Ideal S1024 .f32 := m ((c : Thread nD τ).loc main_arg7)
abbrev argPre : Vec Ideal S1024 .f32 := m ((c : Thread nD τ).loc main_arg8)
abbrev argWg : Vec Ideal S1024x2816 .f32 := m ((c : Thread nD τ).loc main_arg9)
abbrev argWu : Vec Ideal S1024x2816 .f32 := m ((c : Thread nD τ).loc main_arg10)
abbrev argWd : Vec Ideal S2816x1024 .f32 := m ((c : Thread nD τ).loc main_arg11)
abbrev argEnd : Vec Ideal S1024 .f32 := m ((c : Thread nD τ).loc main_arg12)

/-! ## What the region finds -/

theorem V_out : V m c main_v0 = truncf (F := Ideal) .bf16 (argOut m c) bitsLt_bf16_f32 := by
  show StableHlo.after hostOps0 _ (Proc.devRef .tc main_v0) = _
  after_reads_simp
  all_goals rfl

theorem V_post : V m c main_v1 = shapeCast S1x1024 (argPost m c) shapeCasts_S1024_S1x1024 := by
  show StableHlo.after hostOps0 _ (Proc.devRef .tc main_v1) = _
  after_reads_simp
  all_goals rfl

theorem V_pre : V m c main_v2 = shapeCast S1x1024 (argPre m c) shapeCasts_S1024_S1x1024 := by
  show StableHlo.after hostOps0 _ (Proc.devRef .tc main_v2) = _
  after_reads_simp
  all_goals rfl

theorem V_wg : V m c main_v3 = truncf (F := Ideal) .bf16 (argWg m c) bitsLt_bf16_f32 := by
  show StableHlo.after hostOps0 _ (Proc.devRef .tc main_v3) = _
  after_reads_simp
  all_goals rfl

theorem V_wu : V m c main_v4 = truncf (F := Ideal) .bf16 (argWu m c) bitsLt_bf16_f32 := by
  show StableHlo.after hostOps0 _ (Proc.devRef .tc main_v4) = _
  after_reads_simp
  all_goals rfl

theorem V_wd : V m c main_v5 = truncf (F := Ideal) .bf16 (argWd m c) bitsLt_bf16_f32 := by
  show StableHlo.after hostOps0 _ (Proc.devRef .tc main_v5) = _
  after_reads_simp
  all_goals rfl

theorem V_end : V m c main_v6 = shapeCast S1x1024 (argEnd m c) shapeCasts_S1024_S1x1024 := by
  show StableHlo.after hostOps0 _ (Proc.devRef .tc main_v6) = _
  after_reads_simp
  all_goals rfl

/-! ## The blocks at coordinates -/

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![(grid0.coords t 0).val, (grid0.coords t 1).val, 0] := (by decide +kernel : ∀ t : Fin grid0.N, _)
theorem index3 : ∀ t : Fin cfg0.N, win0_3.index t = ![(grid0.coords t 0).val, (grid0.coords t 1).val, 0] := (by decide +kernel : ∀ t : Fin grid0.N, _)
theorem index4 : ∀ t : Fin cfg0.N, win0_4.index t = ![(grid0.coords t 0).val, (grid0.coords t 1).val, 0] := (by decide +kernel : ∀ t : Fin grid0.N, _)
theorem index5 : ∀ t : Fin cfg0.N, win0_5.index t = ![(grid0.coords t 0).val, (grid0.coords t 1).val * 32 - 1, 0] := (by decide +kernel : ∀ t : Fin grid0.N, _)
theorem index6 : ∀ t : Fin cfg0.N, win0_6.index t = ![(grid0.coords t 0).val, min ((grid0.coords t 1).val * 32 + 32) 511, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![(grid0.coords t 0).val, (grid0.coords t 1).val, 0] := (by decide +kernel : ∀ t : Fin grid0.N, _)

variable (t : Fin cfg0.N)

theorem x_at (B : Fin 4) (N : Fin 8192) (r : Fin 512) (o : Fin 1024) (hB : B.val = (grid0.coords t 0).val) (hN : N.val = (grid0.coords t 1).val * 512 + r.val) :
    (show Vec Ideal S1x512x1024 .f32 from iblk m c 0 t) (ix3 (0 : Fin 1) r o) = argX m c (ix3 B N o) := by
  refine (?_ : iblk m c 0 t _ = V m c main_arg0 _).trans (congrFun (V_main_arg0 m c) _)
  refine congrArg (V m c main_arg0) (funext fun b => Fin.ext ?_)
  refine (Pipeline.Window.rect_emb_val (cfg0.win 0) t (ix3 (0 : Fin 1) r o) b).trans ?_
  rw [show (cfg0.win 0).index t = _ from index0 t]
  match b with
  | ⟨0, _⟩ => show (grid0.coords t 0).val * 1 + 0 = B.val; omega
  | ⟨1, _⟩ => exact hN.symm
  | ⟨2, _⟩ => show 0 * 1024 + o.val = o.val; omega

theorem mods_at (B : Fin 8) (k : Fin 6) (o : Fin 1024) (hB : B.val = (grid0.coords t 0).val) :
    (show Vec Ideal S1x6x1024 .f32 from iblk m c 1 t) (ix3 (0 : Fin 1) k o) = argMods m c (ix3 B k o) := by
  refine (?_ : iblk m c 1 t _ = V m c main_arg1 _).trans (congrFun (V_main_arg1 m c) _)
  refine congrArg (V m c main_arg1) (funext fun b => Fin.ext ?_)
  refine (Pipeline.Window.rect_emb_val (cfg0.win 1) t (ix3 (0 : Fin 1) k o) b).trans ?_
  rw [show (cfg0.win 1).index t = _ from index1 t]
  match b with
  | ⟨0, _⟩ => show (grid0.coords t 0).val * 1 + 0 = B.val; omega
  | ⟨1, _⟩ => show 0 * 6 + k.val = k.val; omega
  | ⟨2, _⟩ => show 0 * 1024 + o.val = o.val; omega

theorem attn_at (B : Fin 4) (N : Fin 8192) (r : Fin 512) (o : Fin 512) (hB : B.val = (grid0.coords t 0).val) (hN : N.val = (grid0.coords t 1).val * 512 + r.val) :
    (show Vec Ideal S1x512x512 .bf16 from iblk m c 2 t) (ix3 (0 : Fin 1) r o) = argAttn m c (ix3 B N o) := by
  refine (?_ : iblk m c 2 t _ = V m c main_arg2 _).trans (congrFun (V_main_arg2 m c) _)
  refine congrArg (V m c main_arg2) (funext fun b => Fin.ext ?_)
  refine (Pipeline.Window.rect_emb_val (cfg0.win 2) t (ix3 (0 : Fin 1) r o) b).trans ?_
  rw [show (cfg0.win 2).index t = _ from index2 t]
  match b with
  | ⟨0, _⟩ => show (grid0.coords t 0).val * 1 + 0 = B.val; omega
  | ⟨1, _⟩ => exact hN.symm
  | ⟨2, _⟩ => show 0 * 512 + o.val = o.val; omega

theorem gate_at (B : Fin 4) (N : Fin 8192) (r : Fin 512) (o : Fin 512) (hB : B.val = (grid0.coords t 0).val) (hN : N.val = (grid0.coords t 1).val * 512 + r.val) :
    (show Vec Ideal S1x512x512 .bf16 from iblk m c 3 t) (ix3 (0 : Fin 1) r o) = argGate m c (ix3 B N o) := by
  refine (?_ : iblk m c 3 t _ = V m c main_arg3 _).trans (congrFun (V_main_arg3 m c) _)
  refine congrArg (V m c main_arg3) (funext fun b => Fin.ext ?_)
  refine (Pipeline.Window.rect_emb_val (cfg0.win 3) t (ix3 (0 : Fin 1) r o) b).trans ?_
  rw [show (cfg0.win 3).index t = _ from index3 t]
  match b with
  | ⟨0, _⟩ => show (grid0.coords t 0).val * 1 + 0 = B.val; omega
  | ⟨1, _⟩ => exact hN.symm
  | ⟨2, _⟩ => show 0 * 512 + o.val = o.val; omega

theorem z_at (B : Fin 4) (N : Fin 8192) (r : Fin 512) (o : Fin 512) (hB : B.val = (grid0.coords t 0).val) (hN : N.val = (grid0.coords t 1).val * 512 + r.val) :
    (show Vec Ideal S1x512x512 .bf16 from iblk m c 4 t) (ix3 (0 : Fin 1) r o) = argZ m c (ix3 B N o) := by
  refine (?_ : iblk m c 4 t _ = V m c main_arg4 _).trans (congrFun (V_main_arg4 m c) _)
  refine congrArg (V m c main_arg4) (funext fun b => Fin.ext ?_)
  refine (Pipeline.Window.rect_emb_val (cfg0.win 4) t (ix3 (0 : Fin 1) r o) b).trans ?_
  rw [show (cfg0.win 4).index t = _ from index4 t]
  match b with
  | ⟨0, _⟩ => show (grid0.coords t 0).val * 1 + 0 = B.val; omega
  | ⟨1, _⟩ => exact hN.symm
  | ⟨2, _⟩ => show 0 * 512 + o.val = o.val; omega

theorem prev_at (B : Fin 4) (N : Fin 8192) (o : Fin 512) (hB : B.val = (grid0.coords t 0).val) (hN : N.val + 1 = (grid0.coords t 1).val * 512) :
    (show Vec Ideal S1x16x512 .bf16 from iblk m c 5 t) (ix3 (0 : Fin 1) (15 : Fin 16) o) = argZ m c (ix3 B N o) := by
  refine (?_ : iblk m c 5 t _ = V m c main_arg4 _).trans (congrFun (V_main_arg4 m c) _)
  refine congrArg (V m c main_arg4) (funext fun b => Fin.ext ?_)
  refine (Pipeline.Window.rect_emb_val (cfg0.win 5) t (ix3 (0 : Fin 1) (15 : Fin 16) o) b).trans ?_
  rw [show (cfg0.win 5).index t = _ from index5 t]
  match b with
  | ⟨0, _⟩ => show (grid0.coords t 0).val * 1 + 0 = B.val; omega
  | ⟨1, _⟩ => show ((grid0.coords t 1).val * 32 - 1) * 16 + 15 = N.val; omega
  | ⟨2, _⟩ => show 0 * 512 + o.val = o.val; omega

theorem next_at (B : Fin 4) (N : Fin 8192) (o : Fin 512) (hB : B.val = (grid0.coords t 0).val) (hN : N.val = (grid0.coords t 1).val * 512 + 512) :
    (show Vec Ideal S1x16x512 .bf16 from iblk m c 6 t) (ix3 (0 : Fin 1) (0 : Fin 16) o) = argZ m c (ix3 B N o) := by
  refine (?_ : iblk m c 6 t _ = V m c main_arg4 _).trans (congrFun (V_main_arg4 m c) _)
  refine congrArg (V m c main_arg4) (funext fun b => Fin.ext ?_)
  refine (Pipeline.Window.rect_emb_val (cfg0.win 6) t (ix3 (0 : Fin 1) (0 : Fin 16) o) b).trans ?_
  rw [show (cfg0.win 6).index t = _ from index6 t]
  match b with
  | ⟨0, _⟩ => show (grid0.coords t 0).val * 1 + 0 = B.val; omega
  | ⟨1, _⟩ => show min ((grid0.coords t 1).val * 32 + 32) 511 * 16 + 0 = N.val; have := N.isLt; omega
  | ⟨2, _⟩ => show 0 * 512 + o.val = o.val; omega

theorem taps_at (k : Fin 3) (o : Fin 512) : (show Vec Ideal S3x512 .f32 from iblk m c 7 t) (ix2 k o) = argTaps m c (ix2 k o) := by
  refine ((?_ : iblk m c 7 t _ = V m c main_arg5 (ix2 k o)).trans (congrFun (V_main_arg5 m c) _)).trans ?_
  · refine congrArg (V m c main_arg5) (funext fun b => Fin.ext ?_)
    refine (Pipeline.Window.rect_emb_val (cfg0.win 7) t (ix2 k o) b).trans ?_
    rw [show (cfg0.win 7).index t = _ from index7 t]
    match b with
    | ⟨0, _⟩ => show 0 * 3 + k.val = k.val; omega
    | ⟨1, _⟩ => show 0 * 512 + o.val = o.val; omega
  · pointwise []

theorem out_at (k : Fin 1024) (o : Fin 1024) : (show Vec Ideal S1024x1024 .bf16 from iblk m c 8 t) (ix2 k o) = argOut m c (ix2 k o) := by
  refine ((?_ : iblk m c 8 t _ = V m c main_v0 (ix2 k o)).trans (congrFun (V_out m c) _)).trans ?_
  · refine congrArg (V m c main_v0) (funext fun b => Fin.ext ?_)
    refine (Pipeline.Window.rect_emb_val (cfg0.win 8) t (ix2 k o) b).trans ?_
    rw [show (cfg0.win 8).index t = _ from index8 t]
    match b with
    | ⟨0, _⟩ => show 0 * 1024 + k.val = k.val; omega
    | ⟨1, _⟩ => show 0 * 1024 + o.val = o.val; omega
  · pointwise []

theorem post_at (o : Fin 1024) : (show Vec Ideal S1x1024 .f32 from iblk m c 9 t) (ix2 (0 : Fin 1) o) = argPost m c (ix1 o) := by
  refine ((?_ : iblk m c 9 t _ = V m c main_v1 (ix2 (0 : Fin 1) o)).trans (congrFun (V_post m c) _)).trans ?_
  · refine congrArg (V m c main_v1) (funext fun b => Fin.ext ?_)
    refine (Pipeline.Window.rect_emb_val (cfg0.win 9) t (ix2 (0 : Fin 1) o) b).trans ?_
    rw [show (cfg0.win 9).index t = _ from index9 t]
    match b with
    | ⟨0, _⟩ => show 0 * 1 + 0 = 0; omega
    | ⟨1, _⟩ => show 0 * 1024 + o.val = o.val; omega
  · pointwise []

theorem pre_at (o : Fin 1024) : (show Vec Ideal S1x1024 .f32 from iblk m c 10 t) (ix2 (0 : Fin 1) o) = argPre m c (ix1 o) := by
  refine ((?_ : iblk m c 10 t _ = V m c main_v2 (ix2 (0 : Fin 1) o)).trans (congrFun (V_pre m c) _)).trans ?_
  · refine congrArg (V m c main_v2) (funext fun b => Fin.ext ?_)
    refine (Pipeline.Window.rect_emb_val (cfg0.win 10) t (ix2 (0 : Fin 1) o) b).trans ?_
    rw [show (cfg0.win 10).index t = _ from index10 t]
    match b with
    | ⟨0, _⟩ => show 0 * 1 + 0 = 0; omega
    | ⟨1, _⟩ => show 0 * 1024 + o.val = o.val; omega
  · pointwise []

theorem wg_at (k : Fin 1024) (o : Fin 2816) : (show Vec Ideal S1024x2816 .bf16 from iblk m c 11 t) (ix2 k o) = argWg m c (ix2 k o) := by
  refine ((?_ : iblk m c 11 t _ = V m c main_v3 (ix2 k o)).trans (congrFun (V_wg m c) _)).trans ?_
  · refine congrArg (V m c main_v3) (funext fun b => Fin.ext ?_)
    refine (Pipeline.Window.rect_emb_val (cfg0.win 11) t (ix2 k o) b).trans ?_
    rw [show (cfg0.win 11).index t = _ from index11 t]
    match b with
    | ⟨0, _⟩ => show 0 * 1024 + k.val = k.val; omega
    | ⟨1, _⟩ => show 0 * 2816 + o.val = o.val; omega
  · pointwise []

theorem wu_at (k : Fin 1024) (o : Fin 2816) : (show Vec Ideal S1024x2816 .bf16 from iblk m c 12 t) (ix2 k o) = argWu m c (ix2 k o) := by
  refine ((?_ : iblk m c 12 t _ = V m c main_v4 (ix2 k o)).trans (congrFun (V_wu m c) _)).trans ?_
  · refine congrArg (V m c main_v4) (funext fun b => Fin.ext ?_)
    refine (Pipeline.Window.rect_emb_val (cfg0.win 12) t (ix2 k o) b).trans ?_
    rw [show (cfg0.win 12).index t = _ from index12 t]
    match b with
    | ⟨0, _⟩ => show 0 * 1024 + k.val = k.val; omega
    | ⟨1, _⟩ => show 0 * 2816 + o.val = o.val; omega
  · pointwise []

theorem wd_at (k : Fin 2816) (o : Fin 1024) : (show Vec Ideal S2816x1024 .bf16 from iblk m c 13 t) (ix2 k o) = argWd m c (ix2 k o) := by
  refine ((?_ : iblk m c 13 t _ = V m c main_v5 (ix2 k o)).trans (congrFun (V_wd m c) _)).trans ?_
  · refine congrArg (V m c main_v5) (funext fun b => Fin.ext ?_)
    refine (Pipeline.Window.rect_emb_val (cfg0.win 13) t (ix2 k o) b).trans ?_
    rw [show (cfg0.win 13).index t = _ from index13 t]
    match b with
    | ⟨0, _⟩ => show 0 * 2816 + k.val = k.val; omega
    | ⟨1, _⟩ => show 0 * 1024 + o.val = o.val; omega
  · pointwise []

theorem end_at (o : Fin 1024) : (show Vec Ideal S1x1024 .f32 from iblk m c 14 t) (ix2 (0 : Fin 1) o) = argEnd m c (ix1 o) := by
  refine ((?_ : iblk m c 14 t _ = V m c main_v6 (ix2 (0 : Fin 1) o)).trans (congrFun (V_end m c) _)).trans ?_
  · refine congrArg (V m c main_v6) (funext fun b => Fin.ext ?_)
    refine (Pipeline.Window.rect_emb_val (cfg0.win 14) t (ix2 (0 : Fin 1) o) b).trans ?_
    rw [show (cfg0.win 14).index t = _ from index14 t]
    match b with
    | ⟨0, _⟩ => show 0 * 1 + 0 = 0; omega
    | ⟨1, _⟩ => show 0 * 1024 + o.val = o.val; omega
  · pointwise []

/-! ## A block's rows and the whole array -/

theorem rows_eq (i : grid0.Coords) (x0 : Vec Ideal S1x512x1024 .f32) (x1 : Vec Ideal S1x6x1024 .f32) (x2 x3 x4 : Vec Ideal S1x512x512 .bf16) (x5 x6 : Vec Ideal S1x16x512 .bf16) (x7 : Vec Ideal S3x512 .f32) (x8 : Vec Ideal S1024x1024 .bf16) (x9 x10 : Vec Ideal S1x1024 .f32) (x11 x12 : Vec Ideal S1024x2816 .bf16) (x13 : Vec Ideal S2816x1024 .bf16) (x14 : Vec Ideal S1x1024 .f32)
    (X : Fin 8192 → Row) (M : Fin 6 → Row) (A G Z : Fin 8192 → Fin 512 → EReal) (wc : Fin 3 → Fin 512 → EReal) (wo : Fin 1024 → Row) (g1 g2 : Row) (wg wu : Fin 1024 → Fin 2816 → EReal) (wd : Fin 2816 → Row) (g3 : Row)
    (r : Fin 512) (n : Fin 8192) (h0 : ∀ o, x0 (ix3 (0 : Fin 1) r o) = X n o) (h1 : ∀ k o, x1 (ix3 (0 : Fin 1) k o) = M k o)
    (h2 : ∀ k, x2 (ix3 (0 : Fin 1) r k) = A n k) (h3 : ∀ k, x3 (ix3 (0 : Fin 1) r k) = G n k) (h4 : ∀ k, x4 (ix3 (0 : Fin 1) r k) = Z n k)
    (hb : ∀ k, before i x4 x5 r k = Cert.Mix.before Z n k) (ha : ∀ k, after i x4 x6 r k = Cert.Mix.after Z n k)
    (h7 : ∀ k o, x7 (ix2 k o) = wc k o) (h8 : ∀ k o, x8 (ix2 k o) = wo k o) (h9 : ∀ o, x9 (ix2 (0 : Fin 1) o) = g1 o) (h10 : ∀ o, x10 (ix2 (0 : Fin 1) o) = g2 o)
    (h11 : ∀ k o, x11 (ix2 k o) = wg k o) (h12 : ∀ k o, x12 (ix2 k o) = wu k o) (h13 : ∀ k o, x13 (ix2 k o) = wd k o) (h14 : ∀ o, x14 (ix2 (0 : Fin 1) o) = g3 o) :
    outRow (midRow i x0 x1 x2 x3 x4 x5 x6 x7 x8 x9 r) x1 x10 x11 x12 x13 x14 = fed (mixed X M A G Z wc wo g1 n) M g2 wg wu wd g3 := by
  unfold outRow midRow fed mixed
  simp only [h0, h1, h2, h3, h4, funext hb, funext ha, h7, h8, h9, h10, h11, h12, h13, h14]

/-- The result at batch `b` and row `n`, from the arguments. -/
def result (b : Fin 4) (n : Fin 8192) : Row :=
  fed (mixed (fun n o => argX m c (ix3 b n o)) (fun k o => argMods m c (ix3 (⟨b.val, by omega⟩ : Fin 8) k o)) (fun n k => argAttn m c (ix3 b n k)) (fun n k => argGate m c (ix3 b n k)) (fun n k => argZ m c (ix3 b n k))
      (fun k o => argTaps m c (ix2 k o)) (fun k o => argOut m c (ix2 k o)) (fun o => argPost m c (ix1 o)) n)
    (fun k o => argMods m c (ix3 (⟨b.val, by omega⟩ : Fin 8) k o)) (fun o => argPre m c (ix1 o)) (fun k o => argWg m c (ix2 k o)) (fun k o => argWu m c (ix2 k o)) (fun k o => argWd m c (ix2 k o)) (fun o => argEnd m c (ix1 o))

theorem block_row (B : Fin 4) (N : Fin 8192) (r : Fin 512) (o : Fin 1024) (hB : B.val = (grid0.coords t 0).val) (hN : N.val = (grid0.coords t 1).val * 512 + r.val) :
    (show Vec Ideal S1x512x1024 .f32 from out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix3 (0 : Fin 1) r o)
      = result m c B N o := by
  have hi : (grid0.coords t 1).val < 16 := (grid0.coords t 1).isLt
  refine (out_apply _ _ _ _ _ _ _ _ _ _ _ _ _ _ _ _ r o).trans (congrFun (rows_eq _ _ _ _ _ _ _ _ _ _ _ _ _ _ _ _ _ _ _ _ _ _ _ _ _ _ _ _ _ r N
    (fun o => x_at m c t B N r o hB hN) (fun k o => mods_at m c t _ k o hB) (fun k => attn_at m c t B N r k hB hN) (fun k => gate_at m c t B N r k hB hN) (fun k => z_at m c t B N r k hB hN)
    (fun k => ?_) (fun k => ?_) (fun k o => taps_at m c t k o) (fun k o => out_at m c t k o) (fun o => post_at m c t o) (fun o => pre_at m c t o)
    (fun k o => wg_at m c t k o) (fun k o => wu_at m c t k o) (fun k o => wd_at m c t k o) (fun o => end_at m c t o)) o)
  · unfold before Cert.Mix.before
    by_cases hr : r.val = 0
    · rw [if_pos hr]
      by_cases h0 : (grid0.coords t 1).val = 0
      · rw [if_neg (by omega), if_pos (by omega), mul_zero]
      · rw [if_pos (by omega), if_neg (by omega), mul_one]
        exact prev_at m c t B _ k hB (by show N.val - 1 + 1 = _; omega)
    · rw [if_neg hr, if_neg (by omega)]
      exact z_at m c t B _ _ k hB (by show N.val - 1 = _ + (r.val - 1); omega)
  · unfold after Cert.Mix.after
    by_cases hr : r.val = 511
    · rw [if_pos hr]
      by_cases h0 : (grid0.coords t 1).val = 15
      · rw [if_neg (by omega), dif_pos (by omega), mul_zero]
      · rw [if_pos (by omega), dif_neg (by omega), mul_one]
        exact next_at m c t B _ k hB (by show N.val + 1 = _; omega)
    · rw [if_neg hr, dif_neg (by omega)]
      exact z_at m c t B _ _ k hB (by show N.val + 1 = _ + (r.val + 1) % 512; omega)

/-- The array after the region. -/
theorem final : (dats m 0 c).arrAt 15 cfg0.N = fun i : S4x8192x1024.Idx => result m c (i 0) (i 1) (i 2) := by
  refine (dats m 0 c).arrAt_eq_of_covers 15 _ (by decide +kernel) fun t hf y => ?_
  blk_simp
  rw [after0_15]
  obtain ⟨u, r, o, rfl⟩ : ∃ (u : Fin 1) (r : Fin 512) (o : Fin 1024), y = ix3 u r o := ⟨y 0, y 1, y 2, eq_ix3 y⟩
  obtain rfl : u = 0 := Subsingleton.elim _ _
  have e0 : (((cfg0.win 15).blk t).view.emb (ix3 (0 : Fin 1) r o) 0).val = (grid0.coords t 0).val := by
    refine (Pipeline.Window.rect_emb_val (cfg0.win 15) t (ix3 (0 : Fin 1) r o) 0).trans ?_
    rw [show (cfg0.win 15).index t = _ from index15 t]
    show (grid0.coords t 0).val * 1 + 0 = _; omega
  have e1 : (((cfg0.win 15).blk t).view.emb (ix3 (0 : Fin 1) r o) 1).val = (grid0.coords t 1).val * 512 + r.val := by
    refine (Pipeline.Window.rect_emb_val (cfg0.win 15) t (ix3 (0 : Fin 1) r o) 1).trans ?_
    rw [show (cfg0.win 15).index t = _ from index15 t]
    rfl
  have e2 : (((cfg0.win 15).blk t).view.emb (ix3 (0 : Fin 1) r o) 2) = o := by
    refine Fin.ext ((Pipeline.Window.rect_emb_val (cfg0.win 15) t (ix3 (0 : Fin 1) r o) 2).trans ?_)
    rw [show (cfg0.win 15).index t = _ from index15 t]
    show 0 * 1024 + o.val = o.val; omega
  exact (block_row m c t _ _ r o e0 e1).trans (congrArg (result m c _ _) e2.symm)

end Cert.Kernel2Ideal.MixRows
-- ==== Proof.MixRef.lean ====
/- The even layer's output projection written plainly: the result, row by row. -/
module

public import proofs.«01_k».proof.Proof.MixSpec
public import proofs.«01_k».proof.Proof.Gen.Reference2Ideal.Run
public import Idealize.ShloMosaic.Lib.Pointwise

@[expose] public section

set_option maxRecDepth 16384

noncomputable section

namespace Cert.Reference2Ideal.MixRef

open Idealize.ShloMosaic Idealize.ShloMosaic.TcCoe
open Cert.Reference2Ideal Cert.Reference2Ideal.Gen Cert.Reference2Ideal.Value Cert.Mix
open scoped BigOperators

variable (V : Valuation τ sig (Elt Ideal))

abbrev argX : Vec Ideal S4x8192x1024 .f32 := V (Proc.devRef .tc main_arg0)
abbrev argMods : Vec Ideal S8x6x1024 .f32 := V (Proc.devRef .tc main_arg1)
abbrev argAttn : Vec Ideal S4x8192x512 .bf16 := V (Proc.devRef .tc main_arg2)
abbrev argGate : Vec Ideal S4x8192x512 .bf16 := V (Proc.devRef .tc main_arg3)
abbrev argZ : Vec Ideal S4x8192x512 .bf16 := V (Proc.devRef .tc main_arg4)
abbrev argTaps : Vec Ideal S3x512 .f32 := V (Proc.devRef .tc main_arg5)
abbrev argOut : Vec Ideal S1024x1024 .f32 := V (Proc.devRef .tc main_arg6)
abbrev argPost : Vec Ideal S1024 .f32 := V (Proc.devRef .tc main_arg7)
abbrev argPre : Vec Ideal S1024 .f32 := V (Proc.devRef .tc main_arg8)
abbrev argWg : Vec Ideal S1024x2816 .f32 := V (Proc.devRef .tc main_arg9)
abbrev argWu : Vec Ideal S1024x2816 .f32 := V (Proc.devRef .tc main_arg10)
abbrev argWd : Vec Ideal S2816x1024 .f32 := V (Proc.devRef .tc main_arg11)
abbrev argEnd : Vec Ideal S1024 .f32 := V (Proc.devRef .tc main_arg12)

theorem pad_apply (b : Fin 4) (p : Fin 8194) (k : Fin 512) :
    (show Vec Ideal S4x8194x512 .f32 from res_main_v19 V) (ix3 b p k) = if h : 1 ≤ p.val ∧ p.val < 8193 then argZ V (ix3 b (⟨p.val - 1, by omega⟩ : Fin 8192) k) else 0 := by
  pointwise [res_main_v19]
  by_cases h : 1 ≤ p.val ∧ p.val < 8193
  · rw [dif_pos h, dif_pos]
    intro a
    match a with
    | ⟨0, _⟩ => show 0 ≤ b.val ∧ (b.val - 0) % (0 + 1) = 0 ∧ (b.val - 0) / (0 + 1) < 4; omega
    | ⟨1, _⟩ => show 1 ≤ p.val ∧ (p.val - 1) % (0 + 1) = 0 ∧ (p.val - 1) / (0 + 1) < 8192; omega
    | ⟨2, _⟩ => show 0 ≤ k.val ∧ (k.val - 0) % (0 + 1) = 0 ∧ (k.val - 0) / (0 + 1) < 512; omega
  · rw [dif_neg h, dif_neg]
    · show (((0#32 : BitVec 32).toInt : ℝ) : EReal) = 0
      simp
    · intro h'
      have h1 : 1 ≤ p.val ∧ (p.val - 1) % (0 + 1) = 0 ∧ (p.val - 1) / (0 + 1) < 8192 := h' 1
      omega

theorem proj_apply (b : Fin 4) (n : Fin 8192) (o : Fin 1024) :
    (show Vec Ideal S4x8192x1024 .f32 from res_main_v44 V) (ix3 b n o)
      = projected (fun k => argAttn V (ix3 b n k)) (conv (fun t k => argTaps V (ix2 t k)) (fun k => argGate V (ix3 b n k))
          (fun k => (show Vec Ideal S4x8194x512 .f32 from res_main_v19 V) (ix3 b (⟨n.val, by omega⟩ : Fin 8194) k))
          (fun k => (show Vec Ideal S4x8194x512 .f32 from res_main_v19 V) (ix3 b (⟨1 + n.val, by omega⟩ : Fin 8194) k))
          (fun k => (show Vec Ideal S4x8194x512 .f32 from res_main_v19 V) (ix3 b (⟨2 + n.val, by omega⟩ : Fin 8194) k)))
          (fun j o => argOut V (ix2 j o)) o := by
  pointwise [res_main_v44, projected, conv]

theorem mid_apply (b : Fin 4) (n : Fin 8192) (o : Fin 1024) :
    (show Vec Ideal S4x8192x1024 .f32 from res_main_v60 V) (ix3 b n o)
      = added (fun o => argX V (ix3 b n o)) (fun o => argMods V (ix3 (⟨b.val, by omega⟩ : Fin 8) (2 : Fin 6) o)) (fun o => argPost V (ix1 o))
          (fun o => (show Vec Ideal S4x8192x1024 .f32 from res_main_v44 V) (ix3 b n o)) o := by
  pointwise [res_main_v60, added, normed, rootScale]

theorem mod_apply (b : Fin 4) (n : Fin 8192) (o : Fin 1024) :
    (show Vec Ideal S4x8192x1024 .f32 from res_main_v79 V) (ix3 b n o)
      = modulated (fun o => (show Vec Ideal S4x8192x1024 .f32 from res_main_v60 V) (ix3 b n o)) (fun o => argPre V (ix1 o))
          (fun o => argMods V (ix3 (⟨b.val, by omega⟩ : Fin 8) (3 : Fin 6) o)) (fun o => argMods V (ix3 (⟨b.val, by omega⟩ : Fin 8) (4 : Fin 6) o)) o := by
  pointwise [res_main_v79, modulated, normed, rootScale]

theorem glu_apply (b : Fin 4) (n : Fin 8192) (o : Fin 1024) :
    (show Vec Ideal S4x8192x1024 .f32 from res_main_v84 V) (ix3 b n o)
      = swiglu (fun o => (show Vec Ideal S4x8192x1024 .f32 from res_main_v79 V) (ix3 b n o)) (fun j f => argWg V (ix2 j f)) (fun j f => argWu V (ix2 j f)) (fun f o => argWd V (ix2 f o)) o := by
  pointwise [res_main_v84, res_main_v80, swiglu, act]
  rfl

/-- The projection with the rows before and after a row read off the padded array. -/
theorem proj_row (b : Fin 4) (n : Fin 8192) :
    (fun o => (show Vec Ideal S4x8192x1024 .f32 from res_main_v44 V) (ix3 b n o))
      = projected (fun k => argAttn V (ix3 b n k)) (conv (fun t k => argTaps V (ix2 t k)) (fun k => argGate V (ix3 b n k))
          (before (fun n k => argZ V (ix3 b n k)) n) (fun k => argZ V (ix3 b n k)) (after (fun n k => argZ V (ix3 b n k)) n))
          (fun j o => argOut V (ix2 j o)) := by
  funext o
  rw [proj_apply]
  have e0 : (fun k => (show Vec Ideal S4x8194x512 .f32 from res_main_v19 V) (ix3 b (⟨n.val, by omega⟩ : Fin 8194) k)) = before (fun n k => argZ V (ix3 b n k)) n := by
    funext k
    rw [pad_apply]
    unfold before
    by_cases h : n.val = 0
    · rw [if_pos h, dif_neg (by show ¬ (1 ≤ n.val ∧ n.val < 8193); omega)]
    · rw [if_neg h, dif_pos (by show 1 ≤ n.val ∧ n.val < 8193; omega)]
  have e1 : (fun k => (show Vec Ideal S4x8194x512 .f32 from res_main_v19 V) (ix3 b (⟨1 + n.val, by omega⟩ : Fin 8194) k)) = fun k => argZ V (ix3 b n k) := by
    funext k
    rw [pad_apply, dif_pos (by show 1 ≤ 1 + n.val ∧ 1 + n.val < 8193; omega)]
    have e : (⟨1 + n.val - 1, by omega⟩ : Fin 8192) = n := Fin.ext (by show 1 + n.val - 1 = n.val; omega)
    exact congrArg (fun n => argZ V (ix3 b n k)) e
  have e2 : (fun k => (show Vec Ideal S4x8194x512 .f32 from res_main_v19 V) (ix3 b (⟨2 + n.val, by omega⟩ : Fin 8194) k)) = after (fun n k => argZ V (ix3 b n k)) n := by
    funext k
    rw [pad_apply]
    unfold after
    by_cases h : n.val = 8191
    · rw [dif_pos h, dif_neg (by show ¬ (1 ≤ 2 + n.val ∧ 2 + n.val < 8193); omega)]
    · rw [dif_neg h, dif_pos (by show 1 ≤ 2 + n.val ∧ 2 + n.val < 8193; omega)]
      have e : (⟨2 + n.val - 1, by omega⟩ : Fin 8192) = ⟨n.val + 1, by omega⟩ := Fin.ext (by show 2 + n.val - 1 = n.val + 1; omega)
      exact congrArg (fun n => argZ V (ix3 b n k)) e
  rw [e0, e1, e2]

/-- The result at batch `b` and row `n`, from the arguments. -/
def result (b : Fin 4) (n : Fin 8192) : Row :=
  fed (mixed (fun n o => argX V (ix3 b n o)) (fun k o => argMods V (ix3 (⟨b.val, by omega⟩ : Fin 8) k o)) (fun n k => argAttn V (ix3 b n k)) (fun n k => argGate V (ix3 b n k)) (fun n k => argZ V (ix3 b n k))
      (fun k o => argTaps V (ix2 k o)) (fun k o => argOut V (ix2 k o)) (fun o => argPost V (ix1 o)) n)
    (fun k o => argMods V (ix3 (⟨b.val, by omega⟩ : Fin 8) k o)) (fun o => argPre V (ix1 o)) (fun k o => argWg V (ix2 k o)) (fun k o => argWu V (ix2 k o)) (fun k o => argWd V (ix2 k o)) (fun o => argEnd V (ix1 o))

theorem mid_row (b : Fin 4) (n : Fin 8192) :
    (fun o => (show Vec Ideal S4x8192x1024 .f32 from res_main_v60 V) (ix3 b n o))
      = mixed (fun n o => argX V (ix3 b n o)) (fun k o => argMods V (ix3 (⟨b.val, by omega⟩ : Fin 8) k o)) (fun n k => argAttn V (ix3 b n k)) (fun n k => argGate V (ix3 b n k)) (fun n k => argZ V (ix3 b n k))
          (fun k o => argTaps V (ix2 k o)) (fun k o => argOut V (ix2 k o)) (fun o => argPost V (ix1 o)) n := by
  funext o
  rw [mid_apply, proj_row]
  rfl

/-- The result array. -/
def out : Vec Ideal S4x8192x1024 .f32 :=
  addf (res_main_v60 V) (mulf (broadcastInDim S4x8192x1024 ![0, 1, 2] bcast_S4x1x1024_S4x8192x1024_0_1_2 (broadcastInDim S4x1x1024 ![0, 2] bcast_S4x1024_S4x1x1024_0_2 (shapeCast _ (extractStridedSlice S4x1x1024 ![0, 5, 0] (V (Proc.devRef .tc main_arg1)) slices_S8x6x1024_S4x1x1024_0_5_0) shapeCasts_S4x1x1024_S4x1024))) (mulf (mulf (res_main_v84 V) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v84 V) (res_main_v84 V)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V (Proc.devRef .tc main_arg12))))))

theorem out_eq : out V = fun i => result V (i 0) (i 1) (i 2) := by
  funext y
  obtain ⟨b, n, o, rfl⟩ : ∃ (b : Fin 4) (n : Fin 8192) (o : Fin 1024), y = ix3 b n o := ⟨y 0, y 1, y 2, eq_ix3 y⟩
  have h : out V (ix3 b n o) = added (fun o => (show Vec Ideal S4x8192x1024 .f32 from res_main_v60 V) (ix3 b n o)) (fun o => argMods V (ix3 (⟨b.val, by omega⟩ : Fin 8) (5 : Fin 6) o)) (fun o => argEnd V (ix1 o))
      (fun o => (show Vec Ideal S4x8192x1024 .f32 from res_main_v84 V) (ix3 b n o)) o := by
    pointwise [out, added, normed, rootScale]
  have hg := funext (glu_apply V b n)
  have hm := funext (mod_apply V b n)
  rw [h, hg, hm, mid_row]
  rfl

end Cert.Reference2Ideal.MixRef
-- ==== Proof.GateSpec.lean ====
/- One row of the odd layer's gated MLP mixer, over the extended reals. -/
module

public import proofs.«01_k».proof.Proof.MixSpec

@[expose] public section

noncomputable section

namespace Cert.Gate

open Idealize.ShloMosaic Cert.Mix
open scoped BigOperators

/-- The smooth rectifier, in its form with the hyperbolic tangent. -/
def gelu (y : EReal) : EReal :=
  y * (Ideal.ofBits .f32 0x3F000000#32 * (1
    + Ideal.tanh (Ideal.ofBits .f32 0x3F4C422A#32 * (y + Ideal.ofBits .f32 0x3D372713#32 * (y * (y * y))))))

/-- One half of the hidden row. -/
def hiddenHalf (h : Row) (w : Fin 1024 → Row) : Row := fun o => gelu (∑ i : Fin 1024, h i * w i o)

/-- A row less its mean. -/
def centred (v : Row) : Row := fun o => v o - Ideal.div (∑ k : Fin 1024, v k) (Ideal.ofBits .f32 0x44800000#32)

/-- A row's layer norm, with gain and bias. -/
def layered (v g b : Row) : Row := fun o => centred v o * rootScale (centred v) * g o + b o

/-- The group a channel lies in. -/
def group (o : Fin 1024) : Fin 8 := ⟨o.val / 128, by omega⟩

/-- Position `p` of a chunk of 128 rows mixed over the chunk, group by group. -/
def spatial (ws : Fin 8 → Fin 128 → Fin 128 → EReal) (bs : Fin 8 → Fin 128 → EReal) (v : Fin 128 → Row) (p : Fin 128) : Row := fun o =>
  (∑ q : Fin 128, ws (group o) p q * v q o) + bs (group o) p

/-- The gated row projected. -/
def projectedGate (u s : Row) (w : Fin 1024 → Row) : Row := fun o => ∑ j : Fin 1024, u j * s j * w j o

/-- Row `q` of the chunk of row `n`. -/
def chunk (n : Fin 8192) (q : Fin 128) : Fin 8192 := ⟨n.val / 128 * 128 + q.val, by omega⟩

/-- The position of row `n` in its chunk. -/
def spot (n : Fin 8192) : Fin 128 := ⟨n.val % 128, by omega⟩

/-- Row `n` normalised for the mixer. -/
def entering (X : Fin 8192 → Row) (M : Fin 6 → Row) (g0 : Row) (n : Fin 8192) : Row := modulated (X n) g0 (M 0) (M 1)

/-- The gating half at row `n`. -/
def gating (X : Fin 8192 → Row) (M : Fin 6 → Row) (g0 : Row) (w : Fin 1024 → Fin 2048 → EReal) (n : Fin 8192) : Row :=
  hiddenHalf (entering X M g0 n) (fun i o => w i (⟨o.val, by omega⟩ : Fin 2048))

/-- The other half at row `n`, normalised. -/
def carried (X : Fin 8192 → Row) (M : Fin 6 → Row) (g0 : Row) (w : Fin 1024 → Fin 2048 → EReal) (g1 b1 : Row) (n : Fin 8192) : Row :=
  layered (hiddenHalf (entering X M g0 n) (fun i o => w i (⟨1024 + o.val, by omega⟩ : Fin 2048))) g1 b1

/-- The mixer's output at row `n`. -/
def mlp (X : Fin 8192 → Row) (M : Fin 6 → Row) (g0 : Row) (w : Fin 1024 → Fin 2048 → EReal) (g1 b1 : Row) (ws : Fin 8 → Fin 128 → Fin 128 → EReal)
    (bs : Fin 8 → Fin 128 → EReal) (wo : Fin 1024 → Row) (n : Fin 8192) : Row :=
  projectedGate (gating X M g0 w n) (spatial ws bs (fun q => carried X M g0 w g1 b1 (chunk n q)) (spot n)) wo

/-- Row `n` after the mixer's residual. -/
def mixedRow (X : Fin 8192 → Row) (M : Fin 6 → Row) (g0 : Row) (w : Fin 1024 → Fin 2048 → EReal) (g1 b1 : Row) (ws : Fin 8 → Fin 128 → Fin 128 → EReal)
    (bs : Fin 8 → Fin 128 → EReal) (wo : Fin 1024 → Row) (g2 : Row) (n : Fin 8192) : Row :=
  added (X n) (M 2) g2 (mlp X M g0 w g1 b1 ws bs wo n)

/-- Row `n` normalised for what follows the mixer. -/
def following (X : Fin 8192 → Row) (M : Fin 6 → Row) (g0 : Row) (w : Fin 1024 → Fin 2048 → EReal) (g1 b1 : Row) (ws : Fin 8 → Fin 128 → Fin 128 → EReal)
    (bs : Fin 8 → Fin 128 → EReal) (wo : Fin 1024 → Row) (g2 g3 : Row) (n : Fin 8192) : Row :=
  modulated (mixedRow X M g0 w g1 b1 ws bs wo g2 n) g3 (M 3) (M 4)

end Cert.Gate
-- ==== Proof.GatePay.lean ====
/- The gated MLP mixer: each stored value of the body, read at an entry. -/
module

public import proofs.«01_k».proof.Proof.GateSpec
public import proofs.«01_k».proof.Proof.Gen.Kernel3Ideal.Skeleton
public import Idealize.ShloMosaic.Lib.Pointwise

@[expose] public section

set_option maxRecDepth 16384

noncomputable section

namespace Cert.Kernel3Ideal.GateRows

open Idealize.ShloMosaic
open Cert.Kernel3Ideal Cert.Kernel3Ideal.Gen Cert.Mix Cert.Gate
open scoped BigOperators

theorem pay3_apply (v : Vec Ideal S1x6x1024 .f32) (k : Fin 6) (o : Fin 1024) : k0_pay3 v (ix2 k o) = v (ix3 (0 : Fin 1) k o) := by
  pointwise [k0_pay3]

theorem pay4_apply (v : Vec Ideal S1x256x1024 .f32) (r : Fin 256) (o : Fin 1024) : k0_pay4 v (ix2 r o) = v (ix3 (0 : Fin 1) r o) := by
  pointwise [k0_pay4]

theorem pay5_apply (v : Vec Ideal S1x256x1024 .f32) (r : Fin 256) (o : Fin 1024) : k0_pay5 v (ix2 r o) = v (ix3 (0 : Fin 1) r o) := by
  pointwise [k0_pay5]

theorem pay6_apply (v5 : Vec Ideal S1x6x1024 .f32) (v7 : Vec Ideal S1x256x1024 .f32) (v11 : Vec Ideal S1x1024 .f32) (r : Fin 256) (o : Fin 1024) :
    k0_pay6 v5 v7 v11 (ix2 r o) = modulated (fun o => v7 (ix3 (0 : Fin 1) r o)) (fun o => v11 (ix2 (0 : Fin 1) o)) (fun o => v5 (ix3 (0 : Fin 1) (0 : Fin 6) o)) (fun o => v5 (ix3 (0 : Fin 1) (1 : Fin 6) o)) o := by
  pointwise [k0_pay6, k0_pay3, k0_pay4, modulated, normed, rootScale]

theorem pay9_apply (v6 : FVec Ideal S6x1024 .f32) (v10 : FVec Ideal S256x1024 .f32) (v34 : Vec Ideal S1x1024 .f32) (v5 : Vec Ideal S1x6x1024 .f32) (r : Fin 256) (o : Fin 1024) :
    k0_pay9 v6 v10 (k0_pay7 v34) (k0_pay8 v5) (ix2 r o) = modulated (fun o => v10 (ix2 r o)) (fun o => v34 (ix2 (0 : Fin 1) o)) (fun o => v5 (ix3 (0 : Fin 1) (0 : Fin 6) o)) (fun o => v6 (ix2 (1 : Fin 6) o)) o := by
  pointwise [k0_pay9, k0_pay7, k0_pay8, k0_pay3, modulated, normed, rootScale]

theorem pay10_apply (v33 : FVec Ideal S256x1024 .bf16) (v57 : Vec Ideal S1024x1024 .bf16) (r : Fin 256) (o : Fin 1024) :
    k0_pay10 v33 v57 (ix2 r o) = hiddenHalf (fun o => v33 (ix2 r o)) (fun i o => v57 (ix2 i o)) o := by
  pointwise [k0_pay10, hiddenHalf, gelu]

theorem pay13_apply (v33 : FVec Ideal S256x1024 .bf16) (v73 : Vec Ideal S1024x1024 .bf16) (v105 v109 : Vec Ideal S1x1024 .f32) (r : Fin 256) (o : Fin 1024) :
    k0_pay13 (k0_pay11 v33 v73) (k0_pay12 v33 v73) (Scalar.ofBits (F := Ideal) .f32 0x3F4C422A#32) v105 v109 (ix2 r o)
      = layered (hiddenHalf (fun o => v33 (ix2 r o)) (fun i o => v73 (ix2 i o))) (fun o => v105 (ix2 (0 : Fin 1) o)) (fun o => v109 (ix2 (0 : Fin 1) o)) o := by
  pointwise [k0_pay13, k0_pay11, k0_pay12, layered, centred, rootScale, hiddenHalf, gelu]

theorem pay16_apply (v56 : FVec Ideal S256x1024 .bf16) (v114 : Vec Ideal S1024x1024 .bf16) (r : Fin 256) (o : Fin 1024) :
    k0_pay16 (k0_pay14 v56 v114) (k0_pay15 v56 v114) (ix2 r o) = hiddenHalf (fun o => v56 (ix2 r o)) (fun i o => v114 (ix2 i o)) o := by
  pointwise [k0_pay16, k0_pay14, k0_pay15, hiddenHalf, gelu]

theorem pay18_apply (v56 : FVec Ideal S256x1024 .bf16) (v130 : Vec Ideal S1024x1024 .bf16) (v162 v166 : Vec Ideal S1x1024 .f32) (r : Fin 256) (o : Fin 1024) :
    k0_pay18 (k0_pay17 v56 v130 v162) v166 (ix2 r o)
      = layered (hiddenHalf (fun o => v56 (ix2 r o)) (fun i o => v130 (ix2 i o))) (fun o => v162 (ix2 (0 : Fin 1) o)) (fun o => v166 (ix2 (0 : Fin 1) o)) o := by
  pointwise [k0_pay18, k0_pay17, layered, centred, rootScale, hiddenHalf, gelu]

/-- Group 0 of both chunks of a half block, side by side. -/
def group0 (v : FVec Ideal S256x1024 .bf16) (ws : Vec Ideal S1x128x128 .bf16) (bs : Vec Ideal S1x128x128 .f32) : FVec Ideal S128x256 .f32 := k0_pay28 v ws bs

theorem group0_low (v : FVec Ideal S256x1024 .bf16) (ws : Vec Ideal S1x128x128 .bf16) (bs : Vec Ideal S1x128x128 .f32) (p d : Fin 128) :
    group0 v ws bs (ix2 p (⟨d.val, by omega⟩ : Fin 256))
      = (∑ q : Fin 128, ws (ix3 (0 : Fin 1) p q) * v (ix2 (⟨q.val, by omega⟩ : Fin 256) (⟨0 + d.val, by omega⟩ : Fin 1024))) + bs (ix3 (0 : Fin 1) p d) := by
  pointwise [group0, k0_pay28]

theorem group0_high (v : FVec Ideal S256x1024 .bf16) (ws : Vec Ideal S1x128x128 .bf16) (bs : Vec Ideal S1x128x128 .f32) (p d : Fin 128) :
    group0 v ws bs (ix2 p (⟨128 + d.val, by omega⟩ : Fin 256))
      = (∑ q : Fin 128, ws (ix3 (0 : Fin 1) p q) * v (ix2 (⟨128 + q.val, by omega⟩ : Fin 256) (⟨0 + d.val, by omega⟩ : Fin 1024))) + bs (ix3 (0 : Fin 1) p d) := by
  pointwise [group0, k0_pay28]

/-- Group 1 of both chunks of a half block, side by side. -/
def group1 (v : FVec Ideal S256x1024 .bf16) (ws : Vec Ideal S1x128x128 .bf16) (bs : Vec Ideal S1x128x128 .f32) : FVec Ideal S128x256 .f32 := k0_pay31 (k0_pay29 v) (k0_pay30 v) ws bs

theorem group1_low (v : FVec Ideal S256x1024 .bf16) (ws : Vec Ideal S1x128x128 .bf16) (bs : Vec Ideal S1x128x128 .f32) (p d : Fin 128) :
    group1 v ws bs (ix2 p (⟨d.val, by omega⟩ : Fin 256))
      = (∑ q : Fin 128, ws (ix3 (0 : Fin 1) p q) * v (ix2 (⟨q.val, by omega⟩ : Fin 256) (⟨128 + d.val, by omega⟩ : Fin 1024))) + bs (ix3 (0 : Fin 1) p d) := by
  pointwise [group1, k0_pay31, k0_pay29, k0_pay30]

theorem group1_high (v : FVec Ideal S256x1024 .bf16) (ws : Vec Ideal S1x128x128 .bf16) (bs : Vec Ideal S1x128x128 .f32) (p d : Fin 128) :
    group1 v ws bs (ix2 p (⟨128 + d.val, by omega⟩ : Fin 256))
      = (∑ q : Fin 128, ws (ix3 (0 : Fin 1) p q) * v (ix2 (⟨128 + q.val, by omega⟩ : Fin 256) (⟨128 + d.val, by omega⟩ : Fin 1024))) + bs (ix3 (0 : Fin 1) p d) := by
  pointwise [group1, k0_pay31, k0_pay29, k0_pay30]

/-- Group 2 of both chunks of a half block, side by side. -/
def group2 (v : FVec Ideal S256x1024 .bf16) (ws : Vec Ideal S1x128x128 .bf16) (bs : Vec Ideal S1x128x128 .f32) : FVec Ideal S128x256 .f32 := k0_pay32 v ws bs

theorem group2_low (v : FVec Ideal S256x1024 .bf16) (ws : Vec Ideal S1x128x128 .bf16) (bs : Vec Ideal S1x128x128 .f32) (p d : Fin 128) :
    group2 v ws bs (ix2 p (⟨d.val, by omega⟩ : Fin 256))
      = (∑ q : Fin 128, ws (ix3 (0 : Fin 1) p q) * v (ix2 (⟨q.val, by omega⟩ : Fin 256) (⟨256 + d.val, by omega⟩ : Fin 1024))) + bs (ix3 (0 : Fin 1) p d) := by
  pointwise [group2, k0_pay32]

theorem group2_high (v : FVec Ideal S256x1024 .bf16) (ws : Vec Ideal S1x128x128 .bf16) (bs : Vec Ideal S1x128x128 .f32) (p d : Fin 128) :
    group2 v ws bs (ix2 p (⟨128 + d.val, by omega⟩ : Fin 256))
      = (∑ q : Fin 128, ws (ix3 (0 : Fin 1) p q) * v (ix2 (⟨128 + q.val, by omega⟩ : Fin 256) (⟨256 + d.val, by omega⟩ : Fin 1024))) + bs (ix3 (0 : Fin 1) p d) := by
  pointwise [group2, k0_pay32]

/-- Group 3 of both chunks of a half block, side by side. -/
def group3 (v : FVec Ideal S256x1024 .bf16) (ws : Vec Ideal S1x128x128 .bf16) (bs : Vec Ideal S1x128x128 .f32) : FVec Ideal S128x256 .f32 := k0_pay33 v ws bs

theorem group3_low (v : FVec Ideal S256x1024 .bf16) (ws : Vec Ideal S1x128x128 .bf16) (bs : Vec Ideal S1x128x128 .f32) (p d : Fin 128) :
    group3 v ws bs (ix2 p (⟨d.val, by omega⟩ : Fin 256))
      = (∑ q : Fin 128, ws (ix3 (0 : Fin 1) p q) * v (ix2 (⟨q.val, by omega⟩ : Fin 256) (⟨384 + d.val, by omega⟩ : Fin 1024))) + bs (ix3 (0 : Fin 1) p d) := by
  pointwise [group3, k0_pay33]

theorem group3_high (v : FVec Ideal S256x1024 .bf16) (ws : Vec Ideal S1x128x128 .bf16) (bs : Vec Ideal S1x128x128 .f32) (p d : Fin 128) :
    group3 v ws bs (ix2 p (⟨128 + d.val, by omega⟩ : Fin 256))
      = (∑ q : Fin 128, ws (ix3 (0 : Fin 1) p q) * v (ix2 (⟨128 + q.val, by omega⟩ : Fin 256) (⟨384 + d.val, by omega⟩ : Fin 1024))) + bs (ix3 (0 : Fin 1) p d) := by
  pointwise [group3, k0_pay33]

/-- Group 4 of both chunks of a half block, side by side. -/
def group4 (v : FVec Ideal S256x1024 .bf16) (ws : Vec Ideal S1x128x128 .bf16) (bs : Vec Ideal S1x128x128 .f32) : FVec Ideal S128x256 .f32 := k0_pay35 (k0_pay34 v ws) bs

theorem group4_low (v : FVec Ideal S256x1024 .bf16) (ws : Vec Ideal S1x128x128 .bf16) (bs : Vec Ideal S1x128x128 .f32) (p d : Fin 128) :
    group4 v ws bs (ix2 p (⟨d.val, by omega⟩ : Fin 256))
      = (∑ q : Fin 128, ws (ix3 (0 : Fin 1) p q) * v (ix2 (⟨q.val, by omega⟩ : Fin 256) (⟨512 + d.val, by omega⟩ : Fin 1024))) + bs (ix3 (0 : Fin 1) p d) := by
  pointwise [group4, k0_pay35, k0_pay34]

theorem group4_high (v : FVec Ideal S256x1024 .bf16) (ws : Vec Ideal S1x128x128 .bf16) (bs : Vec Ideal S1x128x128 .f32) (p d : Fin 128) :
    group4 v ws bs (ix2 p (⟨128 + d.val, by omega⟩ : Fin 256))
      = (∑ q : Fin 128, ws (ix3 (0 : Fin 1) p q) * v (ix2 (⟨128 + q.val, by omega⟩ : Fin 256) (⟨512 + d.val, by omega⟩ : Fin 1024))) + bs (ix3 (0 : Fin 1) p d) := by
  pointwise [group4, k0_pay35, k0_pay34]

/-- Group 5 of both chunks of a half block, side by side. -/
def group5 (v : FVec Ideal S256x1024 .bf16) (ws : Vec Ideal S1x128x128 .bf16) (bs : Vec Ideal S1x128x128 .f32) : FVec Ideal S128x256 .f32 := k0_pay36 v ws bs

theorem group5_low (v : FVec Ideal S256x1024 .bf16) (ws : Vec Ideal S1x128x128 .bf16) (bs : Vec Ideal S1x128x128 .f32) (p d : Fin 128) :
    group5 v ws bs (ix2 p (⟨d.val, by omega⟩ : Fin 256))
      = (∑ q : Fin 128, ws (ix3 (0 : Fin 1) p q) * v (ix2 (⟨q.val, by omega⟩ : Fin 256) (⟨640 + d.val, by omega⟩ : Fin 1024))) + bs (ix3 (0 : Fin 1) p d) := by
  pointwise [group5, k0_pay36]

theorem group5_high (v : FVec Ideal S256x1024 .bf16) (ws : Vec Ideal S1x128x128 .bf16) (bs : Vec Ideal S1x128x128 .f32) (p d : Fin 128) :
    group5 v ws bs (ix2 p (⟨128 + d.val, by omega⟩ : Fin 256))
      = (∑ q : Fin 128, ws (ix3 (0 : Fin 1) p q) * v (ix2 (⟨128 + q.val, by omega⟩ : Fin 256) (⟨640 + d.val, by omega⟩ : Fin 1024))) + bs (ix3 (0 : Fin 1) p d) := by
  pointwise [group5, k0_pay36]

/-- Group 6 of both chunks of a half block, side by side. -/
def group6 (v : FVec Ideal S256x1024 .bf16) (ws : Vec Ideal S1x128x128 .bf16) (bs : Vec Ideal S1x128x128 .f32) : FVec Ideal S128x256 .f32 := k0_pay37 v ws bs

theorem group6_low (v : FVec Ideal S256x1024 .bf16) (ws : Vec Ideal S1x128x128 .bf16) (bs : Vec Ideal S1x128x128 .f32) (p d : Fin 128) :
    group6 v ws bs (ix2 p (⟨d.val, by omega⟩ : Fin 256))
      = (∑ q : Fin 128, ws (ix3 (0 : Fin 1) p q) * v (ix2 (⟨q.val, by omega⟩ : Fin 256) (⟨768 + d.val, by omega⟩ : Fin 1024))) + bs (ix3 (0 : Fin 1) p d) := by
  pointwise [group6, k0_pay37]

theorem group6_high (v : FVec Ideal S256x1024 .bf16) (ws : Vec Ideal S1x128x128 .bf16) (bs : Vec Ideal S1x128x128 .f32) (p d : Fin 128) :
    group6 v ws bs (ix2 p (⟨128 + d.val, by omega⟩ : Fin 256))
      = (∑ q : Fin 128, ws (ix3 (0 : Fin 1) p q) * v (ix2 (⟨128 + q.val, by omega⟩ : Fin 256) (⟨768 + d.val, by omega⟩ : Fin 1024))) + bs (ix3 (0 : Fin 1) p d) := by
  pointwise [group6, k0_pay37]

/-- Group 7 of both chunks of a half block, side by side. -/
def group7 (v : FVec Ideal S256x1024 .bf16) (ws : Vec Ideal S1x128x128 .bf16) (bs : Vec Ideal S1x128x128 .f32) : FVec Ideal S128x256 .f32 := k0_pay38 v ws bs

theorem group7_low (v : FVec Ideal S256x1024 .bf16) (ws : Vec Ideal S1x128x128 .bf16) (bs : Vec Ideal S1x128x128 .f32) (p d : Fin 128) :
    group7 v ws bs (ix2 p (⟨d.val, by omega⟩ : Fin 256))
      = (∑ q : Fin 128, ws (ix3 (0 : Fin 1) p q) * v (ix2 (⟨q.val, by omega⟩ : Fin 256) (⟨896 + d.val, by omega⟩ : Fin 1024))) + bs (ix3 (0 : Fin 1) p d) := by
  pointwise [group7, k0_pay38]

theorem group7_high (v : FVec Ideal S256x1024 .bf16) (ws : Vec Ideal S1x128x128 .bf16) (bs : Vec Ideal S1x128x128 .f32) (p d : Fin 128) :
    group7 v ws bs (ix2 p (⟨128 + d.val, by omega⟩ : Fin 256))
      = (∑ q : Fin 128, ws (ix3 (0 : Fin 1) p q) * v (ix2 (⟨128 + q.val, by omega⟩ : Fin 256) (⟨896 + d.val, by omega⟩ : Fin 1024))) + bs (ix3 (0 : Fin 1) p d) := by
  pointwise [group7, k0_pay38]

theorem pay43_apply (v6 : FVec Ideal S6x1024 .f32) (v8 : FVec Ideal S256x1024 .f32) (v271 : FVec Ideal S256x1024 .bf16) (v373 : Vec Ideal S1024x1024 .bf16) (v377 : Vec Ideal S1x1024 .f32) (r : Fin 256) (o : Fin 1024) :
    k0_pay43 v6 v8 v271 v373 v377 (ix2 r o)
      = added (fun o => v8 (ix2 r o)) (fun o => v6 (ix2 (2 : Fin 6) o)) (fun o => v377 (ix2 (0 : Fin 1) o)) (fun o => ∑ j : Fin 1024, v271 (ix2 r j) * v373 (ix2 j o)) o := by
  pointwise [k0_pay43, added, normed, rootScale]

theorem pay50_eq : @k0_pay50 = @k0_pay43 := rfl

theorem pay44_apply (v6 : FVec Ideal S6x1024 .f32) (v8 : FVec Ideal S256x1024 .f32) (v271 : FVec Ideal S256x1024 .bf16) (v373 : Vec Ideal S1024x1024 .bf16) (v377 : Vec Ideal S1x1024 .f32) (r : Fin 256) (o : Fin 1024) :
    k0_pay44 v6 v8 v271 v373 v377 (ix3 (0 : Fin 1) r o) = k0_pay43 v6 v8 v271 v373 v377 (ix2 r o) := by
  unfold k0_pay44
  generalize k0_pay43 v6 v8 v271 v373 v377 = t
  pointwise []

theorem pay51_apply (v : FVec Ideal S256x1024 .f32) (r : Fin 256) (o : Fin 1024) :
    k0_pay51 v (ix3 (0 : Fin 1) r o) = v (ix2 r o) := by
  pointwise [k0_pay51]

theorem pay49_apply (v6 : FVec Ideal S6x1024 .f32) (v393 : FVec Ideal S256x1024 .f32) (v397 : Vec Ideal S1x1024 .f32) (r : Fin 256) (o : Fin 1024) :
    k0_pay49 v393 (k0_pay45 v397) (k0_pay46 v6) (k0_pay47 v6) (ix3 (0 : Fin 1) r o)
      = modulated (fun o => v393 (ix2 r o)) (fun o => v397 (ix2 (0 : Fin 1) o)) (fun o => v6 (ix2 (3 : Fin 6) o)) (fun o => v6 (ix2 (4 : Fin 6) o)) o := by
  pointwise [k0_pay49, k0_pay48, k0_pay45, k0_pay46, k0_pay47, modulated, normed, rootScale]

theorem pay53_apply (v6 : FVec Ideal S6x1024 .f32) (v442 : FVec Ideal S256x1024 .f32) (v446 : Vec Ideal S1x1024 .f32) (r : Fin 256) (o : Fin 1024) :
    k0_pay53 v6 v442 v446 (ix3 (0 : Fin 1) r o)
      = modulated (fun o => v442 (ix2 r o)) (fun o => v446 (ix2 (0 : Fin 1) o)) (fun o => v6 (ix2 (3 : Fin 6) o)) (fun o => v6 (ix2 (4 : Fin 6) o)) o := by
  pointwise [k0_pay53, k0_pay52, modulated, normed, rootScale]

/-- The eight groups put in place and gated. -/
def combined (u : FVec Ideal S256x1024 .f32) (g0 g1 g2 g3 g4 g5 g6 g7 : FVec Ideal S128x256 .f32) : FVec Ideal S256x1024 .bf16 :=
  k0_pay42 u g0 g1 g2 g3 g4 g5 g6 g7 (k0_pay39 g0) (k0_pay40 g1) (k0_pay41 g2)

theorem pay27_eq (u : FVec Ideal S256x1024 .f32) (v : FVec Ideal S256x1024 .bf16) (w0 w1 w2 w3 w4 w5 w6 w7 : Vec Ideal S1x128x128 .bf16) (b0 b1 b2 b3 b4 b5 b6 b7 : Vec Ideal S1x128x128 .f32) :
    k0_pay27 u v (k0_pay19 v w0 b0) (k0_pay20 v w1 b1) (k0_pay21 v w2 b2) (k0_pay23 (k0_pay22 v) w3 b3) (k0_pay24 v w4 b4) (k0_pay25 v w5 b5) (k0_pay26 v w6) b6 w7 b7
      = combined u (group0 v w0 b0) (group1 v w1 b1) (group2 v w2 b2) (group3 v w3 b3) (group4 v w4 b4) (group5 v w5 b5) (group6 v w6 b6) (group7 v w7 b7) := rfl

theorem combined0_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨0 + d.val, by omega⟩ : Fin 1024))
      = u (ix2 (⟨p.val, by omega⟩ : Fin 256) (⟨0 + d.val, by omega⟩ : Fin 1024)) * g0 (ix2 p (⟨d.val, by omega⟩ : Fin 256)) := by
  pointwise [combined, k0_pay42, k0_pay39, k0_pay40, k0_pay41]

theorem combined0_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨0 + d.val, by omega⟩ : Fin 1024))
      = u (ix2 (⟨128 + p.val, by omega⟩ : Fin 256) (⟨0 + d.val, by omega⟩ : Fin 1024)) * g0 (ix2 p (⟨128 + d.val, by omega⟩ : Fin 256)) := by
  pointwise [combined, k0_pay42, k0_pay39, k0_pay40, k0_pay41]

theorem combined1_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨128 + d.val, by omega⟩ : Fin 1024))
      = u (ix2 (⟨p.val, by omega⟩ : Fin 256) (⟨128 + d.val, by omega⟩ : Fin 1024)) * g1 (ix2 p (⟨d.val, by omega⟩ : Fin 256)) := by
  pointwise [combined, k0_pay42, k0_pay39, k0_pay40, k0_pay41]

theorem combined1_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨128 + d.val, by omega⟩ : Fin 1024))
      = u (ix2 (⟨128 + p.val, by omega⟩ : Fin 256) (⟨128 + d.val, by omega⟩ : Fin 1024)) * g1 (ix2 p (⟨128 + d.val, by omega⟩ : Fin 256)) := by
  pointwise [combined, k0_pay42, k0_pay39, k0_pay40, k0_pay41]

theorem combined2_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨256 + d.val, by omega⟩ : Fin 1024))
      = u (ix2 (⟨p.val, by omega⟩ : Fin 256) (⟨256 + d.val, by omega⟩ : Fin 1024)) * g2 (ix2 p (⟨d.val, by omega⟩ : Fin 256)) := by
  pointwise [combined, k0_pay42, k0_pay39, k0_pay40, k0_pay41]
  rw [dif_neg (show ¬ 256 + d.val < 128 by omega), dif_neg (show ¬ 256 + d.val - 128 < 128 by omega), dif_pos (show 256 + d.val - 128 - 128 < 128 by omega)]
  exact congrArg (fun j : Fin 256 => _ * g2 (ix2 p j)) (Fin.ext (by show 256 + d.val - 128 - 128 = d.val; omega))

theorem combined2_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨256 + d.val, by omega⟩ : Fin 1024))
      = u (ix2 (⟨128 + p.val, by omega⟩ : Fin 256) (⟨256 + d.val, by omega⟩ : Fin 1024)) * g2 (ix2 p (⟨128 + d.val, by omega⟩ : Fin 256)) := by
  pointwise [combined, k0_pay42, k0_pay39, k0_pay40, k0_pay41]
  rw [dif_neg (show ¬ 256 + d.val < 128 by omega), dif_neg (show ¬ 256 + d.val - 128 < 128 by omega), dif_pos (show 256 + d.val - 128 - 128 < 128 by omega)]
  exact congrArg (fun j : Fin 256 => _ * g2 (ix2 p j)) (Fin.ext (by show 128 + (256 + d.val - 128 - 128) = 128 + d.val; omega))

theorem combined3_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨384 + d.val, by omega⟩ : Fin 1024))
      = u (ix2 (⟨p.val, by omega⟩ : Fin 256) (⟨384 + d.val, by omega⟩ : Fin 1024)) * g3 (ix2 p (⟨d.val, by omega⟩ : Fin 256)) := by
  pointwise [combined, k0_pay42, k0_pay39, k0_pay40, k0_pay41]
  rw [dif_neg (show ¬ 384 + d.val < 128 by omega), dif_neg (show ¬ 384 + d.val - 128 < 128 by omega), dif_neg (show ¬ 384 + d.val - 128 - 128 < 128 by omega), dif_pos (show 384 + d.val - 128 - 128 - 128 < 128 by omega)]
  exact congrArg (fun j : Fin 256 => _ * g3 (ix2 p j)) (Fin.ext (by show 384 + d.val - 128 - 128 - 128 = d.val; omega))

theorem combined3_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨384 + d.val, by omega⟩ : Fin 1024))
      = u (ix2 (⟨128 + p.val, by omega⟩ : Fin 256) (⟨384 + d.val, by omega⟩ : Fin 1024)) * g3 (ix2 p (⟨128 + d.val, by omega⟩ : Fin 256)) := by
  pointwise [combined, k0_pay42, k0_pay39, k0_pay40, k0_pay41]
  rw [dif_neg (show ¬ 384 + d.val < 128 by omega), dif_neg (show ¬ 384 + d.val - 128 < 128 by omega), dif_neg (show ¬ 384 + d.val - 128 - 128 < 128 by omega), dif_pos (show 384 + d.val - 128 - 128 - 128 < 128 by omega)]
  exact congrArg (fun j : Fin 256 => _ * g3 (ix2 p j)) (Fin.ext (by show 128 + (384 + d.val - 128 - 128 - 128) = 128 + d.val; omega))

theorem combined4_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨512 + d.val, by omega⟩ : Fin 1024))
      = u (ix2 (⟨p.val, by omega⟩ : Fin 256) (⟨512 + d.val, by omega⟩ : Fin 1024)) * g4 (ix2 p (⟨d.val, by omega⟩ : Fin 256)) := by
  pointwise [combined, k0_pay42, k0_pay39, k0_pay40, k0_pay41]
  rw [dif_neg (show ¬ 512 + d.val < 128 by omega), dif_neg (show ¬ 512 + d.val - 128 < 128 by omega), dif_neg (show ¬ 512 + d.val - 128 - 128 < 128 by omega), dif_neg (show ¬ 512 + d.val - 128 - 128 - 128 < 128 by omega), dif_pos (show 512 + d.val - 128 - 128 - 128 - 128 < 128 by omega)]
  exact congrArg (fun j : Fin 256 => _ * g4 (ix2 p j)) (Fin.ext (by show 512 + d.val - 128 - 128 - 128 - 128 = d.val; omega))

theorem combined4_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨512 + d.val, by omega⟩ : Fin 1024))
      = u (ix2 (⟨128 + p.val, by omega⟩ : Fin 256) (⟨512 + d.val, by omega⟩ : Fin 1024)) * g4 (ix2 p (⟨128 + d.val, by omega⟩ : Fin 256)) := by
  pointwise [combined, k0_pay42, k0_pay39, k0_pay40, k0_pay41]
  rw [dif_neg (show ¬ 512 + d.val < 128 by omega), dif_neg (show ¬ 512 + d.val - 128 < 128 by omega), dif_neg (show ¬ 512 + d.val - 128 - 128 < 128 by omega), dif_neg (show ¬ 512 + d.val - 128 - 128 - 128 < 128 by omega), dif_pos (show 512 + d.val - 128 - 128 - 128 - 128 < 128 by omega)]
  exact congrArg (fun j : Fin 256 => _ * g4 (ix2 p j)) (Fin.ext (by show 128 + (512 + d.val - 128 - 128 - 128 - 128) = 128 + d.val; omega))

theorem combined5_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨640 + d.val, by omega⟩ : Fin 1024))
      = u (ix2 (⟨p.val, by omega⟩ : Fin 256) (⟨640 + d.val, by omega⟩ : Fin 1024)) * g5 (ix2 p (⟨d.val, by omega⟩ : Fin 256)) := by
  pointwise [combined, k0_pay42, k0_pay39, k0_pay40, k0_pay41]
  rw [dif_neg (show ¬ 640 + d.val < 128 by omega), dif_neg (show ¬ 640 + d.val - 128 < 128 by omega), dif_neg (show ¬ 640 + d.val - 128 - 128 < 128 by omega), dif_neg (show ¬ 640 + d.val - 128 - 128 - 128 < 128 by omega), dif_neg (show ¬ 640 + d.val - 128 - 128 - 128 - 128 < 128 by omega), dif_pos (show 640 + d.val - 128 - 128 - 128 - 128 - 128 < 128 by omega)]
  exact congrArg (fun j : Fin 256 => _ * g5 (ix2 p j)) (Fin.ext (by show 640 + d.val - 128 - 128 - 128 - 128 - 128 = d.val; omega))

theorem combined5_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨640 + d.val, by omega⟩ : Fin 1024))
      = u (ix2 (⟨128 + p.val, by omega⟩ : Fin 256) (⟨640 + d.val, by omega⟩ : Fin 1024)) * g5 (ix2 p (⟨128 + d.val, by omega⟩ : Fin 256)) := by
  pointwise [combined, k0_pay42, k0_pay39, k0_pay40, k0_pay41]
  rw [dif_neg (show ¬ 640 + d.val < 128 by omega), dif_neg (show ¬ 640 + d.val - 128 < 128 by omega), dif_neg (show ¬ 640 + d.val - 128 - 128 < 128 by omega), dif_neg (show ¬ 640 + d.val - 128 - 128 - 128 < 128 by omega), dif_neg (show ¬ 640 + d.val - 128 - 128 - 128 - 128 < 128 by omega), dif_pos (show 640 + d.val - 128 - 128 - 128 - 128 - 128 < 128 by omega)]
  exact congrArg (fun j : Fin 256 => _ * g5 (ix2 p j)) (Fin.ext (by show 128 + (640 + d.val - 128 - 128 - 128 - 128 - 128) = 128 + d.val; omega))

theorem combined6_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨768 + d.val, by omega⟩ : Fin 1024))
      = u (ix2 (⟨p.val, by omega⟩ : Fin 256) (⟨768 + d.val, by omega⟩ : Fin 1024)) * g6 (ix2 p (⟨d.val, by omega⟩ : Fin 256)) := by
  pointwise [combined, k0_pay42, k0_pay39, k0_pay40, k0_pay41]
  rw [dif_neg (show ¬ 768 + d.val < 128 by omega), dif_neg (show ¬ 768 + d.val - 128 < 128 by omega), dif_neg (show ¬ 768 + d.val - 128 - 128 < 128 by omega), dif_neg (show ¬ 768 + d.val - 128 - 128 - 128 < 128 by omega), dif_neg (show ¬ 768 + d.val - 128 - 128 - 128 - 128 < 128 by omega), dif_neg (show ¬ 768 + d.val - 128 - 128 - 128 - 128 - 128 < 128 by omega), dif_pos (show 768 + d.val - 128 - 128 - 128 - 128 - 128 - 128 < 128 by omega)]
  exact congrArg (fun j : Fin 256 => _ * g6 (ix2 p j)) (Fin.ext (by show 768 + d.val - 128 - 128 - 128 - 128 - 128 - 128 = d.val; omega))

theorem combined6_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨768 + d.val, by omega⟩ : Fin 1024))
      = u (ix2 (⟨128 + p.val, by omega⟩ : Fin 256) (⟨768 + d.val, by omega⟩ : Fin 1024)) * g6 (ix2 p (⟨128 + d.val, by omega⟩ : Fin 256)) := by
  pointwise [combined, k0_pay42, k0_pay39, k0_pay40, k0_pay41]
  rw [dif_neg (show ¬ 768 + d.val < 128 by omega), dif_neg (show ¬ 768 + d.val - 128 < 128 by omega), dif_neg (show ¬ 768 + d.val - 128 - 128 < 128 by omega), dif_neg (show ¬ 768 + d.val - 128 - 128 - 128 < 128 by omega), dif_neg (show ¬ 768 + d.val - 128 - 128 - 128 - 128 < 128 by omega), dif_neg (show ¬ 768 + d.val - 128 - 128 - 128 - 128 - 128 < 128 by omega), dif_pos (show 768 + d.val - 128 - 128 - 128 - 128 - 128 - 128 < 128 by omega)]
  exact congrArg (fun j : Fin 256 => _ * g6 (ix2 p j)) (Fin.ext (by show 128 + (768 + d.val - 128 - 128 - 128 - 128 - 128 - 128) = 128 + d.val; omega))

theorem combined7_low (u : FVec Ideal S256x1024 .f32) (g0 g1 g2 g3 g4 g5 g6 g7 : FVec Ideal S128x256 .f32) (p d : Fin 128) :
    combined u g0 g1 g2 g3 g4 g5 g6 g7 (ix2 (⟨p.val, by omega⟩ : Fin 256) (⟨896 + d.val, by omega⟩ : Fin 1024))
      = u (ix2 (⟨p.val, by omega⟩ : Fin 256) (⟨896 + d.val, by omega⟩ : Fin 1024)) * g7 (ix2 p (⟨d.val, by omega⟩ : Fin 256)) := by
  pointwise [combined, k0_pay42, k0_pay39, k0_pay40, k0_pay41]
  rw [dif_neg (show ¬ 896 + d.val < 128 by omega), dif_neg (show ¬ 896 + d.val - 128 < 128 by omega), dif_neg (show ¬ 896 + d.val - 128 - 128 < 128 by omega), dif_neg (show ¬ 896 + d.val - 128 - 128 - 128 < 128 by omega), dif_neg (show ¬ 896 + d.val - 128 - 128 - 128 - 128 < 128 by omega), dif_neg (show ¬ 896 + d.val - 128 - 128 - 128 - 128 - 128 < 128 by omega), dif_neg (show ¬ 896 + d.val - 128 - 128 - 128 - 128 - 128 - 128 < 128 by omega)]
  exact congrArg (fun j : Fin 256 => _ * g7 (ix2 p j)) (Fin.ext (by show 896 + d.val - 128 - 128 - 128 - 128 - 128 - 128 - 128 = d.val; omega))

theorem combined7_high (u : FVec Ideal S256x1024 .f32) (g0 g1 g2 g3 g4 g5 g6 g7 : FVec Ideal S128x256 .f32) (p d : Fin 128) :
    combined u g0 g1 g2 g3 g4 g5 g6 g7 (ix2 (⟨128 + p.val, by omega⟩ : Fin 256) (⟨896 + d.val, by omega⟩ : Fin 1024))
      = u (ix2 (⟨128 + p.val, by omega⟩ : Fin 256) (⟨896 + d.val, by omega⟩ : Fin 1024)) * g7 (ix2 p (⟨128 + d.val, by omega⟩ : Fin 256)) := by
  pointwise [combined, k0_pay42, k0_pay39, k0_pay40, k0_pay41]
  rw [dif_neg (show ¬ 896 + d.val < 128 by omega), dif_neg (show ¬ 896 + d.val - 128 < 128 by omega), dif_neg (show ¬ 896 + d.val - 128 - 128 < 128 by omega), dif_neg (show ¬ 896 + d.val - 128 - 128 - 128 < 128 by omega), dif_neg (show ¬ 896 + d.val - 128 - 128 - 128 - 128 < 128 by omega), dif_neg (show ¬ 896 + d.val - 128 - 128 - 128 - 128 - 128 < 128 by omega), dif_neg (show ¬ 896 + d.val - 128 - 128 - 128 - 128 - 128 - 128 < 128 by omega)]
  exact congrArg (fun j : Fin 256 => _ * g7 (ix2 p j)) (Fin.ext (by show 128 + (896 + d.val - 128 - 128 - 128 - 128 - 128 - 128 - 128) = 128 + d.val; omega))

end Cert.Kernel3Ideal.GateRows
-- ==== Proof.GateBlock.lean ====
/- The gated MLP mixer: the blocks a grid point leaves, row by row. -/
module

public import proofs.«01_k».proof.Proof.GatePay
public import proofs.«01_k».proof.Proof.Gen.Kernel3Ideal.Frame
public import Idealize.ShloMosaic.Lib.ValueLayout
public import Idealize.ShloMosaic.Lib.Pipeline.ValueKit

@[expose] public section

set_option maxRecDepth 16384

noncomputable section

namespace Cert.Kernel3Ideal.GateRows

open Idealize.ShloMosaic
open Cert.Kernel3Ideal Cert.Kernel3Ideal.Gen Cert.Mix Cert.Gate
open scoped BigOperators

/-! ## The pieces of the blocks -/

def xLow (x : Vec Ideal S1x512x1024 .f32) : Vec Ideal S1x256x1024 .f32 := View.ld x (Rect.unit (s := S1x512x1024) ![0, 0, 0] S1x256x1024.size inb_S1x512x1024_S1x256x1024_0_0_0)
def xHigh (x : Vec Ideal S1x512x1024 .f32) : Vec Ideal S1x256x1024 .f32 := View.ld x (Rect.unit (s := S1x512x1024) ![0, 256, 0] S1x256x1024.size inb_S1x512x1024_S1x256x1024_0_256_0)
def mods (x : Vec Ideal S1x6x1024 .f32) : Vec Ideal S1x6x1024 .f32 := View.ld x (Rect.unit (s := S1x6x1024) ![0, 0, 0] S1x6x1024.size inb_S1x6x1024_S1x6x1024_0_0_0)
def row (x : Vec Ideal S1x1024 .f32) : Vec Ideal S1x1024 .f32 := View.ld x (Rect.unit (s := S1x1024) ![0, 0] S1x1024.size inb_S1x1024_S1x1024_0_0)
def winU (x : Vec Ideal S1024x2048 .bf16) : Vec Ideal S1024x1024 .bf16 := View.ld x (Rect.unit (s := S1024x2048) ![0, 0] S1024x1024.size inb_S1024x2048_S1024x1024_0_0)
def winV (x : Vec Ideal S1024x2048 .bf16) : Vec Ideal S1024x1024 .bf16 := View.ld x (Rect.unit (s := S1024x2048) ![0, 1024] S1024x1024.size inb_S1024x2048_S1024x1024_0_1024)
def wout (x : Vec Ideal S1024x1024 .bf16) : Vec Ideal S1024x1024 .bf16 := View.ld x (Rect.unit (s := S1024x1024) ![0, 0] S1024x1024.size inb_S1024x1024_S1024x1024_0_0)

theorem xLow_apply (x : Vec Ideal S1x512x1024 .f32) (r : Fin 256) (o : Fin 1024) : xLow x (ix3 (0 : Fin 1) r o) = x (ix3 (0 : Fin 1) (⟨r.val, by omega⟩ : Fin 512) o) := by
  pointwise [xLow]
theorem xHigh_apply (x : Vec Ideal S1x512x1024 .f32) (r : Fin 256) (o : Fin 1024) : xHigh x (ix3 (0 : Fin 1) r o) = x (ix3 (0 : Fin 1) (⟨256 + r.val, by omega⟩ : Fin 512) o) := by
  pointwise [xHigh]
theorem mods_apply (x : Vec Ideal S1x6x1024 .f32) (k : Fin 6) (o : Fin 1024) : mods x (ix3 (0 : Fin 1) k o) = x (ix3 (0 : Fin 1) k o) := by
  pointwise [mods]
theorem row_apply (x : Vec Ideal S1x1024 .f32) (o : Fin 1024) : row x (ix2 (0 : Fin 1) o) = x (ix2 (0 : Fin 1) o) := by
  pointwise [row]
theorem winU_apply (x : Vec Ideal S1024x2048 .bf16) (i o : Fin 1024) : winU x (ix2 i o) = x (ix2 i (⟨o.val, by omega⟩ : Fin 2048)) := by
  pointwise [winU]
theorem winV_apply (x : Vec Ideal S1024x2048 .bf16) (i o : Fin 1024) : winV x (ix2 i o) = x (ix2 i (⟨1024 + o.val, by omega⟩ : Fin 2048)) := by
  pointwise [winV]
theorem wout_apply (x : Vec Ideal S1024x1024 .bf16) (i o : Fin 1024) : wout x (ix2 i o) = x (ix2 i o) := by
  pointwise [wout]

def ws0 (x : Vec Ideal S8x128x128 .bf16) : Vec Ideal S1x128x128 .bf16 := View.ld x (Rect.unit (s := S8x128x128) ![0, 0, 0] S1x128x128.size inb_S8x128x128_S1x128x128_0_0_0)
theorem ws0_apply (x : Vec Ideal S8x128x128 .bf16) (p q : Fin 128) : ws0 x (ix3 (0 : Fin 1) p q) = x (ix3 (0 : Fin 8) p q) := by
  pointwise [ws0]
def bs0 (x : Vec Ideal S8x128x128 .f32) : Vec Ideal S1x128x128 .f32 := View.ld x (Rect.unit (s := S8x128x128) ![0, 0, 0] S1x128x128.size inb_S8x128x128_S1x128x128_0_0_0)
theorem bs0_apply (x : Vec Ideal S8x128x128 .f32) (p q : Fin 128) : bs0 x (ix3 (0 : Fin 1) p q) = x (ix3 (0 : Fin 8) p q) := by
  pointwise [bs0]
def ws1 (x : Vec Ideal S8x128x128 .bf16) : Vec Ideal S1x128x128 .bf16 := View.ld x (Rect.unit (s := S8x128x128) ![1, 0, 0] S1x128x128.size inb_S8x128x128_S1x128x128_1_0_0)
theorem ws1_apply (x : Vec Ideal S8x128x128 .bf16) (p q : Fin 128) : ws1 x (ix3 (0 : Fin 1) p q) = x (ix3 (1 : Fin 8) p q) := by
  pointwise [ws1]
def bs1 (x : Vec Ideal S8x128x128 .f32) : Vec Ideal S1x128x128 .f32 := View.ld x (Rect.unit (s := S8x128x128) ![1, 0, 0] S1x128x128.size inb_S8x128x128_S1x128x128_1_0_0)
theorem bs1_apply (x : Vec Ideal S8x128x128 .f32) (p q : Fin 128) : bs1 x (ix3 (0 : Fin 1) p q) = x (ix3 (1 : Fin 8) p q) := by
  pointwise [bs1]
def ws2 (x : Vec Ideal S8x128x128 .bf16) : Vec Ideal S1x128x128 .bf16 := View.ld x (Rect.unit (s := S8x128x128) ![2, 0, 0] S1x128x128.size inb_S8x128x128_S1x128x128_2_0_0)
theorem ws2_apply (x : Vec Ideal S8x128x128 .bf16) (p q : Fin 128) : ws2 x (ix3 (0 : Fin 1) p q) = x (ix3 (2 : Fin 8) p q) := by
  pointwise [ws2]
def bs2 (x : Vec Ideal S8x128x128 .f32) : Vec Ideal S1x128x128 .f32 := View.ld x (Rect.unit (s := S8x128x128) ![2, 0, 0] S1x128x128.size inb_S8x128x128_S1x128x128_2_0_0)
theorem bs2_apply (x : Vec Ideal S8x128x128 .f32) (p q : Fin 128) : bs2 x (ix3 (0 : Fin 1) p q) = x (ix3 (2 : Fin 8) p q) := by
  pointwise [bs2]
def ws3 (x : Vec Ideal S8x128x128 .bf16) : Vec Ideal S1x128x128 .bf16 := View.ld x (Rect.unit (s := S8x128x128) ![3, 0, 0] S1x128x128.size inb_S8x128x128_S1x128x128_3_0_0)
theorem ws3_apply (x : Vec Ideal S8x128x128 .bf16) (p q : Fin 128) : ws3 x (ix3 (0 : Fin 1) p q) = x (ix3 (3 : Fin 8) p q) := by
  pointwise [ws3]
def bs3 (x : Vec Ideal S8x128x128 .f32) : Vec Ideal S1x128x128 .f32 := View.ld x (Rect.unit (s := S8x128x128) ![3, 0, 0] S1x128x128.size inb_S8x128x128_S1x128x128_3_0_0)
theorem bs3_apply (x : Vec Ideal S8x128x128 .f32) (p q : Fin 128) : bs3 x (ix3 (0 : Fin 1) p q) = x (ix3 (3 : Fin 8) p q) := by
  pointwise [bs3]
def ws4 (x : Vec Ideal S8x128x128 .bf16) : Vec Ideal S1x128x128 .bf16 := View.ld x (Rect.unit (s := S8x128x128) ![4, 0, 0] S1x128x128.size inb_S8x128x128_S1x128x128_4_0_0)
theorem ws4_apply (x : Vec Ideal S8x128x128 .bf16) (p q : Fin 128) : ws4 x (ix3 (0 : Fin 1) p q) = x (ix3 (4 : Fin 8) p q) := by
  pointwise [ws4]
def bs4 (x : Vec Ideal S8x128x128 .f32) : Vec Ideal S1x128x128 .f32 := View.ld x (Rect.unit (s := S8x128x128) ![4, 0, 0] S1x128x128.size inb_S8x128x128_S1x128x128_4_0_0)
theorem bs4_apply (x : Vec Ideal S8x128x128 .f32) (p q : Fin 128) : bs4 x (ix3 (0 : Fin 1) p q) = x (ix3 (4 : Fin 8) p q) := by
  pointwise [bs4]
def ws5 (x : Vec Ideal S8x128x128 .bf16) : Vec Ideal S1x128x128 .bf16 := View.ld x (Rect.unit (s := S8x128x128) ![5, 0, 0] S1x128x128.size inb_S8x128x128_S1x128x128_5_0_0)
theorem ws5_apply (x : Vec Ideal S8x128x128 .bf16) (p q : Fin 128) : ws5 x (ix3 (0 : Fin 1) p q) = x (ix3 (5 : Fin 8) p q) := by
  pointwise [ws5]
def bs5 (x : Vec Ideal S8x128x128 .f32) : Vec Ideal S1x128x128 .f32 := View.ld x (Rect.unit (s := S8x128x128) ![5, 0, 0] S1x128x128.size inb_S8x128x128_S1x128x128_5_0_0)
theorem bs5_apply (x : Vec Ideal S8x128x128 .f32) (p q : Fin 128) : bs5 x (ix3 (0 : Fin 1) p q) = x (ix3 (5 : Fin 8) p q) := by
  pointwise [bs5]
def ws6 (x : Vec Ideal S8x128x128 .bf16) : Vec Ideal S1x128x128 .bf16 := View.ld x (Rect.unit (s := S8x128x128) ![6, 0, 0] S1x128x128.size inb_S8x128x128_S1x128x128_6_0_0)
theorem ws6_apply (x : Vec Ideal S8x128x128 .bf16) (p q : Fin 128) : ws6 x (ix3 (0 : Fin 1) p q) = x (ix3 (6 : Fin 8) p q) := by
  pointwise [ws6]
def bs6 (x : Vec Ideal S8x128x128 .f32) : Vec Ideal S1x128x128 .f32 := View.ld x (Rect.unit (s := S8x128x128) ![6, 0, 0] S1x128x128.size inb_S8x128x128_S1x128x128_6_0_0)
theorem bs6_apply (x : Vec Ideal S8x128x128 .f32) (p q : Fin 128) : bs6 x (ix3 (0 : Fin 1) p q) = x (ix3 (6 : Fin 8) p q) := by
  pointwise [bs6]
def ws7 (x : Vec Ideal S8x128x128 .bf16) : Vec Ideal S1x128x128 .bf16 := View.ld x (Rect.unit (s := S8x128x128) ![7, 0, 0] S1x128x128.size inb_S8x128x128_S1x128x128_7_0_0)
theorem ws7_apply (x : Vec Ideal S8x128x128 .bf16) (p q : Fin 128) : ws7 x (ix3 (0 : Fin 1) p q) = x (ix3 (7 : Fin 8) p q) := by
  pointwise [ws7]
def bs7 (x : Vec Ideal S8x128x128 .f32) : Vec Ideal S1x128x128 .f32 := View.ld x (Rect.unit (s := S8x128x128) ![7, 0, 0] S1x128x128.size inb_S8x128x128_S1x128x128_7_0_0)
theorem bs7_apply (x : Vec Ideal S8x128x128 .f32) (p q : Fin 128) : bs7 x (ix3 (0 : Fin 1) p q) = x (ix3 (7 : Fin 8) p q) := by
  pointwise [bs7]

/-- A half block gated. -/
def gated (u : FVec Ideal S256x1024 .f32) (v : FVec Ideal S256x1024 .bf16) (x6 : Vec Ideal S8x128x128 .bf16) (x7 : Vec Ideal S8x128x128 .f32) : FVec Ideal S256x1024 .bf16 :=
  combined u (group0 v (ws0 x6) (bs0 x7)) (group1 v (ws1 x6) (bs1 x7)) (group2 v (ws2 x6) (bs2 x7)) (group3 v (ws3 x6) (bs3 x7)) (group4 v (ws4 x6) (bs4 x7)) (group5 v (ws5 x6) (bs5 x7)) (group6 v (ws6 x6) (bs6 x7)) (group7 v (ws7 x6) (bs7 x7))

section
variable (x0 : Vec Ideal S1x512x1024 .f32) (x1 : Vec Ideal S1x6x1024 .f32) (x2 : Vec Ideal S1x1024 .f32) (x3 : Vec Ideal S1024x2048 .bf16) (x4 x5 : Vec Ideal S1x1024 .f32) (x6 : Vec Ideal S8x128x128 .bf16) (x7 : Vec Ideal S8x128x128 .f32) (x8 : Vec Ideal S1024x1024 .bf16) (x9 x10 : Vec Ideal S1x1024 .f32)

def hLow : FVec Ideal S256x1024 .bf16 := k0_pay6 (mods x1) (xLow x0) (row x2)
def hHigh : FVec Ideal S256x1024 .bf16 := k0_pay9 (k0_pay3 (mods x1)) (k0_pay5 (xHigh x0)) (k0_pay7 (row x2)) (k0_pay8 (mods x1))
def uLow : FVec Ideal S256x1024 .f32 := k0_pay10 (hLow x0 x1 x2) (winU x3)
def vLow : FVec Ideal S256x1024 .bf16 := k0_pay13 (k0_pay11 (hLow x0 x1 x2) (winV x3)) (k0_pay12 (hLow x0 x1 x2) (winV x3)) (Scalar.ofBits (F := Ideal) .f32 0x3F4C422A#32) (row x4) (row x5)
def uHigh : FVec Ideal S256x1024 .f32 := k0_pay16 (k0_pay14 (hHigh x0 x1 x2) (winU x3)) (k0_pay15 (hHigh x0 x1 x2) (winU x3))
def vHigh : FVec Ideal S256x1024 .bf16 := k0_pay18 (k0_pay17 (hHigh x0 x1 x2) (winV x3) (row x4)) (row x5)
def gLow : FVec Ideal S256x1024 .bf16 := gated (uLow x0 x1 x2 x3) (vLow x0 x1 x2 x3 x4 x5) x6 x7
def gHigh : FVec Ideal S256x1024 .bf16 := gated (uHigh x0 x1 x2 x3) (vHigh x0 x1 x2 x3 x4 x5) x6 x7
def midLow : FVec Ideal S256x1024 .f32 := k0_pay43 (k0_pay3 (mods x1)) (k0_pay4 (xLow x0)) (gLow x0 x1 x2 x3 x4 x5 x6 x7) (wout x8) (row x9)
def midHigh : FVec Ideal S256x1024 .f32 := k0_pay43 (k0_pay3 (mods x1)) (k0_pay5 (xHigh x0)) (gHigh x0 x1 x2 x3 x4 x5 x6 x7) (wout x8) (row x9)
def store14Low : FVec Ideal S1x256x1024 .f32 := k0_pay44 (k0_pay3 (mods x1)) (k0_pay4 (xLow x0)) (gLow x0 x1 x2 x3 x4 x5 x6 x7) (wout x8) (row x9)
def store14High : FVec Ideal S1x256x1024 .f32 := k0_pay51 (midHigh x0 x1 x2 x3 x4 x5 x6 x7 x8 x9)
def store15Low : FVec Ideal S1x256x1024 .f32 := k0_pay49 (midLow x0 x1 x2 x3 x4 x5 x6 x7 x8 x9) (k0_pay45 (row x10)) (k0_pay46 (k0_pay3 (mods x1))) (k0_pay47 (k0_pay3 (mods x1)))
def store15High : FVec Ideal S1x256x1024 .f32 := k0_pay53 (k0_pay3 (mods x1)) (midHigh x0 x1 x2 x3 x4 x5 x6 x7 x8 x9) (row x10)

/-- The rows after the mixer's residual, as the body leaves them. -/
def left14 : Vec Ideal S1x512x1024 .f32 := View.canon (Val := Elt Ideal)
  [⟨Rect.unit (s := S1x512x1024) ![0, 256, 0] S1x256x1024.size inb_S1x512x1024_S1x256x1024_0_256_0, store14High x0 x1 x2 x3 x4 x5 x6 x7 x8 x9⟩,
    ⟨Rect.unit (s := S1x512x1024) ![0, 0, 0] S1x256x1024.size inb_S1x512x1024_S1x256x1024_0_0_0, store14Low x0 x1 x2 x3 x4 x5 x6 x7 x8 x9⟩]

/-- The rows normalised for what follows, as the body leaves them. -/
def left15 : Vec Ideal S1x512x1024 .f32 := View.canon (Val := Elt Ideal)
  [⟨Rect.unit (s := S1x512x1024) ![0, 256, 0] S1x256x1024.size inb_S1x512x1024_S1x256x1024_0_256_0, store15High x0 x1 x2 x3 x4 x5 x6 x7 x8 x9 x10⟩,
    ⟨Rect.unit (s := S1x512x1024) ![0, 0, 0] S1x256x1024.size inb_S1x512x1024_S1x256x1024_0_0_0, store15Low x0 x1 x2 x3 x4 x5 x6 x7 x8 x9 x10⟩]
end

theorem out_A_14 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x512 .bf16) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x512x128 .f32) (harg18 : arg18.IsWhole) (arg19 : Memref sig .tc .vmem S8x128 .f32) (harg19 : arg19.IsWhole) (arg20 : Memref sig .tc .vmem S1x128 .f32) (harg20 : arg20.IsWhole) (hc0 : cond0_0 i)
    (x0 : Vec Ideal S1x512x1024 .f32) (x1 : Vec Ideal S1x6x1024 .f32) (x2 : Vec Ideal S1x1024 .f32) (x3 : Vec Ideal S1024x2048 .bf16) (x4 : Vec Ideal S1x1024 .f32) (x5 : Vec Ideal S1x1024 .f32) (x6 : Vec Ideal S8x128x128 .bf16) (x7 : Vec Ideal S8x128x128 .f32) (x8 : Vec Ideal S1024x1024 .bf16) (x9 : Vec Ideal S1x1024 .f32) (x10 : Vec Ideal S1x1024 .f32) (x11 : Vec Ideal S1024x256 .bf16) (x12 : Vec Ideal S1x128 .f32) (x13 : Vec Ideal S512x512 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = left14 x0 x1 x2 x3 x4 x5 x6 x7 x8 x9 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem out_A_15 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x512 .bf16) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x512x128 .f32) (harg18 : arg18.IsWhole) (arg19 : Memref sig .tc .vmem S8x128 .f32) (harg19 : arg19.IsWhole) (arg20 : Memref sig .tc .vmem S1x128 .f32) (harg20 : arg20.IsWhole) (hc0 : cond0_0 i)
    (x0 : Vec Ideal S1x512x1024 .f32) (x1 : Vec Ideal S1x6x1024 .f32) (x2 : Vec Ideal S1x1024 .f32) (x3 : Vec Ideal S1024x2048 .bf16) (x4 : Vec Ideal S1x1024 .f32) (x5 : Vec Ideal S1x1024 .f32) (x6 : Vec Ideal S8x128x128 .bf16) (x7 : Vec Ideal S8x128x128 .f32) (x8 : Vec Ideal S1024x1024 .bf16) (x9 : Vec Ideal S1x1024 .f32) (x10 : Vec Ideal S1x1024 .f32) (x11 : Vec Ideal S1024x256 .bf16) (x12 : Vec Ideal S1x128 .f32) (x13 : Vec Ideal S512x512 .bf16) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = left15 x0 x1 x2 x3 x4 x5 x6 x7 x8 x9 x10 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem out_B_14 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x512 .bf16) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x512x128 .f32) (harg18 : arg18.IsWhole) (arg19 : Memref sig .tc .vmem S8x128 .f32) (harg19 : arg19.IsWhole) (arg20 : Memref sig .tc .vmem S1x128 .f32) (harg20 : arg20.IsWhole) (hc0 : ¬cond0_0 i)
    (x0 : Vec Ideal S1x512x1024 .f32) (x1 : Vec Ideal S1x6x1024 .f32) (x2 : Vec Ideal S1x1024 .f32) (x3 : Vec Ideal S1024x2048 .bf16) (x4 : Vec Ideal S1x1024 .f32) (x5 : Vec Ideal S1x1024 .f32) (x6 : Vec Ideal S8x128x128 .bf16) (x7 : Vec Ideal S8x128x128 .f32) (x8 : Vec Ideal S1024x1024 .bf16) (x9 : Vec Ideal S1x1024 .f32) (x10 : Vec Ideal S1x1024 .f32) (x11 : Vec Ideal S1024x256 .bf16) (x12 : Vec Ideal S1x128 .f32) (x13 : Vec Ideal S512x512 .bf16) (xs0 : Vec Ideal S1x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 = left14 x0 x1 x2 x3 x4 x5 x6 x7 x8 x9 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem out_B_15 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S512x512 .bf16) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x512x128 .f32) (harg18 : arg18.IsWhole) (arg19 : Memref sig .tc .vmem S8x128 .f32) (harg19 : arg19.IsWhole) (arg20 : Memref sig .tc .vmem S1x128 .f32) (harg20 : arg20.IsWhole) (hc0 : ¬cond0_0 i)
    (x0 : Vec Ideal S1x512x1024 .f32) (x1 : Vec Ideal S1x6x1024 .f32) (x2 : Vec Ideal S1x1024 .f32) (x3 : Vec Ideal S1024x2048 .bf16) (x4 : Vec Ideal S1x1024 .f32) (x5 : Vec Ideal S1x1024 .f32) (x6 : Vec Ideal S8x128x128 .bf16) (x7 : Vec Ideal S8x128x128 .f32) (x8 : Vec Ideal S1024x1024 .bf16) (x9 : Vec Ideal S1x1024 .f32) (x10 : Vec Ideal S1x1024 .f32) (x11 : Vec Ideal S1024x256 .bf16) (x12 : Vec Ideal S1x128 .f32) (x13 : Vec Ideal S512x512 .bf16) (xs0 : Vec Ideal S1x128 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 = left15 x0 x1 x2 x3 x4 x5 x6 x7 x8 x9 x10 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

end Cert.Kernel3Ideal.GateRows
-- ==== Proof.GateRows.lean ====
/- The gated MLP mixer: each row of a block, as the specification writes it. -/
module

public import proofs.«01_k».proof.Proof.GateBlock

@[expose] public section

set_option maxRecDepth 16384

noncomputable section

namespace Cert.Kernel3Ideal.GateRows

open Idealize.ShloMosaic
open Cert.Kernel3Ideal Cert.Kernel3Ideal.Gen Cert.Mix Cert.Gate
open scoped BigOperators

/-- A channel lies in one of the eight groups. -/
theorem by_group (P : Fin 1024 → Prop)
    (h0 : ∀ d : Fin 128, P (⟨0 + d.val, by omega⟩ : Fin 1024))
    (h1 : ∀ d : Fin 128, P (⟨128 + d.val, by omega⟩ : Fin 1024))
    (h2 : ∀ d : Fin 128, P (⟨256 + d.val, by omega⟩ : Fin 1024))
    (h3 : ∀ d : Fin 128, P (⟨384 + d.val, by omega⟩ : Fin 1024))
    (h4 : ∀ d : Fin 128, P (⟨512 + d.val, by omega⟩ : Fin 1024))
    (h5 : ∀ d : Fin 128, P (⟨640 + d.val, by omega⟩ : Fin 1024))
    (h6 : ∀ d : Fin 128, P (⟨768 + d.val, by omega⟩ : Fin 1024))
    (h7 : ∀ d : Fin 128, P (⟨896 + d.val, by omega⟩ : Fin 1024)) (o : Fin 1024) : P o := by
  rcases (by omega : o.val < 128 ∨ (128 ≤ o.val ∧ o.val < 256) ∨ (256 ≤ o.val ∧ o.val < 384) ∨ (384 ≤ o.val ∧ o.val < 512) ∨ (512 ≤ o.val ∧ o.val < 640) ∨ (640 ≤ o.val ∧ o.val < 768) ∨ (768 ≤ o.val ∧ o.val < 896) ∨ (896 ≤ o.val ∧ o.val < 1024)) with h | h | h | h | h | h | h | h
  · have e : (⟨0 + (o.val - 0), by omega⟩ : Fin 1024) = o := Fin.ext (by show 0 + (o.val - 0) = o.val; omega)
    exact e ▸ h0 ⟨o.val - 0, by omega⟩
  · have e : (⟨128 + (o.val - 128), by omega⟩ : Fin 1024) = o := Fin.ext (by show 128 + (o.val - 128) = o.val; omega)
    exact e ▸ h1 ⟨o.val - 128, by omega⟩
  · have e : (⟨256 + (o.val - 256), by omega⟩ : Fin 1024) = o := Fin.ext (by show 256 + (o.val - 256) = o.val; omega)
    exact e ▸ h2 ⟨o.val - 256, by omega⟩
  · have e : (⟨384 + (o.val - 384), by omega⟩ : Fin 1024) = o := Fin.ext (by show 384 + (o.val - 384) = o.val; omega)
    exact e ▸ h3 ⟨o.val - 384, by omega⟩
  · have e : (⟨512 + (o.val - 512), by omega⟩ : Fin 1024) = o := Fin.ext (by show 512 + (o.val - 512) = o.val; omega)
    exact e ▸ h4 ⟨o.val - 512, by omega⟩
  · have e : (⟨640 + (o.val - 640), by omega⟩ : Fin 1024) = o := Fin.ext (by show 640 + (o.val - 640) = o.val; omega)
    exact e ▸ h5 ⟨o.val - 640, by omega⟩
  · have e : (⟨768 + (o.val - 768), by omega⟩ : Fin 1024) = o := Fin.ext (by show 768 + (o.val - 768) = o.val; omega)
    exact e ▸ h6 ⟨o.val - 768, by omega⟩
  · have e : (⟨896 + (o.val - 896), by omega⟩ : Fin 1024) = o := Fin.ext (by show 896 + (o.val - 896) = o.val; omega)
    exact e ▸ h7 ⟨o.val - 896, by omega⟩

theorem gated_low (u : FVec Ideal S256x1024 .f32) (v : FVec Ideal S256x1024 .bf16) (x6 : Vec Ideal S8x128x128 .bf16) (x7 : Vec Ideal S8x128x128 .f32) (B : Fin 8 → Fin 128 → EReal) (hB : ∀ (g : Fin 8) (p d : Fin 128), x7 (ix3 g p d) = B g p) (p : Fin 128) : ∀ o : Fin 1024,
    gated u v x6 x7 (ix2 (⟨p.val, by omega⟩ : Fin 256) o)
      = u (ix2 (⟨p.val, by omega⟩ : Fin 256) o) * spatial (fun g p q => x6 (ix3 g p q)) B (fun q o => v (ix2 (⟨q.val, by omega⟩ : Fin 256) o)) p o := by
  unfold gated spatial
  refine by_group _ (fun d => ?_) (fun d => ?_) (fun d => ?_) (fun d => ?_) (fun d => ?_) (fun d => ?_) (fun d => ?_) (fun d => ?_)
  · beta_reduce
    rw [combined0_low, group0_low, bs0_apply, hB, show group (⟨0 + d.val, by omega⟩ : Fin 1024) = 0 from Fin.ext (by show (0 + d.val) / 128 = 0; omega)]
    simp only [ws0_apply]
  · beta_reduce
    rw [combined1_low, group1_low, bs1_apply, hB, show group (⟨128 + d.val, by omega⟩ : Fin 1024) = 1 from Fin.ext (by show (128 + d.val) / 128 = 1; omega)]
    simp only [ws1_apply]
  · beta_reduce
    rw [combined2_low, group2_low, bs2_apply, hB, show group (⟨256 + d.val, by omega⟩ : Fin 1024) = 2 from Fin.ext (by show (256 + d.val) / 128 = 2; omega)]
    simp only [ws2_apply]
  · beta_reduce
    rw [combined3_low, group3_low, bs3_apply, hB, show group (⟨384 + d.val, by omega⟩ : Fin 1024) = 3 from Fin.ext (by show (384 + d.val) / 128 = 3; omega)]
    simp only [ws3_apply]
  · beta_reduce
    rw [combined4_low, group4_low, bs4_apply, hB, show group (⟨512 + d.val, by omega⟩ : Fin 1024) = 4 from Fin.ext (by show (512 + d.val) / 128 = 4; omega)]
    simp only [ws4_apply]
  · beta_reduce
    rw [combined5_low, group5_low, bs5_apply, hB, show group (⟨640 + d.val, by omega⟩ : Fin 1024) = 5 from Fin.ext (by show (640 + d.val) / 128 = 5; omega)]
    simp only [ws5_apply]
  · beta_reduce
    rw [combined6_low, group6_low, bs6_apply, hB, show group (⟨768 + d.val, by omega⟩ : Fin 1024) = 6 from Fin.ext (by show (768 + d.val) / 128 = 6; omega)]
    simp only [ws6_apply]
  · beta_reduce
    rw [combined7_low, group7_low, bs7_apply, hB, show group (⟨896 + d.val, by omega⟩ : Fin 1024) = 7 from Fin.ext (by show (896 + d.val) / 128 = 7; omega)]
    simp only [ws7_apply]

theorem gated_high (u : FVec Ideal S256x1024 .f32) (v : FVec Ideal S256x1024 .bf16) (x6 : Vec Ideal S8x128x128 .bf16) (x7 : Vec Ideal S8x128x128 .f32) (B : Fin 8 → Fin 128 → EReal) (hB : ∀ (g : Fin 8) (p d : Fin 128), x7 (ix3 g p d) = B g p) (p : Fin 128) : ∀ o : Fin 1024,
    gated u v x6 x7 (ix2 (⟨128 + p.val, by omega⟩ : Fin 256) o)
      = u (ix2 (⟨128 + p.val, by omega⟩ : Fin 256) o) * spatial (fun g p q => x6 (ix3 g p q)) B (fun q o => v (ix2 (⟨128 + q.val, by omega⟩ : Fin 256) o)) p o := by
  unfold gated spatial
  refine by_group _ (fun d => ?_) (fun d => ?_) (fun d => ?_) (fun d => ?_) (fun d => ?_) (fun d => ?_) (fun d => ?_) (fun d => ?_)
  · beta_reduce
    rw [combined0_high, group0_high, bs0_apply, hB, show group (⟨0 + d.val, by omega⟩ : Fin 1024) = 0 from Fin.ext (by show (0 + d.val) / 128 = 0; omega)]
    simp only [ws0_apply]
  · beta_reduce
    rw [combined1_high, group1_high, bs1_apply, hB, show group (⟨128 + d.val, by omega⟩ : Fin 1024) = 1 from Fin.ext (by show (128 + d.val) / 128 = 1; omega)]
    simp only [ws1_apply]
  · beta_reduce
    rw [combined2_high, group2_high, bs2_apply, hB, show group (⟨256 + d.val, by omega⟩ : Fin 1024) = 2 from Fin.ext (by show (256 + d.val) / 128 = 2; omega)]
    simp only [ws2_apply]
  · beta_reduce
    rw [combined3_high, group3_high, bs3_apply, hB, show group (⟨384 + d.val, by omega⟩ : Fin 1024) = 3 from Fin.ext (by show (384 + d.val) / 128 = 3; omega)]
    simp only [ws3_apply]
  · beta_reduce
    rw [combined4_high, group4_high, bs4_apply, hB, show group (⟨512 + d.val, by omega⟩ : Fin 1024) = 4 from Fin.ext (by show (512 + d.val) / 128 = 4; omega)]
    simp only [ws4_apply]
  · beta_reduce
    rw [combined5_high, group5_high, bs5_apply, hB, show group (⟨640 + d.val, by omega⟩ : Fin 1024) = 5 from Fin.ext (by show (640 + d.val) / 128 = 5; omega)]
    simp only [ws5_apply]
  · beta_reduce
    rw [combined6_high, group6_high, bs6_apply, hB, show group (⟨768 + d.val, by omega⟩ : Fin 1024) = 6 from Fin.ext (by show (768 + d.val) / 128 = 6; omega)]
    simp only [ws6_apply]
  · beta_reduce
    rw [combined7_high, group7_high, bs7_apply, hB, show group (⟨896 + d.val, by omega⟩ : Fin 1024) = 7 from Fin.ext (by show (896 + d.val) / 128 = 7; omega)]
    simp only [ws7_apply]

/-- Row `q` of the chunk of row `r` in a block. -/
def chunkRow (r : Fin 512) (q : Fin 128) : Fin 512 := ⟨r.val / 128 * 128 + q.val, by omega⟩

/-- The position of row `r` in its chunk. -/
def place (r : Fin 512) : Fin 128 := ⟨r.val % 128, by omega⟩

section
variable (x0 : Vec Ideal S1x512x1024 .f32) (x1 : Vec Ideal S1x6x1024 .f32) (x2 : Vec Ideal S1x1024 .f32) (x3 : Vec Ideal S1024x2048 .bf16) (x4 x5 : Vec Ideal S1x1024 .f32) (x6 : Vec Ideal S8x128x128 .bf16) (x7 : Vec Ideal S8x128x128 .f32) (x8 : Vec Ideal S1024x1024 .bf16) (x9 x10 : Vec Ideal S1x1024 .f32) (B : Fin 8 → Fin 128 → EReal)

/-- Row `r` of a block, normalised for the mixer. -/
def hRow (r : Fin 512) : Row :=
  modulated (fun o => x0 (ix3 (0 : Fin 1) r o)) (fun o => x2 (ix2 (0 : Fin 1) o)) (fun o => x1 (ix3 (0 : Fin 1) (0 : Fin 6) o)) (fun o => x1 (ix3 (0 : Fin 1) (1 : Fin 6) o))

/-- The gating half of the hidden row. -/
def uRow (r : Fin 512) : Row := hiddenHalf (hRow x0 x1 x2 r) (fun i o => x3 (ix2 i (⟨o.val, by omega⟩ : Fin 2048)))

/-- The mixed half of the hidden row, normalised. -/
def vRow (r : Fin 512) : Row :=
  layered (hiddenHalf (hRow x0 x1 x2 r) (fun i o => x3 (ix2 i (⟨1024 + o.val, by omega⟩ : Fin 2048)))) (fun o => x4 (ix2 (0 : Fin 1) o)) (fun o => x5 (ix2 (0 : Fin 1) o))

/-- The mixed half over the chunk. -/
def sRow (r : Fin 512) : Row := spatial (fun g p q => x6 (ix3 g p q)) B (fun q => vRow x0 x1 x2 x3 x4 x5 (chunkRow r q)) (place r)

/-- A row after the mixer's residual. -/
def midRow (r : Fin 512) : Row :=
  added (fun o => x0 (ix3 (0 : Fin 1) r o)) (fun o => x1 (ix3 (0 : Fin 1) (2 : Fin 6) o)) (fun o => x9 (ix2 (0 : Fin 1) o))
    (projectedGate (uRow x0 x1 x2 x3 r) (sRow x0 x1 x2 x3 x4 x5 x6 B r) (fun j o => x8 (ix2 j o)))

/-- A row normalised for what follows the mixer. -/
def nextRow (r : Fin 512) : Row :=
  modulated (midRow x0 x1 x2 x3 x4 x5 x6 x8 x9 B r) (fun o => x10 (ix2 (0 : Fin 1) o)) (fun o => x1 (ix3 (0 : Fin 1) (3 : Fin 6) o)) (fun o => x1 (ix3 (0 : Fin 1) (4 : Fin 6) o))

theorem hLow_apply (r : Fin 256) (o : Fin 1024) : hLow x0 x1 x2 (ix2 r o) = hRow x0 x1 x2 (⟨r.val, by omega⟩ : Fin 512) o := by
  unfold hLow hRow
  rw [pay6_apply]
  simp only [xLow_apply, row_apply, mods_apply]

theorem uLow_apply (r : Fin 256) (o : Fin 1024) : uLow x0 x1 x2 x3 (ix2 r o) = uRow x0 x1 x2 x3 (⟨r.val, by omega⟩ : Fin 512) o := by
  unfold uLow uRow
  rw [pay10_apply]
  simp only [hLow_apply, winU_apply]

theorem vLow_apply (r : Fin 256) (o : Fin 1024) : vLow x0 x1 x2 x3 x4 x5 (ix2 r o) = vRow x0 x1 x2 x3 x4 x5 (⟨r.val, by omega⟩ : Fin 512) o := by
  unfold vLow vRow
  rw [pay13_apply]
  simp only [hLow_apply, winV_apply, row_apply]

theorem gLow_apply (hB : ∀ (g : Fin 8) (p d : Fin 128), x7 (ix3 g p d) = B g p) (r : Fin 256) (o : Fin 1024) :
    gLow x0 x1 x2 x3 x4 x5 x6 x7 (ix2 r o) = uRow x0 x1 x2 x3 (⟨r.val, by omega⟩ : Fin 512) o * sRow x0 x1 x2 x3 x4 x5 x6 B (⟨r.val, by omega⟩ : Fin 512) o := by
  unfold gLow sRow
  by_cases h : r.val < 128
  · obtain ⟨p, rfl⟩ : ∃ p : Fin 128, r = (⟨p.val, Nat.lt_trans p.isLt (by decide)⟩ : Fin 256) := ⟨⟨r.val, h⟩, rfl⟩
    rw [gated_low _ _ _ _ B hB, uLow_apply]
    simp only [vLow_apply]
    have hp : place (⟨p.val, by omega⟩ : Fin 512) = p := Fin.ext (by show (p.val) % 128 = p.val; omega)
    have hc : ∀ q : Fin 128, chunkRow (⟨p.val, by omega⟩ : Fin 512) q = (⟨q.val, by omega⟩ : Fin 512) := fun q =>
      Fin.ext (by show (p.val) / 128 * 128 + q.val = q.val; omega)
    simp only [hp, hc]
  · obtain ⟨p, rfl⟩ : ∃ p : Fin 128, r = (⟨128 + p.val, Nat.add_lt_add_left p.isLt 128⟩ : Fin 256) := ⟨⟨r.val - 128, by omega⟩, Fin.ext (by show r.val = 128 + (r.val - 128); omega)⟩
    rw [gated_high _ _ _ _ B hB, uLow_apply]
    simp only [vLow_apply]
    have hp : place (⟨(128 + p.val), by omega⟩ : Fin 512) = p := Fin.ext (by show ((128 + p.val)) % 128 = p.val; omega)
    have hc : ∀ q : Fin 128, chunkRow (⟨(128 + p.val), by omega⟩ : Fin 512) q = (⟨(128 + q.val), by omega⟩ : Fin 512) := fun q =>
      Fin.ext (by show ((128 + p.val)) / 128 * 128 + q.val = (128 + q.val); omega)
    simp only [hp, hc]

theorem midLow_apply (hB : ∀ (g : Fin 8) (p d : Fin 128), x7 (ix3 g p d) = B g p) (r : Fin 256) (o : Fin 1024) :
    midLow x0 x1 x2 x3 x4 x5 x6 x7 x8 x9 (ix2 r o) = midRow x0 x1 x2 x3 x4 x5 x6 x8 x9 B (⟨r.val, by omega⟩ : Fin 512) o := by
  unfold midLow midRow
  rw [pay43_apply]
  simp only [pay4_apply, pay3_apply, xLow_apply, mods_apply, row_apply, wout_apply, gLow_apply x0 x1 x2 x3 x4 x5 x6 x7 B hB]
  rfl

theorem hHigh_apply (r : Fin 256) (o : Fin 1024) : hHigh x0 x1 x2 (ix2 r o) = hRow x0 x1 x2 (⟨256 + r.val, by omega⟩ : Fin 512) o := by
  unfold hHigh hRow
  rw [pay9_apply]
  simp only [pay5_apply, pay3_apply, xHigh_apply, row_apply, mods_apply]

theorem uHigh_apply (r : Fin 256) (o : Fin 1024) : uHigh x0 x1 x2 x3 (ix2 r o) = uRow x0 x1 x2 x3 (⟨256 + r.val, by omega⟩ : Fin 512) o := by
  unfold uHigh uRow
  rw [pay16_apply]
  simp only [hHigh_apply, winU_apply]

theorem vHigh_apply (r : Fin 256) (o : Fin 1024) : vHigh x0 x1 x2 x3 x4 x5 (ix2 r o) = vRow x0 x1 x2 x3 x4 x5 (⟨256 + r.val, by omega⟩ : Fin 512) o := by
  unfold vHigh vRow
  rw [pay18_apply]
  simp only [hHigh_apply, winV_apply, row_apply]

theorem gHigh_apply (hB : ∀ (g : Fin 8) (p d : Fin 128), x7 (ix3 g p d) = B g p) (r : Fin 256) (o : Fin 1024) :
    gHigh x0 x1 x2 x3 x4 x5 x6 x7 (ix2 r o) = uRow x0 x1 x2 x3 (⟨256 + r.val, by omega⟩ : Fin 512) o * sRow x0 x1 x2 x3 x4 x5 x6 B (⟨256 + r.val, by omega⟩ : Fin 512) o := by
  unfold gHigh sRow
  by_cases h : r.val < 128
  · obtain ⟨p, rfl⟩ : ∃ p : Fin 128, r = (⟨p.val, Nat.lt_trans p.isLt (by decide)⟩ : Fin 256) := ⟨⟨r.val, h⟩, rfl⟩
    rw [gated_low _ _ _ _ B hB, uHigh_apply]
    simp only [vHigh_apply]
    have hp : place (⟨256 + p.val, by omega⟩ : Fin 512) = p := Fin.ext (by show (256 + p.val) % 128 = p.val; omega)
    have hc : ∀ q : Fin 128, chunkRow (⟨256 + p.val, by omega⟩ : Fin 512) q = (⟨256 + q.val, by omega⟩ : Fin 512) := fun q =>
      Fin.ext (by show (256 + p.val) / 128 * 128 + q.val = 256 + q.val; omega)
    simp only [hp, hc]
  · obtain ⟨p, rfl⟩ : ∃ p : Fin 128, r = (⟨128 + p.val, Nat.add_lt_add_left p.isLt 128⟩ : Fin 256) := ⟨⟨r.val - 128, by omega⟩, Fin.ext (by show r.val = 128 + (r.val - 128); omega)⟩
    rw [gated_high _ _ _ _ B hB, uHigh_apply]
    simp only [vHigh_apply]
    have hp : place (⟨256 + (128 + p.val), by omega⟩ : Fin 512) = p := Fin.ext (by show (256 + (128 + p.val)) % 128 = p.val; omega)
    have hc : ∀ q : Fin 128, chunkRow (⟨256 + (128 + p.val), by omega⟩ : Fin 512) q = (⟨256 + (128 + q.val), by omega⟩ : Fin 512) := fun q =>
      Fin.ext (by show (256 + (128 + p.val)) / 128 * 128 + q.val = 256 + (128 + q.val); omega)
    simp only [hp, hc]

theorem midHigh_apply (hB : ∀ (g : Fin 8) (p d : Fin 128), x7 (ix3 g p d) = B g p) (r : Fin 256) (o : Fin 1024) :
    midHigh x0 x1 x2 x3 x4 x5 x6 x7 x8 x9 (ix2 r o) = midRow x0 x1 x2 x3 x4 x5 x6 x8 x9 B (⟨256 + r.val, by omega⟩ : Fin 512) o := by
  unfold midHigh midRow
  rw [pay43_apply]
  simp only [pay5_apply, pay3_apply, xHigh_apply, mods_apply, row_apply, wout_apply, gHigh_apply x0 x1 x2 x3 x4 x5 x6 x7 B hB]
  rfl

theorem store14Low_apply (hB : ∀ (g : Fin 8) (p d : Fin 128), x7 (ix3 g p d) = B g p) (q : Fin 256) (o : Fin 1024) :
    store14Low x0 x1 x2 x3 x4 x5 x6 x7 x8 x9 (ix3 (0 : Fin 1) q o) = midRow x0 x1 x2 x3 x4 x5 x6 x8 x9 B (⟨q.val, by omega⟩ : Fin 512) o := by
  unfold store14Low
  rw [pay44_apply]
  exact midLow_apply x0 x1 x2 x3 x4 x5 x6 x7 x8 x9 B hB q o

theorem store14High_apply (hB : ∀ (g : Fin 8) (p d : Fin 128), x7 (ix3 g p d) = B g p) (q : Fin 256) (o : Fin 1024) :
    store14High x0 x1 x2 x3 x4 x5 x6 x7 x8 x9 (ix3 (0 : Fin 1) q o) = midRow x0 x1 x2 x3 x4 x5 x6 x8 x9 B (⟨256 + q.val, by omega⟩ : Fin 512) o := by
  unfold store14High
  rw [pay51_apply, midHigh_apply x0 x1 x2 x3 x4 x5 x6 x7 x8 x9 B hB]

theorem left14_apply (hB : ∀ (g : Fin 8) (p d : Fin 128), x7 (ix3 g p d) = B g p) (r : Fin 512) (o : Fin 1024) :
    left14 x0 x1 x2 x3 x4 x5 x6 x7 x8 x9 (ix3 (0 : Fin 1) r o) = midRow x0 x1 x2 x3 x4 x5 x6 x8 x9 B r o := by
  unfold left14
  generalize hy : ix3 (0 : Fin 1) r o = y
  have hr : (y 1).val = r.val := by rw [← hy]; rfl
  have ho : (y 2).val = o.val := by rw [← hy]; rfl
  canon_tiles x h using View.cover_of_tiledL (s := S1x512x1024) _ S1x256x1024.size (by sl_kernel_rfl) y
  · have e : x = ix3 (0 : Fin 1) (⟨r.val - 256, by omega⟩ : Fin 256) o :=
      funext fun b => Fin.ext (match b with
        | ⟨0, _⟩ => by show (x 0).val = 0; omega
        | ⟨1, _⟩ => by show (x 1).val = r.val - 256; omega
        | ⟨2, _⟩ => by show (x 2).val = o.val; omega)
    rw [e, store14High_apply x0 x1 x2 x3 x4 x5 x6 x7 x8 x9 B hB]
    have e2 : (⟨256 + (r.val - 256), by omega⟩ : Fin 512) = r := Fin.ext (by show 256 + (r.val - 256) = r.val; omega)
    exact congrArg (fun r => midRow x0 x1 x2 x3 x4 x5 x6 x8 x9 B r o) e2
  · have e : x = ix3 (0 : Fin 1) (⟨r.val, by omega⟩ : Fin 256) o :=
      funext fun b => Fin.ext (match b with
        | ⟨0, _⟩ => by show (x 0).val = 0; omega
        | ⟨1, _⟩ => by show (x 1).val = r.val; omega
        | ⟨2, _⟩ => by show (x 2).val = o.val; omega)
    rw [e, store14Low_apply x0 x1 x2 x3 x4 x5 x6 x7 x8 x9 B hB]

theorem store15Low_apply (hB : ∀ (g : Fin 8) (p d : Fin 128), x7 (ix3 g p d) = B g p) (q : Fin 256) (o : Fin 1024) :
    store15Low x0 x1 x2 x3 x4 x5 x6 x7 x8 x9 x10 (ix3 (0 : Fin 1) q o) = nextRow x0 x1 x2 x3 x4 x5 x6 x8 x9 x10 B (⟨q.val, by omega⟩ : Fin 512) o := by
  unfold store15Low nextRow
  rw [pay49_apply]
  simp only [midLow_apply x0 x1 x2 x3 x4 x5 x6 x7 x8 x9 B hB, pay3_apply, mods_apply, row_apply]

theorem store15High_apply (hB : ∀ (g : Fin 8) (p d : Fin 128), x7 (ix3 g p d) = B g p) (q : Fin 256) (o : Fin 1024) :
    store15High x0 x1 x2 x3 x4 x5 x6 x7 x8 x9 x10 (ix3 (0 : Fin 1) q o) = nextRow x0 x1 x2 x3 x4 x5 x6 x8 x9 x10 B (⟨256 + q.val, by omega⟩ : Fin 512) o := by
  unfold store15High nextRow
  rw [pay53_apply]
  simp only [midHigh_apply x0 x1 x2 x3 x4 x5 x6 x7 x8 x9 B hB, pay3_apply, mods_apply, row_apply]

theorem left15_apply (hB : ∀ (g : Fin 8) (p d : Fin 128), x7 (ix3 g p d) = B g p) (r : Fin 512) (o : Fin 1024) :
    left15 x0 x1 x2 x3 x4 x5 x6 x7 x8 x9 x10 (ix3 (0 : Fin 1) r o) = nextRow x0 x1 x2 x3 x4 x5 x6 x8 x9 x10 B r o := by
  unfold left15
  generalize hy : ix3 (0 : Fin 1) r o = y
  have hr : (y 1).val = r.val := by rw [← hy]; rfl
  have ho : (y 2).val = o.val := by rw [← hy]; rfl
  canon_tiles x h using View.cover_of_tiledL (s := S1x512x1024) _ S1x256x1024.size (by sl_kernel_rfl) y
  · have e : x = ix3 (0 : Fin 1) (⟨r.val - 256, by omega⟩ : Fin 256) o :=
      funext fun b => Fin.ext (match b with
        | ⟨0, _⟩ => by show (x 0).val = 0; omega
        | ⟨1, _⟩ => by show (x 1).val = r.val - 256; omega
        | ⟨2, _⟩ => by show (x 2).val = o.val; omega)
    rw [e, store15High_apply x0 x1 x2 x3 x4 x5 x6 x7 x8 x9 x10 B hB]
    have e2 : (⟨256 + (r.val - 256), by omega⟩ : Fin 512) = r := Fin.ext (by show 256 + (r.val - 256) = r.val; omega)
    exact congrArg (fun r => nextRow x0 x1 x2 x3 x4 x5 x6 x8 x9 x10 B r o) e2
  · have e : x = ix3 (0 : Fin 1) (⟨r.val, by omega⟩ : Fin 256) o :=
      funext fun b => Fin.ext (match b with
        | ⟨0, _⟩ => by show (x 0).val = 0; omega
        | ⟨1, _⟩ => by show (x 1).val = r.val; omega
        | ⟨2, _⟩ => by show (x 2).val = o.val; omega)
    rw [e, store15Low_apply x0 x1 x2 x3 x4 x5 x6 x7 x8 x9 x10 B hB]

end

end Cert.Kernel3Ideal.GateRows
-- ==== Proof.GateValue.lean ====
/- The odd layer's gated MLP mixer: the two arrays after the run, each as one function of the arguments. -/
module

public import proofs.«01_k».proof.Proof.GateRows
public import proofs.«01_k».proof.Proof.Gen.Kernel3Ideal.Value
public import Idealize.ShloMosaic.Lib.StableHlo.RunRead

@[expose] public section

set_option maxRecDepth 16384

noncomputable section

namespace Cert.Kernel3Ideal.GateRows

open Idealize.ShloMosaic Idealize.ShloMosaic.TcCoe
open Cert.Kernel3Ideal Cert.Kernel3Ideal.Gen Cert.Mix Cert.Gate
open scoped BigOperators

variable (m : (ℓ : Loc nD τ sig) → Buf (Elt Ideal) ℓ) (c : Dev nD)

/-! ## The arguments -/

abbrev argX : Vec Ideal S4x8192x1024 .f32 := m ((c : Thread nD τ).loc main_arg0)
abbrev argMods : Vec Ideal S8x6x1024 .f32 := m ((c : Thread nD τ).loc main_arg1)
abbrev argPre : Vec Ideal S1024 .f32 := m ((c : Thread nD τ).loc main_arg2)
abbrev argIn : Vec Ideal S1024x2048 .f32 := m ((c : Thread nD τ).loc main_arg3)
abbrev argGain : Vec Ideal S1024 .f32 := m ((c : Thread nD τ).loc main_arg4)
abbrev argBias : Vec Ideal S1024 .f32 := m ((c : Thread nD τ).loc main_arg5)
abbrev argWs : Vec Ideal S8x128x128 .f32 := m ((c : Thread nD τ).loc main_arg6)
abbrev argBs : Vec Ideal S8x128 .f32 := m ((c : Thread nD τ).loc main_arg7)
abbrev argOut : Vec Ideal S1024x1024 .f32 := m ((c : Thread nD τ).loc main_arg8)
abbrev argPost : Vec Ideal S1024 .f32 := m ((c : Thread nD τ).loc main_arg9)
abbrev argNext : Vec Ideal S1024 .f32 := m ((c : Thread nD τ).loc main_arg10)

/-! ## What the region finds -/

theorem V_pre : V m c main_v15 = shapeCast S1x1024 (argPre m c) shapeCasts_S1024_S1x1024 := by
  show StableHlo.after (hostOps0 ++ (hostOps0_1 ++ (hostOps0_2 ++ []))) _ (Proc.devRef .tc main_v15) = _
  after_reads_simp
  all_goals rfl

theorem V_in : V m c main_v16 = truncf (F := Ideal) .bf16 (argIn m c) bitsLt_bf16_f32 := by
  show StableHlo.after (hostOps0 ++ (hostOps0_1 ++ (hostOps0_2 ++ []))) _ (Proc.devRef .tc main_v16) = _
  after_reads_simp
  all_goals rfl

theorem V_gain : V m c main_v17 = shapeCast S1x1024 (argGain m c) shapeCasts_S1024_S1x1024 := by
  show StableHlo.after (hostOps0 ++ (hostOps0_1 ++ (hostOps0_2 ++ []))) _ (Proc.devRef .tc main_v17) = _
  after_reads_simp
  all_goals rfl

theorem V_bias : V m c main_v18 = shapeCast S1x1024 (argBias m c) shapeCasts_S1024_S1x1024 := by
  show StableHlo.after (hostOps0 ++ (hostOps0_1 ++ (hostOps0_2 ++ []))) _ (Proc.devRef .tc main_v18) = _
  after_reads_simp
  all_goals rfl

theorem V_ws : V m c main_v19 = truncf (F := Ideal) .bf16 (argWs m c) bitsLt_bf16_f32 := by
  show StableHlo.after (hostOps0 ++ (hostOps0_1 ++ (hostOps0_2 ++ []))) _ (Proc.devRef .tc main_v19) = _
  after_reads_simp
  all_goals rfl

theorem V_bs : V m c main_v1 = broadcastInDim S8x128x128 ![0, 1, 2] bcast_S8x128x1_S8x128x128_0_1_2 (broadcastInDim S8x128x1 ![0, 1] bcast_S8x128_S8x128x1_0_1 (argBs m c)) := by
  show StableHlo.after (hostOps0 ++ (hostOps0_1 ++ (hostOps0_2 ++ []))) _ (Proc.devRef .tc main_v1) = _
  after_reads_simp
  all_goals rfl

theorem V_out : V m c main_v20 = truncf (F := Ideal) .bf16 (argOut m c) bitsLt_bf16_f32 := by
  show StableHlo.after (hostOps0 ++ (hostOps0_1 ++ (hostOps0_2 ++ []))) _ (Proc.devRef .tc main_v20) = _
  after_reads_simp
  all_goals rfl

theorem V_post : V m c main_v21 = shapeCast S1x1024 (argPost m c) shapeCasts_S1024_S1x1024 := by
  show StableHlo.after (hostOps0 ++ (hostOps0_1 ++ (hostOps0_2 ++ []))) _ (Proc.devRef .tc main_v21) = _
  after_reads_simp
  all_goals rfl

theorem V_next : V m c main_v22 = shapeCast S1x1024 (argNext m c) shapeCasts_S1024_S1x1024 := by
  show StableHlo.after (hostOps0 ++ (hostOps0_1 ++ (hostOps0_2 ++ []))) _ (Proc.devRef .tc main_v22) = _
  after_reads_simp
  all_goals rfl

/-! ## The blocks at coordinates -/

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index14 : ∀ t : Fin cfg0.N, win0_14.index t = ![(grid0.coords t 0).val, (grid0.coords t 1).val, 0] := (by decide +kernel : ∀ t : Fin grid0.N, _)
theorem index15 : ∀ t : Fin cfg0.N, win0_15.index t = ![(grid0.coords t 0).val, (grid0.coords t 1).val, 0] := (by decide +kernel : ∀ t : Fin grid0.N, _)

theorem start : ∀ t : Fin cfg0.N, (grid0.coords t 1).val * 512 + 512 ≤ 8192 := (by decide +kernel : ∀ t : Fin grid0.N, _)

variable (t : Fin cfg0.N)

/-- The array row of row `r` of the block at point `t`. -/
def rowAt (r : Fin 512) : Fin 8192 := ⟨(grid0.coords t 1).val * 512 + r.val, by have := start t; omega⟩

theorem x_at (B : Fin 4) (r : Fin 512) (o : Fin 1024) (hB : B.val = (grid0.coords t 0).val) :
    (show Vec Ideal S1x512x1024 .f32 from iblk m c 0 t) (ix3 (0 : Fin 1) r o) = argX m c (ix3 B (rowAt t r) o) := by
  refine (?_ : iblk m c 0 t _ = V m c main_arg0 _).trans (congrFun (V_main_arg0 m c) _)
  refine congrArg (V m c main_arg0) (funext fun b => Fin.ext ?_)
  refine (Pipeline.Window.rect_emb_val (cfg0.win 0) t (ix3 (0 : Fin 1) r o) b).trans ?_
  rw [show (cfg0.win 0).index t = _ from index0 t]
  match b with
  | ⟨0, _⟩ => show (grid0.coords t 0).val * 1 + 0 = B.val; omega
  | ⟨1, _⟩ => rfl
  | ⟨2, _⟩ => show 0 * 1024 + o.val = o.val; omega

theorem mods_at (B : Fin 8) (k : Fin 6) (o : Fin 1024) (hB : B.val = (grid0.coords t 0).val) :
    (show Vec Ideal S1x6x1024 .f32 from iblk m c 1 t) (ix3 (0 : Fin 1) k o) = argMods m c (ix3 B k o) := by
  refine (?_ : iblk m c 1 t _ = V m c main_arg1 _).trans (congrFun (V_main_arg1 m c) _)
  refine congrArg (V m c main_arg1) (funext fun b => Fin.ext ?_)
  refine (Pipeline.Window.rect_emb_val (cfg0.win 1) t (ix3 (0 : Fin 1) k o) b).trans ?_
  rw [show (cfg0.win 1).index t = _ from index1 t]
  match b with
  | ⟨0, _⟩ => show (grid0.coords t 0).val * 1 + 0 = B.val; omega
  | ⟨1, _⟩ => show 0 * 6 + k.val = k.val; omega
  | ⟨2, _⟩ => show 0 * 1024 + o.val = o.val; omega

theorem pre_at (o : Fin 1024) : (show Vec Ideal S1x1024 .f32 from iblk m c 2 t) (ix2 (0 : Fin 1) o) = argPre m c (ix1 o) := by
  refine ((?_ : iblk m c 2 t _ = V m c main_v15 (ix2 (0 : Fin 1) o)).trans (congrFun (V_pre m c) _)).trans ?_
  · refine congrArg (V m c main_v15) (funext fun b => Fin.ext ?_)
    refine (Pipeline.Window.rect_emb_val (cfg0.win 2) t (ix2 (0 : Fin 1) o) b).trans ?_
    rw [show (cfg0.win 2).index t = _ from index2 t]
    match b with
    | ⟨0, _⟩ => show 0 * 1 + 0 = 0; omega
    | ⟨1, _⟩ => show 0 * 1024 + o.val = o.val; omega
  · pointwise []

theorem in_at (k : Fin 1024) (o : Fin 2048) : (show Vec Ideal S1024x2048 .bf16 from iblk m c 3 t) (ix2 k o) = argIn m c (ix2 k o) := by
  refine ((?_ : iblk m c 3 t _ = V m c main_v16 (ix2 k o)).trans (congrFun (V_in m c) _)).trans ?_
  · refine congrArg (V m c main_v16) (funext fun b => Fin.ext ?_)
    refine (Pipeline.Window.rect_emb_val (cfg0.win 3) t (ix2 k o) b).trans ?_
    rw [show (cfg0.win 3).index t = _ from index3 t]
    match b with
    | ⟨0, _⟩ => show 0 * 1024 + k.val = k.val; omega
    | ⟨1, _⟩ => show 0 * 2048 + o.val = o.val; omega
  · pointwise []

theorem gain_at (o : Fin 1024) : (show Vec Ideal S1x1024 .f32 from iblk m c 4 t) (ix2 (0 : Fin 1) o) = argGain m c (ix1 o) := by
  refine ((?_ : iblk m c 4 t _ = V m c main_v17 (ix2 (0 : Fin 1) o)).trans (congrFun (V_gain m c) _)).trans ?_
  · refine congrArg (V m c main_v17) (funext fun b => Fin.ext ?_)
    refine (Pipeline.Window.rect_emb_val (cfg0.win 4) t (ix2 (0 : Fin 1) o) b).trans ?_
    rw [show (cfg0.win 4).index t = _ from index4 t]
    match b with
    | ⟨0, _⟩ => show 0 * 1 + 0 = 0; omega
    | ⟨1, _⟩ => show 0 * 1024 + o.val = o.val; omega
  · pointwise []

theorem bias_at (o : Fin 1024) : (show Vec Ideal S1x1024 .f32 from iblk m c 5 t) (ix2 (0 : Fin 1) o) = argBias m c (ix1 o) := by
  refine ((?_ : iblk m c 5 t _ = V m c main_v18 (ix2 (0 : Fin 1) o)).trans (congrFun (V_bias m c) _)).trans ?_
  · refine congrArg (V m c main_v18) (funext fun b => Fin.ext ?_)
    refine (Pipeline.Window.rect_emb_val (cfg0.win 5) t (ix2 (0 : Fin 1) o) b).trans ?_
    rw [show (cfg0.win 5).index t = _ from index5 t]
    match b with
    | ⟨0, _⟩ => show 0 * 1 + 0 = 0; omega
    | ⟨1, _⟩ => show 0 * 1024 + o.val = o.val; omega
  · pointwise []

theorem ws_at (g : Fin 8) (p q : Fin 128) : (show Vec Ideal S8x128x128 .bf16 from iblk m c 6 t) (ix3 g p q) = argWs m c (ix3 g p q) := by
  refine ((?_ : iblk m c 6 t _ = V m c main_v19 (ix3 g p q)).trans (congrFun (V_ws m c) _)).trans ?_
  · refine congrArg (V m c main_v19) (funext fun b => Fin.ext ?_)
    refine (Pipeline.Window.rect_emb_val (cfg0.win 6) t (ix3 g p q) b).trans ?_
    rw [show (cfg0.win 6).index t = _ from index6 t]
    match b with
    | ⟨0, _⟩ => show 0 * 8 + g.val = g.val; omega
    | ⟨1, _⟩ => show 0 * 128 + p.val = p.val; omega
    | ⟨2, _⟩ => show 0 * 128 + q.val = q.val; omega
  · pointwise []

theorem bs_at (g : Fin 8) (p q : Fin 128) : (show Vec Ideal S8x128x128 .f32 from iblk m c 7 t) (ix3 g p q) = argBs m c (ix2 g p) := by
  refine ((?_ : iblk m c 7 t _ = V m c main_v1 (ix3 g p q)).trans (congrFun (V_bs m c) _)).trans ?_
  · refine congrArg (V m c main_v1) (funext fun b => Fin.ext ?_)
    refine (Pipeline.Window.rect_emb_val (cfg0.win 7) t (ix3 g p q) b).trans ?_
    rw [show (cfg0.win 7).index t = _ from index7 t]
    match b with
    | ⟨0, _⟩ => show 0 * 8 + g.val = g.val; omega
    | ⟨1, _⟩ => show 0 * 128 + p.val = p.val; omega
    | ⟨2, _⟩ => show 0 * 128 + q.val = q.val; omega
  · pointwise []

theorem out_at (k : Fin 1024) (o : Fin 1024) : (show Vec Ideal S1024x1024 .bf16 from iblk m c 8 t) (ix2 k o) = argOut m c (ix2 k o) := by
  refine ((?_ : iblk m c 8 t _ = V m c main_v20 (ix2 k o)).trans (congrFun (V_out m c) _)).trans ?_
  · refine congrArg (V m c main_v20) (funext fun b => Fin.ext ?_)
    refine (Pipeline.Window.rect_emb_val (cfg0.win 8) t (ix2 k o) b).trans ?_
    rw [show (cfg0.win 8).index t = _ from index8 t]
    match b with
    | ⟨0, _⟩ => show 0 * 1024 + k.val = k.val; omega
    | ⟨1, _⟩ => show 0 * 1024 + o.val = o.val; omega
  · pointwise []

theorem post_at (o : Fin 1024) : (show Vec Ideal S1x1024 .f32 from iblk m c 9 t) (ix2 (0 : Fin 1) o) = argPost m c (ix1 o) := by
  refine ((?_ : iblk m c 9 t _ = V m c main_v21 (ix2 (0 : Fin 1) o)).trans (congrFun (V_post m c) _)).trans ?_
  · refine congrArg (V m c main_v21) (funext fun b => Fin.ext ?_)
    refine (Pipeline.Window.rect_emb_val (cfg0.win 9) t (ix2 (0 : Fin 1) o) b).trans ?_
    rw [show (cfg0.win 9).index t = _ from index9 t]
    match b with
    | ⟨0, _⟩ => show 0 * 1 + 0 = 0; omega
    | ⟨1, _⟩ => show 0 * 1024 + o.val = o.val; omega
  · pointwise []

theorem next_at (o : Fin 1024) : (show Vec Ideal S1x1024 .f32 from iblk m c 10 t) (ix2 (0 : Fin 1) o) = argNext m c (ix1 o) := by
  refine ((?_ : iblk m c 10 t _ = V m c main_v22 (ix2 (0 : Fin 1) o)).trans (congrFun (V_next m c) _)).trans ?_
  · refine congrArg (V m c main_v22) (funext fun b => Fin.ext ?_)
    refine (Pipeline.Window.rect_emb_val (cfg0.win 10) t (ix2 (0 : Fin 1) o) b).trans ?_
    rw [show (cfg0.win 10).index t = _ from index10 t]
    match b with
    | ⟨0, _⟩ => show 0 * 1 + 0 = 0; omega
    | ⟨1, _⟩ => show 0 * 1024 + o.val = o.val; omega
  · pointwise []

/-! ## A block's rows and the whole array -/

theorem chunk_row (r : Fin 512) (q : Fin 128) : chunk (rowAt t r) q = rowAt t (chunkRow r q) :=
  Fin.ext (by show ((grid0.coords t 1).val * 512 + r.val) / 128 * 128 + q.val = (grid0.coords t 1).val * 512 + (r.val / 128 * 128 + q.val); omega)

theorem spot_row (r : Fin 512) : spot (rowAt t r) = place r :=
  Fin.ext (by show ((grid0.coords t 1).val * 512 + r.val) % 128 = r.val % 128; omega)

theorem mid_eq (x0 : Vec Ideal S1x512x1024 .f32) (x1 : Vec Ideal S1x6x1024 .f32) (x2 : Vec Ideal S1x1024 .f32) (x3 : Vec Ideal S1024x2048 .bf16) (x4 x5 : Vec Ideal S1x1024 .f32) (x6 : Vec Ideal S8x128x128 .bf16) (x8 : Vec Ideal S1024x1024 .bf16) (x9 x10 : Vec Ideal S1x1024 .f32)
    (X : Fin 8192 → Row) (M : Fin 6 → Row) (g0 : Row) (w : Fin 1024 → Fin 2048 → EReal) (g1 b1 : Row) (ws : Fin 8 → Fin 128 → Fin 128 → EReal)
    (bs : Fin 8 → Fin 128 → EReal) (wo : Fin 1024 → Row) (g2 g3 : Row)
    (h0 : ∀ r o, x0 (ix3 (0 : Fin 1) r o) = X (rowAt t r) o) (h1 : ∀ k o, x1 (ix3 (0 : Fin 1) k o) = M k o) (h2 : ∀ o, x2 (ix2 (0 : Fin 1) o) = g0 o)
    (h3 : ∀ k o, x3 (ix2 k o) = w k o) (h4 : ∀ o, x4 (ix2 (0 : Fin 1) o) = g1 o) (h5 : ∀ o, x5 (ix2 (0 : Fin 1) o) = b1 o)
    (h6 : ∀ g p q, x6 (ix3 g p q) = ws g p q) (h8 : ∀ k o, x8 (ix2 k o) = wo k o) (h9 : ∀ o, x9 (ix2 (0 : Fin 1) o) = g2 o) (h10 : ∀ o, x10 (ix2 (0 : Fin 1) o) = g3 o) (r : Fin 512) :
    midRow x0 x1 x2 x3 x4 x5 x6 x8 x9 bs r = mixedRow X M g0 w g1 b1 ws bs wo g2 (rowAt t r) := by
  unfold midRow sRow uRow vRow hRow mixedRow mlp gating carried entering
  simp only [h0, h1, h2, h3, h4, h5, h6, h8, h9, chunk_row, spot_row]

theorem next_eq (x0 : Vec Ideal S1x512x1024 .f32) (x1 : Vec Ideal S1x6x1024 .f32) (x2 : Vec Ideal S1x1024 .f32) (x3 : Vec Ideal S1024x2048 .bf16) (x4 x5 : Vec Ideal S1x1024 .f32) (x6 : Vec Ideal S8x128x128 .bf16) (x8 : Vec Ideal S1024x1024 .bf16) (x9 x10 : Vec Ideal S1x1024 .f32)
    (X : Fin 8192 → Row) (M : Fin 6 → Row) (g0 : Row) (w : Fin 1024 → Fin 2048 → EReal) (g1 b1 : Row) (ws : Fin 8 → Fin 128 → Fin 128 → EReal)
    (bs : Fin 8 → Fin 128 → EReal) (wo : Fin 1024 → Row) (g2 g3 : Row)
    (h0 : ∀ r o, x0 (ix3 (0 : Fin 1) r o) = X (rowAt t r) o) (h1 : ∀ k o, x1 (ix3 (0 : Fin 1) k o) = M k o) (h2 : ∀ o, x2 (ix2 (0 : Fin 1) o) = g0 o)
    (h3 : ∀ k o, x3 (ix2 k o) = w k o) (h4 : ∀ o, x4 (ix2 (0 : Fin 1) o) = g1 o) (h5 : ∀ o, x5 (ix2 (0 : Fin 1) o) = b1 o)
    (h6 : ∀ g p q, x6 (ix3 g p q) = ws g p q) (h8 : ∀ k o, x8 (ix2 k o) = wo k o) (h9 : ∀ o, x9 (ix2 (0 : Fin 1) o) = g2 o) (h10 : ∀ o, x10 (ix2 (0 : Fin 1) o) = g3 o) (r : Fin 512) :
    nextRow x0 x1 x2 x3 x4 x5 x6 x8 x9 x10 bs r = following X M g0 w g1 b1 ws bs wo g2 g3 (rowAt t r) := by
  unfold nextRow following
  rw [mid_eq t x0 x1 x2 x3 x4 x5 x6 x8 x9 x10 X M g0 w g1 b1 ws bs wo g2 g3 h0 h1 h2 h3 h4 h5 h6 h8 h9 h10 r]
  simp only [h1, h10]

/-- The rows after the mixer's residual at batch `b`, from the arguments. -/
def mixedAt (b : Fin 4) (n : Fin 8192) : Row :=
  mixedRow (fun n o => argX m c (ix3 b n o)) (fun k o => argMods m c (ix3 (⟨b.val, by omega⟩ : Fin 8) k o)) (fun o => argPre m c (ix1 o)) (fun i o => argIn m c (ix2 i o)) (fun o => argGain m c (ix1 o)) (fun o => argBias m c (ix1 o))
    (fun g p q => argWs m c (ix3 g p q)) (fun g p => argBs m c (ix2 g p)) (fun j o => argOut m c (ix2 j o)) (fun o => argPost m c (ix1 o)) n

/-- The rows normalised for what follows, at batch `b`, from the arguments. -/
def followingAt (b : Fin 4) (n : Fin 8192) : Row :=
  following (fun n o => argX m c (ix3 b n o)) (fun k o => argMods m c (ix3 (⟨b.val, by omega⟩ : Fin 8) k o)) (fun o => argPre m c (ix1 o)) (fun i o => argIn m c (ix2 i o)) (fun o => argGain m c (ix1 o)) (fun o => argBias m c (ix1 o))
    (fun g p q => argWs m c (ix3 g p q)) (fun g p => argBs m c (ix2 g p)) (fun j o => argOut m c (ix2 j o)) (fun o => argPost m c (ix1 o)) (fun o => argNext m c (ix1 o)) n

theorem block14 (B : Fin 4) (r : Fin 512) (o : Fin 1024) (hB : B.val = (grid0.coords t 0).val) :
    left14 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r o) = mixedAt m c B (rowAt t r) o :=
  (left14_apply _ _ _ _ _ _ _ _ _ _ (fun g p => argBs m c (ix2 g p)) (fun g p d => bs_at m c t g p d) r o).trans
    (congrFun (mid_eq t _ _ _ _ _ _ _ _ _ _ _ _ _ _ _ _ _ _ _ _ _
    (fun r o => x_at m c t B r o hB) (fun k o => mods_at m c t _ k o hB) (fun o => pre_at m c t o) (fun k o => in_at m c t k o) (fun o => gain_at m c t o) (fun o => bias_at m c t o)
    (fun g p q => ws_at m c t g p q) (fun k o => out_at m c t k o) (fun o => post_at m c t o) (fun o => next_at m c t o) r) o)

theorem block15 (B : Fin 4) (r : Fin 512) (o : Fin 1024) (hB : B.val = (grid0.coords t 0).val) :
    left15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r o) = followingAt m c B (rowAt t r) o :=
  (left15_apply _ _ _ _ _ _ _ _ _ _ _ (fun g p => argBs m c (ix2 g p)) (fun g p d => bs_at m c t g p d) r o).trans
    (congrFun (next_eq t _ _ _ _ _ _ _ _ _ _ _ _ _ _ _ _ _ _ _ _ _
    (fun r o => x_at m c t B r o hB) (fun k o => mods_at m c t _ k o hB) (fun o => pre_at m c t o) (fun k o => in_at m c t k o) (fun o => gain_at m c t o) (fun o => bias_at m c t o)
    (fun g p q => ws_at m c t g p q) (fun k o => out_at m c t k o) (fun o => post_at m c t o) (fun o => next_at m c t o) r) o)

theorem leaves14 : (outsAt0 m c t.val t.isLt).1 = left14 (iblk m c 0 t) (iblk m c 1 t) (iblk m c 2 t) (iblk m c 3 t) (iblk m c 4 t) (iblk m c 5 t) (iblk m c 6 t) (iblk m c 7 t) (iblk m c 8 t) (iblk m c 9 t) := by
  by_cases h0 : t.val % 64 = 0
  · rw [outsAt0_A m c t h0]
    dsimp only
    exact out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  · rw [outsAt0_B m c t h0]
    dsimp only
    exact out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _

theorem leaves15 : (outsAt0 m c t.val t.isLt).2.1 = left15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h0 : t.val % 64 = 0
  · rw [outsAt0_A m c t h0]
    dsimp only
    exact out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  · rw [outsAt0_B m c t h0]
    dsimp only
    exact out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _

omit t in
/-- The array of the rows after the mixer's residual. -/
theorem final14 : (dats m 0 c).arrAt 14 cfg0.N = fun i : S4x8192x1024.Idx => mixedAt m c (i 0) (i 1) (i 2) := by
  refine (dats m 0 c).arrAt_eq_of_covers 14 _ (by decide +kernel) fun t hf y => ?_
  blk_simp
  rw [after0_14, leaves14]
  obtain ⟨u, r, o, rfl⟩ : ∃ (u : Fin 1) (r : Fin 512) (o : Fin 1024), y = ix3 u r o := ⟨y 0, y 1, y 2, eq_ix3 y⟩
  obtain rfl : u = 0 := Subsingleton.elim _ _
  have e0 : (((cfg0.win 14).blk t).view.emb (ix3 (0 : Fin 1) r o) 0).val = (grid0.coords t 0).val := by
    refine (Pipeline.Window.rect_emb_val (cfg0.win 14) t (ix3 (0 : Fin 1) r o) 0).trans ?_
    rw [show (cfg0.win 14).index t = _ from index14 t]
    show (grid0.coords t 0).val * 1 + 0 = _; omega
  have e1 : (((cfg0.win 14).blk t).view.emb (ix3 (0 : Fin 1) r o) 1) = rowAt t r := by
    refine Fin.ext ((Pipeline.Window.rect_emb_val (cfg0.win 14) t (ix3 (0 : Fin 1) r o) 1).trans ?_)
    rw [show (cfg0.win 14).index t = _ from index14 t]
    rfl
  have e2 : (((cfg0.win 14).blk t).view.emb (ix3 (0 : Fin 1) r o) 2) = o := by
    refine Fin.ext ((Pipeline.Window.rect_emb_val (cfg0.win 14) t (ix3 (0 : Fin 1) r o) 2).trans ?_)
    rw [show (cfg0.win 14).index t = _ from index14 t]
    show 0 * 1024 + o.val = o.val; omega
  refine (block14 m c t _ r o e0).trans ?_
  exact (congrArg (fun n => mixedAt m c _ n o) e1.symm).trans (congrArg (mixedAt m c _ _) e2.symm)

omit t in
/-- The array of the rows normalised for what follows. -/
theorem final15 : (dats m 0 c).arrAt 15 cfg0.N = fun i : S4x8192x1024.Idx => followingAt m c (i 0) (i 1) (i 2) := by
  refine (dats m 0 c).arrAt_eq_of_covers 15 _ (by decide +kernel) fun t hf y => ?_
  blk_simp
  rw [after0_15, leaves15]
  obtain ⟨u, r, o, rfl⟩ : ∃ (u : Fin 1) (r : Fin 512) (o : Fin 1024), y = ix3 u r o := ⟨y 0, y 1, y 2, eq_ix3 y⟩
  obtain rfl : u = 0 := Subsingleton.elim _ _
  have e0 : (((cfg0.win 15).blk t).view.emb (ix3 (0 : Fin 1) r o) 0).val = (grid0.coords t 0).val := by
    refine (Pipeline.Window.rect_emb_val (cfg0.win 15) t (ix3 (0 : Fin 1) r o) 0).trans ?_
    rw [show (cfg0.win 15).index t = _ from index15 t]
    show (grid0.coords t 0).val * 1 + 0 = _; omega
  have e1 : (((cfg0.win 15).blk t).view.emb (ix3 (0 : Fin 1) r o) 1) = rowAt t r := by
    refine Fin.ext ((Pipeline.Window.rect_emb_val (cfg0.win 15) t (ix3 (0 : Fin 1) r o) 1).trans ?_)
    rw [show (cfg0.win 15).index t = _ from index15 t]
    rfl
  have e2 : (((cfg0.win 15).blk t).view.emb (ix3 (0 : Fin 1) r o) 2) = o := by
    refine Fin.ext ((Pipeline.Window.rect_emb_val (cfg0.win 15) t (ix3 (0 : Fin 1) r o) 2).trans ?_)
    rw [show (cfg0.win 15).index t = _ from index15 t]
    show 0 * 1024 + o.val = o.val; omega
  refine (block15 m c t _ r o e0).trans ?_
  exact (congrArg (fun n => followingAt m c _ n o) e1.symm).trans (congrArg (followingAt m c _ _) e2.symm)

end Cert.Kernel3Ideal.GateRows
-- ==== Proof.GateRef.lean ====
/- The odd layer's gated MLP mixer written plainly: the two results, row by row. -/
module

public import proofs.«01_k».proof.Proof.GateSpec
public import proofs.«01_k».proof.Proof.Gen.Reference3Ideal.Run
public import Idealize.ShloMosaic.Lib.Pointwise

@[expose] public section

set_option maxRecDepth 16384

noncomputable section

namespace Cert.Reference3Ideal.GateRef

open Idealize.ShloMosaic Idealize.ShloMosaic.TcCoe
open Cert.Reference3Ideal Cert.Reference3Ideal.Gen Cert.Reference3Ideal.Value Cert.Mix Cert.Gate
open scoped BigOperators

variable (V : Valuation τ sig (Elt Ideal))

abbrev argX : Vec Ideal S4x8192x1024 .f32 := V (Proc.devRef .tc main_arg0)
abbrev argMods : Vec Ideal S8x6x1024 .f32 := V (Proc.devRef .tc main_arg1)
abbrev argPre : Vec Ideal S1024 .f32 := V (Proc.devRef .tc main_arg2)
abbrev argIn : Vec Ideal S1024x2048 .f32 := V (Proc.devRef .tc main_arg3)
abbrev argGain : Vec Ideal S1024 .f32 := V (Proc.devRef .tc main_arg4)
abbrev argBias : Vec Ideal S1024 .f32 := V (Proc.devRef .tc main_arg5)
abbrev argWs : Vec Ideal S8x128x128 .f32 := V (Proc.devRef .tc main_arg6)
abbrev argBs : Vec Ideal S8x128 .f32 := V (Proc.devRef .tc main_arg7)
abbrev argOut : Vec Ideal S1024x1024 .f32 := V (Proc.devRef .tc main_arg8)
abbrev argPost : Vec Ideal S1024 .f32 := V (Proc.devRef .tc main_arg9)
abbrev argNext : Vec Ideal S1024 .f32 := V (Proc.devRef .tc main_arg10)

/-- One batch's rows, its modulations, and the first gain. -/
abbrev rowsX (b : Fin 4) : Fin 8192 → Row := fun n o => argX V (ix3 b n o)
abbrev rowsM (b : Fin 4) : Fin 6 → Row := fun k o => argMods V (ix3 (⟨b.val, by omega⟩ : Fin 8) k o)
abbrev first : Row := fun o => argPre V (ix1 o)
abbrev wide : Fin 1024 → Fin 2048 → EReal := fun i o => argIn V (ix2 i o)

theorem dot_apply (b : Fin 4) (n : Fin 8192) (o : Fin 2048) :
    (show Vec Ideal S4x8192x2048 .f32 from res_main_v37 V) (ix3 b n o) = ∑ i : Fin 1024, entering (rowsX V b) (rowsM V b) (first V) n i * wide V i o := by
  pointwise [res_main_v37, entering, modulated, normed, rootScale]

theorem hidden_apply (b : Fin 4) (n : Fin 8192) (o : Fin 2048) :
    (show Vec Ideal S4x8192x2048 .f32 from res_main_v50 V) (ix3 b n o) = gelu ((show Vec Ideal S4x8192x2048 .f32 from res_main_v37 V) (ix3 b n o)) := by
  unfold gelu
  rw [mul_comm ((show Vec Ideal S4x8192x2048 .f32 from res_main_v37 V) (ix3 b n o)) ((show Vec Ideal S4x8192x2048 .f32 from res_main_v37 V) (ix3 b n o) * (show Vec Ideal S4x8192x2048 .f32 from res_main_v37 V) (ix3 b n o))]
  pointwise [res_main_v50]

theorem gating_apply (b : Fin 4) (n : Fin 8192) (o : Fin 1024) :
    (show Vec Ideal S4x8192x2048 .f32 from res_main_v50 V) (ix3 b n (⟨o.val, by omega⟩ : Fin 2048)) = gating (rowsX V b) (rowsM V b) (first V) (wide V) n o := by
  rw [hidden_apply, dot_apply]
  rfl

theorem half_apply (b : Fin 4) (n : Fin 8192) (o : Fin 1024) :
    (show Vec Ideal S4x8192x1024 .f32 from res_main_v52 V) (ix3 b n o)
      = hiddenHalf (entering (rowsX V b) (rowsM V b) (first V) n) (fun i o => wide V i (⟨1024 + o.val, by omega⟩ : Fin 2048)) o := by
  have h : (show Vec Ideal S4x8192x1024 .f32 from res_main_v52 V) (ix3 b n o) = (show Vec Ideal S4x8192x2048 .f32 from res_main_v50 V) (ix3 b n (⟨1024 + o.val, by omega⟩ : Fin 2048)) := by
    pointwise [res_main_v52]
  rw [h, hidden_apply, dot_apply]
  rfl

theorem centred_apply (b : Fin 4) (n : Fin 8192) (o : Fin 1024) :
    (show Vec Ideal S4x8192x1024 .f32 from res_main_v58 V) (ix3 b n o) = centred (fun o => (show Vec Ideal S4x8192x1024 .f32 from res_main_v52 V) (ix3 b n o)) o := by
  pointwise [res_main_v58, res_main_v56, centred]

/-- The normalised half as the reference has it. -/
def carriedArr : Vec Ideal S4x8192x1024 .f32 :=
  addf (mulf (mulf (subf (res_main_v52 V) (broadcastInDim S4x8192x1024 ![0, 1, 2] bcast_S4x8192x1_S4x8192x1024_0_1_2 (res_main_v56 V))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v58 V) (res_main_v58 V)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V (Proc.devRef .tc main_arg4))))) (broadcastInDim S4x8192x1024 ![0, 1, 2] bcast_S1x1x1024_S4x8192x1024_0_1_2 (broadcastInDim S1x1x1024 ![2] bcast_S1024_S1x1x1024_2 (V (Proc.devRef .tc main_arg5))))

theorem carriedArr_apply (b : Fin 4) (n : Fin 8192) (o : Fin 1024) :
    carriedArr V (ix3 b n o) = carried (rowsX V b) (rowsM V b) (first V) (wide V) (fun o => argGain V (ix1 o)) (fun o => argBias V (ix1 o)) n o := by
  have hc : ∀ o, (show Vec Ideal S4x8192x1024 .f32 from res_main_v58 V) (ix3 b n o)
      = centred (hiddenHalf (entering (rowsX V b) (rowsM V b) (first V) n) (fun i o => wide V i (⟨1024 + o.val, by omega⟩ : Fin 2048))) o := fun o => by
    rw [centred_apply, funext (half_apply V b n)]
  have h : carriedArr V (ix3 b n o) = (show Vec Ideal S4x8192x1024 .f32 from res_main_v58 V) (ix3 b n o) * rootScale (fun o => (show Vec Ideal S4x8192x1024 .f32 from res_main_v58 V) (ix3 b n o)) * argGain V (ix1 o) + argBias V (ix1 o) := by
    pointwise [carriedArr, rootScale, res_main_v58]
  rw [h, funext hc, hc o]
  rfl

/-- The chunks mixed group by group as the reference has them. -/
def chunks : Vec Ideal S4x64x128x8x128 .f32 :=
  addf (F := Ideal) (transpose S4x64x128x8x128 [1, 2, 4, 0, 3] (Host.dotGeneral (φ₁ := .f32) (φ₂ := .f32) dot_S4x64x128x8x128_S8x128x128_S8x4x64x128x128_2_2_014_1_3_0 none (shapeCast S4x64x128x8x128 (carriedArr V) shapeCasts_S4x8192x1024_S4x64x128x8x128) (argWs V)) transposes_S8x4x64x128x128_S4x64x128x8x128_1_2_4_0_3) (broadcastInDim S4x64x128x8x128 ![0, 1, 2, 3, 4] bcast_S1x1x128x8x1_S4x64x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] (argBs V) transposes_S8x128_S128x8_1_0))))

/-- The mixed half as the reference has it. -/
def mixedArr : Vec Ideal S4x8192x1024 .f32 := shapeCast S4x8192x1024 (chunks V) shapeCasts_S4x64x128x8x128_S4x8192x1024

theorem mixedArr_apply (b : Fin 4) (n : Fin 8192) (o : Fin 1024) :
    mixedArr V (ix3 b n o) = (∑ q : Fin 128, carriedArr V (ix3 b (chunk n q) o) * argWs V (ix3 (group o) (spot n) q)) + argBs V (ix2 (group o) (spot n)) := by
  pointwise [mixedArr, chunks]
  rfl

theorem spatial_apply (b : Fin 4) (n : Fin 8192) (o : Fin 1024) :
    mixedArr V (ix3 b n o)
      = spatial (fun g p q => argWs V (ix3 g p q)) (fun g p => argBs V (ix2 g p)) (fun q => carried (rowsX V b) (rowsM V b) (first V) (wide V) (fun o => argGain V (ix1 o)) (fun o => argBias V (ix1 o)) (chunk n q)) (spot n) o := by
  rw [mixedArr_apply]
  unfold spatial
  refine congrArg (· + _) (Finset.sum_congr rfl fun q _ => ?_)
  rw [carriedArr_apply, mul_comm]

theorem mlp_apply (b : Fin 4) (n : Fin 8192) (o : Fin 1024) :
    (show Vec Ideal S4x8192x1024 .f32 from res_main_v87 V) (ix3 b n o)
      = mlp (rowsX V b) (rowsM V b) (first V) (wide V) (fun o => argGain V (ix1 o)) (fun o => argBias V (ix1 o)) (fun g p q => argWs V (ix3 g p q)) (fun g p => argBs V (ix2 g p)) (fun j o => argOut V (ix2 j o)) n o := by
  have e : res_main_v87 V = Host.dotGeneral dot_S4x8192x1024_S1024x1024_S4x8192x1024_2_0_01_1_n_n none (mulf (extractStridedSlice S4x8192x1024 ![0, 0, 0] (res_main_v50 V) slices_S4x8192x2048_S4x8192x1024_0_0_0) (mixedArr V)) (V (Proc.devRef .tc main_arg8)) := rfl
  have h : (show Vec Ideal S4x8192x1024 .f32 from res_main_v87 V) (ix3 b n o)
      = ∑ j : Fin 1024, (show Vec Ideal S4x8192x2048 .f32 from res_main_v50 V) (ix3 b n (⟨j.val, by omega⟩ : Fin 2048)) * mixedArr V (ix3 b n j) * argOut V (ix2 j o) := by
    rw [e]
    pointwise []
  rw [h]
  unfold mlp projectedGate
  refine Finset.sum_congr rfl fun j _ => ?_
  rw [gating_apply, spatial_apply]

theorem mid_apply (b : Fin 4) (n : Fin 8192) (o : Fin 1024) :
    (show Vec Ideal S4x8192x1024 .f32 from res_main_v103 V) (ix3 b n o)
      = added (fun o => argX V (ix3 b n o)) (fun o => argMods V (ix3 (⟨b.val, by omega⟩ : Fin 8) (2 : Fin 6) o)) (fun o => argPost V (ix1 o))
          (fun o => (show Vec Ideal S4x8192x1024 .f32 from res_main_v87 V) (ix3 b n o)) o := by
  pointwise [res_main_v103, added, normed, rootScale]

/-- The rows after the mixer's residual at batch `b`, from the arguments. -/
def mixedAt (b : Fin 4) (n : Fin 8192) : Row :=
  mixedRow (fun n o => argX V (ix3 b n o)) (fun k o => argMods V (ix3 (⟨b.val, by omega⟩ : Fin 8) k o)) (fun o => argPre V (ix1 o)) (fun i o => argIn V (ix2 i o)) (fun o => argGain V (ix1 o)) (fun o => argBias V (ix1 o))
    (fun g p q => argWs V (ix3 g p q)) (fun g p => argBs V (ix2 g p)) (fun j o => argOut V (ix2 j o)) (fun o => argPost V (ix1 o)) n

/-- The rows normalised for what follows, at batch `b`, from the arguments. -/
def followingAt (b : Fin 4) (n : Fin 8192) : Row :=
  following (fun n o => argX V (ix3 b n o)) (fun k o => argMods V (ix3 (⟨b.val, by omega⟩ : Fin 8) k o)) (fun o => argPre V (ix1 o)) (fun i o => argIn V (ix2 i o)) (fun o => argGain V (ix1 o)) (fun o => argBias V (ix1 o))
    (fun g p q => argWs V (ix3 g p q)) (fun g p => argBs V (ix2 g p)) (fun j o => argOut V (ix2 j o)) (fun o => argPost V (ix1 o)) (fun o => argNext V (ix1 o)) n

theorem mid_eq : res_main_v103 V = fun i => mixedAt V (i 0) (i 1) (i 2) := by
  funext y
  obtain ⟨b, n, o, rfl⟩ : ∃ (b : Fin 4) (n : Fin 8192) (o : Fin 1024), y = ix3 b n o := ⟨y 0, y 1, y 2, eq_ix3 y⟩
  refine (mid_apply V b n o).trans ?_
  rw [funext (mlp_apply V b n)]
  rfl

/-- The second result array. -/
def following2 : Vec Ideal S4x8192x1024 .f32 :=
  addf (mulf (mulf (mulf (res_main_v103 V) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v103 V) (res_main_v103 V)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V (Proc.devRef .tc main_arg10))))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 4, 0] (V (Proc.devRef .tc main_arg1)) slices_S8x6x1024_S4x1x1024_0_4_0) shapeCasts_S4x1x1024_S4x1024))))) (broadcastInDim S4x8192x1024 ![0, 1, 2] bcast_S4x1x1024_S4x8192x1024_0_1_2 (broadcastInDim S4x1x1024 ![0, 2] bcast_S4x1024_S4x1x1024_0_2 (shapeCast _ (extractStridedSlice S4x1x1024 ![0, 3, 0] (V (Proc.devRef .tc main_arg1)) slices_S8x6x1024_S4x1x1024_0_3_0) shapeCasts_S4x1x1024_S4x1024)))

theorem following_eq : following2 V = fun i => followingAt V (i 0) (i 1) (i 2) := by
  funext y
  obtain ⟨b, n, o, rfl⟩ : ∃ (b : Fin 4) (n : Fin 8192) (o : Fin 1024), y = ix3 b n o := ⟨y 0, y 1, y 2, eq_ix3 y⟩
  have h : following2 V (ix3 b n o) = modulated (fun o => (show Vec Ideal S4x8192x1024 .f32 from res_main_v103 V) (ix3 b n o)) (fun o => argNext V (ix1 o))
      (fun o => argMods V (ix3 (⟨b.val, by omega⟩ : Fin 8) (3 : Fin 6) o)) (fun o => argMods V (ix3 (⟨b.val, by omega⟩ : Fin 8) (4 : Fin 6) o)) o := by
    pointwise [following2, modulated, normed, rootScale]
  rw [h, mid_eq]
  rfl

end Cert.Reference3Ideal.GateRef
-- ==== Proof.InSpec.lean ====
/- One row of the even layer's input projections, over the extended reals. -/
module

public import proofs.«01_k».proof.Proof.MixSpec
public import Idealize.ShloMosaic.Lib.IdealHost

@[expose] public section

noncomputable section

namespace Cert.In

open Idealize.ShloMosaic Cert.Mix
open scoped BigOperators

/-- A row's product with column `c` of the projection. -/
def cast (h : Row) (w : Fin 1024 → Fin 2304 → EReal) (c : Fin 2304) : EReal := ∑ i : Fin 1024, h i * w i c

/-- One head normalised and scaled by a gain. -/
def headed (t g : Fin 64 → EReal) (e : Fin 64) : EReal :=
  t e * Ideal.rsqrt (Ideal.div (∑ k : Fin 64, t k * t k) (Ideal.ofBits .f32 0x42800000#32) + Ideal.ofBits .f32 0x358637BD#32) * g e

/-- One head turned by its position's angles: channel `e` goes with the channel half a head away. -/
def turned (t : Fin 64 → EReal) (c s : Fin 32 → EReal) (e : Fin 64) : EReal :=
  if e.val < 32 then t e * c ⟨e.val % 32, by omega⟩ - t ⟨(e.val + 32) % 64, by omega⟩ * s ⟨e.val % 32, by omega⟩
  else t e * c ⟨e.val % 32, by omega⟩ + t ⟨(e.val + 32) % 64, by omega⟩ * s ⟨e.val % 32, by omega⟩

/-- Channel `e` of the head of column `o`. -/
def mate {W : ℕ} (hW : 64 ∣ W) (o : Fin W) (e : Fin 64) : Fin W := ⟨o.val / 64 * 64 + e.val, by omega⟩

/-- The place of column `o` in its head. -/
def place {W : ℕ} (o : Fin W) : Fin 64 := ⟨o.val % 64, by omega⟩

/-- The heads of a row, each normalised and turned. -/
def heads {W : ℕ} (hW : 64 ∣ W) (q : Fin W → EReal) (g : Fin 64 → EReal) (c s : Fin 32 → EReal) (o : Fin W) : EReal :=
  turned (headed (fun e => q (mate hW o e)) g) c s (place o)

/-! ## The same by a matrix of means and by turns of 128 lanes -/

/-- A row times the reciprocal root of its columns' means, the means taken by a matrix, and a gain. -/
def meaned {W : ℕ} (q : Fin W → EReal) (E : Fin W → Fin W → EReal) (g : Fin W → EReal) (o : Fin W) : EReal :=
  q o * Ideal.rsqrt ((∑ j : Fin W, q j * q j * E j o) + Ideal.ofBits .f32 0x358637BD#32) * g o

/-- 128 lanes times a table, plus the lanes 32 further and the lanes 32 before, each times a table of its own. -/
def lanes (t C A B : Fin 128 → EReal) (l : Fin 128) : EReal :=
  t l * C l + t ⟨(l.val + 32) % 128, by omega⟩ * A l + t ⟨(l.val + 96) % 128, by omega⟩ * B l

/-- The matrix of means: a sixty-fourth within a head. -/
def means {W : ℕ} (j o : Fin W) : EReal := if j.val / 64 = o.val / 64 then Ideal.ofBits .f32 0x3C800000#32 else 0

theorem part_val : Ideal.ofBits .f32 0x3C800000#32 = (((1 : ℝ) / 64 : ℝ) : EReal) := by
  simp [Ideal.ofBits, Ideal.ieee, -EReal.coe_mul]; norm_num

theorem whole_val : Ideal.ofBits .f32 0x42800000#32 = ((64 : ℝ) : EReal) := by
  simp [Ideal.ofBits, Ideal.ieee, -EReal.coe_mul]; norm_num

theorem div_whole (x : EReal) : Ideal.div x (Ideal.ofBits .f32 0x42800000#32) = x * Ideal.ofBits .f32 0x3C800000#32 := by
  rw [part_val, whole_val]
  unfold Ideal.div
  rw [if_neg (by norm_num), ← EReal.coe_inv]
  norm_num

theorem sum_part {ι : Type} (S : Finset ι) (f : ι → EReal) :
    ∑ k ∈ S, f k * Ideal.ofBits .f32 0x3C800000#32 = (∑ k ∈ S, f k) * Ideal.ofBits .f32 0x3C800000#32 := by
  classical
  rw [part_val]
  induction S using Finset.induction_on with
  | empty => simp
  | insert a S ha ih =>
    rw [Finset.sum_insert ha, Finset.sum_insert ha, ih, EReal.right_distrib_of_nonneg_of_ne_top (by exact_mod_cast (by norm_num : (0 : ℝ) ≤ 1 / 64)) (EReal.coe_ne_top _)]

theorem sum_means {W : ℕ} (hW : 64 ∣ W) (f : Fin W → EReal) (o : Fin W) :
    ∑ j : Fin W, f j * means j o = ∑ k : Fin 64, f (mate hW o k) * Ideal.ofBits .f32 0x3C800000#32 := by
  unfold means
  simp only [mul_ite, mul_zero]
  rw [← Finset.sum_filter]
  symm
  refine Finset.sum_bij (fun k _ => mate hW o k) ?_ ?_ ?_ ?_
  · intro k _
    rw [Finset.mem_filter]
    refine ⟨Finset.mem_univ _, ?_⟩
    show (o.val / 64 * 64 + k.val) / 64 = o.val / 64
    omega
  · intro a _ b _ h
    have h' : o.val / 64 * 64 + a.val = o.val / 64 * 64 + b.val := congrArg Fin.val h
    exact Fin.ext (by omega)
  · intro j hj
    have hj' : j.val / 64 = o.val / 64 := (Finset.mem_filter.mp hj).2
    refine ⟨⟨j.val % 64, by omega⟩, Finset.mem_univ _, Fin.ext ?_⟩
    show o.val / 64 * 64 + j.val % 64 = j.val
    omega
  · intro k _
    rfl

theorem meaned_eq {W : ℕ} (hW : 64 ∣ W) (q : Fin W → EReal) (g : Fin 64 → EReal) (o : Fin W) :
    meaned q means (fun o => g (place o)) o = headed (fun e => q (mate hW o e)) g (place o) := by
  unfold meaned headed
  have e : mate hW o (place o) = o := Fin.ext (by show o.val / 64 * 64 + o.val % 64 = o.val; omega)
  rw [sum_means hW (fun j => q j * q j) o, sum_part, div_whole]
  beta_reduce
  rw [e]

theorem lanes_eq (t C A B : Fin 128 → EReal) (c s : Fin 32 → EReal) (hC : ∀ l, C l = c ⟨l.val % 32, by omega⟩)
    (hA : ∀ l, A l = if l.val % 64 < 32 then -s ⟨l.val % 32, by omega⟩ else 0)
    (hB : ∀ l, B l = if l.val % 64 < 32 then 0 else s ⟨l.val % 32, by omega⟩) (l : Fin 128) :
    lanes t C A B l = turned (fun e => t (mate (by decide) l e)) c s (place l) := by
  unfold lanes turned
  beta_reduce
  have e0 : mate (by decide) l (place l) = l := Fin.ext (by show l.val / 64 * 64 + l.val % 64 = l.val; omega)
  have ec : (⟨(place l).val % 32, by omega⟩ : Fin 32) = ⟨l.val % 32, by omega⟩ := Fin.ext (by show l.val % 64 % 32 = l.val % 32; omega)
  rw [hC, hA, hB, e0, ec]
  by_cases h : l.val % 64 < 32
  · have h' : (place l).val < 32 := h
    have e1 : mate (by decide) l (⟨((place l).val + 32) % 64, by omega⟩ : Fin 64) = (⟨(l.val + 32) % 128, by omega⟩ : Fin 128) :=
      Fin.ext (by show l.val / 64 * 64 + (l.val % 64 + 32) % 64 = (l.val + 32) % 128; omega)
    rw [if_pos h, if_pos h, if_pos h', e1, mul_zero, add_zero, mul_neg, sub_eq_add_neg]
  · have h' : ¬ (place l).val < 32 := h
    have e1 : mate (by decide) l (⟨((place l).val + 32) % 64, by omega⟩ : Fin 64) = (⟨(l.val + 96) % 128, by omega⟩ : Fin 128) :=
      Fin.ext (by show l.val / 64 * 64 + (l.val % 64 + 32) % 64 = (l.val + 96) % 128; omega)
    rw [if_neg h, if_neg h, if_neg h', e1, mul_zero, add_zero]

theorem lanes_heads {W : ℕ} (hW : 64 ∣ W) (q : Fin W → EReal) (g : Fin 64 → EReal) (C A B : Fin 128 → EReal) (c s : Fin 32 → EReal)
    (hC : ∀ l, C l = c ⟨l.val % 32, by omega⟩) (hA : ∀ l, A l = if l.val % 64 < 32 then -s ⟨l.val % 32, by omega⟩ else 0)
    (hB : ∀ l, B l = if l.val % 64 < 32 then 0 else s ⟨l.val % 32, by omega⟩) (base : ℕ) (hb : 64 ∣ base) (at' : Fin 128 → Fin W)
    (hat : ∀ l, (at' l).val = base + l.val) (l : Fin 128) :
    lanes (fun l => meaned q means (fun o => g (place o)) (at' l)) C A B l = heads hW q g c s (at' l) := by
  rw [lanes_eq _ C A B c s hC hA hB l]
  unfold heads
  have hl := hat l
  have e1 : place (at' l) = place l := Fin.ext (by show (at' l).val % 64 = l.val % 64; omega)
  have e2 : (fun e => meaned q means (fun o => g (place o)) (at' (mate (by decide) l e))) = headed (fun e => q (mate hW (at' l) e)) g := by
    funext e
    have hm := hat (mate (by decide) l e)
    have hv : (mate (by decide : 64 ∣ 128) l e).val = l.val / 64 * 64 + e.val := rfl
    have e3 : place (at' (mate (by decide) l e)) = e := Fin.ext (by show (at' (mate (by decide) l e)).val % 64 = e.val; omega)
    have e4 : ∀ k, mate hW (at' (mate (by decide) l e)) k = mate hW (at' l) k := fun k =>
      Fin.ext (by show (at' (mate (by decide) l e)).val / 64 * 64 + k.val = (at' l).val / 64 * 64 + k.val; omega)
    rw [meaned_eq hW, e3]
    simp only [e4]
  rw [e1]
  exact congrArg (fun t => turned t c s (place l)) e2

/-! ## The five results of a row -/

/-- A row normalised, scaled and shifted, times column `o` of the projection. -/
def column (x g shift scale : Row) (w : Fin 1024 → Fin 2304 → EReal) (o : Fin 2304) : EReal := cast (modulated x g shift scale) w o

/-- The queries of a row, from its columns. -/
def queries (y : Fin 2304 → EReal) (g : Fin 64 → EReal) (c s : Fin 32 → EReal) (o : Fin 512) : EReal :=
  heads (by decide) (fun o : Fin 512 => y ⟨o.val, by omega⟩) g c s o * Ideal.ofBits .f32 0x3E38AA3B#32

/-- The keys of a row, from its columns. -/
def keys (y : Fin 2304 → EReal) (g : Fin 64 → EReal) (c s : Fin 32 → EReal) (o : Fin 128) : EReal :=
  heads (by decide) (fun o : Fin 128 => y ⟨512 + o.val, by omega⟩) g c s o

/-- The values of a row. -/
def values (y : Fin 2304 → EReal) (o : Fin 128) : EReal := y ⟨640 + o.val, by omega⟩

/-- The convolution's gate of a row. -/
def gates (y : Fin 2304 → EReal) (o : Fin 512) : EReal := y ⟨768 + o.val, by omega⟩

/-- What the convolution of a row reads. -/
def inputs (y : Fin 2304 → EReal) (o : Fin 512) : EReal := y ⟨1280 + o.val, by omega⟩ * y ⟨1792 + o.val, by omega⟩

end Cert.In
-- ==== Proof.InPay.lean ====
/- The input projections: each stored value of the body, read at an entry. -/
module

public import proofs.«01_k».proof.Proof.InSpec
public import proofs.«01_k».proof.Proof.Gen.Kernel4Ideal.Skeleton
public import Idealize.ShloMosaic.Lib.Pointwise

@[expose] public section

set_option maxRecDepth 16384

noncomputable section

namespace Cert.Kernel4Ideal.InRows

open Idealize.ShloMosaic
open Cert.Kernel4Ideal Cert.Kernel4Ideal.Gen Cert.Mix Cert.In
open scoped BigOperators

theorem pay4_apply (v0 : Vec Ideal S1x6x1024 .f32) (v2 : Vec Ideal S1x512x1024 .f32) (v4 : Vec Ideal S1x1024 .f32) (r : Fin 512) (o : Fin 1024) :
    k0_pay4 v0 v2 v4 (ix2 r o) = modulated (fun o => v2 (ix3 (0 : Fin 1) r o)) (fun o => v4 (ix2 (0 : Fin 1) o)) (fun o => v0 (ix3 (0 : Fin 1) (0 : Fin 6) o)) (fun o => v0 (ix3 (0 : Fin 1) (1 : Fin 6) o)) o := by
  pointwise [k0_pay4, modulated, normed, rootScale]

theorem pay8_apply (v0 : Vec Ideal S1x6x1024 .f32) (v2 : Vec Ideal S1x512x1024 .f32) (v4 : Vec Ideal S1x1024 .f32) (w : Vec Ideal S1024x512 .bf16) (r o : Fin 512) :
    k0_pay8 v0 v2 v4 w (ix2 r o) = ∑ i : Fin 1024, k0_pay4 v0 v2 v4 (ix2 r i) * w (ix2 i o) := by
  pointwise [k0_pay8]

theorem pay2_apply (h : FVec Ideal S512x1024 .bf16) (w : Vec Ideal S1024x512 .bf16) (r o : Fin 512) :
    k0_pay2 h w (ix3 (0 : Fin 1) r o) = ∑ i : Fin 1024, h (ix2 r i) * w (ix2 i o) := by
  pointwise [k0_pay2]

theorem pay3_apply (h : FVec Ideal S512x1024 .bf16) (w w' : Vec Ideal S1024x512 .bf16) (r o : Fin 512) :
    k0_pay3 h w w' (ix3 (0 : Fin 1) r o) = (∑ i : Fin 1024, h (ix2 r i) * w (ix2 i o)) * ∑ i : Fin 1024, h (ix2 r i) * w' (ix2 i o) := by
  pointwise [k0_pay3]

theorem pay1_apply (h : FVec Ideal S512x1024 .bf16) (w : Vec Ideal S1024x256 .bf16) (d : Fin 128) (r : Fin 512) :
    k0_pay1 (k0_pay14 h w) (ix4 (0 : Fin 1) (0 : Fin 1) d r) = ∑ i : Fin 1024, h (ix2 r i) * w (ix2 i (⟨128 + d.val, by omega⟩ : Fin 256)) := by
  pointwise [k0_pay1, k0_pay14, k0_pay12]

theorem pay13_apply (h : FVec Ideal S512x1024 .bf16) (C A B : Vec Ideal S512x128 .f32) (w : Vec Ideal S1024x256 .bf16) (E : Vec Ideal S128x128 .bf16) (g : Vec Ideal S1x128 .f32)
    (r : Fin 512) (l : Fin 128) :
    k0_pay13 h (k0_pay5 C) (k0_pay6 A) (k0_pay7 B) w E g (ix3 (0 : Fin 1) r l)
      = lanes (meaned (fun o : Fin 128 => ∑ i : Fin 1024, h (ix2 r i) * w (ix2 i (⟨o.val, by omega⟩ : Fin 256))) (fun j o => E (ix2 j o)) (fun o => g (ix2 (0 : Fin 1) o)))
          (fun l => C (ix2 r l)) (fun l => A (ix2 r l)) (fun l => B (ix2 r l)) l := by
  pointwise [k0_pay13, k0_pay12, k0_pay5, k0_pay6, k0_pay7, lanes, meaned]
  simp only [show (l.val + 128 - 96) % 128 = (l.val + 32) % 128 by omega, show (l.val + 128 - 32) % 128 = (l.val + 96) % 128 by omega]

theorem pay11_apply (v : FVec Ideal S512x512 .f32) (c : Ideal .f32) (o r : Fin 512) : k0_pay11 v c (ix3 (0 : Fin 1) o r) = v (ix2 r o) * c := by
  pointwise [k0_pay11]

section
variable (C A B : Vec Ideal S512x128 .f32) (q : FVec Ideal S512x512 .f32) (E : Vec Ideal S512x512 .bf16) (g : Vec Ideal S1x512 .f32) (r : Fin 512) (l : Fin 128)

theorem pay10_slab0 :
    k0_pay10 (k0_pay5 C) (k0_pay6 A) (k0_pay7 B) q (mulf q q) E g (ix2 r (⟨l.val, by omega⟩ : Fin 512))
      = lanes (fun l => meaned (fun o => q (ix2 r o)) (fun j o => E (ix2 j o)) (fun o => g (ix2 (0 : Fin 1) o)) (⟨l.val, by omega⟩ : Fin 512))
          (fun l => C (ix2 r l)) (fun l => A (ix2 r l)) (fun l => B (ix2 r l)) l := by
  pointwise [k0_pay10, k0_pay5, k0_pay6, k0_pay7, lanes, meaned]
  try rw [dif_pos (show l.val < 128 by omega)]
  simp only [show (l.val + 128 - 96) % 128 = (l.val + 32) % 128 by omega, show (l.val + 128 - 32) % 128 = (l.val + 96) % 128 by omega]

theorem pay10_slab1 :
    k0_pay10 (k0_pay5 C) (k0_pay6 A) (k0_pay7 B) q (mulf q q) E g (ix2 r (⟨128 + l.val, by omega⟩ : Fin 512))
      = lanes (fun l => meaned (fun o => q (ix2 r o)) (fun j o => E (ix2 j o)) (fun o => g (ix2 (0 : Fin 1) o)) (⟨128 + l.val, by omega⟩ : Fin 512))
          (fun l => C (ix2 r l)) (fun l => A (ix2 r l)) (fun l => B (ix2 r l)) l := by
  pointwise [k0_pay10, k0_pay5, k0_pay6, k0_pay7, lanes, meaned]
  try rw [dif_neg (show ¬ 128 + l.val < 128 by omega)]
  try rw [dif_pos (show 128 + l.val - 128 < 128 by omega)]
  simp only [show 128 + l.val - 128 = l.val by omega, show (l.val + 128 - 96) % 128 = (l.val + 32) % 128 by omega, show (l.val + 128 - 32) % 128 = (l.val + 96) % 128 by omega]

theorem pay10_slab2 :
    k0_pay10 (k0_pay5 C) (k0_pay6 A) (k0_pay7 B) q (mulf q q) E g (ix2 r (⟨256 + l.val, by omega⟩ : Fin 512))
      = lanes (fun l => meaned (fun o => q (ix2 r o)) (fun j o => E (ix2 j o)) (fun o => g (ix2 (0 : Fin 1) o)) (⟨256 + l.val, by omega⟩ : Fin 512))
          (fun l => C (ix2 r l)) (fun l => A (ix2 r l)) (fun l => B (ix2 r l)) l := by
  pointwise [k0_pay10, k0_pay5, k0_pay6, k0_pay7, lanes, meaned]
  try rw [dif_neg (show ¬ 256 + l.val < 128 by omega)]
  try rw [dif_neg (show ¬ 256 + l.val - 128 < 128 by omega)]
  try rw [dif_pos (show 256 + l.val - 128 - 128 < 128 by omega)]
  simp only [show 256 + l.val - 128 - 128 = l.val by omega, show (l.val + 128 - 96) % 128 = (l.val + 32) % 128 by omega, show (l.val + 128 - 32) % 128 = (l.val + 96) % 128 by omega]

theorem pay10_slab3 :
    k0_pay10 (k0_pay5 C) (k0_pay6 A) (k0_pay7 B) q (mulf q q) E g (ix2 r (⟨384 + l.val, by omega⟩ : Fin 512))
      = lanes (fun l => meaned (fun o => q (ix2 r o)) (fun j o => E (ix2 j o)) (fun o => g (ix2 (0 : Fin 1) o)) (⟨384 + l.val, by omega⟩ : Fin 512))
          (fun l => C (ix2 r l)) (fun l => A (ix2 r l)) (fun l => B (ix2 r l)) l := by
  pointwise [k0_pay10, k0_pay5, k0_pay6, k0_pay7, lanes, meaned]
  try rw [dif_neg (show ¬ 384 + l.val < 128 by omega)]
  try rw [dif_neg (show ¬ 384 + l.val - 128 < 128 by omega)]
  try rw [dif_neg (show ¬ 384 + l.val - 128 - 128 < 128 by omega)]
  simp only [show 384 + l.val - 128 - 128 - 128 = l.val by omega, show (l.val + 128 - 96) % 128 = (l.val + 32) % 128 by omega, show (l.val + 128 - 32) % 128 = (l.val + 96) % 128 by omega]

end

end Cert.Kernel4Ideal.InRows
-- ==== Proof.InBlock.lean ====
/- The input projections: the five blocks a grid point leaves, entry by entry. -/
module

public import proofs.«01_k».proof.Proof.InPay
public import proofs.«01_k».proof.Proof.Gen.Kernel4Ideal.Frame
public import Idealize.ShloMosaic.Lib.ValueLayout
public import Idealize.ShloMosaic.Lib.Pipeline.ValueKit

@[expose] public section

set_option maxRecDepth 16384

noncomputable section

namespace Cert.Kernel4Ideal.InRows

open Idealize.ShloMosaic
open Cert.Kernel4Ideal Cert.Kernel4Ideal.Gen Cert.Mix Cert.In
open scoped BigOperators

theorem ld0 (x : Vec Ideal S1x6x1024 .f32) : View.ld x r0_0 = x := View.ld_unit_lit (S := S1x6x1024) _ x (by decide)
theorem ld1 (x : Vec Ideal S1x512x1024 .f32) : View.ld x r0_1 = x := View.ld_unit_lit (S := S1x512x1024) _ x (by decide)
theorem ld2 (x : Vec Ideal S1x1024 .f32) : View.ld x r0_2 = x := View.ld_unit_lit (S := S1x1024) _ x (by decide)
theorem ld3 (x : Vec Ideal S512x128 .f32) : View.ld x r0_3 = x := View.ld_unit_lit (S := S512x128) _ x (by decide)
theorem ld5 (x : Vec Ideal S512x512 .bf16) : View.ld x r0_5 = x := View.ld_unit_lit (S := S512x512) _ x (by decide)
theorem ld6 (x : Vec Ideal S1x512 .f32) : View.ld x r0_6 = x := View.ld_unit_lit (S := S1x512) _ x (by decide)
theorem ld9 (x : Vec Ideal S128x128 .bf16) : View.ld x r0_9 = x := View.ld_unit_lit (S := S128x128) _ x (by decide)
theorem ld10 (x : Vec Ideal S1x128 .f32) : View.ld x r0_10 = x := View.ld_unit_lit (S := S1x128) _ x (by decide)
theorem ld4_at (x : Vec Ideal S1024x2304 .bf16) (i : Fin 1024) (o : Fin 512) : View.ld x r0_4 (ix2 i o) = x (ix2 i (⟨o.val, by omega⟩ : Fin 2304)) := by
  pointwise [r0_4]
theorem ld8_at (x : Vec Ideal S1024x2304 .bf16) (i : Fin 1024) (o : Fin 256) : View.ld x r0_8 (ix2 i o) = x (ix2 i (⟨512 + o.val, by omega⟩ : Fin 2304)) := by
  pointwise [r0_8]
theorem ld13_at (x : Vec Ideal S1024x2304 .bf16) (i : Fin 1024) (o : Fin 512) : View.ld x r0_13 (ix2 i o) = x (ix2 i (⟨768 + o.val, by omega⟩ : Fin 2304)) := by
  pointwise [r0_13]
theorem ld14_at (x : Vec Ideal S1024x2304 .bf16) (i : Fin 1024) (o : Fin 512) : View.ld x r0_14 (ix2 i o) = x (ix2 i (⟨1280 + o.val, by omega⟩ : Fin 2304)) := by
  pointwise [r0_14]
theorem ld15_at (x : Vec Ideal S1024x2304 .bf16) (i : Fin 1024) (o : Fin 512) : View.ld x r0_15 (ix2 i o) = x (ix2 i (⟨1792 + o.val, by omega⟩ : Fin 2304)) := by
  pointwise [r0_15]
theorem one7 (f : Vec Ideal S1x512x512 .bf16) : View.canon [⟨r0_7, f⟩] = f := View.canon_cons_unit_lit (S := S1x512x512) _ f [] (by decide)
theorem one11 (f : Vec Ideal S1x512x128 .bf16) : View.canon [⟨r0_11, f⟩] = f := View.canon_cons_unit_lit (S := S1x512x128) _ f [] (by decide)
theorem one12 (f : Vec Ideal S1x1x128x512 .bf16) : View.canon [⟨r0_12, f⟩] = f := View.canon_cons_unit_lit (S := S1x1x128x512) _ f [] (by decide)

section
variable (x0 : Vec Ideal S1x512x1024 .f32) (x1 : Vec Ideal S1x6x1024 .f32) (x2 : Vec Ideal S1x1024 .f32) (x3 : Vec Ideal S1024x2304 .bf16) (x4 : Vec Ideal S1x512 .f32) (x5 : Vec Ideal S1x128 .f32) (x6 : Vec Ideal S512x512 .bf16) (x7 : Vec Ideal S128x128 .bf16) (x8 x9 x10 : Vec Ideal S512x128 .f32)

/-- Row `r` of the block normalised, scaled and shifted. -/
def hRow (x0 : Vec Ideal S1x512x1024 .f32) (x1 : Vec Ideal S1x6x1024 .f32) (x2 : Vec Ideal S1x1024 .f32) (r : Fin 512) : Row :=
  modulated (fun o => x0 (ix3 (0 : Fin 1) r o)) (fun o => x2 (ix2 (0 : Fin 1) o)) (fun o => x1 (ix3 (0 : Fin 1) (0 : Fin 6) o)) (fun o => x1 (ix3 (0 : Fin 1) (1 : Fin 6) o))

/-- Row `r` of the block times column `c` of the projection. -/
def yAt (x0 : Vec Ideal S1x512x1024 .f32) (x1 : Vec Ideal S1x6x1024 .f32) (x2 : Vec Ideal S1x1024 .f32) (x3 : Vec Ideal S1024x2304 .bf16) (r : Fin 512) (c : Fin 2304) : EReal :=
  cast (hRow x0 x1 x2 r) (fun i c => x3 (ix2 i c)) c

theorem out14_apply (r o : Fin 512) : out0_14 x0 x1 x2 x3 x4 x5 x6 x7 x8 x9 x10 (ix3 (0 : Fin 1) r o) = yAt x0 x1 x2 x3 r ⟨768 + o.val, by omega⟩ := by
  unfold out0_14 k0_pay15
  rw [one7, pay2_apply]
  simp only [ld0, ld1, ld2, pay4_apply]
  exact Finset.sum_congr rfl fun i _ => congrArg (_ * ·) (ld13_at x3 i o)

theorem out15_apply (r o : Fin 512) : out0_15 x0 x1 x2 x3 x4 x5 x6 x7 x8 x9 x10 (ix3 (0 : Fin 1) r o) = yAt x0 x1 x2 x3 r ⟨1280 + o.val, by omega⟩ * yAt x0 x1 x2 x3 r ⟨1792 + o.val, by omega⟩ := by
  unfold out0_15 k0_pay15
  rw [one7, pay3_apply]
  simp only [ld0, ld1, ld2, pay4_apply]
  exact congrArg₂ (· * ·) (Finset.sum_congr rfl fun i _ => congrArg (_ * ·) (ld14_at x3 i o)) (Finset.sum_congr rfl fun i _ => congrArg (_ * ·) (ld15_at x3 i o))

theorem out13_apply (d : Fin 128) (r : Fin 512) : out0_13 x0 x1 x2 x3 x4 x5 x6 x7 x8 x9 x10 (ix4 (0 : Fin 1) (0 : Fin 1) d r) = yAt x0 x1 x2 x3 r ⟨640 + d.val, by omega⟩ := by
  unfold out0_13 k0_pay15
  rw [one12, pay1_apply]
  simp only [ld0, ld1, ld2, pay4_apply]
  refine (Finset.sum_congr rfl fun i _ => congrArg (_ * ·) (ld8_at x3 i (⟨128 + d.val, by omega⟩ : Fin 256))).trans ?_
  exact congrArg (yAt x0 x1 x2 x3 r) (Fin.ext (by show 512 + (128 + d.val) = 640 + d.val; omega) : (⟨512 + (128 + d.val), by omega⟩ : Fin 2304) = ⟨640 + d.val, by omega⟩)

theorem out12_apply (r : Fin 512) (l : Fin 128) : out0_12 x0 x1 x2 x3 x4 x5 x6 x7 x8 x9 x10 (ix3 (0 : Fin 1) r l)
    = lanes (meaned (fun o : Fin 128 => yAt x0 x1 x2 x3 r ⟨512 + o.val, by omega⟩) (fun j o => x7 (ix2 j o)) (fun o => x5 (ix2 (0 : Fin 1) o)))
        (fun l => x8 (ix2 r l)) (fun l => x9 (ix2 r l)) (fun l => x10 (ix2 r l)) l := by
  unfold out0_12 k0_pay15 k0_pay16 k0_pay17 k0_pay18
  rw [one11]
  simp only [ld0, ld1, ld2, ld3, ld9, ld10]
  rw [pay13_apply]
  simp only [pay4_apply]
  refine congrArg (fun q => lanes (meaned q (fun j o => x7 (ix2 j o)) (fun o => x5 (ix2 (0 : Fin 1) o))) (fun l => x8 (ix2 r l)) (fun l => x9 (ix2 r l)) (fun l => x10 (ix2 r l)) l) ?_
  exact funext fun o => Finset.sum_congr rfl fun i _ => congrArg (_ * ·) (ld8_at x3 i (⟨o.val, by omega⟩ : Fin 256))

/-- The block of queries before its scale, at row `r` and lane `l` of a group of 128 columns. -/
def qLane (x0 : Vec Ideal S1x512x1024 .f32) (x1 : Vec Ideal S1x6x1024 .f32) (x2 : Vec Ideal S1x1024 .f32) (x3 : Vec Ideal S1024x2304 .bf16) (x4 : Vec Ideal S1x512 .f32) (x5 : Vec Ideal S1x128 .f32) (x6 : Vec Ideal S512x512 .bf16) (x7 : Vec Ideal S128x128 .bf16) (x8 x9 x10 : Vec Ideal S512x128 .f32) (r : Fin 512) (s : Fin 4) (l : Fin 128) : EReal :=
  lanes (fun l => meaned (fun o : Fin 512 => yAt x0 x1 x2 x3 r ⟨o.val, by omega⟩) (fun j o => x6 (ix2 j o)) (fun o => x4 (ix2 (0 : Fin 1) o)) ⟨128 * s.val + l.val, by omega⟩)
    (fun l => x8 (ix2 r l)) (fun l => x9 (ix2 r l)) (fun l => x10 (ix2 r l)) l

theorem q_row (r : Fin 512) : (fun o : Fin 512 => k0_pay8 x1 x0 x2 (View.ld x3 r0_4) (ix2 r o)) = fun o : Fin 512 => yAt x0 x1 x2 x3 r ⟨o.val, by omega⟩ := by
  funext o
  rw [pay8_apply]
  simp only [pay4_apply]
  exact Finset.sum_congr rfl fun i _ => congrArg (_ * ·) (ld4_at x3 i o)

theorem out11_apply (s : Fin 4) (l : Fin 128) (r : Fin 512) : out0_11 x0 x1 x2 x3 x4 x5 x6 x7 x8 x9 x10 (ix3 (0 : Fin 1) (⟨128 * s.val + l.val, by omega⟩ : Fin 512) r)
    = qLane x0 x1 x2 x3 x4 x5 x6 x7 x8 x9 x10 r s l * Ideal.ofBits .f32 0x3E38AA3B#32 := by
  unfold out0_11 k0_pay16 k0_pay17 k0_pay18 k0_pay9
  rw [one7, pay11_apply]
  simp only [ld0, ld1, ld2, ld3, ld5, ld6]
  refine congrArg (· * _) ?_
  unfold qLane
  rw [← q_row]
  match s with
  | ⟨0, _⟩ =>
    have e : (⟨128 * 0 + l.val, by omega⟩ : Fin 512) = ⟨l.val, by omega⟩ := Fin.ext (by show 128 * 0 + l.val = l.val; omega)
    refine (congrArg (fun o => k0_pay10 (k0_pay5 x8) (k0_pay6 x9) (k0_pay7 x10) _ _ x6 x4 (ix2 r o)) e).trans ((pay10_slab0 _ _ _ _ _ _ r l).trans ?_)
    simp only [Nat.mul_zero, Nat.zero_add]
  | ⟨1, _⟩ => exact pay10_slab1 _ _ _ _ _ _ r l
  | ⟨2, _⟩ => exact pay10_slab2 _ _ _ _ _ _ r l
  | ⟨3, _⟩ => exact pay10_slab3 _ _ _ _ _ _ r l

end

end Cert.Kernel4Ideal.InRows
-- ==== Proof.InHost.lean ====
/- The input projections: what the host lays out before the call, entry by entry. -/
module

public import proofs.«01_k».proof.Proof.InBlock
public import proofs.«01_k».proof.Proof.Gen.Kernel4Ideal.Value
public import Idealize.ShloMosaic.Lib.StableHlo.RunRead

@[expose] public section

set_option maxRecDepth 16384

noncomputable section

namespace Cert.Kernel4Ideal.InRows

open Idealize.ShloMosaic Idealize.ShloMosaic.TcCoe
open Cert.Kernel4Ideal Cert.Kernel4Ideal.Gen Cert.Mix Cert.In
open scoped BigOperators

variable (m : (ℓ : Loc nD τ sig) → Buf (Elt Ideal) ℓ) (c : Dev nD)

/-! ## The arguments -/

abbrev argX : Vec Ideal S4x8192x1024 .f32 := m ((c : Thread nD τ).loc main_arg0)
abbrev argMods : Vec Ideal S8x6x1024 .f32 := m ((c : Thread nD τ).loc main_arg1)
abbrev argPre : Vec Ideal S1024 .f32 := m ((c : Thread nD τ).loc main_arg2)
abbrev argIn : Vec Ideal S1024x2304 .f32 := m ((c : Thread nD τ).loc main_arg3)
abbrev argGq : Vec Ideal S64 .f32 := m ((c : Thread nD τ).loc main_arg4)
abbrev argGk : Vec Ideal S64 .f32 := m ((c : Thread nD τ).loc main_arg5)
abbrev argCos : Vec Ideal S8192x32 .f32 := m ((c : Thread nD τ).loc main_arg6)
abbrev argSin : Vec Ideal S8192x32 .f32 := m ((c : Thread nD τ).loc main_arg7)

/-! ## What the host lays out -/

/-- A gain repeated for each of the eight heads. -/
def tiled8 (g : Vec Ideal S64 .f32) : Vec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512

/-- A gain repeated for each of the two heads. -/
def tiled2 (g : Vec Ideal S64 .f32) : Vec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

/-- Two tables of 32 columns side by side, the pair repeated twice. -/
def table (a b : Vec Ideal S8192x32 .f32) : Vec Ideal S8192x128 .f32 :=
  shapeCast S8192x128 (broadcastInDim S1x8192x2x64 ![0, 1, 2, 3] bcast_S1x8192x1x64_S1x8192x2x64_0_1_2_3 (shapeCast S1x8192x1x64 (concatenate S8192x64 1 [⟨S8192x32, a⟩, ⟨S8192x32, b⟩] concatenates_S8192x32_S8192x32_S8192x64_d1) shapeCasts_S8192x64_S1x8192x1x64)) shapeCasts_S1x8192x2x64_S8192x128

theorem pick {α : Type} (a b : BitVec 32) (x y : α) : Scalar.select (IntOp.cmpi .eq a b) x y = if a = b then x else y := by
  by_cases h : a = b
  · subst h
    simp [Scalar.select, IntOp.cmpi]
  · have e : (a == b) = false := beq_false_of_ne h
    simp [Scalar.select, IntOp.cmpi, h, e]

/-- The heads of 512 columns: each column's number over 64, rounded down. -/
def headOf512 : S512.Idx → BitVec 32 :=
  select (andi (cmpi .ne (signi (iotaInDim S512 32 0)) (broadcastInDim S512 ![] bcast_S_S512 (signi (constantI S_ 32 64#32)))) (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32))) (Host.divsi (iotaInDim S512 32 0) (broadcastInDim S512 ![] bcast_S_S512 (constantI S_ 32 64#32)))

/-- The matrix of means as the host lays it out. -/
def meanArr512 : Vec Ideal S512x512 .bf16 :=
  truncf .bf16 (select (cmpi .eq (broadcastInDim S512x512 ![0, 1] bcast_S512x1_S512x512_0_1 (broadcastInDim S512x1 ![0] bcast_S512_S512x1_0 headOf512)) (broadcastInDim S512x512 ![0, 1] bcast_S1x512_S512x512_0_1 (broadcastInDim S1x512 ![1] bcast_S512_S1x512_1 headOf512)))
    (broadcastInDim S512x512 ![] bcast_S_S512x512 (constant (F := Ideal) S_ .f32 0x3C800000#32)) (broadcastInDim S512x512 ![] bcast_S_S512x512 (constant (F := Ideal) S_ .f32 0x00000000#32))) bitsLt_bf16_f32

theorem headOf512_apply : ∀ j : Fin 512, headOf512 (ix1 j) = BitVec.ofNat 32 (j.val / 64) := by decide +kernel

theorem meanArr512_apply (j o : Fin 512) : meanArr512 (ix2 j o) = means j o := by
  have h : meanArr512 (ix2 j o) = if headOf512 (ix1 j) = headOf512 (ix1 o) then Ideal.ofBits .f32 0x3C800000#32 else 0 := by
    pointwise [meanArr512]
    exact pick _ _ _ _
  rw [h, headOf512_apply, headOf512_apply]
  unfold means
  refine if_congr ?_ rfl rfl
  constructor
  · intro e
    have e' := congrArg BitVec.toNat e
    simp only [BitVec.toNat_ofNat] at e'
    omega
  · intro e
    rw [e]

/-- The heads of 128 columns: each column's number over 64, rounded down. -/
def headOf128 : S128.Idx → BitVec 32 :=
  select (andi (cmpi .ne (signi (iotaInDim S128 32 0)) (broadcastInDim S128 ![] bcast_S_S128 (signi (constantI S_ 32 64#32)))) (cmpi .ne (Host.remsi (iotaInDim S128 32 0) (broadcastInDim S128 ![] bcast_S_S128 (constantI S_ 32 64#32))) (broadcastInDim S128 ![] bcast_S_S128 (constantI S_ 32 0#32))))
    (subi (Host.divsi (iotaInDim S128 32 0) (broadcastInDim S128 ![] bcast_S_S128 (constantI S_ 32 64#32))) (broadcastInDim S128 ![] bcast_S_S128 (constantI S_ 32 1#32))) (Host.divsi (iotaInDim S128 32 0) (broadcastInDim S128 ![] bcast_S_S128 (constantI S_ 32 64#32)))

/-- The matrix of means as the host lays it out. -/
def meanArr128 : Vec Ideal S128x128 .bf16 :=
  truncf .bf16 (select (cmpi .eq (broadcastInDim S128x128 ![0, 1] bcast_S128x1_S128x128_0_1 (broadcastInDim S128x1 ![0] bcast_S128_S128x1_0 headOf128)) (broadcastInDim S128x128 ![0, 1] bcast_S1x128_S128x128_0_1 (broadcastInDim S1x128 ![1] bcast_S128_S1x128_1 headOf128)))
    (broadcastInDim S128x128 ![] bcast_S_S128x128 (constant (F := Ideal) S_ .f32 0x3C800000#32)) (broadcastInDim S128x128 ![] bcast_S_S128x128 (constant (F := Ideal) S_ .f32 0x00000000#32))) bitsLt_bf16_f32

theorem headOf128_apply : ∀ j : Fin 128, headOf128 (ix1 j) = BitVec.ofNat 32 (j.val / 64) := by decide +kernel

theorem meanArr128_apply (j o : Fin 128) : meanArr128 (ix2 j o) = means j o := by
  have h : meanArr128 (ix2 j o) = if headOf128 (ix1 j) = headOf128 (ix1 o) then Ideal.ofBits .f32 0x3C800000#32 else 0 := by
    pointwise [meanArr128]
    exact pick _ _ _ _
  rw [h, headOf128_apply, headOf128_apply]
  unfold means
  refine if_congr ?_ rfl rfl
  constructor
  · intro e
    have e' := congrArg BitVec.toNat e
    simp only [BitVec.toNat_ofNat] at e'
    omega
  · intro e
    rw [e]

theorem tiled8_apply (g : Vec Ideal S64 .f32) (o : Fin 512) : tiled8 g (ix2 (0 : Fin 1) o) = g (ix1 (place o)) := by
  pointwise [tiled8]
  rfl

theorem tiled2_apply (g : Vec Ideal S64 .f32) (o : Fin 128) : tiled2 g (ix2 (0 : Fin 1) o) = g (ix1 (place o)) := by
  pointwise [tiled2]
  rfl

theorem table_apply (a b : Vec Ideal S8192x32 .f32) (n : Fin 8192) (l : Fin 128) :
    table a b (ix2 n l) = if l.val % 64 < 32 then a (ix2 n (⟨l.val % 32, by omega⟩ : Fin 32)) else b (ix2 n (⟨l.val % 32, by omega⟩ : Fin 32)) := by
  pointwise [table]
  by_cases h : l.val % 64 < 32
  · rw [dif_pos h, if_pos h]
    exact congrArg (fun k => a (ix2 n k)) (Fin.ext (by show l.val % 64 = l.val % 32; omega))
  · rw [dif_neg h, if_neg h]
    exact congrArg (fun k => b (ix2 n k)) (Fin.ext (by show l.val % 64 - 32 = l.val % 32; omega))

theorem V_pre : V m c main_v41 = shapeCast S1x1024 (argPre m c) shapeCasts_S1024_S1x1024 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v41) = _
  after_reads_simp
  all_goals rfl

theorem V_in : V m c main_v0 = truncf (F := Ideal) .bf16 (argIn m c) bitsLt_bf16_f32 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v0) = _
  after_reads_simp
  all_goals rfl

theorem V_gq : V m c main_v4 = tiled8 (argGq m c) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v4) = _
  after_reads_simp
  all_goals rfl

theorem V_gk : V m c main_v8 = tiled2 (argGk m c) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v8) = _
  after_reads_simp
  all_goals rfl

theorem V_eq : V m c main_v17 = meanArr512 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v17) = _
  after_reads_simp
  all_goals rfl

theorem V_ek : V m c main_v26 = meanArr128 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v26) = _
  after_reads_simp
  all_goals rfl

/-- Nothing, at every place. -/
def nothing : Vec Ideal S8192x32 .f32 := broadcastInDim S8192x32 ![] bcast_S_S8192x32 (constant (F := Ideal) S_ .f32 0x00000000#32)

theorem nothing_apply (n : Fin 8192) (k : Fin 32) : nothing (ix2 n k) = 0 := by
  pointwise [nothing]

theorem V_cos : V m c main_v31 = table (argCos m c) (argCos m c) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v31) = _
  after_reads_simp
  all_goals rfl

theorem V_sa : V m c main_v36 = table (Host.negf (F := Ideal) (φ := .f32) (argSin m c)) nothing := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v36) = _
  after_reads_simp
  all_goals rfl

theorem V_sb : V m c main_v40 = table nothing (argSin m c) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v40) = _
  after_reads_simp
  all_goals rfl

end Cert.Kernel4Ideal.InRows
-- ==== Proof.InValue.lean ====
/- The input projections: the five arrays after the run, as functions of the arguments. -/
module

public import proofs.«01_k».proof.Proof.InBlock
public import proofs.«01_k».proof.Proof.InHost

@[expose] public section

set_option maxRecDepth 16384

noncomputable section

namespace Cert.Kernel4Ideal.InRows

open Idealize.ShloMosaic Idealize.ShloMosaic.TcCoe
open Cert.Kernel4Ideal Cert.Kernel4Ideal.Gen Cert.Mix Cert.In
open scoped BigOperators

variable (m : (ℓ : Loc nD τ sig) → Buf (Elt Ideal) ℓ) (c : Dev nD)

/-! ## The blocks at coordinates -/

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 1).val, 0] := (by decide +kernel : ∀ t : Fin grid0.N, _)
theorem index9 : ∀ t : Fin cfg0.N, win0_9.index t = ![(grid0.coords t 1).val, 0] := (by decide +kernel : ∀ t : Fin grid0.N, _)
theorem index10 : ∀ t : Fin cfg0.N, win0_10.index t = ![(grid0.coords t 1).val, 0] := (by decide +kernel : ∀ t : Fin grid0.N, _)
theorem index11 : ∀ t : Fin cfg0.N, win0_11.index t = ![(grid0.coords t 0).val, 0, (grid0.coords t 1).val] := (by decide +kernel : ∀ t : Fin grid0.N, _)
theorem index12 : ∀ t : Fin cfg0.N, win0_12.index t = ![(grid0.coords t 0).val, (grid0.coords t 1).val, 0] := (by decide +kernel : ∀ t : Fin grid0.N, _)
theorem index13 : ∀ t : Fin cfg0.N, win0_13.index t = ![(grid0.coords t 0).val, (grid0.coords t 1).val, 0, 0] := (by decide +kernel : ∀ t : Fin grid0.N, _)
theorem index14 : ∀ t : Fin cfg0.N, win0_14.index t = ![(grid0.coords t 0).val, (grid0.coords t 1).val, 0] := (by decide +kernel : ∀ t : Fin grid0.N, _)
theorem index15 : ∀ t : Fin cfg0.N, win0_15.index t = ![(grid0.coords t 0).val, (grid0.coords t 1).val, 0] := (by decide +kernel : ∀ t : Fin grid0.N, _)

variable (t : Fin cfg0.N)

/-- The array's row that is row `r` of the block. -/
def rowAt (r : Fin 512) : Fin 8192 := ⟨(grid0.coords t 1).val * 512 + r.val, by
  have h : (grid0.coords t 1).val < 16 := (grid0.coords t 1).isLt
  omega⟩

theorem x_at (B : Fin 4) (r : Fin 512) (o : Fin 1024) (hB : B.val = (grid0.coords t 0).val) :
    (show Vec Ideal S1x512x1024 .f32 from iblk m c 0 t) (ix3 (0 : Fin 1) r o) = argX m c (ix3 B (rowAt t r) o) := by
  refine (?_ : iblk m c 0 t _ = V m c main_arg0 _).trans (congrFun (V_main_arg0 m c) _)
  refine congrArg (V m c main_arg0) (funext fun b => Fin.ext ?_)
  refine (Pipeline.Window.rect_emb_val (cfg0.win 0) t (ix3 (0 : Fin 1) r o) b).trans ?_
  rw [show (cfg0.win 0).index t = _ from index0 t]
  match b with
  | ⟨0, _⟩ => show (grid0.coords t 0).val * 1 + 0 = B.val; omega
  | ⟨1, _⟩ => rfl
  | ⟨2, _⟩ => show 0 * 1024 + o.val = o.val; omega

theorem mods_at (B : Fin 8) (k : Fin 6) (o : Fin 1024) (hB : B.val = (grid0.coords t 0).val) :
    (show Vec Ideal S1x6x1024 .f32 from iblk m c 1 t) (ix3 (0 : Fin 1) k o) = argMods m c (ix3 B k o) := by
  refine (?_ : iblk m c 1 t _ = V m c main_arg1 _).trans (congrFun (V_main_arg1 m c) _)
  refine congrArg (V m c main_arg1) (funext fun b => Fin.ext ?_)
  refine (Pipeline.Window.rect_emb_val (cfg0.win 1) t (ix3 (0 : Fin 1) k o) b).trans ?_
  rw [show (cfg0.win 1).index t = _ from index1 t]
  match b with
  | ⟨0, _⟩ => show (grid0.coords t 0).val * 1 + 0 = B.val; omega
  | ⟨1, _⟩ => show 0 * 6 + k.val = k.val; omega
  | ⟨2, _⟩ => show 0 * 1024 + o.val = o.val; omega

theorem pre_at (o : Fin 1024) : (show Vec Ideal S1x1024 .f32 from iblk m c 2 t) (ix2 (0 : Fin 1) o) = argPre m c (ix1 o) := by
  refine ((?_ : iblk m c 2 t _ = V m c main_v41 (ix2 (0 : Fin 1) o)).trans (congrFun (V_pre m c) _)).trans ?_
  · refine congrArg (V m c main_v41) (funext fun b => Fin.ext ?_)
    refine (Pipeline.Window.rect_emb_val (cfg0.win 2) t (ix2 (0 : Fin 1) o) b).trans ?_
    rw [show (cfg0.win 2).index t = _ from index2 t]
    match b with
    | ⟨0, _⟩ => show 0 * 1 + 0 = 0; omega
    | ⟨1, _⟩ => show 0 * 1024 + o.val = o.val; omega
  · pointwise []

theorem in_at (k : Fin 1024) (o : Fin 2304) : (show Vec Ideal S1024x2304 .bf16 from iblk m c 3 t) (ix2 k o) = argIn m c (ix2 k o) := by
  refine ((?_ : iblk m c 3 t _ = V m c main_v0 (ix2 k o)).trans (congrFun (V_in m c) _)).trans ?_
  · refine congrArg (V m c main_v0) (funext fun b => Fin.ext ?_)
    refine (Pipeline.Window.rect_emb_val (cfg0.win 3) t (ix2 k o) b).trans ?_
    rw [show (cfg0.win 3).index t = _ from index3 t]
    match b with
    | ⟨0, _⟩ => show 0 * 1024 + k.val = k.val; omega
    | ⟨1, _⟩ => show 0 * 2304 + o.val = o.val; omega
  · pointwise []

theorem gq_at (o : Fin 512) : (show Vec Ideal S1x512 .f32 from iblk m c 4 t) (ix2 (0 : Fin 1) o) = argGq m c (ix1 (place o)) := by
  refine ((?_ : iblk m c 4 t _ = V m c main_v4 (ix2 (0 : Fin 1) o)).trans (congrFun (V_gq m c) _)).trans ?_
  · refine congrArg (V m c main_v4) (funext fun b => Fin.ext ?_)
    refine (Pipeline.Window.rect_emb_val (cfg0.win 4) t (ix2 (0 : Fin 1) o) b).trans ?_
    rw [show (cfg0.win 4).index t = _ from index4 t]
    match b with
    | ⟨0, _⟩ => show 0 * 1 + 0 = 0; omega
    | ⟨1, _⟩ => show 0 * 512 + o.val = o.val; omega
  · exact tiled8_apply _ o

theorem gk_at (o : Fin 128) : (show Vec Ideal S1x128 .f32 from iblk m c 5 t) (ix2 (0 : Fin 1) o) = argGk m c (ix1 (place o)) := by
  refine ((?_ : iblk m c 5 t _ = V m c main_v8 (ix2 (0 : Fin 1) o)).trans (congrFun (V_gk m c) _)).trans ?_
  · refine congrArg (V m c main_v8) (funext fun b => Fin.ext ?_)
    refine (Pipeline.Window.rect_emb_val (cfg0.win 5) t (ix2 (0 : Fin 1) o) b).trans ?_
    rw [show (cfg0.win 5).index t = _ from index5 t]
    match b with
    | ⟨0, _⟩ => show 0 * 1 + 0 = 0; omega
    | ⟨1, _⟩ => show 0 * 128 + o.val = o.val; omega
  · exact tiled2_apply _ o

theorem eq_at (k : Fin 512) (o : Fin 512) : (show Vec Ideal S512x512 .bf16 from iblk m c 6 t) (ix2 k o) = means k o := by
  refine ((?_ : iblk m c 6 t _ = V m c main_v17 (ix2 k o)).trans (congrFun (V_eq m c) _)).trans ?_
  · refine congrArg (V m c main_v17) (funext fun b => Fin.ext ?_)
    refine (Pipeline.Window.rect_emb_val (cfg0.win 6) t (ix2 k o) b).trans ?_
    rw [show (cfg0.win 6).index t = _ from index6 t]
    match b with
    | ⟨0, _⟩ => show 0 * 512 + k.val = k.val; omega
    | ⟨1, _⟩ => show 0 * 512 + o.val = o.val; omega
  · exact meanArr512_apply k o

theorem ek_at (k : Fin 128) (o : Fin 128) : (show Vec Ideal S128x128 .bf16 from iblk m c 7 t) (ix2 k o) = means k o := by
  refine ((?_ : iblk m c 7 t _ = V m c main_v26 (ix2 k o)).trans (congrFun (V_ek m c) _)).trans ?_
  · refine congrArg (V m c main_v26) (funext fun b => Fin.ext ?_)
    refine (Pipeline.Window.rect_emb_val (cfg0.win 7) t (ix2 k o) b).trans ?_
    rw [show (cfg0.win 7).index t = _ from index7 t]
    match b with
    | ⟨0, _⟩ => show 0 * 128 + k.val = k.val; omega
    | ⟨1, _⟩ => show 0 * 128 + o.val = o.val; omega
  · exact meanArr128_apply k o

theorem cos_at (r : Fin 512) (l : Fin 128) : (show Vec Ideal S512x128 .f32 from iblk m c 8 t) (ix2 r l) = argCos m c (ix2 (rowAt t r) (⟨l.val % 32, by omega⟩ : Fin 32)) := by
  refine ((?_ : iblk m c 8 t _ = V m c main_v31 (ix2 (rowAt t r) l)).trans (congrFun (V_cos m c) _)).trans ?_
  · refine congrArg (V m c main_v31) (funext fun b => Fin.ext ?_)
    refine (Pipeline.Window.rect_emb_val (cfg0.win 8) t (ix2 r l) b).trans ?_
    rw [show (cfg0.win 8).index t = _ from index8 t]
    match b with
    | ⟨0, _⟩ => rfl
    | ⟨1, _⟩ => show 0 * 128 + l.val = l.val; omega
  · rw [table_apply]
    exact ite_self _

theorem sa_at (r : Fin 512) (l : Fin 128) : (show Vec Ideal S512x128 .f32 from iblk m c 9 t) (ix2 r l) = if l.val % 64 < 32 then -argSin m c (ix2 (rowAt t r) (⟨l.val % 32, by omega⟩ : Fin 32)) else 0 := by
  refine ((?_ : iblk m c 9 t _ = V m c main_v36 (ix2 (rowAt t r) l)).trans (congrFun (V_sa m c) _)).trans ?_
  · refine congrArg (V m c main_v36) (funext fun b => Fin.ext ?_)
    refine (Pipeline.Window.rect_emb_val (cfg0.win 9) t (ix2 r l) b).trans ?_
    rw [show (cfg0.win 9).index t = _ from index9 t]
    match b with
    | ⟨0, _⟩ => rfl
    | ⟨1, _⟩ => show 0 * 128 + l.val = l.val; omega
  · rw [table_apply, nothing_apply]
    rfl

theorem sb_at (r : Fin 512) (l : Fin 128) : (show Vec Ideal S512x128 .f32 from iblk m c 10 t) (ix2 r l) = if l.val % 64 < 32 then 0 else argSin m c (ix2 (rowAt t r) (⟨l.val % 32, by omega⟩ : Fin 32)) := by
  refine ((?_ : iblk m c 10 t _ = V m c main_v40 (ix2 (rowAt t r) l)).trans (congrFun (V_sb m c) _)).trans ?_
  · refine congrArg (V m c main_v40) (funext fun b => Fin.ext ?_)
    refine (Pipeline.Window.rect_emb_val (cfg0.win 10) t (ix2 r l) b).trans ?_
    rw [show (cfg0.win 10).index t = _ from index10 t]
    match b with
    | ⟨0, _⟩ => rfl
    | ⟨1, _⟩ => show 0 * 128 + l.val = l.val; omega
  · rw [table_apply, nothing_apply]

/-! ## A block's rows and the whole arrays -/

omit t in
theorem y_rows (x0 : Vec Ideal S1x512x1024 .f32) (x1 : Vec Ideal S1x6x1024 .f32) (x2 : Vec Ideal S1x1024 .f32) (x3 : Vec Ideal S1024x2304 .bf16) (x g shift scale : Row) (w : Fin 1024 → Fin 2304 → EReal) (r : Fin 512)
    (h0 : ∀ o, x0 (ix3 (0 : Fin 1) r o) = x o) (h1 : ∀ o, x1 (ix3 (0 : Fin 1) (0 : Fin 6) o) = shift o) (h1' : ∀ o, x1 (ix3 (0 : Fin 1) (1 : Fin 6) o) = scale o)
    (h2 : ∀ o, x2 (ix2 (0 : Fin 1) o) = g o) (h3 : ∀ i o, x3 (ix2 i o) = w i o) : yAt x0 x1 x2 x3 r = column x g shift scale w := by
  funext o
  unfold yAt hRow column
  rw [funext h0, funext h1, funext h1', funext h2, funext fun i => funext fun o => h3 i o]

omit t in
theorem q_rows (x0 : Vec Ideal S1x512x1024 .f32) (x1 : Vec Ideal S1x6x1024 .f32) (x2 : Vec Ideal S1x1024 .f32) (x3 : Vec Ideal S1024x2304 .bf16) (x4 : Vec Ideal S1x512 .f32) (x5 : Vec Ideal S1x128 .f32) (x6 : Vec Ideal S512x512 .bf16) (x7 : Vec Ideal S128x128 .bf16) (x8 x9 x10 : Vec Ideal S512x128 .f32) (Y : Fin 2304 → EReal) (g : Fin 64 → EReal) (cs sn : Fin 32 → EReal) (r : Fin 512)
    (hy : yAt x0 x1 x2 x3 r = Y) (h4 : ∀ o : Fin 512, x4 (ix2 (0 : Fin 1) o) = g (place o)) (h6 : ∀ j o : Fin 512, x6 (ix2 j o) = means j o)
    (hC : ∀ l : Fin 128, x8 (ix2 r l) = cs ⟨l.val % 32, by omega⟩) (hA : ∀ l : Fin 128, x9 (ix2 r l) = if l.val % 64 < 32 then -sn ⟨l.val % 32, by omega⟩ else 0)
    (hB : ∀ l : Fin 128, x10 (ix2 r l) = if l.val % 64 < 32 then 0 else sn ⟨l.val % 32, by omega⟩) (o : Fin 512) :
    out0_11 x0 x1 x2 x3 x4 x5 x6 x7 x8 x9 x10 (ix3 (0 : Fin 1) o r) = queries Y g cs sn o := by
  obtain ⟨s, l, rfl⟩ : ∃ (s : Fin 4) (l : Fin 128), o = ⟨128 * s.val + l.val, by omega⟩ :=
    ⟨⟨o.val / 128, by omega⟩, ⟨o.val % 128, by omega⟩, Fin.ext (by show o.val = 128 * (o.val / 128) + o.val % 128; omega)⟩
  rw [out11_apply]
  unfold qLane queries
  rw [hy, funext h4, funext fun j => funext fun o => h6 j o]
  exact congrArg (· * _) (lanes_heads (by decide) _ _ _ _ _ cs sn hC hA hB (128 * s.val) (by omega) (fun l => ⟨128 * s.val + l.val, by omega⟩) (fun _ => rfl) l)

omit t in
theorem k_rows (x0 : Vec Ideal S1x512x1024 .f32) (x1 : Vec Ideal S1x6x1024 .f32) (x2 : Vec Ideal S1x1024 .f32) (x3 : Vec Ideal S1024x2304 .bf16) (x4 : Vec Ideal S1x512 .f32) (x5 : Vec Ideal S1x128 .f32) (x6 : Vec Ideal S512x512 .bf16) (x7 : Vec Ideal S128x128 .bf16) (x8 x9 x10 : Vec Ideal S512x128 .f32) (Y : Fin 2304 → EReal) (g : Fin 64 → EReal) (cs sn : Fin 32 → EReal) (r : Fin 512)
    (hy : yAt x0 x1 x2 x3 r = Y) (h5 : ∀ o : Fin 128, x5 (ix2 (0 : Fin 1) o) = g (place o)) (h7 : ∀ j o : Fin 128, x7 (ix2 j o) = means j o)
    (hC : ∀ l : Fin 128, x8 (ix2 r l) = cs ⟨l.val % 32, by omega⟩) (hA : ∀ l : Fin 128, x9 (ix2 r l) = if l.val % 64 < 32 then -sn ⟨l.val % 32, by omega⟩ else 0)
    (hB : ∀ l : Fin 128, x10 (ix2 r l) = if l.val % 64 < 32 then 0 else sn ⟨l.val % 32, by omega⟩) (o : Fin 128) :
    out0_12 x0 x1 x2 x3 x4 x5 x6 x7 x8 x9 x10 (ix3 (0 : Fin 1) r o) = keys Y g cs sn o := by
  rw [out12_apply]
  unfold keys
  rw [hy, funext h5, funext fun j => funext fun o => h7 j o]
  exact lanes_heads (by decide) _ _ _ _ _ cs sn hC hA hB 0 (by omega) (fun l => l) (fun l => (Nat.zero_add _).symm) o

/-- One row's columns of the projection. -/
def columnAt (b : Fin 4) (n : Fin 8192) : Fin 2304 → EReal :=
  column (fun o => argX m c (ix3 b n o)) (fun o => argPre m c (ix1 o)) (fun o => argMods m c (ix3 (⟨b.val, by omega⟩ : Fin 8) (0 : Fin 6) o)) (fun o => argMods m c (ix3 (⟨b.val, by omega⟩ : Fin 8) (1 : Fin 6) o))
    (fun i o => argIn m c (ix2 i o))

theorem y_block (B : Fin 4) (r : Fin 512) (hB : B.val = (grid0.coords t 0).val) :
    yAt (iblk m c 0 t) (iblk m c 1 t) (iblk m c 2 t) (iblk m c 3 t) r = columnAt m c B (rowAt t r) :=
  y_rows _ _ _ _ _ _ _ _ _ r (fun o => x_at m c t B r o hB) (fun o => mods_at m c t ⟨B.val, by omega⟩ 0 o hB) (fun o => mods_at m c t ⟨B.val, by omega⟩ 1 o hB)
    (fun o => pre_at m c t o) (fun i o => in_at m c t i o)

theorem block11 (B : Fin 4) (r o : Fin 512) (hB : B.val = (grid0.coords t 0).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) o r) = queries (columnAt m c B (rowAt t r)) (fun e => argGq m c (ix1 e)) (fun e => argCos m c (ix2 (rowAt t r) e)) (fun e => argSin m c (ix2 (rowAt t r) e)) o :=
  q_rows _ _ _ _ _ _ _ _ _ _ _ _ _ _ _ r (y_block m c t B r hB) (fun o => gq_at m c t o) (fun j o => eq_at m c t j o) (fun l => cos_at m c t r l) (fun l => sa_at m c t r l) (fun l => sb_at m c t r l) o

theorem block12 (B : Fin 4) (r : Fin 512) (o : Fin 128) (hB : B.val = (grid0.coords t 0).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r o) = keys (columnAt m c B (rowAt t r)) (fun e => argGk m c (ix1 e)) (fun e => argCos m c (ix2 (rowAt t r) e)) (fun e => argSin m c (ix2 (rowAt t r) e)) o :=
  k_rows _ _ _ _ _ _ _ _ _ _ _ _ _ _ _ r (y_block m c t B r hB) (fun o => gk_at m c t o) (fun j o => ek_at m c t j o) (fun l => cos_at m c t r l) (fun l => sa_at m c t r l) (fun l => sb_at m c t r l) o

theorem block13 (B : Fin 4) (r : Fin 512) (d : Fin 128) (hB : B.val = (grid0.coords t 0).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 (0 : Fin 1) (0 : Fin 1) d r) = values (columnAt m c B (rowAt t r)) d :=
  (out13_apply _ _ _ _ _ _ _ _ _ _ _ d r).trans (congrFun (y_block m c t B r hB) _)

theorem block14 (B : Fin 4) (r o : Fin 512) (hB : B.val = (grid0.coords t 0).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r o) = gates (columnAt m c B (rowAt t r)) o :=
  (out14_apply _ _ _ _ _ _ _ _ _ _ _ r o).trans (congrFun (y_block m c t B r hB) _)

theorem block15 (B : Fin 4) (r o : Fin 512) (hB : B.val = (grid0.coords t 0).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r o) = inputs (columnAt m c B (rowAt t r)) o :=
  (out15_apply _ _ _ _ _ _ _ _ _ _ _ r o).trans (congrArg₂ (· * ·) (congrFun (y_block m c t B r hB) _) (congrFun (y_block m c t B r hB) _))

/-- The queries of the whole array. -/
def queryAt (b : Fin 4) (o : Fin 512) (n : Fin 8192) : EReal := queries (columnAt m c b n) (fun e => argGq m c (ix1 e)) (fun e => argCos m c (ix2 n e)) (fun e => argSin m c (ix2 n e)) o

omit t in
theorem final11 : (dats m 0 c).arrAt 11 cfg0.N = fun i : S4x512x8192.Idx => queryAt m c (i 0) (i 1) (i 2) := by
  refine (dats m 0 c).arrAt_eq_of_covers 11 _ (by decide +kernel) fun t hf y => ?_
  blk_simp
  rw [after0_11]
  obtain ⟨u, o, r, rfl⟩ : ∃ (u : Fin 1) (o : Fin 512) (r : Fin 512), y = ix3 u o r := ⟨y 0, y 1, y 2, eq_ix3 y⟩
  obtain rfl : u = 0 := Subsingleton.elim _ _
  have e0 : (((cfg0.win 11).blk t).view.emb (ix3 (0 : Fin 1) o r) 0).val = (grid0.coords t 0).val := by
    refine (Pipeline.Window.rect_emb_val (cfg0.win 11) t (ix3 (0 : Fin 1) o r) 0).trans ?_
    rw [show (cfg0.win 11).index t = _ from index11 t]
    show (grid0.coords t 0).val * 1 + 0 = _; omega
  have e1 : (((cfg0.win 11).blk t).view.emb (ix3 (0 : Fin 1) o r) 1) = o := by
    refine Fin.ext ((Pipeline.Window.rect_emb_val (cfg0.win 11) t (ix3 (0 : Fin 1) o r) 1).trans ?_)
    rw [show (cfg0.win 11).index t = _ from index11 t]
    show 0 * 512 + o.val = o.val; omega
  have e2 : (((cfg0.win 11).blk t).view.emb (ix3 (0 : Fin 1) o r) 2) = rowAt t r := by
    refine Fin.ext ((Pipeline.Window.rect_emb_val (cfg0.win 11) t (ix3 (0 : Fin 1) o r) 2).trans ?_)
    rw [show (cfg0.win 11).index t = _ from index11 t]
    rfl
  refine (block11 m c t _ r o e0).trans ?_
  exact (congrArg (fun n => queryAt m c _ o n) e2.symm).trans (congrArg (fun k => queryAt m c _ k _) e1.symm)

/-- The keys of the whole array. -/
def keyAt (b : Fin 4) (n : Fin 8192) (o : Fin 128) : EReal := keys (columnAt m c b n) (fun e => argGk m c (ix1 e)) (fun e => argCos m c (ix2 n e)) (fun e => argSin m c (ix2 n e)) o

omit t in
theorem final12 : (dats m 0 c).arrAt 12 cfg0.N = fun i : S4x8192x128.Idx => keyAt m c (i 0) (i 1) (i 2) := by
  refine (dats m 0 c).arrAt_eq_of_covers 12 _ (by decide +kernel) fun t hf y => ?_
  blk_simp
  rw [after0_12]
  obtain ⟨u, r, o, rfl⟩ : ∃ (u : Fin 1) (r : Fin 512) (o : Fin 128), y = ix3 u r o := ⟨y 0, y 1, y 2, eq_ix3 y⟩
  obtain rfl : u = 0 := Subsingleton.elim _ _
  have e0 : (((cfg0.win 12).blk t).view.emb (ix3 (0 : Fin 1) r o) 0).val = (grid0.coords t 0).val := by
    refine (Pipeline.Window.rect_emb_val (cfg0.win 12) t (ix3 (0 : Fin 1) r o) 0).trans ?_
    rw [show (cfg0.win 12).index t = _ from index12 t]
    show (grid0.coords t 0).val * 1 + 0 = _; omega
  have e1 : (((cfg0.win 12).blk t).view.emb (ix3 (0 : Fin 1) r o) 1) = rowAt t r := by
    refine Fin.ext ((Pipeline.Window.rect_emb_val (cfg0.win 12) t (ix3 (0 : Fin 1) r o) 1).trans ?_)
    rw [show (cfg0.win 12).index t = _ from index12 t]
    rfl
  have e2 : (((cfg0.win 12).blk t).view.emb (ix3 (0 : Fin 1) r o) 2) = o := by
    refine Fin.ext ((Pipeline.Window.rect_emb_val (cfg0.win 12) t (ix3 (0 : Fin 1) r o) 2).trans ?_)
    rw [show (cfg0.win 12).index t = _ from index12 t]
    show 0 * 128 + o.val = o.val; omega
  refine (block12 m c t _ r o e0).trans ?_
  exact (congrArg (fun n => keyAt m c _ n o) e1.symm).trans (congrArg (keyAt m c _ _) e2.symm)

/-- The values of the whole array. -/
def valueAt (b : Fin 4) (t : Fin 16) (d : Fin 128) (r : Fin 512) : EReal := values (columnAt m c b ⟨t.val * 512 + r.val, by omega⟩) d

omit t in
theorem final13 : (dats m 0 c).arrAt 13 cfg0.N = fun i : S4x16x128x512.Idx => valueAt m c (i 0) (i 1) (i 2) (i 3) := by
  refine (dats m 0 c).arrAt_eq_of_covers 13 _ (by decide +kernel) fun t hf y => ?_
  blk_simp
  rw [after0_13]
  obtain ⟨u, u', d, r, rfl⟩ : ∃ (u u' : Fin 1) (d : Fin 128) (r : Fin 512), y = ix4 u u' d r := ⟨y 0, y 1, y 2, y 3, eq_ix4 y⟩
  obtain rfl : u = 0 := Subsingleton.elim _ _
  obtain rfl : u' = 0 := Subsingleton.elim _ _
  have e0 : (((cfg0.win 13).blk t).view.emb (ix4 (0 : Fin 1) (0 : Fin 1) d r) 0).val = (grid0.coords t 0).val := by
    refine (Pipeline.Window.rect_emb_val (cfg0.win 13) t (ix4 (0 : Fin 1) (0 : Fin 1) d r) 0).trans ?_
    rw [show (cfg0.win 13).index t = _ from index13 t]
    show (grid0.coords t 0).val * 1 + 0 = _; omega
  have e1 : (((cfg0.win 13).blk t).view.emb (ix4 (0 : Fin 1) (0 : Fin 1) d r) 1).val = (grid0.coords t 1).val := by
    refine (Pipeline.Window.rect_emb_val (cfg0.win 13) t (ix4 (0 : Fin 1) (0 : Fin 1) d r) 1).trans ?_
    rw [show (cfg0.win 13).index t = _ from index13 t]
    show (grid0.coords t 1).val * 1 + 0 = _; omega
  have e2 : (((cfg0.win 13).blk t).view.emb (ix4 (0 : Fin 1) (0 : Fin 1) d r) 2) = d := by
    refine Fin.ext ((Pipeline.Window.rect_emb_val (cfg0.win 13) t (ix4 (0 : Fin 1) (0 : Fin 1) d r) 2).trans ?_)
    rw [show (cfg0.win 13).index t = _ from index13 t]
    show 0 * 128 + d.val = d.val; omega
  have e3 : (((cfg0.win 13).blk t).view.emb (ix4 (0 : Fin 1) (0 : Fin 1) d r) 3) = r := by
    refine Fin.ext ((Pipeline.Window.rect_emb_val (cfg0.win 13) t (ix4 (0 : Fin 1) (0 : Fin 1) d r) 3).trans ?_)
    rw [show (cfg0.win 13).index t = _ from index13 t]
    show 0 * 512 + r.val = r.val; omega
  refine (block13 m c t _ r d e0).trans ?_
  refine (?_ : _ = valueAt m c _ (((cfg0.win 13).blk t).view.emb (ix4 (0 : Fin 1) (0 : Fin 1) d r) 1) d r).trans ((congrArg (fun k => valueAt m c _ _ k r) e2.symm).trans (congrArg (valueAt m c _ _ _) e3.symm))
  unfold valueAt
  have er : ∀ h, (⟨(((cfg0.win 13).blk t).view.emb (ix4 (0 : Fin 1) (0 : Fin 1) d r) 1).val * 512 + r.val, h⟩ : Fin 8192) = rowAt t r := fun h => Fin.ext (by
    show (((cfg0.win 13).blk t).view.emb (ix4 (0 : Fin 1) (0 : Fin 1) d r) 1).val * 512 + r.val = (grid0.coords t 1).val * 512 + r.val
    rw [e1])
  rw [er]

/-- The gate of the whole array. -/
def gateAt (b : Fin 4) (n : Fin 8192) (o : Fin 512) : EReal := gates (columnAt m c b n) o

omit t in
theorem final14 : (dats m 0 c).arrAt 14 cfg0.N = fun i : S4x8192x512.Idx => gateAt m c (i 0) (i 1) (i 2) := by
  refine (dats m 0 c).arrAt_eq_of_covers 14 _ (by decide +kernel) fun t hf y => ?_
  blk_simp
  rw [after0_14]
  obtain ⟨u, r, o, rfl⟩ : ∃ (u : Fin 1) (r : Fin 512) (o : Fin 512), y = ix3 u r o := ⟨y 0, y 1, y 2, eq_ix3 y⟩
  obtain rfl : u = 0 := Subsingleton.elim _ _
  have e0 : (((cfg0.win 14).blk t).view.emb (ix3 (0 : Fin 1) r o) 0).val = (grid0.coords t 0).val := by
    refine (Pipeline.Window.rect_emb_val (cfg0.win 14) t (ix3 (0 : Fin 1) r o) 0).trans ?_
    rw [show (cfg0.win 14).index t = _ from index14 t]
    show (grid0.coords t 0).val * 1 + 0 = _; omega
  have e1 : (((cfg0.win 14).blk t).view.emb (ix3 (0 : Fin 1) r o) 1) = rowAt t r := by
    refine Fin.ext ((Pipeline.Window.rect_emb_val (cfg0.win 14) t (ix3 (0 : Fin 1) r o) 1).trans ?_)
    rw [show (cfg0.win 14).index t = _ from index14 t]
    rfl
  have e2 : (((cfg0.win 14).blk t).view.emb (ix3 (0 : Fin 1) r o) 2) = o := by
    refine Fin.ext ((Pipeline.Window.rect_emb_val (cfg0.win 14) t (ix3 (0 : Fin 1) r o) 2).trans ?_)
    rw [show (cfg0.win 14).index t = _ from index14 t]
    show 0 * 512 + o.val = o.val; omega
  refine (block14 m c t _ r o e0).trans ?_
  exact (congrArg (fun n => gateAt m c _ n o) e1.symm).trans (congrArg (gateAt m c _ _) e2.symm)

/-- The convolution's input of the whole array. -/
def inputAt (b : Fin 4) (n : Fin 8192) (o : Fin 512) : EReal := inputs (columnAt m c b n) o

omit t in
theorem final15 : (dats m 0 c).arrAt 15 cfg0.N = fun i : S4x8192x512.Idx => inputAt m c (i 0) (i 1) (i 2) := by
  refine (dats m 0 c).arrAt_eq_of_covers 15 _ (by decide +kernel) fun t hf y => ?_
  blk_simp
  rw [after0_15]
  obtain ⟨u, r, o, rfl⟩ : ∃ (u : Fin 1) (r : Fin 512) (o : Fin 512), y = ix3 u r o := ⟨y 0, y 1, y 2, eq_ix3 y⟩
  obtain rfl : u = 0 := Subsingleton.elim _ _
  have e0 : (((cfg0.win 15).blk t).view.emb (ix3 (0 : Fin 1) r o) 0).val = (grid0.coords t 0).val := by
    refine (Pipeline.Window.rect_emb_val (cfg0.win 15) t (ix3 (0 : Fin 1) r o) 0).trans ?_
    rw [show (cfg0.win 15).index t = _ from index15 t]
    show (grid0.coords t 0).val * 1 + 0 = _; omega
  have e1 : (((cfg0.win 15).blk t).view.emb (ix3 (0 : Fin 1) r o) 1) = rowAt t r := by
    refine Fin.ext ((Pipeline.Window.rect_emb_val (cfg0.win 15) t (ix3 (0 : Fin 1) r o) 1).trans ?_)
    rw [show (cfg0.win 15).index t = _ from index15 t]
    rfl
  have e2 : (((cfg0.win 15).blk t).view.emb (ix3 (0 : Fin 1) r o) 2) = o := by
    refine Fin.ext ((Pipeline.Window.rect_emb_val (cfg0.win 15) t (ix3 (0 : Fin 1) r o) 2).trans ?_)
    rw [show (cfg0.win 15).index t = _ from index15 t]
    show 0 * 512 + o.val = o.val; omega
  refine (block15 m c t _ r o e0).trans ?_
  exact (congrArg (fun n => inputAt m c _ n o) e1.symm).trans (congrArg (inputAt m c _ _) e2.symm)

end Cert.Kernel4Ideal.InRows
-- ==== Proof.InRef.lean ====
/- The input projections written plainly: the five results, row by row. -/
module

public import proofs.«01_k».proof.Proof.InSpec
public import proofs.«01_k».proof.Proof.Gen.Reference4Ideal.Run
public import Idealize.ShloMosaic.Lib.Pointwise

@[expose] public section

set_option maxRecDepth 16384

noncomputable section

namespace Cert.Reference4Ideal.InRef

open Idealize.ShloMosaic Idealize.ShloMosaic.TcCoe
open Cert.Reference4Ideal Cert.Reference4Ideal.Gen Cert.Reference4Ideal.Value Cert.Mix Cert.In
open scoped BigOperators

variable (m : (ℓ : Loc nD τ sig) → Buf (Elt Ideal) ℓ) (c : Dev nD)

abbrev argX : Vec Ideal S4x8192x1024 .f32 := m ((c.tc : Thread nD τ).loc main_arg0)
abbrev argMods : Vec Ideal S8x6x1024 .f32 := m ((c.tc : Thread nD τ).loc main_arg1)
abbrev argPre : Vec Ideal S1024 .f32 := m ((c.tc : Thread nD τ).loc main_arg2)
abbrev argIn : Vec Ideal S1024x2304 .f32 := m ((c.tc : Thread nD τ).loc main_arg3)
abbrev argGq : Vec Ideal S64 .f32 := m ((c.tc : Thread nD τ).loc main_arg4)
abbrev argGk : Vec Ideal S64 .f32 := m ((c.tc : Thread nD τ).loc main_arg5)
abbrev argCos : Vec Ideal S8192x32 .f32 := m ((c.tc : Thread nD τ).loc main_arg6)
abbrev argSin : Vec Ideal S8192x32 .f32 := m ((c.tc : Thread nD τ).loc main_arg7)

/-- The rows normalised, scaled and shifted, as the reference has them. -/
def hArr : Vec Ideal S4x8192x1024 .f32 :=
  addf (mulf (mulf (mulf (argX m c) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (argX m c) (argX m c)) (constant (F := Ideal) S_ .f32 0x00000000#32) reducesTo_S4x8192x1024_S4x8192_d2 h_S_)) (broadcastInDim S4x8192x1 ![] bcast_S_S4x8192x1 (constant (F := Ideal) S_ .f32 0x44800000#32))) (broadcastInDim S4x8192x1 ![] bcast_S_S4x8192x1 (constant (F := Ideal) S_ .f32 0x358637BD#32)))))) (broadcastInDim S4x8192x1024 ![0, 1, 2] bcast_S1x1x1024_S4x8192x1024_0_1_2 (broadcastInDim S1x1x1024 ![2] bcast_S1024_S1x1x1024_2 (argPre m c)))) (broadcastInDim S4x8192x1024 ![0, 1, 2] bcast_S4x1x1024_S4x8192x1024_0_1_2 (addf (broadcastInDim S4x1x1024 ![] bcast_S_S4x1x1024 (constant (F := Ideal) S_ .f32 0x3F800000#32)) (broadcastInDim S4x1x1024 ![0, 2] bcast_S4x1024_S4x1x1024_0_2 (shapeCast S4x1024 (extractStridedSlice S4x1x1024 ![0, 1, 0] (argMods m c) slices_S8x6x1024_S4x1x1024_0_1_0) shapeCasts_S4x1x1024_S4x1024))))) (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 0, 0] (argMods m c) slices_S8x6x1024_S4x1x1024_0_0_0) shapeCasts_S4x1x1024_S4x1024)))

/-- Their product with the projection. -/
def yArr : Vec Ideal S4x8192x2304 .f32 :=
  Host.dotGeneral (F := Ideal) (φ₁ := .f32) (φ₂ := .f32) dot_S4x8192x1024_S1024x2304_S4x8192x2304_2_0_01_1_n_n none (hArr m c) (argIn m c)

/-- One row's columns of the projection. -/
def columnAt (b : Fin 4) (n : Fin 8192) : Fin 2304 → EReal :=
  column (fun o => argX m c (ix3 b n o)) (fun o => argPre m c (ix1 o)) (fun o => argMods m c (ix3 (⟨b.val, by omega⟩ : Fin 8) (0 : Fin 6) o)) (fun o => argMods m c (ix3 (⟨b.val, by omega⟩ : Fin 8) (1 : Fin 6) o))
    (fun i o => argIn m c (ix2 i o))

theorem h_apply (b : Fin 4) (n : Fin 8192) (o : Fin 1024) :
    hArr m c (ix3 b n o) = modulated (fun o => argX m c (ix3 b n o)) (fun o => argPre m c (ix1 o)) (fun o => argMods m c (ix3 (⟨b.val, by omega⟩ : Fin 8) (0 : Fin 6) o)) (fun o => argMods m c (ix3 (⟨b.val, by omega⟩ : Fin 8) (1 : Fin 6) o)) o := by
  pointwise [hArr, modulated, normed, rootScale]

theorem y_apply (b : Fin 4) (n : Fin 8192) (o : Fin 2304) : yArr m c (ix3 b n o) = columnAt m c b n o := by
  have h : yArr m c (ix3 b n o) = ∑ i : Fin 1024, hArr m c (ix3 b n i) * argIn m c (ix2 i o) := by
    pointwise [yArr]
  rw [h]
  simp only [h_apply]
  rfl

theorem halves_eq (t : Fin 64 → EReal) (c s : Fin 32 → EReal) (e : Fin 64) :
    (if h : e.val < 32 then t e * c ⟨e.val, h⟩ - t ⟨32 + e.val, by omega⟩ * s ⟨e.val, h⟩
      else t ⟨32 + (e.val - 32), by omega⟩ * c ⟨e.val - 32, by omega⟩ + t ⟨e.val - 32, by omega⟩ * s ⟨e.val - 32, by omega⟩) = turned t c s e := by
  unfold turned
  by_cases h : e.val < 32
  · have e1 : (⟨e.val, h⟩ : Fin 32) = ⟨e.val % 32, by omega⟩ := Fin.ext (by show e.val = e.val % 32; omega)
    have e2 : (⟨32 + e.val, by omega⟩ : Fin 64) = ⟨(e.val + 32) % 64, by omega⟩ := Fin.ext (by show 32 + e.val = (e.val + 32) % 64; omega)
    rw [dif_pos h, if_pos h, e1, e2]
  · have e1 : (⟨e.val - 32, by omega⟩ : Fin 32) = ⟨e.val % 32, by omega⟩ := Fin.ext (by show e.val - 32 = e.val % 32; omega)
    have e2 : (⟨e.val - 32, by omega⟩ : Fin 64) = ⟨(e.val + 32) % 64, by omega⟩ := Fin.ext (by show e.val - 32 = (e.val + 32) % 64; omega)
    have e3 : (⟨32 + (e.val - 32), by omega⟩ : Fin 64) = e := Fin.ext (by show 32 + (e.val - 32) = e.val; omega)
    rw [dif_neg h, if_neg h, e1, e2, e3]

/-- The columns of the queries, a head at a time. -/
def qCols : Vec Ideal S4x8192x8x64 .f32 := shapeCast S4x8192x8x64 (extractStridedSlice S4x8192x512 ![0, 0, 0] (yArr m c) slices_S4x8192x2304_S4x8192x512_0_0_0) shapeCasts_S4x8192x512_S4x8192x8x64

/-- The queries normalised head by head. -/
def qNorm : Vec Ideal S4x8192x8x64 .f32 :=
  mulf (F := Ideal) (φ := .f32) (mulf (F := Ideal) (φ := .f32) (qCols m c) (broadcastInDim S4x8192x8x64 ![0, 1, 2, 3] bcast_S4x8192x8x1_S4x8192x8x64_0_1_2_3 (Host.rsqrt (addf (F := Ideal) (φ := .f32) (Host.divf (broadcastInDim S4x8192x8x1 ![0, 1, 2] bcast_S4x8192x8_S4x8192x8x1_0_1_2 (Host.reduceAdd (mulf (F := Ideal) (φ := .f32) (qCols m c) (qCols m c)) (constant (F := Ideal) S_ .f32 0x00000000#32) reducesTo_S4x8192x8x64_S4x8192x8_d3 h_S_)) (broadcastInDim S4x8192x8x1 ![] bcast_S_S4x8192x8x1 (constant (F := Ideal) S_ .f32 0x42800000#32))) (broadcastInDim S4x8192x8x1 ![] bcast_S_S4x8192x8x1 (constant (F := Ideal) S_ .f32 0x358637BD#32)))))) (broadcastInDim S4x8192x8x64 ![0, 1, 2, 3] bcast_S1x1x1x64_S4x8192x8x64_0_1_2_3 (broadcastInDim S1x1x1x64 ![3] bcast_S64_S1x1x1x64_3 (argGq m c)))

/-- The first halves of the queries turned. -/
def qLo : Vec Ideal S4x8192x8x32 .f32 :=
  subf (F := Ideal) (φ := .f32) (mulf (F := Ideal) (φ := .f32) (extractStridedSlice S4x8192x8x32 ![0, 0, 0, 0] (qNorm m c) slices_S4x8192x8x64_S4x8192x8x32_0_0_0_0) (broadcastInDim S4x8192x8x32 ![0, 1, 2, 3] bcast_S1x8192x1x32_S4x8192x8x32_0_1_2_3 (broadcastInDim S1x8192x1x32 ![1, 3] bcast_S8192x32_S1x8192x1x32_1_3 (argCos m c)))) (mulf (F := Ideal) (φ := .f32) (extractStridedSlice S4x8192x8x32 ![0, 0, 0, 32] (qNorm m c) slices_S4x8192x8x64_S4x8192x8x32_0_0_0_32) (broadcastInDim S4x8192x8x32 ![0, 1, 2, 3] bcast_S1x8192x1x32_S4x8192x8x32_0_1_2_3 (broadcastInDim S1x8192x1x32 ![1, 3] bcast_S8192x32_S1x8192x1x32_1_3 (argSin m c))))

/-- The second halves of the queries turned. -/
def qHi : Vec Ideal S4x8192x8x32 .f32 :=
  addf (F := Ideal) (φ := .f32) (mulf (F := Ideal) (φ := .f32) (extractStridedSlice S4x8192x8x32 ![0, 0, 0, 32] (qNorm m c) slices_S4x8192x8x64_S4x8192x8x32_0_0_0_32) (broadcastInDim S4x8192x8x32 ![0, 1, 2, 3] bcast_S1x8192x1x32_S4x8192x8x32_0_1_2_3 (broadcastInDim S1x8192x1x32 ![1, 3] bcast_S8192x32_S1x8192x1x32_1_3 (argCos m c)))) (mulf (F := Ideal) (φ := .f32) (extractStridedSlice S4x8192x8x32 ![0, 0, 0, 0] (qNorm m c) slices_S4x8192x8x64_S4x8192x8x32_0_0_0_0) (broadcastInDim S4x8192x8x32 ![0, 1, 2, 3] bcast_S1x8192x1x32_S4x8192x8x32_0_1_2_3 (broadcastInDim S1x8192x1x32 ![1, 3] bcast_S8192x32_S1x8192x1x32_1_3 (argSin m c))))

/-- The queries turned. -/
def qRope : Vec Ideal S4x8192x8x64 .f32 :=
  concatenate S4x8192x8x64 3 [⟨S4x8192x8x32, (qLo m c)⟩, ⟨S4x8192x8x32, (qHi m c)⟩] concatenates_S4x8192x8x32_S4x8192x8x32_S4x8192x8x64_d3

/-- The result of the queries. -/
def qOut : Vec Ideal S4x512x8192 .bf16 :=
  truncf (F := Ideal) (φ := .f32) .bf16 (transpose S4x512x8192 [0, 2, 1] (shapeCast S4x8192x512 (mulf (F := Ideal) (φ := .f32) (qRope m c) (broadcastInDim S4x8192x8x64 ![] bcast_S_S4x8192x8x64 (constant (F := Ideal) S_ .f32 0x3E38AA3B#32))) shapeCasts_S4x8192x8x64_S4x8192x512) transposes_S4x8192x512_S4x512x8192_0_2_1) bitsLt_bf16_f32

theorem qNorm_apply (b : Fin 4) (n : Fin 8192) (hd : Fin 8) (e : Fin 64) :
    qNorm m c (ix4 b n hd e) = headed (fun e => columnAt m c b n ⟨(hd.val * 64 + e.val), by omega⟩) (fun e => argGq m c (ix1 e)) e := by
  have h : ∀ e, qCols m c (ix4 b n hd e) = columnAt m c b n ⟨(hd.val * 64 + e.val), by omega⟩ := fun e => by
    rw [← y_apply]
    pointwise [qCols]
  have h' : qNorm m c (ix4 b n hd e) = headed (fun e => qCols m c (ix4 b n hd e)) (fun e => argGq m c (ix1 e)) e := by
    pointwise [qNorm, headed]
  rw [h']
  simp only [h]

theorem qRope_apply (b : Fin 4) (n : Fin 8192) (hd : Fin 8) (e : Fin 64) :
    qRope m c (ix4 b n hd e) = turned (fun e => qNorm m c (ix4 b n hd e)) (fun e => argCos m c (ix2 n e)) (fun e => argSin m c (ix2 n e)) e := by
  rw [← halves_eq]
  pointwise [qRope, qLo, qHi]

theorem qOut_apply (b : Fin 4) (n : Fin 8192) (o : Fin 512) :
    qOut m c (ix3 b o n) = queries (columnAt m c b n) (fun e => argGq m c (ix1 e)) (fun e => argCos m c (ix2 n e)) (fun e => argSin m c (ix2 n e)) o := by
  have h : qOut m c (ix3 b o n) = qRope m c (ix4 b n (⟨o.val / 64, by omega⟩ : Fin 8) (⟨o.val % 64, by omega⟩ : Fin 64)) * Ideal.ofBits .f32 0x3E38AA3B#32 := by
    pointwise [qOut]
  rw [h, qRope_apply]
  simp only [qNorm_apply]
  rfl

theorem q_eq : res_main_v94 m c = qOut m c := rfl

/-- The columns of the keys, a head at a time. -/
def kCols : Vec Ideal S4x8192x2x64 .f32 := shapeCast S4x8192x2x64 (extractStridedSlice S4x8192x128 ![0, 0, 512] (yArr m c) slices_S4x8192x2304_S4x8192x128_0_0_512) shapeCasts_S4x8192x128_S4x8192x2x64

/-- The keys normalised head by head. -/
def kNorm : Vec Ideal S4x8192x2x64 .f32 :=
  mulf (F := Ideal) (φ := .f32) (mulf (F := Ideal) (φ := .f32) (kCols m c) (broadcastInDim S4x8192x2x64 ![0, 1, 2, 3] bcast_S4x8192x2x1_S4x8192x2x64_0_1_2_3 (Host.rsqrt (addf (F := Ideal) (φ := .f32) (Host.divf (broadcastInDim S4x8192x2x1 ![0, 1, 2] bcast_S4x8192x2_S4x8192x2x1_0_1_2 (Host.reduceAdd (mulf (F := Ideal) (φ := .f32) (kCols m c) (kCols m c)) (constant (F := Ideal) S_ .f32 0x00000000#32) reducesTo_S4x8192x2x64_S4x8192x2_d3 h_S_)) (broadcastInDim S4x8192x2x1 ![] bcast_S_S4x8192x2x1 (constant (F := Ideal) S_ .f32 0x42800000#32))) (broadcastInDim S4x8192x2x1 ![] bcast_S_S4x8192x2x1 (constant (F := Ideal) S_ .f32 0x358637BD#32)))))) (broadcastInDim S4x8192x2x64 ![0, 1, 2, 3] bcast_S1x1x1x64_S4x8192x2x64_0_1_2_3 (broadcastInDim S1x1x1x64 ![3] bcast_S64_S1x1x1x64_3 (argGk m c)))

/-- The first halves of the keys turned. -/
def kLo : Vec Ideal S4x8192x2x32 .f32 :=
  subf (F := Ideal) (φ := .f32) (mulf (F := Ideal) (φ := .f32) (extractStridedSlice S4x8192x2x32 ![0, 0, 0, 0] (kNorm m c) slices_S4x8192x2x64_S4x8192x2x32_0_0_0_0) (broadcastInDim S4x8192x2x32 ![0, 1, 2, 3] bcast_S1x8192x1x32_S4x8192x2x32_0_1_2_3 (broadcastInDim S1x8192x1x32 ![1, 3] bcast_S8192x32_S1x8192x1x32_1_3 (argCos m c)))) (mulf (F := Ideal) (φ := .f32) (extractStridedSlice S4x8192x2x32 ![0, 0, 0, 32] (kNorm m c) slices_S4x8192x2x64_S4x8192x2x32_0_0_0_32) (broadcastInDim S4x8192x2x32 ![0, 1, 2, 3] bcast_S1x8192x1x32_S4x8192x2x32_0_1_2_3 (broadcastInDim S1x8192x1x32 ![1, 3] bcast_S8192x32_S1x8192x1x32_1_3 (argSin m c))))

/-- The second halves of the keys turned. -/
def kHi : Vec Ideal S4x8192x2x32 .f32 :=
  addf (F := Ideal) (φ := .f32) (mulf (F := Ideal) (φ := .f32) (extractStridedSlice S4x8192x2x32 ![0, 0, 0, 32] (kNorm m c) slices_S4x8192x2x64_S4x8192x2x32_0_0_0_32) (broadcastInDim S4x8192x2x32 ![0, 1, 2, 3] bcast_S1x8192x1x32_S4x8192x2x32_0_1_2_3 (broadcastInDim S1x8192x1x32 ![1, 3] bcast_S8192x32_S1x8192x1x32_1_3 (argCos m c)))) (mulf (F := Ideal) (φ := .f32) (extractStridedSlice S4x8192x2x32 ![0, 0, 0, 0] (kNorm m c) slices_S4x8192x2x64_S4x8192x2x32_0_0_0_0) (broadcastInDim S4x8192x2x32 ![0, 1, 2, 3] bcast_S1x8192x1x32_S4x8192x2x32_0_1_2_3 (broadcastInDim S1x8192x1x32 ![1, 3] bcast_S8192x32_S1x8192x1x32_1_3 (argSin m c))))

/-- The keys turned. -/
def kRope : Vec Ideal S4x8192x2x64 .f32 :=
  concatenate S4x8192x2x64 3 [⟨S4x8192x2x32, (kLo m c)⟩, ⟨S4x8192x2x32, (kHi m c)⟩] concatenates_S4x8192x2x32_S4x8192x2x32_S4x8192x2x64_d3

/-- The result of the keys. -/
def kOut : Vec Ideal S4x8192x128 .bf16 :=
  truncf (F := Ideal) (φ := .f32) .bf16 (shapeCast S4x8192x128 (kRope m c) shapeCasts_S4x8192x2x64_S4x8192x128) bitsLt_bf16_f32

theorem kNorm_apply (b : Fin 4) (n : Fin 8192) (hd : Fin 2) (e : Fin 64) :
    kNorm m c (ix4 b n hd e) = headed (fun e => columnAt m c b n ⟨512 + (hd.val * 64 + e.val), by omega⟩) (fun e => argGk m c (ix1 e)) e := by
  have h : ∀ e, kCols m c (ix4 b n hd e) = columnAt m c b n ⟨512 + (hd.val * 64 + e.val), by omega⟩ := fun e => by
    rw [← y_apply]
    pointwise [kCols]
  have h' : kNorm m c (ix4 b n hd e) = headed (fun e => kCols m c (ix4 b n hd e)) (fun e => argGk m c (ix1 e)) e := by
    pointwise [kNorm, headed]
  rw [h']
  simp only [h]

theorem kRope_apply (b : Fin 4) (n : Fin 8192) (hd : Fin 2) (e : Fin 64) :
    kRope m c (ix4 b n hd e) = turned (fun e => kNorm m c (ix4 b n hd e)) (fun e => argCos m c (ix2 n e)) (fun e => argSin m c (ix2 n e)) e := by
  rw [← halves_eq]
  pointwise [kRope, kLo, kHi]

theorem kOut_apply (b : Fin 4) (n : Fin 8192) (o : Fin 128) :
    kOut m c (ix3 b n o) = keys (columnAt m c b n) (fun e => argGk m c (ix1 e)) (fun e => argCos m c (ix2 n e)) (fun e => argSin m c (ix2 n e)) o := by
  have h : kOut m c (ix3 b n o) = kRope m c (ix4 b n (⟨o.val / 64, by omega⟩ : Fin 2) (⟨o.val % 64, by omega⟩ : Fin 64)) := by
    pointwise [kOut]
  rw [h, kRope_apply]
  simp only [kNorm_apply]
  rfl

theorem k_eq : res_main_v96 m c = kOut m c := rfl

/-- The result of the values. -/
def vOut : Vec Ideal S4x16x128x512 .bf16 :=
  truncf (F := Ideal) (φ := .f32) .bf16 (transpose S4x16x128x512 [0, 1, 3, 2] (shapeCast S4x16x512x128 (extractStridedSlice S4x8192x128 ![0, 0, 640] (yArr m c) slices_S4x8192x2304_S4x8192x128_0_0_640) shapeCasts_S4x8192x128_S4x16x512x128) transposes_S4x16x512x128_S4x16x128x512_0_1_3_2) bitsLt_bf16_f32

theorem vOut_apply (b : Fin 4) (t : Fin 16) (d : Fin 128) (r : Fin 512) : vOut m c (ix4 b t d r) = values (columnAt m c b (⟨t.val * 512 + r.val, by omega⟩ : Fin 8192)) d := by
  unfold values
  simp only [← y_apply]
  pointwise [vOut]

/-- The result of the gates. -/
def gOut : Vec Ideal S4x8192x512 .bf16 :=
  truncf (F := Ideal) (φ := .f32) .bf16 (extractStridedSlice S4x8192x512 ![0, 0, 768] (yArr m c) slices_S4x8192x2304_S4x8192x512_0_0_768) bitsLt_bf16_f32

theorem gOut_apply (b : Fin 4) (n : Fin 8192) (o : Fin 512) : gOut m c (ix3 b n o) = gates (columnAt m c b n) o := by
  unfold gates
  simp only [← y_apply]
  pointwise [gOut]

/-- The result of the inputs. -/
def zOut : Vec Ideal S4x8192x512 .bf16 :=
  truncf (F := Ideal) (φ := .f32) .bf16 (mulf (F := Ideal) (φ := .f32) (extractStridedSlice S4x8192x512 ![0, 0, 1280] (yArr m c) slices_S4x8192x2304_S4x8192x512_0_0_1280) (extractStridedSlice S4x8192x512 ![0, 0, 1792] (yArr m c) slices_S4x8192x2304_S4x8192x512_0_0_1792)) bitsLt_bf16_f32

theorem zOut_apply (b : Fin 4) (n : Fin 8192) (o : Fin 512) : zOut m c (ix3 b n o) = inputs (columnAt m c b n) o := by
  unfold inputs
  simp only [← y_apply]
  pointwise [zOut]

/-! ## The five results as functions of their indices -/

theorem row_lt (t : Fin 16) (r : Fin 512) : t.val * 512 + r.val < 8192 := by omega

theorem q_is : qOut m c = fun i : S4x512x8192.Idx => queries (columnAt m c (i 0) (i 2)) (fun e => argGq m c (ix1 e)) (fun e => argCos m c (ix2 (i 2) e)) (fun e => argSin m c (ix2 (i 2) e)) (i 1) := funext fun i =>
  (congrArg (qOut m c) (eq_ix3 i)).trans (qOut_apply m c (i 0) (i 2) (i 1))

theorem k_is : kOut m c = fun i : S4x8192x128.Idx => keys (columnAt m c (i 0) (i 1)) (fun e => argGk m c (ix1 e)) (fun e => argCos m c (ix2 (i 1) e)) (fun e => argSin m c (ix2 (i 1) e)) (i 2) := funext fun i =>
  (congrArg (kOut m c) (eq_ix3 i)).trans (kOut_apply m c (i 0) (i 1) (i 2))

theorem v_is : vOut m c = fun i : S4x16x128x512.Idx => values (columnAt m c (i 0) ⟨(i 1).val * 512 + (i 3).val, row_lt (i 1) (i 3)⟩) (i 2) := funext fun i =>
  (congrArg (vOut m c) (eq_ix4 i)).trans (vOut_apply m c (i 0) (i 1) (i 2) (i 3))

theorem g_is : gOut m c = fun i : S4x8192x512.Idx => gates (columnAt m c (i 0) (i 1)) (i 2) := funext fun i =>
  (congrArg (gOut m c) (eq_ix3 i)).trans (gOut_apply m c (i 0) (i 1) (i 2))

theorem z_is : zOut m c = fun i : S4x8192x512.Idx => inputs (columnAt m c (i 0) (i 1)) (i 2) := funext fun i =>
  (congrArg (zOut m c) (eq_ix3 i)).trans (zOut_apply m c (i 0) (i 1) (i 2))

end Cert.Reference4Ideal.InRef
-- ==== Proof.ModValue.lean ====
/- The modulations: the array after the run, as one function of the arguments. -/
module

public import proofs.«01_k».proof.Proof.Gen.Kernel5Ideal.Value
public import Idealize.ShloMosaic.Lib.StableHlo.RunRead
public import Idealize.ShloMosaic.Lib.ValueLayout
public import Idealize.ShloMosaic.Lib.Pipeline.ValueKit
public import Idealize.ShloMosaic.Lib.Routing.OpsOne
public import Idealize.ShloMosaic.Lib.Pointwise

@[expose] public section

set_option maxRecDepth 16384

noncomputable section

namespace Cert.Kernel5Ideal.ModRows

open Idealize.ShloMosaic Idealize.ShloMosaic.TcCoe Idealize.ShloMosaic.Routing
open Cert.Kernel5Ideal Cert.Kernel5Ideal.Gen
open scoped BigOperators

/-! ## One entry -/

/-- A row's silu times a column, and the column's bias. -/
def entry (a : Fin 1024 → EReal) (w : Fin 1024 → EReal) (b : EReal) : EReal := (∑ i, a i * Ideal.logistic (a i) * w i) + b

theorem pay_apply (x0 : Vec Ideal S8x1024 .f32) (x1 : Vec Ideal S1024x1024 .f32) (x2 : Vec Ideal S1x1024 .f32) (r : Fin 8) (o : Fin 1024) :
    k0_pay1 x0 x1 x2 (ix2 r o) = entry (fun i => x0 (ix2 r i)) (fun i => x1 (ix2 i o)) (x2 (ix2 (0 : Fin 1) o)) := by
  unfold entry
  pointwise [k0_pay1]

theorem ld0 (x : Vec Ideal S8x1024 .f32) : View.ld x r0_0 = x := View.ld_unit_lit (S := S8x1024) _ x (by decide)
theorem ld1 (x : Vec Ideal S1024x1024 .f32) : View.ld x r0_1 = x := View.ld_unit_lit (S := S1024x1024) _ x (by decide)
theorem ld2 (x : Vec Ideal S1x1024 .f32) : View.ld x r0_2 = x := View.ld_unit_lit (S := S1x1024) _ x (by decide)
theorem one (f : Vec Ideal S8x1024 .f32) : View.canon [⟨r0_0, f⟩] = f := View.canon_cons_unit_lit (S := S8x1024) _ f [] (by decide)

theorem out_apply (x0 : Vec Ideal S8x1024 .f32) (x1 : Vec Ideal S1024x1024 .f32) (x2 : Vec Ideal S1x1024 .f32) (r : Fin 8) (o : Fin 1024) :
    out0_3 x0 x1 x2 (ix2 r o) = entry (fun i => x0 (ix2 r i)) (fun i => x1 (ix2 i o)) (x2 (ix2 (0 : Fin 1) o)) := by
  unfold out0_3
  rw [one, ld0, ld1, ld2, pay_apply]

/-! ## The conditions, laid out by rows -/

theorem lands_rows (idx : IVec S1 32) (hidx : idx (ix1 (0 : Fin 1)) = 0#32) (r' : Fin 4) (o' : Fin 1024) (r : Fin 8) (o : Fin 1024) :
    scatter_S8x1024_S1_S4x1024_01_n_0_0.resultIdx? (ix2 r' o') idx = some (ix2 r o) ↔ r'.val = r.val ∧ o' = o := by
  set d := scatter_S8x1024_S1_S4x1024_01_n_0_0
  have w0 : d.window (ix2 r' o') 0 = r'.val := rfl
  have w1 : d.window (ix2 r' o') 1 = o'.val := rfl
  have s1 : d.start (ix2 r' o') idx 1 = 0 := by
    unfold ScatterDims.start
    exact dif_neg (show (1 : Fin 2) ∉ [(0 : Fin 2)] from by decide)
  have s0 : d.start (ix2 r' o') idx 0 = 0 := by
    unfold ScatterDims.start
    have q : ∀ j : S1.Idx, (idx j).toInt = 0 := fun j => by
      have : j = ix1 (0 : Fin 1) := (eq_ix1 j).trans (congrArg ix1 (Subsingleton.elim (α := Fin 1) _ _))
      rw [this, hidx]; rfl
    exact (dif_pos (show (0 : Fin 2) ∈ [(0 : Fin 2)] from by decide)).trans (q _)
  refine (resultIdx?_ix2 (R := 8) (C := 1024) d (ix2 r' o') idx r o).trans ?_
  rw [s0, w0, s1, w1, Fin.ext_iff]
  omega

theorem lands_row (idx : IVec S1 32) (hidx : idx (ix1 (0 : Fin 1)) = 4#32) (o' : Fin 1024) (r : Fin 8) (o : Fin 1024) :
    scatter_S8x1024_S1_S1024_0_0_0_0.resultIdx? (ix1 o') idx = some (ix2 r o) ↔ r.val = 4 ∧ o' = o := by
  set d := scatter_S8x1024_S1_S1024_0_0_0_0
  have w0 : d.window (ix1 o') 0 = 0 := rfl
  have w1 : d.window (ix1 o') 1 = o'.val := rfl
  have s1 : d.start (ix1 o') idx 1 = 0 := by
    unfold ScatterDims.start
    exact dif_neg (show (1 : Fin 2) ∉ [(0 : Fin 2)] from by decide)
  have s0 : d.start (ix1 o') idx 0 = 4 := by
    unfold ScatterDims.start
    have q : ∀ j : S1.Idx, (idx j).toInt = 4 := fun j => by
      have : j = ix1 (0 : Fin 1) := (eq_ix1 j).trans (congrArg ix1 (Subsingleton.elim (α := Fin 1) _ _))
      rw [this, hidx]; rfl
    exact (dif_pos (show (0 : Fin 2) ∈ [(0 : Fin 2)] from by decide)).trans (q _)
  refine (resultIdx?_ix2 (R := 8) (C := 1024) d (ix1 o') idx r o).trans ?_
  rw [s0, w0, s1, w1, Fin.ext_iff]
  omega

/-- Eight rows: the batches' conditions, the context's, and three of zeros. -/
def condArr (c : Vec Ideal S4x1024 .f32) (x : Vec Ideal S1024 .f32) : Vec Ideal S8x1024 .f32 :=
  Host.scatter scatter_S8x1024_S1_S1024_0_0_0_0 (fun _ b => b)
    (Host.scatter scatter_S8x1024_S1_S4x1024_01_n_0_0 (fun _ b => b) (broadcastInDim S8x1024 ![] bcast_S_S8x1024 (constant (F := Ideal) S_ .f32 0x00000000#32))
      (broadcastInDim S1 ![] bcast_S_S1 (constantI S_ 32 0#32)) c)
    (broadcastInDim S1 ![] bcast_S_S1 (constantI S_ 32 4#32)) x

/-- One entry of the eight rows. -/
def condAt (c : Vec Ideal S4x1024 .f32) (x : Vec Ideal S1024 .f32) (r : Fin 8) (o : Fin 1024) : EReal :=
  if h : r.val < 4 then c (ix2 (⟨r.val, h⟩ : Fin 4) o) else if r.val = 4 then x (ix1 o) else 0

theorem condArr_apply (c : Vec Ideal S4x1024 .f32) (x : Vec Ideal S1024 .f32) (r : Fin 8) (o : Fin 1024) : condArr c x (ix2 r o) = condAt c x r o := by
  unfold condArr condAt
  by_cases h4 : r.val = 4
  · rw [dif_neg (by omega), if_pos h4]
    refine scatter_set_hit _ _ _ _ _ _ (fun j hj => ?_) (ix1 o) ((lands_row _ rfl o r o).2 ⟨h4, rfl⟩)
    obtain ⟨k, rfl⟩ : ∃ k : Fin 1024, j = ix1 k := ⟨j 0, eq_ix1 j⟩
    rw [((lands_row _ rfl k r o).1 hj).2]
  · refine (scatter_set_miss _ _ _ _ _ fun j hj => ?_).trans ?_
    · obtain ⟨k, rfl⟩ : ∃ k : Fin 1024, j = ix1 k := ⟨j 0, eq_ix1 j⟩
      exact h4 ((lands_row _ rfl k r o).1 hj).1
    · by_cases h : r.val < 4
      · rw [dif_pos h]
        refine scatter_set_hit _ _ _ _ _ _ (fun j hj => ?_) (ix2 (⟨r.val, h⟩ : Fin 4) o) ((lands_rows _ rfl ⟨r.val, h⟩ o r o).2 ⟨rfl, rfl⟩)
        obtain ⟨k, l, rfl⟩ : ∃ (k : Fin 4) (l : Fin 1024), j = ix2 k l := ⟨j 0, j 1, eq_ix2 j⟩
        obtain ⟨e, rfl⟩ := (lands_rows _ rfl k l r o).1 hj
        obtain rfl : k = ⟨r.val, h⟩ := Fin.ext e
        rfl
      · rw [dif_neg h, if_neg h4]
        refine (scatter_set_miss _ _ _ _ _ fun j hj => ?_).trans ?_
        · obtain ⟨k, l, rfl⟩ : ∃ (k : Fin 4) (l : Fin 1024), j = ix2 k l := ⟨j 0, j 1, eq_ix2 j⟩
          have e := ((lands_rows _ rfl k l r o).1 hj).1
          omega
        · pointwise []

variable (m : (ℓ : Loc nD τ sig) → Buf (Elt Ideal) ℓ) (c : Dev nD)

/-! ## The arguments and what the region finds -/

abbrev argC : Vec Ideal S4x1024 .f32 := m ((c : Thread nD τ).loc main_arg0)
abbrev argCtx : Vec Ideal S1024 .f32 := m ((c : Thread nD τ).loc main_arg1)
abbrev argW : Vec Ideal S1024x6144 .f32 := m ((c : Thread nD τ).loc main_arg2)
abbrev argB : Vec Ideal S6144 .f32 := m ((c : Thread nD τ).loc main_arg3)

theorem V_cond : V m c main_v4 = condArr (argC m c) (argCtx m c) := by
  show StableHlo.after hostOps0 _ (Proc.devRef .tc main_v4) = _
  after_reads_simp
  all_goals rfl

theorem V_bias : V m c main_v5 = shapeCast S1x6144 (argB m c) shapeCasts_S6144_S1x6144 := by
  show StableHlo.after hostOps0 _ (Proc.devRef .tc main_v5) = _
  after_reads_simp
  all_goals rfl

theorem index0 : ∀ t : Fin cfg0.N, win0_0.index t = ![0, 0] := (by decide +kernel : ∀ t : Fin grid0.N, _)
theorem index1 : ∀ t : Fin cfg0.N, win0_1.index t = ![0, (grid0.coords t 0).val] := (by decide +kernel : ∀ t : Fin grid0.N, _)
theorem index2 : ∀ t : Fin cfg0.N, win0_2.index t = ![0, (grid0.coords t 0).val] := (by decide +kernel : ∀ t : Fin grid0.N, _)
theorem index3 : ∀ t : Fin cfg0.N, win0_3.index t = ![0, (grid0.coords t 0).val] := (by decide +kernel : ∀ t : Fin grid0.N, _)

variable (t : Fin cfg0.N)

/-- The array's column that is column `o` of the block. -/
def colAt (o : Fin 1024) : Fin 6144 := ⟨(grid0.coords t 0).val * 1024 + o.val, by
  have h : (grid0.coords t 0).val < 6 := (grid0.coords t 0).isLt
  omega⟩

theorem cond_at (r : Fin 8) (o : Fin 1024) : (show Vec Ideal S8x1024 .f32 from iblk m c 0 t) (ix2 r o) = condAt (argC m c) (argCtx m c) r o := by
  refine ((?_ : iblk m c 0 t _ = V m c main_v4 (ix2 r o)).trans (congrFun (V_cond m c) _)).trans (condArr_apply _ _ r o)
  refine congrArg (V m c main_v4) (funext fun b => Fin.ext ?_)
  refine (Pipeline.Window.rect_emb_val (cfg0.win 0) t (ix2 r o) b).trans ?_
  rw [show (cfg0.win 0).index t = _ from index0 t]
  match b with
  | ⟨0, _⟩ => show 0 * 8 + r.val = r.val; omega
  | ⟨1, _⟩ => show 0 * 1024 + o.val = o.val; omega

theorem w_at (i o : Fin 1024) : (show Vec Ideal S1024x1024 .f32 from iblk m c 1 t) (ix2 i o) = argW m c (ix2 i (colAt t o)) := by
  refine (?_ : iblk m c 1 t _ = V m c main_arg2 _).trans (congrFun (V_main_arg2 m c) _)
  refine congrArg (V m c main_arg2) (funext fun b => Fin.ext ?_)
  refine (Pipeline.Window.rect_emb_val (cfg0.win 1) t (ix2 i o) b).trans ?_
  rw [show (cfg0.win 1).index t = _ from index1 t]
  match b with
  | ⟨0, _⟩ => show 0 * 1024 + i.val = i.val; omega
  | ⟨1, _⟩ => rfl

theorem bias_at (o : Fin 1024) : (show Vec Ideal S1x1024 .f32 from iblk m c 2 t) (ix2 (0 : Fin 1) o) = argB m c (ix1 (colAt t o)) := by
  refine ((?_ : iblk m c 2 t _ = V m c main_v5 (ix2 (0 : Fin 1) (colAt t o))).trans (congrFun (V_bias m c) _)).trans ?_
  · refine congrArg (V m c main_v5) (funext fun b => Fin.ext ?_)
    refine (Pipeline.Window.rect_emb_val (cfg0.win 2) t (ix2 (0 : Fin 1) o) b).trans ?_
    rw [show (cfg0.win 2).index t = _ from index2 t]
    match b with
    | ⟨0, _⟩ => show 0 * 1 + 0 = 0; omega
    | ⟨1, _⟩ => rfl
  · pointwise []

/-- One modulation. -/
def modAt (r : Fin 8) (o : Fin 6144) : EReal := entry (condAt (argC m c) (argCtx m c) r) (fun i => argW m c (ix2 i o)) (argB m c (ix1 o))

omit t in
theorem entry_congr {a a' w w' : Fin 1024 → EReal} {b b' : EReal} (ha : ∀ i, a i = a' i) (hw : ∀ i, w i = w' i) (hb : b = b') : entry a w b = entry a' w' b' := by
  rw [funext ha, funext hw, hb]

theorem block3 (r : Fin 8) (o : Fin 1024) : out0_3 (iblk m c 0 t) (iblk m c 1 t) (iblk m c 2 t) (ix2 r o) = modAt m c r (colAt t o) :=
  (out_apply _ _ _ r o).trans (entry_congr (fun i => cond_at m c t r i) (fun i => w_at m c t i o) (bias_at m c t o))

omit t in
/-- The array of the modulations. -/
theorem final3 : (dats m 0 c).arrAt 3 cfg0.N = fun i : S8x6144.Idx => modAt m c (i 0) (i 1) := by
  refine (dats m 0 c).arrAt_eq_of_covers 3 _ (by decide +kernel) fun t hf y => ?_
  blk_simp
  rw [after0_3]
  obtain ⟨r, o, rfl⟩ : ∃ (r : Fin 8) (o : Fin 1024), y = ix2 r o := ⟨y 0, y 1, eq_ix2 y⟩
  have e0 : (((cfg0.win 3).blk t).view.emb (ix2 r o) 0) = r := by
    refine Fin.ext ((Pipeline.Window.rect_emb_val (cfg0.win 3) t (ix2 r o) 0).trans ?_)
    rw [show (cfg0.win 3).index t = _ from index3 t]
    show 0 * 8 + r.val = r.val; omega
  have e1 : (((cfg0.win 3).blk t).view.emb (ix2 r o) 1) = colAt t o := by
    refine Fin.ext ((Pipeline.Window.rect_emb_val (cfg0.win 3) t (ix2 r o) 1).trans ?_)
    rw [show (cfg0.win 3).index t = _ from index3 t]
    rfl
  refine (block3 m c t r o).trans ?_
  exact (congrArg (fun n => modAt m c r n) e1.symm).trans (congrArg (fun k => modAt m c k _) e0.symm)

end Cert.Kernel5Ideal.ModRows
-- ==== Proof.ModRef.lean ====
/- The modulations written plainly. -/
module

public import proofs.«01_k».proof.Proof.Gen.Reference5Ideal.Run
public import proofs.«01_k».proof.Proof.ModValue

@[expose] public section

set_option maxRecDepth 16384

noncomputable section

namespace Cert.Reference5Ideal.ModRef

open Idealize.ShloMosaic Idealize.ShloMosaic.TcCoe
open Cert.Reference5Ideal Cert.Reference5Ideal.Gen Cert.Reference5Ideal.Value
open Cert.Kernel5Ideal.ModRows (condAt entry)
open scoped BigOperators

variable (m : (ℓ : Loc nD τ sig) → Buf (Elt Ideal) ℓ) (c : Dev nD)

abbrev argC : Vec Ideal S4x1024 .f32 := m ((c.tc : Thread nD τ).loc main_arg0)
abbrev argCtx : Vec Ideal S1024 .f32 := m ((c.tc : Thread nD τ).loc main_arg1)
abbrev argW : Vec Ideal S1024x6144 .f32 := m ((c.tc : Thread nD τ).loc main_arg2)
abbrev argB : Vec Ideal S6144 .f32 := m ((c.tc : Thread nD τ).loc main_arg3)

/-- The conditions, one above the other. -/
def condArr : Vec Ideal S8x1024 .f32 :=
  ((concatenate S8x1024 0 [⟨S4x1024, ((argC m c) : (⟨S4x1024, .f32⟩ : BufTy).Contents (Elt Ideal))⟩, ⟨S1x1024, ((broadcastInDim S1x1024 ![1] bcast_S1024_S1x1024_1 (argCtx m c)) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩] concatenates_S4x1024_S1x1024_S3x1024_S8x1024_d0 : (⟨S8x1024, .f32⟩ : BufTy).Contents (Elt Ideal)))

/-- The modulations as the reference has them. -/
def modArr : Vec Ideal S8x6144 .f32 :=
  addf (F := Ideal) (φ := .f32) (Host.dotGeneral (F := Ideal) (φ₁ := .f32) (φ₂ := .f32) dot_S8x1024_S1024x6144_S8x6144_1_0_0_1_n_n none (mulf (condArr m c) (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf (condArr m c)))))) (argW m c)) (broadcastInDim S8x6144 ![0, 1] bcast_S1x6144_S8x6144_0_1 (broadcastInDim S1x6144 ![1] bcast_S6144_S1x6144_1 (argB m c)))

theorem cond_apply (r : Fin 8) (o : Fin 1024) : condArr m c (ix2 r o) = condAt (argC m c) (argCtx m c) r o := by
  unfold condAt
  pointwise [condArr]
  by_cases h : r.val < 4
  · rw [dif_pos h, dif_pos h]
  · rw [dif_neg h, dif_neg h]
    by_cases h4 : r.val = 4
    · rw [dif_pos (by omega), if_pos h4]
    · rw [dif_neg (by omega), if_neg h4]

theorem mod_apply (r : Fin 8) (o : Fin 6144) :
    modArr m c (ix2 r o) = entry (condAt (argC m c) (argCtx m c) r) (fun i => argW m c (ix2 i o)) (argB m c (ix1 o)) := by
  have h : modArr m c (ix2 r o) = entry (fun i => condArr m c (ix2 r i)) (fun i => argW m c (ix2 i o)) (argB m c (ix1 o)) := by
    unfold entry
    pointwise [modArr]
    rfl
  rw [h]
  simp only [cond_apply]

/-- One modulation as the reference has it. -/
def modAt (r : Fin 8) (o : Fin 6144) : EReal := entry (condAt (argC m c) (argCtx m c) r) (fun i => argW m c (ix2 i o)) (argB m c (ix1 o))

theorem mod_is : modArr m c = fun i : S8x6144.Idx => modAt m c (i 0) (i 1) := funext fun i =>
  (congrArg (modArr m c) (eq_ix2 i)).trans (mod_apply m c (i 0) (i 1))

end Cert.Reference5Ideal.ModRef
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre_e
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Run
public import proofs.«01_k».proof.Proof.Same
public import proofs.«01_k».proof.Proof.WideValue
public import proofs.«01_k».proof.Proof.ResultValue
public import proofs.«01_k».proof.Proof.RefValue
public import proofs.«01_k».proof.Proof.MixValue
public import proofs.«01_k».proof.Proof.MixRef
public import proofs.«01_k».proof.Proof.GateValue
public import proofs.«01_k».proof.Proof.GateRef
public import proofs.«01_k».proof.Proof.InValue
public import proofs.«01_k».proof.Proof.InRef
public import proofs.«01_k».proof.Proof.ModValue
public import proofs.«01_k».proof.Proof.ModRef
public import Idealize.ShloMosaic.Adequacy
public import Idealize.ShloMosaic.Init

@[expose] public section

noncomputable section

namespace Cert.Proof

open Idealize.ShloMosaic Idealize.ShloMosaic.TcCoe Idealize.SL.Sem Cert.KernelIdeal

/-- The one core of the mesh. -/
abbrev core : Dev Cert.KernelIdeal.nD := 0

theorem inRange_ideal (m : (ℓ : Loc Cert.KernelIdeal.nD Cert.KernelIdeal.τ Cert.KernelIdeal.sig) → Buf (Elt Ideal) ℓ) (h : Cert.Pre_KernelIdeal m) :
    Experts.InRange (Whole.experts0 m) (Whole.tiles0 m) :=
  Experts.inRange_of_pre _ _ _ _ _ _ (h core)

theorem inRange_bits (m : (ℓ : Loc Cert.KernelIdeal.nD Cert.KernelIdeal.τ Cert.KernelIdeal.sig) → Buf (Elt Bits) ℓ) (h : Cert.Pre_Kernel m) :
    Experts.InRange (Whole.experts0 m) (Whole.tiles0 m) :=
  Experts.inRange_of_pre _ _ _ _ _ _ (h core)

theorem frame_ideal : Cert.quiescent_KernelIdeal := fun m ρ h =>
  (θ_run Cert.KernelIdeal.defs _ _).mono (fun _ e => ⟨fun c => (e.1 c).2, e.2⟩) (Whole.run (F := Ideal) m (inRange_ideal m h) ρ)

/-- The arguments as launched, on every core, and every counter at zero. -/
def Kept (m : (ℓ : Loc Cert.KernelIdeal.nD Cert.KernelIdeal.τ Cert.KernelIdeal.sig) → Buf (Elt Bits) ℓ)
    (s : MemSt Cert.KernelIdeal.nD Cert.KernelIdeal.τ Cert.KernelIdeal.sig (Elt Bits)) : Prop :=
  (∀ c : Dev Cert.KernelIdeal.nD,
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.sem = fun _ => 0

theorem frame_bits : Cert.quiescent_Kernel := fun m ρ h =>
  Same.ends_same m ρ (Kept m)
    ((θ_run Cert.KernelIdeal.defs _ _).mono (fun _ e => ⟨fun c => (e.1 c).2, e.2⟩) (Whole.run (F := Bits) m (inRange_bits m h) ρ))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result over the extended reals, in its arguments. -/
theorem result_ideal (m : (ℓ : Loc Cert.KernelIdeal.nD Cert.KernelIdeal.τ Cert.KernelIdeal.sig) → Buf (Elt Ideal) ℓ)
    (h : Experts.InRange (Whole.experts0 m) (Whole.tiles0 m)) (c : Dev Cert.KernelIdeal.nD) :
    (Whole.products m h c).arrAt 3 (cfg1 (Whole.tabled m h)).N
      = Experts.result (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg0)) (m ((c.tc : Thread nD τ).loc main_arg1)) := by
  obtain rfl : c = core := Subsingleton.elim _ _
  have hcount : Experts.count (Whole.tabled m h) = Whole.tiles0 m Experts.first :=
    congrFun (Whole.W2_keeps m core main_arg1 (by decide) (by decide)) Experts.first
  have htable : ∀ t : Fin 72, Experts.expertOf (Whole.tabled m h) t
      = Experts.table (Whole.experts0 m) (Whole.tiles0 m) (Experts.tile t.val t.isLt) := fun t =>
    congrFun (Whole.W2_table m core) (Experts.tile t.val t.isLt)
  refine Experts.final (Whole.tabled m h) (fun c b => Whole.W2 m c (Proc.devRef .tc b)) core _ _ _ _ _ _
    (Whole.W2_keeps m core main_arg2 (by decide) (by decide)) ?_ (Whole.W2_down m core) (h.le_all _) hcount (fun t ht => ?_) (fun t => ?_)
  · exact (Whole.W2_wide m core).trans (GateUp.final (fun c b => Whole.W0 m c (Proc.devRef .tc b)) core)
  · rw [htable t, Experts.table_at _ _ h]
    refine congrArg (Whole.experts0 m) (funext fun x => Fin.ext ?_)
    have ht' : t.val < (Whole.tiles0 m Experts.first).toNat := ht
    match x with
    | ⟨0, _⟩ => exact Nat.min_eq_left (by show t.val ≤ (Whole.tiles0 m Experts.first).toNat - 1; omega)
  · rw [htable t]; exact Experts.table_lt _ _ h _

theorem algebraic : Cert.algebraic_KernelIdeal_ReferenceIdeal := fun m g m' g' hpre hargs => by
  have h := inRange_ideal m hpre
  refine ⟨fun c => Experts.result (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg0)) (m ((c.tc : Thread nD τ).loc main_arg1)), ?_, ?_⟩
  · exact (θ_run Cert.KernelIdeal.defs _ _).mono (fun _ e c => ⟨(e.1 c).1.trans (result_ideal m h c), (e.1 c).2⟩) (Whole.run (F := Ideal) m h g)
  · refine (θ_run Cert.ReferenceIdeal.defs _ _).mono (fun _ e c => ⟨(e c).1.trans ?_, (e c).2⟩) (Cert.ReferenceIdeal.Value.run (F := Ideal) m' g')
    obtain ⟨e0, e1, e2, e3, e4, e5⟩ := hargs c
    obtain rfl : c = core := Subsingleton.elim _ _
    dsimp only
    rw [← e0, ← e1, ← e2, ← e3, ← e4, ← e5]
    have h0 : ∀ t : Fin 72, ((m' ((core.tc : Thread Cert.ReferenceIdeal.nD Cert.ReferenceIdeal.τ).loc Cert.ReferenceIdeal.main_arg0) : IVec S72 32) (Experts.tile t.val t.isLt)).toNat < 8 := fun t => by
      rw [e0]; exact h.expert _
    have h1 : ((m' ((core.tc : Thread Cert.ReferenceIdeal.nD Cert.ReferenceIdeal.τ).loc Cert.ReferenceIdeal.main_arg1) : IVec S1 32) Experts.first).toNat ≤ 72 := by
      rw [e1]; exact h.le_all _
    exact (Cert.ReferenceIdeal.Sum.is_total _).trans (Cert.ReferenceIdeal.Sum.total_eq _ _ _ _ _ _ h1 h0)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two results are one function of the arguments. -/
theorem result_same (m : (ℓ : Loc Cert.Kernel2Ideal.nD Cert.Kernel2Ideal.τ Cert.Kernel2Ideal.sig) → Buf (Elt Ideal) ℓ) (c : Dev Cert.Kernel2Ideal.nD)
    (V : Valuation Cert.Reference2Ideal.τ Cert.Reference2Ideal.sig (Elt Ideal))
    (h0 : Cert.Reference2Ideal.MixRef.argX V = Cert.Kernel2Ideal.MixRows.argX m c)
    (h1 : Cert.Reference2Ideal.MixRef.argMods V = Cert.Kernel2Ideal.MixRows.argMods m c)
    (h2 : Cert.Reference2Ideal.MixRef.argAttn V = Cert.Kernel2Ideal.MixRows.argAttn m c)
    (h3 : Cert.Reference2Ideal.MixRef.argGate V = Cert.Kernel2Ideal.MixRows.argGate m c)
    (h4 : Cert.Reference2Ideal.MixRef.argZ V = Cert.Kernel2Ideal.MixRows.argZ m c)
    (h5 : Cert.Reference2Ideal.MixRef.argTaps V = Cert.Kernel2Ideal.MixRows.argTaps m c)
    (h6 : Cert.Reference2Ideal.MixRef.argOut V = Cert.Kernel2Ideal.MixRows.argOut m c)
    (h7 : Cert.Reference2Ideal.MixRef.argPost V = Cert.Kernel2Ideal.MixRows.argPost m c)
    (h8 : Cert.Reference2Ideal.MixRef.argPre V = Cert.Kernel2Ideal.MixRows.argPre m c)
    (h9 : Cert.Reference2Ideal.MixRef.argWg V = Cert.Kernel2Ideal.MixRows.argWg m c)
    (h10 : Cert.Reference2Ideal.MixRef.argWu V = Cert.Kernel2Ideal.MixRows.argWu m c)
    (h11 : Cert.Reference2Ideal.MixRef.argWd V = Cert.Kernel2Ideal.MixRows.argWd m c)
    (h12 : Cert.Reference2Ideal.MixRef.argEnd V = Cert.Kernel2Ideal.MixRows.argEnd m c)
    (b : Fin 4) (n : Fin 8192) : Cert.Reference2Ideal.MixRef.result V b n = Cert.Kernel2Ideal.MixRows.result m c b n := by
  unfold Cert.Reference2Ideal.MixRef.result Cert.Kernel2Ideal.MixRows.result
  rw [h0, h1, h2, h3, h4, h5, h6, h7, h8, h9, h10, h11, h12]

theorem algebraic2 : Cert.algebraic_Kernel2Ideal_Reference2Ideal := fun m g m' g' _ hargs => by
  refine ⟨fun c => fun i => Cert.Kernel2Ideal.MixRows.result m c (i 0) (i 1) (i 2), ?_, ?_⟩
  · exact (θ_run Cert.Kernel2Ideal.defs _ _).mono (fun _ e c => ⟨(e c).1.trans (Cert.Kernel2Ideal.MixRows.final m c), (e c).2⟩)
      (Cert.Kernel2Ideal.Value.run_blocks (F := Ideal) m g)
  · refine (θ_run Cert.Reference2Ideal.defs _ _).mono (fun _ e c => ⟨(e c).1.trans ?_, (e c).2⟩) (Cert.Reference2Ideal.Value.run (F := Ideal) m' g')
    obtain ⟨e0, e1, e2, e3, e4, e5, e6, e7, e8, e9, e10, e11, e12⟩ := hargs c
    exact (Cert.Reference2Ideal.MixRef.out_eq _).trans (funext fun i =>
      congrFun (result_same m c _ e0 e1 e2 e3 e4 e5 e6 e7 e8 e9 e10 e11 e12 (i 0) (i 1)) (i 2))

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The rows after the mixer's residual are one function of the arguments. -/
theorem mixed_same (m : (ℓ : Loc Cert.Kernel3Ideal.nD Cert.Kernel3Ideal.τ Cert.Kernel3Ideal.sig) → Buf (Elt Ideal) ℓ) (c : Dev Cert.Kernel3Ideal.nD)
    (V : Valuation Cert.Reference3Ideal.τ Cert.Reference3Ideal.sig (Elt Ideal))
    (h0 : Cert.Reference3Ideal.GateRef.argX V = Cert.Kernel3Ideal.GateRows.argX m c)
    (h1 : Cert.Reference3Ideal.GateRef.argMods V = Cert.Kernel3Ideal.GateRows.argMods m c)
    (h2 : Cert.Reference3Ideal.GateRef.argPre V = Cert.Kernel3Ideal.GateRows.argPre m c)
    (h3 : Cert.Reference3Ideal.GateRef.argIn V = Cert.Kernel3Ideal.GateRows.argIn m c)
    (h4 : Cert.Reference3Ideal.GateRef.argGain V = Cert.Kernel3Ideal.GateRows.argGain m c)
    (h5 : Cert.Reference3Ideal.GateRef.argBias V = Cert.Kernel3Ideal.GateRows.argBias m c)
    (h6 : Cert.Reference3Ideal.GateRef.argWs V = Cert.Kernel3Ideal.GateRows.argWs m c)
    (h7 : Cert.Reference3Ideal.GateRef.argBs V = Cert.Kernel3Ideal.GateRows.argBs m c)
    (h8 : Cert.Reference3Ideal.GateRef.argOut V = Cert.Kernel3Ideal.GateRows.argOut m c)
    (h9 : Cert.Reference3Ideal.GateRef.argPost V = Cert.Kernel3Ideal.GateRows.argPost m c)
    (b : Fin 4) (n : Fin 8192) : Cert.Reference3Ideal.GateRef.mixedAt V b n = Cert.Kernel3Ideal.GateRows.mixedAt m c b n := by
  unfold Cert.Reference3Ideal.GateRef.mixedAt Cert.Kernel3Ideal.GateRows.mixedAt
  rw [h0, h1, h2, h3, h4, h5, h6, h7, h8, h9]

/-- So are the rows normalised for what follows. -/
theorem following_same (m : (ℓ : Loc Cert.Kernel3Ideal.nD Cert.Kernel3Ideal.τ Cert.Kernel3Ideal.sig) → Buf (Elt Ideal) ℓ) (c : Dev Cert.Kernel3Ideal.nD)
    (V : Valuation Cert.Reference3Ideal.τ Cert.Reference3Ideal.sig (Elt Ideal))
    (h0 : Cert.Reference3Ideal.GateRef.argX V = Cert.Kernel3Ideal.GateRows.argX m c)
    (h1 : Cert.Reference3Ideal.GateRef.argMods V = Cert.Kernel3Ideal.GateRows.argMods m c)
    (h2 : Cert.Reference3Ideal.GateRef.argPre V = Cert.Kernel3Ideal.GateRows.argPre m c)
    (h3 : Cert.Reference3Ideal.GateRef.argIn V = Cert.Kernel3Ideal.GateRows.argIn m c)
    (h4 : Cert.Reference3Ideal.GateRef.argGain V = Cert.Kernel3Ideal.GateRows.argGain m c)
    (h5 : Cert.Reference3Ideal.GateRef.argBias V = Cert.Kernel3Ideal.GateRows.argBias m c)
    (h6 : Cert.Reference3Ideal.GateRef.argWs V = Cert.Kernel3Ideal.GateRows.argWs m c)
    (h7 : Cert.Reference3Ideal.GateRef.argBs V = Cert.Kernel3Ideal.GateRows.argBs m c)
    (h8 : Cert.Reference3Ideal.GateRef.argOut V = Cert.Kernel3Ideal.GateRows.argOut m c)
    (h9 : Cert.Reference3Ideal.GateRef.argPost V = Cert.Kernel3Ideal.GateRows.argPost m c)
    (h10 : Cert.Reference3Ideal.GateRef.argNext V = Cert.Kernel3Ideal.GateRows.argNext m c)
    (b : Fin 4) (n : Fin 8192) : Cert.Reference3Ideal.GateRef.followingAt V b n = Cert.Kernel3Ideal.GateRows.followingAt m c b n := by
  unfold Cert.Reference3Ideal.GateRef.followingAt Cert.Kernel3Ideal.GateRows.followingAt
  rw [h0, h1, h2, h3, h4, h5, h6, h7, h8, h9, h10]

theorem algebraic3 : Cert.algebraic_Kernel3Ideal_Reference3Ideal := fun m g m' g' _ hargs => by
  refine ⟨fun c => fun i => Cert.Kernel3Ideal.GateRows.mixedAt m c (i 0) (i 1) (i 2), fun c => fun i => Cert.Kernel3Ideal.GateRows.followingAt m c (i 0) (i 1) (i 2), ?_, ?_⟩
  · exact (θ_run Cert.Kernel3Ideal.defs _ _).mono (fun _ e c => ⟨(e c).1.trans (Cert.Kernel3Ideal.GateRows.final14 m c), (e c).2.1.trans (Cert.Kernel3Ideal.GateRows.final15 m c), (e c).2.2.2.2⟩)
      (Cert.Kernel3Ideal.Value.run_blocks (F := Ideal) m g)
  · refine (θ_run Cert.Reference3Ideal.defs _ _).mono (fun _ e c => ⟨(e c).1.trans ?_, (e c).2.1.trans ?_, (e c).2.2⟩) (Cert.Reference3Ideal.Value.run (F := Ideal) m' g')
    · obtain ⟨e0, e1, e2, e3, e4, e5, e6, e7, e8, e9, e10, e11, e12⟩ := hargs c
      exact (Cert.Reference3Ideal.GateRef.mid_eq _).trans (funext fun i =>
        congrFun (mixed_same m c _ e0 e1 e2 e3 e4 e5 e6 e7 e8 e9 (i 0) (i 1)) (i 2))
    · obtain ⟨e0, e1, e2, e3, e4, e5, e6, e7, e8, e9, e10, e11, e12⟩ := hargs c
      exact (Cert.Reference3Ideal.GateRef.following_eq _).trans (funext fun i =>
        congrFun (following_same m c _ e0 e1 e2 e3 e4 e5 e6 e7 e8 e9 e10 (i 0) (i 1)) (i 2))

theorem frame_reference4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- A row's columns of the projection are one function of the arguments. -/
theorem column_same (m : (ℓ : Loc Cert.Kernel4Ideal.nD Cert.Kernel4Ideal.τ Cert.Kernel4Ideal.sig) → Buf (Elt Ideal) ℓ) (c : Dev Cert.Kernel4Ideal.nD)
    (m' : (ℓ : Loc Cert.Reference4Ideal.nD Cert.Reference4Ideal.τ Cert.Reference4Ideal.sig) → Buf (Elt Ideal) ℓ)
    (h0 : Cert.Reference4Ideal.InRef.argX m' c = Cert.Kernel4Ideal.InRows.argX m c)
    (h1 : Cert.Reference4Ideal.InRef.argMods m' c = Cert.Kernel4Ideal.InRows.argMods m c)
    (h2 : Cert.Reference4Ideal.InRef.argPre m' c = Cert.Kernel4Ideal.InRows.argPre m c)
    (h3 : Cert.Reference4Ideal.InRef.argIn m' c = Cert.Kernel4Ideal.InRows.argIn m c)
    (b : Fin 4) (n : Fin 8192) : Cert.Reference4Ideal.InRef.columnAt m' c b n = Cert.Kernel4Ideal.InRows.columnAt m c b n := by
  unfold Cert.Reference4Ideal.InRef.columnAt Cert.Kernel4Ideal.InRows.columnAt
  rw [h0, h1, h2, h3]

theorem query_same (m : (ℓ : Loc Cert.Kernel4Ideal.nD Cert.Kernel4Ideal.τ Cert.Kernel4Ideal.sig) → Buf (Elt Ideal) ℓ) (c : Dev Cert.Kernel4Ideal.nD)
    (m' : (ℓ : Loc Cert.Reference4Ideal.nD Cert.Reference4Ideal.τ Cert.Reference4Ideal.sig) → Buf (Elt Ideal) ℓ)
    (h0 : Cert.Reference4Ideal.InRef.argX m' c = Cert.Kernel4Ideal.InRows.argX m c)
    (h1 : Cert.Reference4Ideal.InRef.argMods m' c = Cert.Kernel4Ideal.InRows.argMods m c)
    (h2 : Cert.Reference4Ideal.InRef.argPre m' c = Cert.Kernel4Ideal.InRows.argPre m c)
    (h3 : Cert.Reference4Ideal.InRef.argIn m' c = Cert.Kernel4Ideal.InRows.argIn m c)
    (h4 : Cert.Reference4Ideal.InRef.argGq m' c = Cert.Kernel4Ideal.InRows.argGq m c)
    (h6 : Cert.Reference4Ideal.InRef.argCos m' c = Cert.Kernel4Ideal.InRows.argCos m c)
    (h7 : Cert.Reference4Ideal.InRef.argSin m' c = Cert.Kernel4Ideal.InRows.argSin m c)
    (b : Fin 4) (o : Fin 512) (n : Fin 8192) :
    Cert.In.queries (Cert.Reference4Ideal.InRef.columnAt m' c b n) (fun e => Cert.Reference4Ideal.InRef.argGq m' c (ix1 e)) (fun e => Cert.Reference4Ideal.InRef.argCos m' c (ix2 n e)) (fun e => Cert.Reference4Ideal.InRef.argSin m' c (ix2 n e)) o
      = Cert.Kernel4Ideal.InRows.queryAt m c b o n := by
  unfold Cert.Kernel4Ideal.InRows.queryAt
  rw [column_same m c m' h0 h1 h2 h3, h4, h6, h7]

theorem key_same (m : (ℓ : Loc Cert.Kernel4Ideal.nD Cert.Kernel4Ideal.τ Cert.Kernel4Ideal.sig) → Buf (Elt Ideal) ℓ) (c : Dev Cert.Kernel4Ideal.nD)
    (m' : (ℓ : Loc Cert.Reference4Ideal.nD Cert.Reference4Ideal.τ Cert.Reference4Ideal.sig) → Buf (Elt Ideal) ℓ)
    (h0 : Cert.Reference4Ideal.InRef.argX m' c = Cert.Kernel4Ideal.InRows.argX m c)
    (h1 : Cert.Reference4Ideal.InRef.argMods m' c = Cert.Kernel4Ideal.InRows.argMods m c)
    (h2 : Cert.Reference4Ideal.InRef.argPre m' c = Cert.Kernel4Ideal.InRows.argPre m c)
    (h3 : Cert.Reference4Ideal.InRef.argIn m' c = Cert.Kernel4Ideal.InRows.argIn m c)
    (h5 : Cert.Reference4Ideal.InRef.argGk m' c = Cert.Kernel4Ideal.InRows.argGk m c)
    (h6 : Cert.Reference4Ideal.InRef.argCos m' c = Cert.Kernel4Ideal.InRows.argCos m c)
    (h7 : Cert.Reference4Ideal.InRef.argSin m' c = Cert.Kernel4Ideal.InRows.argSin m c)
    (b : Fin 4) (n : Fin 8192) (o : Fin 128) :
    Cert.In.keys (Cert.Reference4Ideal.InRef.columnAt m' c b n) (fun e => Cert.Reference4Ideal.InRef.argGk m' c (ix1 e)) (fun e => Cert.Reference4Ideal.InRef.argCos m' c (ix2 n e)) (fun e => Cert.Reference4Ideal.InRef.argSin m' c (ix2 n e)) o
      = Cert.Kernel4Ideal.InRows.keyAt m c b n o := by
  unfold Cert.Kernel4Ideal.InRows.keyAt
  rw [column_same m c m' h0 h1 h2 h3, h5, h6, h7]

theorem algebraic4 : Cert.algebraic_Kernel4Ideal_Reference4Ideal := fun m g m' g' _ hargs => by
  refine ⟨fun c => fun i => Cert.Kernel4Ideal.InRows.queryAt m c (i 0) (i 1) (i 2), fun c => fun i => Cert.Kernel4Ideal.InRows.keyAt m c (i 0) (i 1) (i 2), fun c => fun i => Cert.Kernel4Ideal.InRows.valueAt m c (i 0) (i 1) (i 2) (i 3), fun c => fun i => Cert.Kernel4Ideal.InRows.gateAt m c (i 0) (i 1) (i 2), fun c => fun i => Cert.Kernel4Ideal.InRows.inputAt m c (i 0) (i 1) (i 2), ?_, ?_⟩
  · exact (θ_run Cert.Kernel4Ideal.defs _ _).mono (fun _ e c => ⟨(e c).1.trans (Cert.Kernel4Ideal.InRows.final11 m c), (e c).2.1.trans (Cert.Kernel4Ideal.InRows.final12 m c), (e c).2.2.1.trans (Cert.Kernel4Ideal.InRows.final13 m c), (e c).2.2.2.1.trans (Cert.Kernel4Ideal.InRows.final14 m c), (e c).2.2.2.2.1.trans (Cert.Kernel4Ideal.InRows.final15 m c), (e c).2.2.2.2.2⟩)
      (Cert.Kernel4Ideal.Value.run_blocks (F := Ideal) m g)
  · refine (θ_run Cert.Reference4Ideal.defs _ _).mono (fun _ e c => ⟨(e c).1.trans ?_, (e c).2.1.trans ?_, (e c).2.2.1.trans ?_, (e c).2.2.2.1.trans ?_, (e c).2.2.2.2.1.trans ?_, (e c).2.2.2.2.2⟩) (Cert.Reference4Ideal.Value.run (F := Ideal) m' g')
    · obtain ⟨e0, e1, e2, e3, e4, e5, e6, e7⟩ := hargs c
      exact ((Cert.Reference4Ideal.InRef.q_eq m' c).trans (Cert.Reference4Ideal.InRef.q_is m' c)).trans (funext fun i => query_same m c m' e0 e1 e2 e3 e4 e6 e7 (i 0) (i 1) (i 2))
    · obtain ⟨e0, e1, e2, e3, e4, e5, e6, e7⟩ := hargs c
      exact ((Cert.Reference4Ideal.InRef.k_eq m' c).trans (Cert.Reference4Ideal.InRef.k_is m' c)).trans (funext fun i => key_same m c m' e0 e1 e2 e3 e5 e6 e7 (i 0) (i 1) (i 2))
    · obtain ⟨e0, e1, e2, e3, e4, e5, e6, e7⟩ := hargs c
      exact (Cert.Reference4Ideal.InRef.v_is m' c).trans (funext fun i => congrArg (fun y => Cert.In.values y (i 2)) (column_same m c m' e0 e1 e2 e3 (i 0) ⟨(i 1).val * 512 + (i 3).val, Cert.Reference4Ideal.InRef.row_lt (i 1) (i 3)⟩))
    · obtain ⟨e0, e1, e2, e3, e4, e5, e6, e7⟩ := hargs c
      exact (Cert.Reference4Ideal.InRef.g_is m' c).trans (funext fun i => congrArg (fun y => Cert.In.gates y (i 2)) (column_same m c m' e0 e1 e2 e3 (i 0) (i 1)))
    · obtain ⟨e0, e1, e2, e3, e4, e5, e6, e7⟩ := hargs c
      exact (Cert.Reference4Ideal.InRef.z_is m' c).trans (funext fun i => congrArg (fun y => Cert.In.inputs y (i 2)) (column_same m c m' e0 e1 e2 e3 (i 0) (i 1)))

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- A row's modulation is one function of the arguments. -/
theorem modulation_same (m : (ℓ : Loc Cert.Kernel5Ideal.nD Cert.Kernel5Ideal.τ Cert.Kernel5Ideal.sig) → Buf (Elt Ideal) ℓ) (c : Dev Cert.Kernel5Ideal.nD)
    (m' : (ℓ : Loc Cert.Reference5Ideal.nD Cert.Reference5Ideal.τ Cert.Reference5Ideal.sig) → Buf (Elt Ideal) ℓ)
    (h0 : Cert.Reference5Ideal.ModRef.argC m' c = Cert.Kernel5Ideal.ModRows.argC m c)
    (h1 : Cert.Reference5Ideal.ModRef.argCtx m' c = Cert.Kernel5Ideal.ModRows.argCtx m c)
    (h2 : Cert.Reference5Ideal.ModRef.argW m' c = Cert.Kernel5Ideal.ModRows.argW m c)
    (h3 : Cert.Reference5Ideal.ModRef.argB m' c = Cert.Kernel5Ideal.ModRows.argB m c)
    (r : Fin 8) (o : Fin 6144) : Cert.Reference5Ideal.ModRef.modAt m' c r o = Cert.Kernel5Ideal.ModRows.modAt m c r o := by
  unfold Cert.Reference5Ideal.ModRef.modAt Cert.Kernel5Ideal.ModRows.modAt
  rw [h0, h1, h2, h3]

theorem algebraic5 : Cert.algebraic_Kernel5Ideal_Reference5Ideal := fun m g m' g' _ hargs => by
  refine ⟨fun c => fun i => Cert.Kernel5Ideal.ModRows.modAt m c (i 0) (i 1), ?_, ?_⟩
  · exact (θ_run Cert.Kernel5Ideal.defs _ _).mono (fun _ e c => ⟨(e c).1.trans (Cert.Kernel5Ideal.ModRows.final3 m c), (e c).2⟩)
      (Cert.Kernel5Ideal.Value.run_blocks (F := Ideal) m g)
  · refine (θ_run Cert.Reference5Ideal.defs _ _).mono (fun _ e c => ⟨(e c).1.trans ?_, (e c).2⟩) (Cert.Reference5Ideal.Value.run (F := Ideal) m' g')
    obtain ⟨e0, e1, e2, e3⟩ := hargs c
    exact (Cert.Reference5Ideal.ModRef.mod_is m' c).trans (funext fun i => modulation_same m c m' e0 e1 e2 e3 (i 0) (i 1))

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Pre_pre_e.Gen.facts,
    frame_bits, frame_ideal, frame_reference, (fun m ρ _ => frame_reference m ρ trivial),
    (fun m ρ _ => Cert.Kernel2.Gen.frame m ρ), (fun m ρ _ => Cert.Kernel2Ideal.Gen.frame m ρ), frame_reference2,
    (fun m ρ _ => Cert.Kernel3.Gen.frame m ρ), (fun m ρ _ => Cert.Kernel3Ideal.Gen.frame m ρ), frame_reference3,
    (fun m ρ _ => Cert.Kernel4.Gen.frame m ρ), (fun m ρ _ => Cert.Kernel4Ideal.Gen.frame m ρ), frame_reference4,
    (fun m ρ _ => Cert.Kernel5.Gen.frame m ρ), (fun m ρ _ => Cert.Kernel5Ideal.Gen.frame m ρ), frame_reference5,
    trivial, algebraic, trivial, algebraic2, trivial, algebraic3, trivial, algebraic4, trivial, algebraic5⟩

end Cert.Proof
